-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_KernelActIdeal_finite_act [hPre_finite_act : Cert.Pre_finite_act.Facts] (m : (ℓ : Loc Cert.KernelActIdeal.nD Cert.KernelActIdeal.τ Cert.KernelActIdeal.sig) → Buf (Elt Ideal) ℓ) : Prop :=
  ∀ c : Dev Cert.KernelActIdeal.nD,
    (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).1 = (fun _ => 1#1)
    ∧ (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).2.1 = (fun _ => 1#1)
    ∧ (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).2.2.1 = (fun _ => 1#1)
    ∧ (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).2.2.2 = (fun _ => 1#1)

def Pre_ReferenceActIdeal (m : (ℓ : Loc Cert.ReferenceActIdeal.nD Cert.ReferenceActIdeal.τ Cert.ReferenceActIdeal.sig) → Buf (Elt Ideal) ℓ) : Prop :=
  True

def Pre_ReferenceActIdeal_finite_act [hPre_finite_act : Cert.Pre_finite_act.Facts] (m : (ℓ : Loc Cert.ReferenceActIdeal.nD Cert.ReferenceActIdeal.τ Cert.ReferenceActIdeal.sig) → Buf (Elt Ideal) ℓ) : Prop :=
  ∀ c : Dev Cert.ReferenceActIdeal.nD,
    (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).1 = (fun _ => 1#1)
    ∧ (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).2.1 = (fun _ => 1#1)
    ∧ (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).2.2.1 = (fun _ => 1#1)
    ∧ (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).2.2.2 = (fun _ => 1#1)

def Pre_KernelWin (m : (ℓ : Loc Cert.KernelWin.nD Cert.KernelWin.τ Cert.KernelWin.sig) → Buf (Elt Bits) ℓ) : Prop :=
  True

def Pre_KernelWinIdeal (m : (ℓ : Loc Cert.KernelWinIdeal.nD Cert.KernelWinIdeal.τ Cert.KernelWinIdeal.sig) → Buf (Elt Ideal) ℓ) : Prop :=
  True

def Pre_ReferenceWinIdeal (m : (ℓ : Loc Cert.ReferenceWinIdeal.nD Cert.ReferenceWinIdeal.τ Cert.ReferenceWinIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelSwiglu (m : (ℓ : Loc Cert.KernelSwiglu.nD Cert.KernelSwiglu.τ Cert.KernelSwiglu.sig) → Buf (Elt Bits) ℓ) : Prop :=
  True

def Pre_KernelSwigluIdeal (m : (ℓ : Loc Cert.KernelSwigluIdeal.nD Cert.KernelSwigluIdeal.τ Cert.KernelSwigluIdeal.sig) → Buf (Elt Ideal) ℓ) : Prop :=
  True

def Pre_ReferenceSwigluIdeal (m : (ℓ : Loc Cert.ReferenceSwigluIdeal.nD Cert.ReferenceSwigluIdeal.τ Cert.ReferenceSwigluIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelDff (m : (ℓ : Loc Cert.KernelDff.nD Cert.KernelDff.τ Cert.KernelDff.sig) → Buf (Elt Bits) ℓ) : Prop :=
  True

def Pre_KernelDffIdeal (m : (ℓ : Loc Cert.KernelDffIdeal.nD Cert.KernelDffIdeal.τ Cert.KernelDffIdeal.sig) → Buf (Elt Ideal) ℓ) : Prop :=
  True

def Pre_ReferenceDffIdeal (m : (ℓ : Loc Cert.ReferenceDffIdeal.nD Cert.ReferenceDffIdeal.τ Cert.ReferenceDffIdeal.sig) → Buf (Elt Ideal) ℓ) : Prop :=
  True

def Pre_KernelSquare (m : (ℓ : Loc Cert.KernelSquare.nD Cert.KernelSquare.τ Cert.KernelSquare.sig) → Buf (Elt Bits) ℓ) : Prop :=
  True

def Pre_KernelSquareIdeal (m : (ℓ : Loc Cert.KernelSquareIdeal.nD Cert.KernelSquareIdeal.τ Cert.KernelSquareIdeal.sig) → Buf (Elt Ideal) ℓ) : Prop :=
  True

def Pre_ReferenceSquareIdeal (m : (ℓ : Loc Cert.ReferenceSquareIdeal.nD Cert.ReferenceSquareIdeal.τ Cert.ReferenceSquareIdeal.sig) → Buf (Elt Ideal) ℓ) : Prop :=
  True

def Pre_KernelWeight (m : (ℓ : Loc Cert.KernelWeight.nD Cert.KernelWeight.τ Cert.KernelWeight.sig) → Buf (Elt Bits) ℓ) : Prop :=
  True

def Pre_KernelWeightIdeal (m : (ℓ : Loc Cert.KernelWeightIdeal.nD Cert.KernelWeightIdeal.τ Cert.KernelWeightIdeal.sig) → Buf (Elt Ideal) ℓ) : Prop :=
  True

def Pre_ReferenceWeightIdeal (m : (ℓ : Loc Cert.ReferenceWeightIdeal.nD Cert.ReferenceWeightIdeal.τ Cert.ReferenceWeightIdeal.sig) → Buf (Elt Ideal) ℓ) : Prop :=
  True

def Pre_KernelResidual (m : (ℓ : Loc Cert.KernelResidual.nD Cert.KernelResidual.τ Cert.KernelResidual.sig) → Buf (Elt Bits) ℓ) : Prop :=
  True

def Pre_KernelResidualIdeal (m : (ℓ : Loc Cert.KernelResidualIdeal.nD Cert.KernelResidualIdeal.τ Cert.KernelResidualIdeal.sig) → Buf (Elt Ideal) ℓ) : Prop :=
  True

def Pre_ReferenceResidualIdeal (m : (ℓ : Loc Cert.ReferenceResidualIdeal.nD Cert.ReferenceResidualIdeal.τ Cert.ReferenceResidualIdeal.sig) → Buf (Elt Ideal) ℓ) : Prop :=
  True

def Pre_KernelBranches (m : (ℓ : Loc Cert.KernelBranches.nD Cert.KernelBranches.τ Cert.KernelBranches.sig) → Buf (Elt Bits) ℓ) : Prop :=
  True

def Pre_KernelBranchesIdeal (m : (ℓ : Loc Cert.KernelBranchesIdeal.nD Cert.KernelBranchesIdeal.τ Cert.KernelBranchesIdeal.sig) → Buf (Elt Ideal) ℓ) : Prop :=
  True

def Pre_ReferenceBranchesIdeal (m : (ℓ : Loc Cert.ReferenceBranchesIdeal.nD Cert.ReferenceBranchesIdeal.τ Cert.ReferenceBranchesIdeal.sig) → Buf (Elt Ideal) ℓ) : Prop :=
  True

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def Pre_KernelDattn (m : (ℓ : Loc Cert.KernelDattn.nD Cert.KernelDattn.τ Cert.KernelDattn.sig) → Buf (Elt Bits) ℓ) : Prop :=
  True

def Pre_KernelDattnIdeal (m : (ℓ : Loc Cert.KernelDattnIdeal.nD Cert.KernelDattnIdeal.τ Cert.KernelDattnIdeal.sig) → Buf (Elt Ideal) ℓ) : Prop :=
  True

def Pre_ReferenceDattnIdeal (m : (ℓ : Loc Cert.ReferenceDattnIdeal.nD Cert.ReferenceDattnIdeal.τ Cert.ReferenceDattnIdeal.sig) → Buf (Elt Ideal) ℓ) : Prop :=
  True

def Pre_KernelDsg (m : (ℓ : Loc Cert.KernelDsg.nD Cert.KernelDsg.τ Cert.KernelDsg.sig) → Buf (Elt Bits) ℓ) : Prop :=
  True

def Pre_KernelDsgIdeal (m : (ℓ : Loc Cert.KernelDsgIdeal.nD Cert.KernelDsgIdeal.τ Cert.KernelDsgIdeal.sig) → Buf (Elt Ideal) ℓ) : Prop :=
  True

def Pre_ReferenceDsgIdeal (m : (ℓ : Loc Cert.ReferenceDsgIdeal.nD Cert.ReferenceDsgIdeal.τ Cert.ReferenceDsgIdeal.sig) → Buf (Elt Ideal) ℓ) : Prop :=
  True

def Pre_KernelWattn (m : (ℓ : Loc Cert.KernelWattn.nD Cert.KernelWattn.τ Cert.KernelWattn.sig) → Buf (Elt Bits) ℓ) : Prop :=
  True

def Pre_KernelWattnIdeal (m : (ℓ : Loc Cert.KernelWattnIdeal.nD Cert.KernelWattnIdeal.τ Cert.KernelWattnIdeal.sig) → Buf (Elt Ideal) ℓ) : Prop :=
  True

def Pre_ReferenceWattnIdeal (m : (ℓ : Loc Cert.ReferenceWattnIdeal.nD Cert.ReferenceWattnIdeal.τ Cert.ReferenceWattnIdeal.sig) → Buf (Elt Ideal) ℓ) : Prop :=
  True

def Pre_KernelWsg (m : (ℓ : Loc Cert.KernelWsg.nD Cert.KernelWsg.τ Cert.KernelWsg.sig) → Buf (Elt Bits) ℓ) : Prop :=
  True

def Pre_KernelWsgIdeal (m : (ℓ : Loc Cert.KernelWsgIdeal.nD Cert.KernelWsgIdeal.τ Cert.KernelWsgIdeal.sig) → Buf (Elt Ideal) ℓ) : Prop :=
  True

def Pre_ReferenceWsgIdeal (m : (ℓ : Loc Cert.ReferenceWsgIdeal.nD Cert.ReferenceWsgIdeal.τ Cert.ReferenceWsgIdeal.sig) → Buf (Elt Ideal) ℓ) : Prop :=
  True

def Pre_KernelWple (m : (ℓ : Loc Cert.KernelWple.nD Cert.KernelWple.τ Cert.KernelWple.sig) → Buf (Elt Bits) ℓ) : Prop :=
  True

def Pre_KernelWpleIdeal (m : (ℓ : Loc Cert.KernelWpleIdeal.nD Cert.KernelWpleIdeal.τ Cert.KernelWpleIdeal.sig) → Buf (Elt Ideal) ℓ) : Prop :=
  True

def Pre_ReferenceWpleIdeal (m : (ℓ : Loc Cert.ReferenceWpleIdeal.nD Cert.ReferenceWpleIdeal.τ Cert.ReferenceWpleIdeal.sig) → Buf (Elt Ideal) ℓ) : Prop :=
  True

def Pre_KernelPlegate (m : (ℓ : Loc Cert.KernelPlegate.nD Cert.KernelPlegate.τ Cert.KernelPlegate.sig) → Buf (Elt Bits) ℓ) : Prop :=
  True

def Pre_KernelPlegateIdeal (m : (ℓ : Loc Cert.KernelPlegateIdeal.nD Cert.KernelPlegateIdeal.τ Cert.KernelPlegateIdeal.sig) → Buf (Elt Ideal) ℓ) : Prop :=
  True

def Pre_ReferencePlegateIdeal (m : (ℓ : Loc Cert.ReferencePlegateIdeal.nD Cert.ReferencePlegateIdeal.τ Cert.ReferencePlegateIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2)
      ∧ r.2.mem ((c.tc : Thread Cert.KernelAct.nD Cert.KernelAct.τ).loc Cert.KernelAct.main_arg3) = m ((c.tc : Thread Cert.KernelAct.nD Cert.KernelAct.τ).loc Cert.KernelAct.main_arg3))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_KernelActIdeal_pre_finite_act [hKernelActIdeal : Cert.KernelActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal_finite_act m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_ReferenceActIdeal_pre_finite_act [hReferenceActIdeal : Cert.ReferenceActIdeal.Facts] [hPre_finite_act : Cert.Pre_finite_act.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal_finite_act m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_KernelWin [hKernelWin : Cert.KernelWin.Facts] : Prop :=
  ∀ (m : (ℓ : Loc Cert.KernelWin.nD Cert.KernelWin.τ Cert.KernelWin.sig) → Buf (Elt Bits) ℓ) (g : Dev Cert.KernelWin.nD → PrngReg), Pre_KernelWin m →
    θ_run (Cert.KernelWin.defs (F := Bits)) (onTc (τ := Cert.KernelWin.τ) (Cert.KernelWin.main (F := Bits))) ⟨m, fun _ => 0, g⟩ (fun r => (∀ c : Dev Cert.KernelWin.nD,
      r.2.mem ((c.tc : Thread Cert.KernelWin.nD Cert.KernelWin.τ).loc Cert.KernelWin.main_arg0) = m ((c.tc : Thread Cert.KernelWin.nD Cert.KernelWin.τ).loc Cert.KernelWin.main_arg0)
      ∧ r.2.mem ((c.tc : Thread Cert.KernelWin.nD Cert.KernelWin.τ).loc Cert.KernelWin.main_arg1) = m ((c.tc : Thread Cert.KernelWin.nD Cert.KernelWin.τ).loc Cert.KernelWin.main_arg1))
      ∧ r.2.sem = fun _ => 0)

def quiescent_KernelWinIdeal [hKernelWinIdeal : Cert.KernelWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg), Pre_KernelWinIdeal m →
    θ_run (Cert.KernelWinIdeal.defs (F := Ideal)) (onTc (τ := Cert.KernelWinIdeal.τ) (Cert.KernelWinIdeal.main (F := Ideal))) ⟨m, fun _ => 0, g⟩ (fun r => (∀ c : Dev Cert.KernelWinIdeal.nD,
      r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
      ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ r.2.sem = fun _ => 0)

def quiescent_ReferenceWinIdeal [hReferenceWinIdeal : Cert.ReferenceWinIdeal.Facts] : Prop :=
  ∀ (m : (ℓ : Loc Cert.ReferenceWinIdeal.nD Cert.ReferenceWinIdeal.τ Cert.ReferenceWinIdeal.sig) → Buf (Elt Ideal) ℓ) (g : Dev Cert.ReferenceWinIdeal.nD → PrngReg), Pre_ReferenceWinIdeal m →
    θ_run (Cert.ReferenceWinIdeal.defs (F := Ideal)) (onTc (τ := Cert.ReferenceWinIdeal.τ) (Cert.ReferenceWinIdeal.main (F := Ideal))) ⟨m, fun _ => 0, g⟩ (fun r => (∀ c : Dev Cert.ReferenceWinIdeal.nD,
      r.2.mem ((c.tc : Thread Cert.ReferenceWinIdeal.nD Cert.ReferenceWinIdeal.τ).loc Cert.ReferenceWinIdeal.main_arg0) = m ((c.tc : Thread Cert.ReferenceWinIdeal.nD Cert.ReferenceWinIdeal.τ).loc Cert.ReferenceWinIdeal.main_arg0)
      ∧ r.2.mem ((c.tc : Thread Cert.ReferenceWinIdeal.nD Cert.ReferenceWinIdeal.τ).loc Cert.ReferenceWinIdeal.main_arg1) = m ((c.tc : Thread Cert.ReferenceWinIdeal.nD Cert.ReferenceWinIdeal.τ).loc Cert.ReferenceWinIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelSwiglu [hKernelSwiglu : Cert.KernelSwiglu.Facts] : Prop :=
  ∀ (m : (ℓ : Loc Cert.KernelSwiglu.nD Cert.KernelSwiglu.τ Cert.KernelSwiglu.sig) → Buf (Elt Bits) ℓ) (g : Dev Cert.KernelSwiglu.nD → PrngReg), Pre_KernelSwiglu m →
    θ_run (Cert.KernelSwiglu.defs (F := Bits)) (onTc (τ := Cert.KernelSwiglu.τ) (Cert.KernelSwiglu.main (F := Bits))) ⟨m, fun _ => 0, g⟩ (fun r => (∀ c : Dev Cert.KernelSwiglu.nD,
      r.2.mem ((c.tc : Thread Cert.KernelSwiglu.nD Cert.KernelSwiglu.τ).loc Cert.KernelSwiglu.main_arg0) = m ((c.tc : Thread Cert.KernelSwiglu.nD Cert.KernelSwiglu.τ).loc Cert.KernelSwiglu.main_arg0)
      ∧ r.2.mem ((c.tc : Thread Cert.KernelSwiglu.nD Cert.KernelSwiglu.τ).loc Cert.KernelSwiglu.main_arg1) = m ((c.tc : Thread Cert.KernelSwiglu.nD Cert.KernelSwiglu.τ).loc Cert.KernelSwiglu.main_arg1)
      ∧ r.2.mem ((c.tc : Thread Cert.KernelSwiglu.nD Cert.KernelSwiglu.τ).loc Cert.KernelSwiglu.main_arg2) = m ((c.tc : Thread Cert.KernelSwiglu.nD Cert.KernelSwiglu.τ).loc Cert.KernelSwiglu.main_arg2))
      ∧ r.2.sem = fun _ => 0)

def quiescent_KernelSwigluIdeal [hKernelSwigluIdeal : Cert.KernelSwigluIdeal.Facts] : Prop :=
  ∀ (m : (ℓ : Loc Cert.KernelSwigluIdeal.nD Cert.KernelSwigluIdeal.τ Cert.KernelSwigluIdeal.sig) → Buf (Elt Ideal) ℓ) (g : Dev Cert.KernelSwigluIdeal.nD → PrngReg), Pre_KernelSwigluIdeal m →
    θ_run (Cert.KernelSwigluIdeal.defs (F := Ideal)) (onTc (τ := Cert.KernelSwigluIdeal.τ) (Cert.KernelSwigluIdeal.main (F := Ideal))) ⟨m, fun _ => 0, g⟩ (fun r => (∀ c : Dev Cert.KernelSwigluIdeal.nD,
      r.2.mem ((c.tc : Thread Cert.KernelSwigluIdeal.nD Cert.KernelSwigluIdeal.τ).loc Cert.KernelSwigluIdeal.main_arg0) = m ((c.tc : Thread Cert.KernelSwigluIdeal.nD Cert.KernelSwigluIdeal.τ).loc Cert.KernelSwigluIdeal.main_arg0)
      ∧ r.2.mem ((c.tc : Thread Cert.KernelSwigluIdeal.nD Cert.KernelSwigluIdeal.τ).loc Cert.KernelSwigluIdeal.main_arg1) = m ((c.tc : Thread Cert.KernelSwigluIdeal.nD Cert.KernelSwigluIdeal.τ).loc Cert.KernelSwigluIdeal.main_arg1)
      ∧ r.2.mem ((c.tc : Thread Cert.KernelSwigluIdeal.nD Cert.KernelSwigluIdeal.τ).loc Cert.KernelSwigluIdeal.main_arg2) = m ((c.tc : Thread Cert.KernelSwigluIdeal.nD Cert.KernelSwigluIdeal.τ).loc Cert.KernelSwigluIdeal.main_arg2))
      ∧ r.2.sem = fun _ => 0)

def quiescent_ReferenceSwigluIdeal [hReferenceSwigluIdeal : Cert.ReferenceSwigluIdeal.Facts] : Prop :=
  ∀ (m : (ℓ : Loc Cert.ReferenceSwigluIdeal.nD Cert.ReferenceSwigluIdeal.τ Cert.ReferenceSwigluIdeal.sig) → Buf (Elt Ideal) ℓ) (g : Dev Cert.ReferenceSwigluIdeal.nD → PrngReg), Pre_ReferenceSwigluIdeal m →
    θ_run (Cert.ReferenceSwigluIdeal.defs (F := Ideal)) (onTc (τ := Cert.ReferenceSwigluIdeal.τ) (Cert.ReferenceSwigluIdeal.main (F := Ideal))) ⟨m, fun _ => 0, g⟩ (fun r => (∀ c : Dev Cert.ReferenceSwigluIdeal.nD,
      r.2.mem ((c.tc : Thread Cert.ReferenceSwigluIdeal.nD Cert.ReferenceSwigluIdeal.τ).loc Cert.ReferenceSwigluIdeal.main_arg0) = m ((c.tc : Thread Cert.ReferenceSwigluIdeal.nD Cert.ReferenceSwigluIdeal.τ).loc Cert.ReferenceSwigluIdeal.main_arg0)
      ∧ r.2.mem ((c.tc : Thread Cert.ReferenceSwigluIdeal.nD Cert.ReferenceSwigluIdeal.τ).loc Cert.ReferenceSwigluIdeal.main_arg1) = m ((c.tc : Thread Cert.ReferenceSwigluIdeal.nD Cert.ReferenceSwigluIdeal.τ).loc Cert.ReferenceSwigluIdeal.main_arg1)
      ∧ r.2.mem ((c.tc : Thread Cert.ReferenceSwigluIdeal.nD Cert.ReferenceSwigluIdeal.τ).loc Cert.ReferenceSwigluIdeal.main_arg2) = m ((c.tc : Thread Cert.ReferenceSwigluIdeal.nD Cert.ReferenceSwigluIdeal.τ).loc Cert.ReferenceSwigluIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1))
      ∧ r.2.sem = fun _ => 0)

def quiescent_KernelDff [hKernelDff : Cert.KernelDff.Facts] : Prop :=
  ∀ (m : (ℓ : Loc Cert.KernelDff.nD Cert.KernelDff.τ Cert.KernelDff.sig) → Buf (Elt Bits) ℓ) (g : Dev Cert.KernelDff.nD → PrngReg), Pre_KernelDff m →
    θ_run (Cert.KernelDff.defs (F := Bits)) (onTc (τ := Cert.KernelDff.τ) (Cert.KernelDff.main (F := Bits))) ⟨m, fun _ => 0, g⟩ (fun r => (∀ c : Dev Cert.KernelDff.nD,
      r.2.mem ((c.tc : Thread Cert.KernelDff.nD Cert.KernelDff.τ).loc Cert.KernelDff.main_arg0) = m ((c.tc : Thread Cert.KernelDff.nD Cert.KernelDff.τ).loc Cert.KernelDff.main_arg0)
      ∧ r.2.mem ((c.tc : Thread Cert.KernelDff.nD Cert.KernelDff.τ).loc Cert.KernelDff.main_arg1) = m ((c.tc : Thread Cert.KernelDff.nD Cert.KernelDff.τ).loc Cert.KernelDff.main_arg1)
      ∧ r.2.mem ((c.tc : Thread Cert.KernelDff.nD Cert.KernelDff.τ).loc Cert.KernelDff.main_arg2) = m ((c.tc : Thread Cert.KernelDff.nD Cert.KernelDff.τ).loc Cert.KernelDff.main_arg2)
      ∧ r.2.mem ((c.tc : Thread Cert.KernelDff.nD Cert.KernelDff.τ).loc Cert.KernelDff.main_arg3) = m ((c.tc : Thread Cert.KernelDff.nD Cert.KernelDff.τ).loc Cert.KernelDff.main_arg3))
      ∧ r.2.sem = fun _ => 0)

def quiescent_KernelDffIdeal [hKernelDffIdeal : Cert.KernelDffIdeal.Facts] : Prop :=
  ∀ (m : (ℓ : Loc Cert.KernelDffIdeal.nD Cert.KernelDffIdeal.τ Cert.KernelDffIdeal.sig) → Buf (Elt Ideal) ℓ) (g : Dev Cert.KernelDffIdeal.nD → PrngReg), Pre_KernelDffIdeal m →
    θ_run (Cert.KernelDffIdeal.defs (F := Ideal)) (onTc (τ := Cert.KernelDffIdeal.τ) (Cert.KernelDffIdeal.main (F := Ideal))) ⟨m, fun _ => 0, g⟩ (fun r => (∀ c : Dev Cert.KernelDffIdeal.nD,
      r.2.mem ((c.tc : Thread Cert.KernelDffIdeal.nD Cert.KernelDffIdeal.τ).loc Cert.KernelDffIdeal.main_arg0) = m ((c.tc : Thread Cert.KernelDffIdeal.nD Cert.KernelDffIdeal.τ).loc Cert.KernelDffIdeal.main_arg0)
      ∧ r.2.mem ((c.tc : Thread Cert.KernelDffIdeal.nD Cert.KernelDffIdeal.τ).loc Cert.KernelDffIdeal.main_arg1) = m ((c.tc : Thread Cert.KernelDffIdeal.nD Cert.KernelDffIdeal.τ).loc Cert.KernelDffIdeal.main_arg1)
      ∧ r.2.mem ((c.tc : Thread Cert.KernelDffIdeal.nD Cert.KernelDffIdeal.τ).loc Cert.KernelDffIdeal.main_arg2) = m ((c.tc : Thread Cert.KernelDffIdeal.nD Cert.KernelDffIdeal.τ).loc Cert.KernelDffIdeal.main_arg2)
      ∧ r.2.mem ((c.tc : Thread Cert.KernelDffIdeal.nD Cert.KernelDffIdeal.τ).loc Cert.KernelDffIdeal.main_arg3) = m ((c.tc : Thread Cert.KernelDffIdeal.nD Cert.KernelDffIdeal.τ).loc Cert.KernelDffIdeal.main_arg3))
      ∧ r.2.sem = fun _ => 0)

def quiescent_ReferenceDffIdeal [hReferenceDffIdeal : Cert.ReferenceDffIdeal.Facts] : Prop :=
  ∀ (m : (ℓ : Loc Cert.ReferenceDffIdeal.nD Cert.ReferenceDffIdeal.τ Cert.ReferenceDffIdeal.sig) → Buf (Elt Ideal) ℓ) (g : Dev Cert.ReferenceDffIdeal.nD → PrngReg), Pre_ReferenceDffIdeal m →
    θ_run (Cert.ReferenceDffIdeal.defs (F := Ideal)) (onTc (τ := Cert.ReferenceDffIdeal.τ) (Cert.ReferenceDffIdeal.main (F := Ideal))) ⟨m, fun _ => 0, g⟩ (fun r => (∀ c : Dev Cert.ReferenceDffIdeal.nD,
      r.2.mem ((c.tc : Thread Cert.ReferenceDffIdeal.nD Cert.ReferenceDffIdeal.τ).loc Cert.ReferenceDffIdeal.main_arg0) = m ((c.tc : Thread Cert.ReferenceDffIdeal.nD Cert.ReferenceDffIdeal.τ).loc Cert.ReferenceDffIdeal.main_arg0)
      ∧ r.2.mem ((c.tc : Thread Cert.ReferenceDffIdeal.nD Cert.ReferenceDffIdeal.τ).loc Cert.ReferenceDffIdeal.main_arg1) = m ((c.tc : Thread Cert.ReferenceDffIdeal.nD Cert.ReferenceDffIdeal.τ).loc Cert.ReferenceDffIdeal.main_arg1)
      ∧ r.2.mem ((c.tc : Thread Cert.ReferenceDffIdeal.nD Cert.ReferenceDffIdeal.τ).loc Cert.ReferenceDffIdeal.main_arg2) = m ((c.tc : Thread Cert.ReferenceDffIdeal.nD Cert.ReferenceDffIdeal.τ).loc Cert.ReferenceDffIdeal.main_arg2)
      ∧ r.2.mem ((c.tc : Thread Cert.ReferenceDffIdeal.nD Cert.ReferenceDffIdeal.τ).loc Cert.ReferenceDffIdeal.main_arg3) = m ((c.tc : Thread Cert.ReferenceDffIdeal.nD Cert.ReferenceDffIdeal.τ).loc Cert.ReferenceDffIdeal.main_arg3))
      ∧ r.2.sem = fun _ => 0)

def quiescent_KernelSquare [hKernelSquare : Cert.KernelSquare.Facts] : Prop :=
  ∀ (m : (ℓ : Loc Cert.KernelSquare.nD Cert.KernelSquare.τ Cert.KernelSquare.sig) → Buf (Elt Bits) ℓ) (g : Dev Cert.KernelSquare.nD → PrngReg), Pre_KernelSquare m →
    θ_run (Cert.KernelSquare.defs (F := Bits)) (onTc (τ := Cert.KernelSquare.τ) (Cert.KernelSquare.main (F := Bits))) ⟨m, fun _ => 0, g⟩ (fun r => (∀ c : Dev Cert.KernelSquare.nD,
      r.2.mem ((c.tc : Thread Cert.KernelSquare.nD Cert.KernelSquare.τ).loc Cert.KernelSquare.main_arg0) = m ((c.tc : Thread Cert.KernelSquare.nD Cert.KernelSquare.τ).loc Cert.KernelSquare.main_arg0)
      ∧ r.2.mem ((c.tc : Thread Cert.KernelSquare.nD Cert.KernelSquare.τ).loc Cert.KernelSquare.main_arg1) = m ((c.tc : Thread Cert.KernelSquare.nD Cert.KernelSquare.τ).loc Cert.KernelSquare.main_arg1))
      ∧ r.2.sem = fun _ => 0)

def quiescent_KernelSquareIdeal [hKernelSquareIdeal : Cert.KernelSquareIdeal.Facts] : Prop :=
  ∀ (m : (ℓ : Loc Cert.KernelSquareIdeal.nD Cert.KernelSquareIdeal.τ Cert.KernelSquareIdeal.sig) → Buf (Elt Ideal) ℓ) (g : Dev Cert.KernelSquareIdeal.nD → PrngReg), Pre_KernelSquareIdeal m →
    θ_run (Cert.KernelSquareIdeal.defs (F := Ideal)) (onTc (τ := Cert.KernelSquareIdeal.τ) (Cert.KernelSquareIdeal.main (F := Ideal))) ⟨m, fun _ => 0, g⟩ (fun r => (∀ c : Dev Cert.KernelSquareIdeal.nD,
      r.2.mem ((c.tc : Thread Cert.KernelSquareIdeal.nD Cert.KernelSquareIdeal.τ).loc Cert.KernelSquareIdeal.main_arg0) = m ((c.tc : Thread Cert.KernelSquareIdeal.nD Cert.KernelSquareIdeal.τ).loc Cert.KernelSquareIdeal.main_arg0)
      ∧ r.2.mem ((c.tc : Thread Cert.KernelSquareIdeal.nD Cert.KernelSquareIdeal.τ).loc Cert.KernelSquareIdeal.main_arg1) = m ((c.tc : Thread Cert.KernelSquareIdeal.nD Cert.KernelSquareIdeal.τ).loc Cert.KernelSquareIdeal.main_arg1))
      ∧ r.2.sem = fun _ => 0)

def quiescent_ReferenceSquareIdeal [hReferenceSquareIdeal : Cert.ReferenceSquareIdeal.Facts] : Prop :=
  ∀ (m : (ℓ : Loc Cert.ReferenceSquareIdeal.nD Cert.ReferenceSquareIdeal.τ Cert.ReferenceSquareIdeal.sig) → Buf (Elt Ideal) ℓ) (g : Dev Cert.ReferenceSquareIdeal.nD → PrngReg), Pre_ReferenceSquareIdeal m →
    θ_run (Cert.ReferenceSquareIdeal.defs (F := Ideal)) (onTc (τ := Cert.ReferenceSquareIdeal.τ) (Cert.ReferenceSquareIdeal.main (F := Ideal))) ⟨m, fun _ => 0, g⟩ (fun r => (∀ c : Dev Cert.ReferenceSquareIdeal.nD,
      r.2.mem ((c.tc : Thread Cert.ReferenceSquareIdeal.nD Cert.ReferenceSquareIdeal.τ).loc Cert.ReferenceSquareIdeal.main_arg0) = m ((c.tc : Thread Cert.ReferenceSquareIdeal.nD Cert.ReferenceSquareIdeal.τ).loc Cert.ReferenceSquareIdeal.main_arg0)
      ∧ r.2.mem ((c.tc : Thread Cert.ReferenceSquareIdeal.nD Cert.ReferenceSquareIdeal.τ).loc Cert.ReferenceSquareIdeal.main_arg1) = m ((c.tc : Thread Cert.ReferenceSquareIdeal.nD Cert.ReferenceSquareIdeal.τ).loc Cert.ReferenceSquareIdeal.main_arg1))
      ∧ r.2.sem = fun _ => 0)

def quiescent_KernelWeight [hKernelWeight : Cert.KernelWeight.Facts] : Prop :=
  ∀ (m : (ℓ : Loc Cert.KernelWeight.nD Cert.KernelWeight.τ Cert.KernelWeight.sig) → Buf (Elt Bits) ℓ) (g : Dev Cert.KernelWeight.nD → PrngReg), Pre_KernelWeight m →
    θ_run (Cert.KernelWeight.defs (F := Bits)) (onTc (τ := Cert.KernelWeight.τ) (Cert.KernelWeight.main (F := Bits))) ⟨m, fun _ => 0, g⟩ (fun r => (∀ c : Dev Cert.KernelWeight.nD,
      r.2.mem ((c.tc : Thread Cert.KernelWeight.nD Cert.KernelWeight.τ).loc Cert.KernelWeight.main_arg0) = m ((c.tc : Thread Cert.KernelWeight.nD Cert.KernelWeight.τ).loc Cert.KernelWeight.main_arg0)
      ∧ r.2.mem ((c.tc : Thread Cert.KernelWeight.nD Cert.KernelWeight.τ).loc Cert.KernelWeight.main_arg1) = m ((c.tc : Thread Cert.KernelWeight.nD Cert.KernelWeight.τ).loc Cert.KernelWeight.main_arg1))
      ∧ r.2.sem = fun _ => 0)

def quiescent_KernelWeightIdeal [hKernelWeightIdeal : Cert.KernelWeightIdeal.Facts] : Prop :=
  ∀ (m : (ℓ : Loc Cert.KernelWeightIdeal.nD Cert.KernelWeightIdeal.τ Cert.KernelWeightIdeal.sig) → Buf (Elt Ideal) ℓ) (g : Dev Cert.KernelWeightIdeal.nD → PrngReg), Pre_KernelWeightIdeal m →
    θ_run (Cert.KernelWeightIdeal.defs (F := Ideal)) (onTc (τ := Cert.KernelWeightIdeal.τ) (Cert.KernelWeightIdeal.main (F := Ideal))) ⟨m, fun _ => 0, g⟩ (fun r => (∀ c : Dev Cert.KernelWeightIdeal.nD,
      r.2.mem ((c.tc : Thread Cert.KernelWeightIdeal.nD Cert.KernelWeightIdeal.τ).loc Cert.KernelWeightIdeal.main_arg0) = m ((c.tc : Thread Cert.KernelWeightIdeal.nD Cert.KernelWeightIdeal.τ).loc Cert.KernelWeightIdeal.main_arg0)
      ∧ r.2.mem ((c.tc : Thread Cert.KernelWeightIdeal.nD Cert.KernelWeightIdeal.τ).loc Cert.KernelWeightIdeal.main_arg1) = m ((c.tc : Thread Cert.KernelWeightIdeal.nD Cert.KernelWeightIdeal.τ).loc Cert.KernelWeightIdeal.main_arg1))
      ∧ r.2.sem = fun _ => 0)

def quiescent_ReferenceWeightIdeal [hReferenceWeightIdeal : Cert.ReferenceWeightIdeal.Facts] : Prop :=
  ∀ (m : (ℓ : Loc Cert.ReferenceWeightIdeal.nD Cert.ReferenceWeightIdeal.τ Cert.ReferenceWeightIdeal.sig) → Buf (Elt Ideal) ℓ) (g : Dev Cert.ReferenceWeightIdeal.nD → PrngReg), Pre_ReferenceWeightIdeal m →
    θ_run (Cert.ReferenceWeightIdeal.defs (F := Ideal)) (onTc (τ := Cert.ReferenceWeightIdeal.τ) (Cert.ReferenceWeightIdeal.main (F := Ideal))) ⟨m, fun _ => 0, g⟩ (fun r => (∀ c : Dev Cert.ReferenceWeightIdeal.nD,
      r.2.mem ((c.tc : Thread Cert.ReferenceWeightIdeal.nD Cert.ReferenceWeightIdeal.τ).loc Cert.ReferenceWeightIdeal.main_arg0) = m ((c.tc : Thread Cert.ReferenceWeightIdeal.nD Cert.ReferenceWeightIdeal.τ).loc Cert.ReferenceWeightIdeal.main_arg0)
      ∧ r.2.mem ((c.tc : Thread Cert.ReferenceWeightIdeal.nD Cert.ReferenceWeightIdeal.τ).loc Cert.ReferenceWeightIdeal.main_arg1) = m ((c.tc : Thread Cert.ReferenceWeightIdeal.nD Cert.ReferenceWeightIdeal.τ).loc Cert.ReferenceWeightIdeal.main_arg1))
      ∧ r.2.sem = fun _ => 0)

def quiescent_KernelResidual [hKernelResidual : Cert.KernelResidual.Facts] : Prop :=
  ∀ (m : (ℓ : Loc Cert.KernelResidual.nD Cert.KernelResidual.τ Cert.KernelResidual.sig) → Buf (Elt Bits) ℓ) (g : Dev Cert.KernelResidual.nD → PrngReg), Pre_KernelResidual m →
    θ_run (Cert.KernelResidual.defs (F := Bits)) (onTc (τ := Cert.KernelResidual.τ) (Cert.KernelResidual.main (F := Bits))) ⟨m, fun _ => 0, g⟩ (fun r => (∀ c : Dev Cert.KernelResidual.nD,
      r.2.mem ((c.tc : Thread Cert.KernelResidual.nD Cert.KernelResidual.τ).loc Cert.KernelResidual.main_arg0) = m ((c.tc : Thread Cert.KernelResidual.nD Cert.KernelResidual.τ).loc Cert.KernelResidual.main_arg0)
      ∧ r.2.mem ((c.tc : Thread Cert.KernelResidual.nD Cert.KernelResidual.τ).loc Cert.KernelResidual.main_arg1) = m ((c.tc : Thread Cert.KernelResidual.nD Cert.KernelResidual.τ).loc Cert.KernelResidual.main_arg1)
      ∧ r.2.mem ((c.tc : Thread Cert.KernelResidual.nD Cert.KernelResidual.τ).loc Cert.KernelResidual.main_arg2) = m ((c.tc : Thread Cert.KernelResidual.nD Cert.KernelResidual.τ).loc Cert.KernelResidual.main_arg2))
      ∧ r.2.sem = fun _ => 0)

def quiescent_KernelResidualIdeal [hKernelResidualIdeal : Cert.KernelResidualIdeal.Facts] : Prop :=
  ∀ (m : (ℓ : Loc Cert.KernelResidualIdeal.nD Cert.KernelResidualIdeal.τ Cert.KernelResidualIdeal.sig) → Buf (Elt Ideal) ℓ) (g : Dev Cert.KernelResidualIdeal.nD → PrngReg), Pre_KernelResidualIdeal m →
    θ_run (Cert.KernelResidualIdeal.defs (F := Ideal)) (onTc (τ := Cert.KernelResidualIdeal.τ) (Cert.KernelResidualIdeal.main (F := Ideal))) ⟨m, fun _ => 0, g⟩ (fun r => (∀ c : Dev Cert.KernelResidualIdeal.nD,
      r.2.mem ((c.tc : Thread Cert.KernelResidualIdeal.nD Cert.KernelResidualIdeal.τ).loc Cert.KernelResidualIdeal.main_arg0) = m ((c.tc : Thread Cert.KernelResidualIdeal.nD Cert.KernelResidualIdeal.τ).loc Cert.KernelResidualIdeal.main_arg0)
      ∧ r.2.mem ((c.tc : Thread Cert.KernelResidualIdeal.nD Cert.KernelResidualIdeal.τ).loc Cert.KernelResidualIdeal.main_arg1) = m ((c.tc : Thread Cert.KernelResidualIdeal.nD Cert.KernelResidualIdeal.τ).loc Cert.KernelResidualIdeal.main_arg1)
      ∧ r.2.mem ((c.tc : Thread Cert.KernelResidualIdeal.nD Cert.KernelResidualIdeal.τ).loc Cert.KernelResidualIdeal.main_arg2) = m ((c.tc : Thread Cert.KernelResidualIdeal.nD Cert.KernelResidualIdeal.τ).loc Cert.KernelResidualIdeal.main_arg2))
      ∧ r.2.sem = fun _ => 0)

def quiescent_ReferenceResidualIdeal [hReferenceResidualIdeal : Cert.ReferenceResidualIdeal.Facts] : Prop :=
  ∀ (m : (ℓ : Loc Cert.ReferenceResidualIdeal.nD Cert.ReferenceResidualIdeal.τ Cert.ReferenceResidualIdeal.sig) → Buf (Elt Ideal) ℓ) (g : Dev Cert.ReferenceResidualIdeal.nD → PrngReg), Pre_ReferenceResidualIdeal m →
    θ_run (Cert.ReferenceResidualIdeal.defs (F := Ideal)) (onTc (τ := Cert.ReferenceResidualIdeal.τ) (Cert.ReferenceResidualIdeal.main (F := Ideal))) ⟨m, fun _ => 0, g⟩ (fun r => (∀ c : Dev Cert.ReferenceResidualIdeal.nD,
      r.2.mem ((c.tc : Thread Cert.ReferenceResidualIdeal.nD Cert.ReferenceResidualIdeal.τ).loc Cert.ReferenceResidualIdeal.main_arg0) = m ((c.tc : Thread Cert.ReferenceResidualIdeal.nD Cert.ReferenceResidualIdeal.τ).loc Cert.ReferenceResidualIdeal.main_arg0)
      ∧ r.2.mem ((c.tc : Thread Cert.ReferenceResidualIdeal.nD Cert.ReferenceResidualIdeal.τ).loc Cert.ReferenceResidualIdeal.main_arg1) = m ((c.tc : Thread Cert.ReferenceResidualIdeal.nD Cert.ReferenceResidualIdeal.τ).loc Cert.ReferenceResidualIdeal.main_arg1)
      ∧ r.2.mem ((c.tc : Thread Cert.ReferenceResidualIdeal.nD Cert.ReferenceResidualIdeal.τ).loc Cert.ReferenceResidualIdeal.main_arg2) = m ((c.tc : Thread Cert.ReferenceResidualIdeal.nD Cert.ReferenceResidualIdeal.τ).loc Cert.ReferenceResidualIdeal.main_arg2))
      ∧ r.2.sem = fun _ => 0)

def quiescent_KernelBranches [hKernelBranches : Cert.KernelBranches.Facts] : Prop :=
  ∀ (m : (ℓ : Loc Cert.KernelBranches.nD Cert.KernelBranches.τ Cert.KernelBranches.sig) → Buf (Elt Bits) ℓ) (g : Dev Cert.KernelBranches.nD → PrngReg), Pre_KernelBranches m →
    θ_run (Cert.KernelBranches.defs (F := Bits)) (onTc (τ := Cert.KernelBranches.τ) (Cert.KernelBranches.main (F := Bits))) ⟨m, fun _ => 0, g⟩ (fun r => (∀ c : Dev Cert.KernelBranches.nD,
      r.2.mem ((c.tc : Thread Cert.KernelBranches.nD Cert.KernelBranches.τ).loc Cert.KernelBranches.main_arg0) = m ((c.tc : Thread Cert.KernelBranches.nD Cert.KernelBranches.τ).loc Cert.KernelBranches.main_arg0)
      ∧ r.2.mem ((c.tc : Thread Cert.KernelBranches.nD Cert.KernelBranches.τ).loc Cert.KernelBranches.main_arg1) = m ((c.tc : Thread Cert.KernelBranches.nD Cert.KernelBranches.τ).loc Cert.KernelBranches.main_arg1)
      ∧ r.2.mem ((c.tc : Thread Cert.KernelBranches.nD Cert.KernelBranches.τ).loc Cert.KernelBranches.main_arg2) = m ((c.tc : Thread Cert.KernelBranches.nD Cert.KernelBranches.τ).loc Cert.KernelBranches.main_arg2)
      ∧ r.2.mem ((c.tc : Thread Cert.KernelBranches.nD Cert.KernelBranches.τ).loc Cert.KernelBranches.main_arg3) = m ((c.tc : Thread Cert.KernelBranches.nD Cert.KernelBranches.τ).loc Cert.KernelBranches.main_arg3)
      ∧ r.2.mem ((c.tc : Thread Cert.KernelBranches.nD Cert.KernelBranches.τ).loc Cert.KernelBranches.main_arg4) = m ((c.tc : Thread Cert.KernelBranches.nD Cert.KernelBranches.τ).loc Cert.KernelBranches.main_arg4))
      ∧ r.2.sem = fun _ => 0)

def quiescent_KernelBranchesIdeal [hKernelBranchesIdeal : Cert.KernelBranchesIdeal.Facts] : Prop :=
  ∀ (m : (ℓ : Loc Cert.KernelBranchesIdeal.nD Cert.KernelBranchesIdeal.τ Cert.KernelBranchesIdeal.sig) → Buf (Elt Ideal) ℓ) (g : Dev Cert.KernelBranchesIdeal.nD → PrngReg), Pre_KernelBranchesIdeal m →
    θ_run (Cert.KernelBranchesIdeal.defs (F := Ideal)) (onTc (τ := Cert.KernelBranchesIdeal.τ) (Cert.KernelBranchesIdeal.main (F := Ideal))) ⟨m, fun _ => 0, g⟩ (fun r => (∀ c : Dev Cert.KernelBranchesIdeal.nD,
      r.2.mem ((c.tc : Thread Cert.KernelBranchesIdeal.nD Cert.KernelBranchesIdeal.τ).loc Cert.KernelBranchesIdeal.main_arg0) = m ((c.tc : Thread Cert.KernelBranchesIdeal.nD Cert.KernelBranchesIdeal.τ).loc Cert.KernelBranchesIdeal.main_arg0)
      ∧ r.2.mem ((c.tc : Thread Cert.KernelBranchesIdeal.nD Cert.KernelBranchesIdeal.τ).loc Cert.KernelBranchesIdeal.main_arg1) = m ((c.tc : Thread Cert.KernelBranchesIdeal.nD Cert.KernelBranchesIdeal.τ).loc Cert.KernelBranchesIdeal.main_arg1)
      ∧ r.2.mem ((c.tc : Thread Cert.KernelBranchesIdeal.nD Cert.KernelBranchesIdeal.τ).loc Cert.KernelBranchesIdeal.main_arg2) = m ((c.tc : Thread Cert.KernelBranchesIdeal.nD Cert.KernelBranchesIdeal.τ).loc Cert.KernelBranchesIdeal.main_arg2)
      ∧ r.2.mem ((c.tc : Thread Cert.KernelBranchesIdeal.nD Cert.KernelBranchesIdeal.τ).loc Cert.KernelBranchesIdeal.main_arg3) = m ((c.tc : Thread Cert.KernelBranchesIdeal.nD Cert.KernelBranchesIdeal.τ).loc Cert.KernelBranchesIdeal.main_arg3)
      ∧ r.2.mem ((c.tc : Thread Cert.KernelBranchesIdeal.nD Cert.KernelBranchesIdeal.τ).loc Cert.KernelBranchesIdeal.main_arg4) = m ((c.tc : Thread Cert.KernelBranchesIdeal.nD Cert.KernelBranchesIdeal.τ).loc Cert.KernelBranchesIdeal.main_arg4))
      ∧ r.2.sem = fun _ => 0)

def quiescent_ReferenceBranchesIdeal [hReferenceBranchesIdeal : Cert.ReferenceBranchesIdeal.Facts] : Prop :=
  ∀ (m : (ℓ : Loc Cert.ReferenceBranchesIdeal.nD Cert.ReferenceBranchesIdeal.τ Cert.ReferenceBranchesIdeal.sig) → Buf (Elt Ideal) ℓ) (g : Dev Cert.ReferenceBranchesIdeal.nD → PrngReg), Pre_ReferenceBranchesIdeal m →
    θ_run (Cert.ReferenceBranchesIdeal.defs (F := Ideal)) (onTc (τ := Cert.ReferenceBranchesIdeal.τ) (Cert.ReferenceBranchesIdeal.main (F := Ideal))) ⟨m, fun _ => 0, g⟩ (fun r => (∀ c : Dev Cert.ReferenceBranchesIdeal.nD,
      r.2.mem ((c.tc : Thread Cert.ReferenceBranchesIdeal.nD Cert.ReferenceBranchesIdeal.τ).loc Cert.ReferenceBranchesIdeal.main_arg0) = m ((c.tc : Thread Cert.ReferenceBranchesIdeal.nD Cert.ReferenceBranchesIdeal.τ).loc Cert.ReferenceBranchesIdeal.main_arg0)
      ∧ r.2.mem ((c.tc : Thread Cert.ReferenceBranchesIdeal.nD Cert.ReferenceBranchesIdeal.τ).loc Cert.ReferenceBranchesIdeal.main_arg1) = m ((c.tc : Thread Cert.ReferenceBranchesIdeal.nD Cert.ReferenceBranchesIdeal.τ).loc Cert.ReferenceBranchesIdeal.main_arg1)
      ∧ r.2.mem ((c.tc : Thread Cert.ReferenceBranchesIdeal.nD Cert.ReferenceBranchesIdeal.τ).loc Cert.ReferenceBranchesIdeal.main_arg2) = m ((c.tc : Thread Cert.ReferenceBranchesIdeal.nD Cert.ReferenceBranchesIdeal.τ).loc Cert.ReferenceBranchesIdeal.main_arg2)
      ∧ r.2.mem ((c.tc : Thread Cert.ReferenceBranchesIdeal.nD Cert.ReferenceBranchesIdeal.τ).loc Cert.ReferenceBranchesIdeal.main_arg3) = m ((c.tc : Thread Cert.ReferenceBranchesIdeal.nD Cert.ReferenceBranchesIdeal.τ).loc Cert.ReferenceBranchesIdeal.main_arg3)
      ∧ r.2.mem ((c.tc : Thread Cert.ReferenceBranchesIdeal.nD Cert.ReferenceBranchesIdeal.τ).loc Cert.ReferenceBranchesIdeal.main_arg4) = m ((c.tc : Thread Cert.ReferenceBranchesIdeal.nD Cert.ReferenceBranchesIdeal.τ).loc Cert.ReferenceBranchesIdeal.main_arg4))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3)
      ∧ r.2.mem ((c.tc : Thread Cert.KernelPle.nD Cert.KernelPle.τ).loc Cert.KernelPle.main_arg4) = m ((c.tc : Thread Cert.KernelPle.nD Cert.KernelPle.τ).loc Cert.KernelPle.main_arg4))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4))
      ∧ r.2.sem = fun _ => 0)

def quiescent_KernelDattn [hKernelDattn : Cert.KernelDattn.Facts] : Prop :=
  ∀ (m : (ℓ : Loc Cert.KernelDattn.nD Cert.KernelDattn.τ Cert.KernelDattn.sig) → Buf (Elt Bits) ℓ) (g : Dev Cert.KernelDattn.nD → PrngReg), Pre_KernelDattn m →
    θ_run (Cert.KernelDattn.defs (F := Bits)) (onTc (τ := Cert.KernelDattn.τ) (Cert.KernelDattn.main (F := Bits))) ⟨m, fun _ => 0, g⟩ (fun r => (∀ c : Dev Cert.KernelDattn.nD,
      r.2.mem ((c.tc : Thread Cert.KernelDattn.nD Cert.KernelDattn.τ).loc Cert.KernelDattn.main_arg0) = m ((c.tc : Thread Cert.KernelDattn.nD Cert.KernelDattn.τ).loc Cert.KernelDattn.main_arg0)
      ∧ r.2.mem ((c.tc : Thread Cert.KernelDattn.nD Cert.KernelDattn.τ).loc Cert.KernelDattn.main_arg1) = m ((c.tc : Thread Cert.KernelDattn.nD Cert.KernelDattn.τ).loc Cert.KernelDattn.main_arg1))
      ∧ r.2.sem = fun _ => 0)

def quiescent_KernelDattnIdeal [hKernelDattnIdeal : Cert.KernelDattnIdeal.Facts] : Prop :=
  ∀ (m : (ℓ : Loc Cert.KernelDattnIdeal.nD Cert.KernelDattnIdeal.τ Cert.KernelDattnIdeal.sig) → Buf (Elt Ideal) ℓ) (g : Dev Cert.KernelDattnIdeal.nD → PrngReg), Pre_KernelDattnIdeal m →
    θ_run (Cert.KernelDattnIdeal.defs (F := Ideal)) (onTc (τ := Cert.KernelDattnIdeal.τ) (Cert.KernelDattnIdeal.main (F := Ideal))) ⟨m, fun _ => 0, g⟩ (fun r => (∀ c : Dev Cert.KernelDattnIdeal.nD,
      r.2.mem ((c.tc : Thread Cert.KernelDattnIdeal.nD Cert.KernelDattnIdeal.τ).loc Cert.KernelDattnIdeal.main_arg0) = m ((c.tc : Thread Cert.KernelDattnIdeal.nD Cert.KernelDattnIdeal.τ).loc Cert.KernelDattnIdeal.main_arg0)
      ∧ r.2.mem ((c.tc : Thread Cert.KernelDattnIdeal.nD Cert.KernelDattnIdeal.τ).loc Cert.KernelDattnIdeal.main_arg1) = m ((c.tc : Thread Cert.KernelDattnIdeal.nD Cert.KernelDattnIdeal.τ).loc Cert.KernelDattnIdeal.main_arg1))
      ∧ r.2.sem = fun _ => 0)

def quiescent_ReferenceDattnIdeal [hReferenceDattnIdeal : Cert.ReferenceDattnIdeal.Facts] : Prop :=
  ∀ (m : (ℓ : Loc Cert.ReferenceDattnIdeal.nD Cert.ReferenceDattnIdeal.τ Cert.ReferenceDattnIdeal.sig) → Buf (Elt Ideal) ℓ) (g : Dev Cert.ReferenceDattnIdeal.nD → PrngReg), Pre_ReferenceDattnIdeal m →
    θ_run (Cert.ReferenceDattnIdeal.defs (F := Ideal)) (onTc (τ := Cert.ReferenceDattnIdeal.τ) (Cert.ReferenceDattnIdeal.main (F := Ideal))) ⟨m, fun _ => 0, g⟩ (fun r => (∀ c : Dev Cert.ReferenceDattnIdeal.nD,
      r.2.mem ((c.tc : Thread Cert.ReferenceDattnIdeal.nD Cert.ReferenceDattnIdeal.τ).loc Cert.ReferenceDattnIdeal.main_arg0) = m ((c.tc : Thread Cert.ReferenceDattnIdeal.nD Cert.ReferenceDattnIdeal.τ).loc Cert.ReferenceDattnIdeal.main_arg0)
      ∧ r.2.mem ((c.tc : Thread Cert.ReferenceDattnIdeal.nD Cert.ReferenceDattnIdeal.τ).loc Cert.ReferenceDattnIdeal.main_arg1) = m ((c.tc : Thread Cert.ReferenceDattnIdeal.nD Cert.ReferenceDattnIdeal.τ).loc Cert.ReferenceDattnIdeal.main_arg1))
      ∧ r.2.sem = fun _ => 0)

def quiescent_KernelDsg [hKernelDsg : Cert.KernelDsg.Facts] : Prop :=
  ∀ (m : (ℓ : Loc Cert.KernelDsg.nD Cert.KernelDsg.τ Cert.KernelDsg.sig) → Buf (Elt Bits) ℓ) (g : Dev Cert.KernelDsg.nD → PrngReg), Pre_KernelDsg m →
    θ_run (Cert.KernelDsg.defs (F := Bits)) (onTc (τ := Cert.KernelDsg.τ) (Cert.KernelDsg.main (F := Bits))) ⟨m, fun _ => 0, g⟩ (fun r => (∀ c : Dev Cert.KernelDsg.nD,
      r.2.mem ((c.tc : Thread Cert.KernelDsg.nD Cert.KernelDsg.τ).loc Cert.KernelDsg.main_arg0) = m ((c.tc : Thread Cert.KernelDsg.nD Cert.KernelDsg.τ).loc Cert.KernelDsg.main_arg0)
      ∧ r.2.mem ((c.tc : Thread Cert.KernelDsg.nD Cert.KernelDsg.τ).loc Cert.KernelDsg.main_arg1) = m ((c.tc : Thread Cert.KernelDsg.nD Cert.KernelDsg.τ).loc Cert.KernelDsg.main_arg1))
      ∧ r.2.sem = fun _ => 0)

def quiescent_KernelDsgIdeal [hKernelDsgIdeal : Cert.KernelDsgIdeal.Facts] : Prop :=
  ∀ (m : (ℓ : Loc Cert.KernelDsgIdeal.nD Cert.KernelDsgIdeal.τ Cert.KernelDsgIdeal.sig) → Buf (Elt Ideal) ℓ) (g : Dev Cert.KernelDsgIdeal.nD → PrngReg), Pre_KernelDsgIdeal m →
    θ_run (Cert.KernelDsgIdeal.defs (F := Ideal)) (onTc (τ := Cert.KernelDsgIdeal.τ) (Cert.KernelDsgIdeal.main (F := Ideal))) ⟨m, fun _ => 0, g⟩ (fun r => (∀ c : Dev Cert.KernelDsgIdeal.nD,
      r.2.mem ((c.tc : Thread Cert.KernelDsgIdeal.nD Cert.KernelDsgIdeal.τ).loc Cert.KernelDsgIdeal.main_arg0) = m ((c.tc : Thread Cert.KernelDsgIdeal.nD Cert.KernelDsgIdeal.τ).loc Cert.KernelDsgIdeal.main_arg0)
      ∧ r.2.mem ((c.tc : Thread Cert.KernelDsgIdeal.nD Cert.KernelDsgIdeal.τ).loc Cert.KernelDsgIdeal.main_arg1) = m ((c.tc : Thread Cert.KernelDsgIdeal.nD Cert.KernelDsgIdeal.τ).loc Cert.KernelDsgIdeal.main_arg1))
      ∧ r.2.sem = fun _ => 0)

def quiescent_ReferenceDsgIdeal [hReferenceDsgIdeal : Cert.ReferenceDsgIdeal.Facts] : Prop :=
  ∀ (m : (ℓ : Loc Cert.ReferenceDsgIdeal.nD Cert.ReferenceDsgIdeal.τ Cert.ReferenceDsgIdeal.sig) → Buf (Elt Ideal) ℓ) (g : Dev Cert.ReferenceDsgIdeal.nD → PrngReg), Pre_ReferenceDsgIdeal m →
    θ_run (Cert.ReferenceDsgIdeal.defs (F := Ideal)) (onTc (τ := Cert.ReferenceDsgIdeal.τ) (Cert.ReferenceDsgIdeal.main (F := Ideal))) ⟨m, fun _ => 0, g⟩ (fun r => (∀ c : Dev Cert.ReferenceDsgIdeal.nD,
      r.2.mem ((c.tc : Thread Cert.ReferenceDsgIdeal.nD Cert.ReferenceDsgIdeal.τ).loc Cert.ReferenceDsgIdeal.main_arg0) = m ((c.tc : Thread Cert.ReferenceDsgIdeal.nD Cert.ReferenceDsgIdeal.τ).loc Cert.ReferenceDsgIdeal.main_arg0)
      ∧ r.2.mem ((c.tc : Thread Cert.ReferenceDsgIdeal.nD Cert.ReferenceDsgIdeal.τ).loc Cert.ReferenceDsgIdeal.main_arg1) = m ((c.tc : Thread Cert.ReferenceDsgIdeal.nD Cert.ReferenceDsgIdeal.τ).loc Cert.ReferenceDsgIdeal.main_arg1))
      ∧ r.2.sem = fun _ => 0)

def quiescent_KernelWattn [hKernelWattn : Cert.KernelWattn.Facts] : Prop :=
  ∀ (m : (ℓ : Loc Cert.KernelWattn.nD Cert.KernelWattn.τ Cert.KernelWattn.sig) → Buf (Elt Bits) ℓ) (g : Dev Cert.KernelWattn.nD → PrngReg), Pre_KernelWattn m →
    θ_run (Cert.KernelWattn.defs (F := Bits)) (onTc (τ := Cert.KernelWattn.τ) (Cert.KernelWattn.main (F := Bits))) ⟨m, fun _ => 0, g⟩ (fun r => (∀ c : Dev Cert.KernelWattn.nD,
      r.2.mem ((c.tc : Thread Cert.KernelWattn.nD Cert.KernelWattn.τ).loc Cert.KernelWattn.main_arg0) = m ((c.tc : Thread Cert.KernelWattn.nD Cert.KernelWattn.τ).loc Cert.KernelWattn.main_arg0)
      ∧ r.2.mem ((c.tc : Thread Cert.KernelWattn.nD Cert.KernelWattn.τ).loc Cert.KernelWattn.main_arg1) = m ((c.tc : Thread Cert.KernelWattn.nD Cert.KernelWattn.τ).loc Cert.KernelWattn.main_arg1))
      ∧ r.2.sem = fun _ => 0)

def quiescent_KernelWattnIdeal [hKernelWattnIdeal : Cert.KernelWattnIdeal.Facts] : Prop :=
  ∀ (m : (ℓ : Loc Cert.KernelWattnIdeal.nD Cert.KernelWattnIdeal.τ Cert.KernelWattnIdeal.sig) → Buf (Elt Ideal) ℓ) (g : Dev Cert.KernelWattnIdeal.nD → PrngReg), Pre_KernelWattnIdeal m →
    θ_run (Cert.KernelWattnIdeal.defs (F := Ideal)) (onTc (τ := Cert.KernelWattnIdeal.τ) (Cert.KernelWattnIdeal.main (F := Ideal))) ⟨m, fun _ => 0, g⟩ (fun r => (∀ c : Dev Cert.KernelWattnIdeal.nD,
      r.2.mem ((c.tc : Thread Cert.KernelWattnIdeal.nD Cert.KernelWattnIdeal.τ).loc Cert.KernelWattnIdeal.main_arg0) = m ((c.tc : Thread Cert.KernelWattnIdeal.nD Cert.KernelWattnIdeal.τ).loc Cert.KernelWattnIdeal.main_arg0)
      ∧ r.2.mem ((c.tc : Thread Cert.KernelWattnIdeal.nD Cert.KernelWattnIdeal.τ).loc Cert.KernelWattnIdeal.main_arg1) = m ((c.tc : Thread Cert.KernelWattnIdeal.nD Cert.KernelWattnIdeal.τ).loc Cert.KernelWattnIdeal.main_arg1))
      ∧ r.2.sem = fun _ => 0)

def quiescent_ReferenceWattnIdeal [hReferenceWattnIdeal : Cert.ReferenceWattnIdeal.Facts] : Prop :=
  ∀ (m : (ℓ : Loc Cert.ReferenceWattnIdeal.nD Cert.ReferenceWattnIdeal.τ Cert.ReferenceWattnIdeal.sig) → Buf (Elt Ideal) ℓ) (g : Dev Cert.ReferenceWattnIdeal.nD → PrngReg), Pre_ReferenceWattnIdeal m →
    θ_run (Cert.ReferenceWattnIdeal.defs (F := Ideal)) (onTc (τ := Cert.ReferenceWattnIdeal.τ) (Cert.ReferenceWattnIdeal.main (F := Ideal))) ⟨m, fun _ => 0, g⟩ (fun r => (∀ c : Dev Cert.ReferenceWattnIdeal.nD,
      r.2.mem ((c.tc : Thread Cert.ReferenceWattnIdeal.nD Cert.ReferenceWattnIdeal.τ).loc Cert.ReferenceWattnIdeal.main_arg0) = m ((c.tc : Thread Cert.ReferenceWattnIdeal.nD Cert.ReferenceWattnIdeal.τ).loc Cert.ReferenceWattnIdeal.main_arg0)
      ∧ r.2.mem ((c.tc : Thread Cert.ReferenceWattnIdeal.nD Cert.ReferenceWattnIdeal.τ).loc Cert.ReferenceWattnIdeal.main_arg1) = m ((c.tc : Thread Cert.ReferenceWattnIdeal.nD Cert.ReferenceWattnIdeal.τ).loc Cert.ReferenceWattnIdeal.main_arg1))
      ∧ r.2.sem = fun _ => 0)

def quiescent_KernelWsg [hKernelWsg : Cert.KernelWsg.Facts] : Prop :=
  ∀ (m : (ℓ : Loc Cert.KernelWsg.nD Cert.KernelWsg.τ Cert.KernelWsg.sig) → Buf (Elt Bits) ℓ) (g : Dev Cert.KernelWsg.nD → PrngReg), Pre_KernelWsg m →
    θ_run (Cert.KernelWsg.defs (F := Bits)) (onTc (τ := Cert.KernelWsg.τ) (Cert.KernelWsg.main (F := Bits))) ⟨m, fun _ => 0, g⟩ (fun r => (∀ c : Dev Cert.KernelWsg.nD,
      r.2.mem ((c.tc : Thread Cert.KernelWsg.nD Cert.KernelWsg.τ).loc Cert.KernelWsg.main_arg0) = m ((c.tc : Thread Cert.KernelWsg.nD Cert.KernelWsg.τ).loc Cert.KernelWsg.main_arg0)
      ∧ r.2.mem ((c.tc : Thread Cert.KernelWsg.nD Cert.KernelWsg.τ).loc Cert.KernelWsg.main_arg1) = m ((c.tc : Thread Cert.KernelWsg.nD Cert.KernelWsg.τ).loc Cert.KernelWsg.main_arg1))
      ∧ r.2.sem = fun _ => 0)

def quiescent_KernelWsgIdeal [hKernelWsgIdeal : Cert.KernelWsgIdeal.Facts] : Prop :=
  ∀ (m : (ℓ : Loc Cert.KernelWsgIdeal.nD Cert.KernelWsgIdeal.τ Cert.KernelWsgIdeal.sig) → Buf (Elt Ideal) ℓ) (g : Dev Cert.KernelWsgIdeal.nD → PrngReg), Pre_KernelWsgIdeal m →
    θ_run (Cert.KernelWsgIdeal.defs (F := Ideal)) (onTc (τ := Cert.KernelWsgIdeal.τ) (Cert.KernelWsgIdeal.main (F := Ideal))) ⟨m, fun _ => 0, g⟩ (fun r => (∀ c : Dev Cert.KernelWsgIdeal.nD,
      r.2.mem ((c.tc : Thread Cert.KernelWsgIdeal.nD Cert.KernelWsgIdeal.τ).loc Cert.KernelWsgIdeal.main_arg0) = m ((c.tc : Thread Cert.KernelWsgIdeal.nD Cert.KernelWsgIdeal.τ).loc Cert.KernelWsgIdeal.main_arg0)
      ∧ r.2.mem ((c.tc : Thread Cert.KernelWsgIdeal.nD Cert.KernelWsgIdeal.τ).loc Cert.KernelWsgIdeal.main_arg1) = m ((c.tc : Thread Cert.KernelWsgIdeal.nD Cert.KernelWsgIdeal.τ).loc Cert.KernelWsgIdeal.main_arg1))
      ∧ r.2.sem = fun _ => 0)

def quiescent_ReferenceWsgIdeal [hReferenceWsgIdeal : Cert.ReferenceWsgIdeal.Facts] : Prop :=
  ∀ (m : (ℓ : Loc Cert.ReferenceWsgIdeal.nD Cert.ReferenceWsgIdeal.τ Cert.ReferenceWsgIdeal.sig) → Buf (Elt Ideal) ℓ) (g : Dev Cert.ReferenceWsgIdeal.nD → PrngReg), Pre_ReferenceWsgIdeal m →
    θ_run (Cert.ReferenceWsgIdeal.defs (F := Ideal)) (onTc (τ := Cert.ReferenceWsgIdeal.τ) (Cert.ReferenceWsgIdeal.main (F := Ideal))) ⟨m, fun _ => 0, g⟩ (fun r => (∀ c : Dev Cert.ReferenceWsgIdeal.nD,
      r.2.mem ((c.tc : Thread Cert.ReferenceWsgIdeal.nD Cert.ReferenceWsgIdeal.τ).loc Cert.ReferenceWsgIdeal.main_arg0) = m ((c.tc : Thread Cert.ReferenceWsgIdeal.nD Cert.ReferenceWsgIdeal.τ).loc Cert.ReferenceWsgIdeal.main_arg0)
      ∧ r.2.mem ((c.tc : Thread Cert.ReferenceWsgIdeal.nD Cert.ReferenceWsgIdeal.τ).loc Cert.ReferenceWsgIdeal.main_arg1) = m ((c.tc : Thread Cert.ReferenceWsgIdeal.nD Cert.ReferenceWsgIdeal.τ).loc Cert.ReferenceWsgIdeal.main_arg1))
      ∧ r.2.sem = fun _ => 0)

def quiescent_KernelWple [hKernelWple : Cert.KernelWple.Facts] : Prop :=
  ∀ (m : (ℓ : Loc Cert.KernelWple.nD Cert.KernelWple.τ Cert.KernelWple.sig) → Buf (Elt Bits) ℓ) (g : Dev Cert.KernelWple.nD → PrngReg), Pre_KernelWple m →
    θ_run (Cert.KernelWple.defs (F := Bits)) (onTc (τ := Cert.KernelWple.τ) (Cert.KernelWple.main (F := Bits))) ⟨m, fun _ => 0, g⟩ (fun r => (∀ c : Dev Cert.KernelWple.nD,
      r.2.mem ((c.tc : Thread Cert.KernelWple.nD Cert.KernelWple.τ).loc Cert.KernelWple.main_arg0) = m ((c.tc : Thread Cert.KernelWple.nD Cert.KernelWple.τ).loc Cert.KernelWple.main_arg0)
      ∧ r.2.mem ((c.tc : Thread Cert.KernelWple.nD Cert.KernelWple.τ).loc Cert.KernelWple.main_arg1) = m ((c.tc : Thread Cert.KernelWple.nD Cert.KernelWple.τ).loc Cert.KernelWple.main_arg1))
      ∧ r.2.sem = fun _ => 0)

def quiescent_KernelWpleIdeal [hKernelWpleIdeal : Cert.KernelWpleIdeal.Facts] : Prop :=
  ∀ (m : (ℓ : Loc Cert.KernelWpleIdeal.nD Cert.KernelWpleIdeal.τ Cert.KernelWpleIdeal.sig) → Buf (Elt Ideal) ℓ) (g : Dev Cert.KernelWpleIdeal.nD → PrngReg), Pre_KernelWpleIdeal m →
    θ_run (Cert.KernelWpleIdeal.defs (F := Ideal)) (onTc (τ := Cert.KernelWpleIdeal.τ) (Cert.KernelWpleIdeal.main (F := Ideal))) ⟨m, fun _ => 0, g⟩ (fun r => (∀ c : Dev Cert.KernelWpleIdeal.nD,
      r.2.mem ((c.tc : Thread Cert.KernelWpleIdeal.nD Cert.KernelWpleIdeal.τ).loc Cert.KernelWpleIdeal.main_arg0) = m ((c.tc : Thread Cert.KernelWpleIdeal.nD Cert.KernelWpleIdeal.τ).loc Cert.KernelWpleIdeal.main_arg0)
      ∧ r.2.mem ((c.tc : Thread Cert.KernelWpleIdeal.nD Cert.KernelWpleIdeal.τ).loc Cert.KernelWpleIdeal.main_arg1) = m ((c.tc : Thread Cert.KernelWpleIdeal.nD Cert.KernelWpleIdeal.τ).loc Cert.KernelWpleIdeal.main_arg1))
      ∧ r.2.sem = fun _ => 0)

def quiescent_ReferenceWpleIdeal [hReferenceWpleIdeal : Cert.ReferenceWpleIdeal.Facts] : Prop :=
  ∀ (m : (ℓ : Loc Cert.ReferenceWpleIdeal.nD Cert.ReferenceWpleIdeal.τ Cert.ReferenceWpleIdeal.sig) → Buf (Elt Ideal) ℓ) (g : Dev Cert.ReferenceWpleIdeal.nD → PrngReg), Pre_ReferenceWpleIdeal m →
    θ_run (Cert.ReferenceWpleIdeal.defs (F := Ideal)) (onTc (τ := Cert.ReferenceWpleIdeal.τ) (Cert.ReferenceWpleIdeal.main (F := Ideal))) ⟨m, fun _ => 0, g⟩ (fun r => (∀ c : Dev Cert.ReferenceWpleIdeal.nD,
      r.2.mem ((c.tc : Thread Cert.ReferenceWpleIdeal.nD Cert.ReferenceWpleIdeal.τ).loc Cert.ReferenceWpleIdeal.main_arg0) = m ((c.tc : Thread Cert.ReferenceWpleIdeal.nD Cert.ReferenceWpleIdeal.τ).loc Cert.ReferenceWpleIdeal.main_arg0)
      ∧ r.2.mem ((c.tc : Thread Cert.ReferenceWpleIdeal.nD Cert.ReferenceWpleIdeal.τ).loc Cert.ReferenceWpleIdeal.main_arg1) = m ((c.tc : Thread Cert.ReferenceWpleIdeal.nD Cert.ReferenceWpleIdeal.τ).loc Cert.ReferenceWpleIdeal.main_arg1))
      ∧ r.2.sem = fun _ => 0)

def quiescent_KernelPlegate [hKernelPlegate : Cert.KernelPlegate.Facts] : Prop :=
  ∀ (m : (ℓ : Loc Cert.KernelPlegate.nD Cert.KernelPlegate.τ Cert.KernelPlegate.sig) → Buf (Elt Bits) ℓ) (g : Dev Cert.KernelPlegate.nD → PrngReg), Pre_KernelPlegate m →
    θ_run (Cert.KernelPlegate.defs (F := Bits)) (onTc (τ := Cert.KernelPlegate.τ) (Cert.KernelPlegate.main (F := Bits))) ⟨m, fun _ => 0, g⟩ (fun r => (∀ c : Dev Cert.KernelPlegate.nD,
      r.2.mem ((c.tc : Thread Cert.KernelPlegate.nD Cert.KernelPlegate.τ).loc Cert.KernelPlegate.main_arg0) = m ((c.tc : Thread Cert.KernelPlegate.nD Cert.KernelPlegate.τ).loc Cert.KernelPlegate.main_arg0)
      ∧ r.2.mem ((c.tc : Thread Cert.KernelPlegate.nD Cert.KernelPlegate.τ).loc Cert.KernelPlegate.main_arg1) = m ((c.tc : Thread Cert.KernelPlegate.nD Cert.KernelPlegate.τ).loc Cert.KernelPlegate.main_arg1)
      ∧ r.2.mem ((c.tc : Thread Cert.KernelPlegate.nD Cert.KernelPlegate.τ).loc Cert.KernelPlegate.main_arg2) = m ((c.tc : Thread Cert.KernelPlegate.nD Cert.KernelPlegate.τ).loc Cert.KernelPlegate.main_arg2))
      ∧ r.2.sem = fun _ => 0)

def quiescent_KernelPlegateIdeal [hKernelPlegateIdeal : Cert.KernelPlegateIdeal.Facts] : Prop :=
  ∀ (m : (ℓ : Loc Cert.KernelPlegateIdeal.nD Cert.KernelPlegateIdeal.τ Cert.KernelPlegateIdeal.sig) → Buf (Elt Ideal) ℓ) (g : Dev Cert.KernelPlegateIdeal.nD → PrngReg), Pre_KernelPlegateIdeal m →
    θ_run (Cert.KernelPlegateIdeal.defs (F := Ideal)) (onTc (τ := Cert.KernelPlegateIdeal.τ) (Cert.KernelPlegateIdeal.main (F := Ideal))) ⟨m, fun _ => 0, g⟩ (fun r => (∀ c : Dev Cert.KernelPlegateIdeal.nD,
      r.2.mem ((c.tc : Thread Cert.KernelPlegateIdeal.nD Cert.KernelPlegateIdeal.τ).loc Cert.KernelPlegateIdeal.main_arg0) = m ((c.tc : Thread Cert.KernelPlegateIdeal.nD Cert.KernelPlegateIdeal.τ).loc Cert.KernelPlegateIdeal.main_arg0)
      ∧ r.2.mem ((c.tc : Thread Cert.KernelPlegateIdeal.nD Cert.KernelPlegateIdeal.τ).loc Cert.KernelPlegateIdeal.main_arg1) = m ((c.tc : Thread Cert.KernelPlegateIdeal.nD Cert.KernelPlegateIdeal.τ).loc Cert.KernelPlegateIdeal.main_arg1)
      ∧ r.2.mem ((c.tc : Thread Cert.KernelPlegateIdeal.nD Cert.KernelPlegateIdeal.τ).loc Cert.KernelPlegateIdeal.main_arg2) = m ((c.tc : Thread Cert.KernelPlegateIdeal.nD Cert.KernelPlegateIdeal.τ).loc Cert.KernelPlegateIdeal.main_arg2))
      ∧ r.2.sem = fun _ => 0)

def quiescent_ReferencePlegateIdeal [hReferencePlegateIdeal : Cert.ReferencePlegateIdeal.Facts] : Prop :=
  ∀ (m : (ℓ : Loc Cert.ReferencePlegateIdeal.nD Cert.ReferencePlegateIdeal.τ Cert.ReferencePlegateIdeal.sig) → Buf (Elt Ideal) ℓ) (g : Dev Cert.ReferencePlegateIdeal.nD → PrngReg), Pre_ReferencePlegateIdeal m →
    θ_run (Cert.ReferencePlegateIdeal.defs (F := Ideal)) (onTc (τ := Cert.ReferencePlegateIdeal.τ) (Cert.ReferencePlegateIdeal.main (F := Ideal))) ⟨m, fun _ => 0, g⟩ (fun r => (∀ c : Dev Cert.ReferencePlegateIdeal.nD,
      r.2.mem ((c.tc : Thread Cert.ReferencePlegateIdeal.nD Cert.ReferencePlegateIdeal.τ).loc Cert.ReferencePlegateIdeal.main_arg0) = m ((c.tc : Thread Cert.ReferencePlegateIdeal.nD Cert.ReferencePlegateIdeal.τ).loc Cert.ReferencePlegateIdeal.main_arg0)
      ∧ r.2.mem ((c.tc : Thread Cert.ReferencePlegateIdeal.nD Cert.ReferencePlegateIdeal.τ).loc Cert.ReferencePlegateIdeal.main_arg1) = m ((c.tc : Thread Cert.ReferencePlegateIdeal.nD Cert.ReferencePlegateIdeal.τ).loc Cert.ReferencePlegateIdeal.main_arg1)
      ∧ r.2.mem ((c.tc : Thread Cert.ReferencePlegateIdeal.nD Cert.ReferencePlegateIdeal.τ).loc Cert.ReferencePlegateIdeal.main_arg2) = m ((c.tc : Thread Cert.ReferencePlegateIdeal.nD Cert.ReferencePlegateIdeal.τ).loc Cert.ReferencePlegateIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v80_0)) (v1 : (c : Dev Cert.KernelIdeal.nD) → Buf (Elt Ideal) ((c.tc : Thread Cert.KernelIdeal.nD Cert.KernelIdeal.τ).loc Cert.KernelIdeal.main_v80_1)) (v2 : (c : Dev Cert.KernelIdeal.nD) → Buf (Elt Ideal) ((c.tc : Thread Cert.KernelIdeal.nD Cert.KernelIdeal.τ).loc Cert.KernelIdeal.main_v80_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80_0) = v0 c
          ∧ r.2.mem ((c.tc : Thread Cert.KernelIdeal.nD Cert.KernelIdeal.τ).loc Cert.KernelIdeal.main_v80_1) = v1 c
          ∧ r.2.mem ((c.tc : Thread Cert.KernelIdeal.nD Cert.KernelIdeal.τ).loc Cert.KernelIdeal.main_v80_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelAct_KernelActIdeal : Prop :=
  True

def algebraic_KernelActIdeal_ReferenceActIdeal_pre_finite_act [hKernelActIdeal : Cert.KernelActIdeal.Facts] [hReferenceActIdeal : Cert.ReferenceActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal_finite_act m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)
      ∧ m' ((c.tc : Thread Cert.ReferenceActIdeal.nD Cert.ReferenceActIdeal.τ).loc Cert.ReferenceActIdeal.main_arg3) = m ((c.tc : Thread Cert.KernelActIdeal.nD Cert.KernelActIdeal.τ).loc Cert.KernelActIdeal.main_arg3)) →
    ∃ (v0 : (c : Dev Cert.KernelActIdeal.nD) → Buf (Elt Ideal) ((c.tc : Thread Cert.KernelActIdeal.nD Cert.KernelActIdeal.τ).loc Cert.KernelActIdeal.main_v0_0)) (v1 : (c : Dev Cert.KernelActIdeal.nD) → Buf (Elt Ideal) ((c.tc : Thread Cert.KernelActIdeal.nD Cert.KernelActIdeal.τ).loc Cert.KernelActIdeal.main_v0_1)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v0_0) = v0 c
          ∧ r.2.mem ((c.tc : Thread Cert.KernelActIdeal.nD Cert.KernelActIdeal.τ).loc Cert.KernelActIdeal.main_v0_1) = v1 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
          ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v11) = v0 c
          ∧ r.2.mem ((c.tc : Thread Cert.ReferenceActIdeal.nD Cert.ReferenceActIdeal.τ).loc Cert.ReferenceActIdeal.main_v12) = v1 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2)
          ∧ r.2.mem ((c.tc : Thread Cert.ReferenceActIdeal.nD Cert.ReferenceActIdeal.τ).loc Cert.ReferenceActIdeal.main_arg3) = m' ((c.tc : Thread Cert.ReferenceActIdeal.nD Cert.ReferenceActIdeal.τ).loc Cert.ReferenceActIdeal.main_arg3))

def preserves_KernelWin_KernelWinIdeal : Prop :=
  True

def algebraic_KernelWinIdeal_ReferenceWinIdeal [hKernelWinIdeal : Cert.KernelWinIdeal.Facts] [hReferenceWinIdeal : Cert.ReferenceWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg)
    (m' : (ℓ : Loc Cert.ReferenceWinIdeal.nD Cert.ReferenceWinIdeal.τ Cert.ReferenceWinIdeal.sig) → Buf (Elt Ideal) ℓ) (g' : Dev Cert.ReferenceWinIdeal.nD → PrngReg), Pre_KernelWinIdeal m →
    (∀ c : Dev Cert.KernelWinIdeal.nD,
      m' ((c.tc : Thread Cert.ReferenceWinIdeal.nD Cert.ReferenceWinIdeal.τ).loc Cert.ReferenceWinIdeal.main_arg0) = m ((c.tc : Thread Cert.KernelWinIdeal.nD Cert.KernelWinIdeal.τ).loc Cert.KernelWinIdeal.main_arg0)
      ∧ m' ((c.tc : Thread Cert.ReferenceWinIdeal.nD Cert.ReferenceWinIdeal.τ).loc Cert.ReferenceWinIdeal.main_arg1) = m ((c.tc : Thread Cert.KernelWinIdeal.nD Cert.KernelWinIdeal.τ).loc Cert.KernelWinIdeal.main_arg1)) →
    ∃ (v0 : (c : Dev Cert.KernelWinIdeal.nD) → Buf (Elt Ideal) ((c.tc : Thread Cert.KernelWinIdeal.nD Cert.KernelWinIdeal.τ).loc Cert.KernelWinIdeal.main_v0)),
      θ_run (Cert.KernelWinIdeal.defs (F := Ideal)) (onTc (τ := Cert.KernelWinIdeal.τ) (Cert.KernelWinIdeal.main (F := Ideal))) ⟨m, fun _ => 0, g⟩ (fun r => ∀ c : Dev Cert.KernelWinIdeal.nD,
          r.2.mem ((c.tc : Thread Cert.KernelWinIdeal.nD Cert.KernelWinIdeal.τ).loc Cert.KernelWinIdeal.main_v0) = v0 c
          ∧ r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
          ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ θ_run (Cert.ReferenceWinIdeal.defs (F := Ideal)) (onTc (τ := Cert.ReferenceWinIdeal.τ) (Cert.ReferenceWinIdeal.main (F := Ideal))) ⟨m', fun _ => 0, g'⟩ (fun r => ∀ c : Dev Cert.ReferenceWinIdeal.nD,
          r.2.mem ((c.tc : Thread Cert.ReferenceWinIdeal.nD Cert.ReferenceWinIdeal.τ).loc Cert.ReferenceWinIdeal.main_v6) = v0 c
          ∧ r.2.mem ((c.tc : Thread Cert.ReferenceWinIdeal.nD Cert.ReferenceWinIdeal.τ).loc Cert.ReferenceWinIdeal.main_arg0) = m' ((c.tc : Thread Cert.ReferenceWinIdeal.nD Cert.ReferenceWinIdeal.τ).loc Cert.ReferenceWinIdeal.main_arg0)
          ∧ r.2.mem ((c.tc : Thread Cert.ReferenceWinIdeal.nD Cert.ReferenceWinIdeal.τ).loc Cert.ReferenceWinIdeal.main_arg1) = m' ((c.tc : Thread Cert.ReferenceWinIdeal.nD Cert.ReferenceWinIdeal.τ).loc Cert.ReferenceWinIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v6) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)) →
    ∃ (v0 : (c : Dev Cert.KernelGateIdeal.nD) → Buf (Elt Ideal) ((c.tc : Thread Cert.KernelGateIdeal.nD Cert.KernelGateIdeal.τ).loc Cert.KernelGateIdeal.main_v0)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v6) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v2) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelSwiglu_KernelSwigluIdeal : Prop :=
  True

def algebraic_KernelSwigluIdeal_ReferenceSwigluIdeal [hKernelSwigluIdeal : Cert.KernelSwigluIdeal.Facts] [hReferenceSwigluIdeal : Cert.ReferenceSwigluIdeal.Facts] : Prop :=
  ∀ (m : (ℓ : Loc Cert.KernelSwigluIdeal.nD Cert.KernelSwigluIdeal.τ Cert.KernelSwigluIdeal.sig) → Buf (Elt Ideal) ℓ) (g : Dev Cert.KernelSwigluIdeal.nD → PrngReg)
    (m' : (ℓ : Loc Cert.ReferenceSwigluIdeal.nD Cert.ReferenceSwigluIdeal.τ Cert.ReferenceSwigluIdeal.sig) → Buf (Elt Ideal) ℓ) (g' : Dev Cert.ReferenceSwigluIdeal.nD → PrngReg), Pre_KernelSwigluIdeal m →
    (∀ c : Dev Cert.KernelSwigluIdeal.nD,
      m' ((c.tc : Thread Cert.ReferenceSwigluIdeal.nD Cert.ReferenceSwigluIdeal.τ).loc Cert.ReferenceSwigluIdeal.main_arg0) = m ((c.tc : Thread Cert.KernelSwigluIdeal.nD Cert.KernelSwigluIdeal.τ).loc Cert.KernelSwigluIdeal.main_arg0)
      ∧ m' ((c.tc : Thread Cert.ReferenceSwigluIdeal.nD Cert.ReferenceSwigluIdeal.τ).loc Cert.ReferenceSwigluIdeal.main_arg1) = m ((c.tc : Thread Cert.KernelSwigluIdeal.nD Cert.KernelSwigluIdeal.τ).loc Cert.KernelSwigluIdeal.main_arg1)
      ∧ m' ((c.tc : Thread Cert.ReferenceSwigluIdeal.nD Cert.ReferenceSwigluIdeal.τ).loc Cert.ReferenceSwigluIdeal.main_arg2) = m ((c.tc : Thread Cert.KernelSwigluIdeal.nD Cert.KernelSwigluIdeal.τ).loc Cert.KernelSwigluIdeal.main_arg2)) →
    ∃ (v0 : (c : Dev Cert.KernelSwigluIdeal.nD) → Buf (Elt Ideal) ((c.tc : Thread Cert.KernelSwigluIdeal.nD Cert.KernelSwigluIdeal.τ).loc Cert.KernelSwigluIdeal.main_v0_0)) (v1 : (c : Dev Cert.KernelSwigluIdeal.nD) → Buf (Elt Ideal) ((c.tc : Thread Cert.KernelSwigluIdeal.nD Cert.KernelSwigluIdeal.τ).loc Cert.KernelSwigluIdeal.main_v0_1)) (v2 : (c : Dev Cert.KernelSwigluIdeal.nD) → Buf (Elt Ideal) ((c.tc : Thread Cert.KernelSwigluIdeal.nD Cert.KernelSwigluIdeal.τ).loc Cert.KernelSwigluIdeal.main_v0_2)),
      θ_run (Cert.KernelSwigluIdeal.defs (F := Ideal)) (onTc (τ := Cert.KernelSwigluIdeal.τ) (Cert.KernelSwigluIdeal.main (F := Ideal))) ⟨m, fun _ => 0, g⟩ (fun r => ∀ c : Dev Cert.KernelSwigluIdeal.nD,
          r.2.mem ((c.tc : Thread Cert.KernelSwigluIdeal.nD Cert.KernelSwigluIdeal.τ).loc Cert.KernelSwigluIdeal.main_v0_0) = v0 c
          ∧ r.2.mem ((c.tc : Thread Cert.KernelSwigluIdeal.nD Cert.KernelSwigluIdeal.τ).loc Cert.KernelSwigluIdeal.main_v0_1) = v1 c
          ∧ r.2.mem ((c.tc : Thread Cert.KernelSwigluIdeal.nD Cert.KernelSwigluIdeal.τ).loc Cert.KernelSwigluIdeal.main_v0_2) = v2 c
          ∧ r.2.mem ((c.tc : Thread Cert.KernelSwigluIdeal.nD Cert.KernelSwigluIdeal.τ).loc Cert.KernelSwigluIdeal.main_arg0) = m ((c.tc : Thread Cert.KernelSwigluIdeal.nD Cert.KernelSwigluIdeal.τ).loc Cert.KernelSwigluIdeal.main_arg0)
          ∧ r.2.mem ((c.tc : Thread Cert.KernelSwigluIdeal.nD Cert.KernelSwigluIdeal.τ).loc Cert.KernelSwigluIdeal.main_arg1) = m ((c.tc : Thread Cert.KernelSwigluIdeal.nD Cert.KernelSwigluIdeal.τ).loc Cert.KernelSwigluIdeal.main_arg1)
          ∧ r.2.mem ((c.tc : Thread Cert.KernelSwigluIdeal.nD Cert.KernelSwigluIdeal.τ).loc Cert.KernelSwigluIdeal.main_arg2) = m ((c.tc : Thread Cert.KernelSwigluIdeal.nD Cert.KernelSwigluIdeal.τ).loc Cert.KernelSwigluIdeal.main_arg2))
      ∧ θ_run (Cert.ReferenceSwigluIdeal.defs (F := Ideal)) (onTc (τ := Cert.ReferenceSwigluIdeal.τ) (Cert.ReferenceSwigluIdeal.main (F := Ideal))) ⟨m', fun _ => 0, g'⟩ (fun r => ∀ c : Dev Cert.ReferenceSwigluIdeal.nD,
          r.2.mem ((c.tc : Thread Cert.ReferenceSwigluIdeal.nD Cert.ReferenceSwigluIdeal.τ).loc Cert.ReferenceSwigluIdeal.main_v6) = v0 c
          ∧ r.2.mem ((c.tc : Thread Cert.ReferenceSwigluIdeal.nD Cert.ReferenceSwigluIdeal.τ).loc Cert.ReferenceSwigluIdeal.main_v7) = v1 c
          ∧ r.2.mem ((c.tc : Thread Cert.ReferenceSwigluIdeal.nD Cert.ReferenceSwigluIdeal.τ).loc Cert.ReferenceSwigluIdeal.main_v10) = v2 c
          ∧ r.2.mem ((c.tc : Thread Cert.ReferenceSwigluIdeal.nD Cert.ReferenceSwigluIdeal.τ).loc Cert.ReferenceSwigluIdeal.main_arg0) = m' ((c.tc : Thread Cert.ReferenceSwigluIdeal.nD Cert.ReferenceSwigluIdeal.τ).loc Cert.ReferenceSwigluIdeal.main_arg0)
          ∧ r.2.mem ((c.tc : Thread Cert.ReferenceSwigluIdeal.nD Cert.ReferenceSwigluIdeal.τ).loc Cert.ReferenceSwigluIdeal.main_arg1) = m' ((c.tc : Thread Cert.ReferenceSwigluIdeal.nD Cert.ReferenceSwigluIdeal.τ).loc Cert.ReferenceSwigluIdeal.main_arg1)
          ∧ r.2.mem ((c.tc : Thread Cert.ReferenceSwigluIdeal.nD Cert.ReferenceSwigluIdeal.τ).loc Cert.ReferenceSwigluIdeal.main_arg2) = m' ((c.tc : Thread Cert.ReferenceSwigluIdeal.nD Cert.ReferenceSwigluIdeal.τ).loc Cert.ReferenceSwigluIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)) →
    ∃ (v0 : (c : Dev Cert.KernelDhIdeal.nD) → Buf (Elt Ideal) ((c.tc : Thread Cert.KernelDhIdeal.nD Cert.KernelDhIdeal.τ).loc Cert.KernelDhIdeal.main_v0)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v0) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v5) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1))

def preserves_KernelDff_KernelDffIdeal : Prop :=
  True

def algebraic_KernelDffIdeal_ReferenceDffIdeal [hKernelDffIdeal : Cert.KernelDffIdeal.Facts] [hReferenceDffIdeal : Cert.ReferenceDffIdeal.Facts] : Prop :=
  ∀ (m : (ℓ : Loc Cert.KernelDffIdeal.nD Cert.KernelDffIdeal.τ Cert.KernelDffIdeal.sig) → Buf (Elt Ideal) ℓ) (g : Dev Cert.KernelDffIdeal.nD → PrngReg)
    (m' : (ℓ : Loc Cert.ReferenceDffIdeal.nD Cert.ReferenceDffIdeal.τ Cert.ReferenceDffIdeal.sig) → Buf (Elt Ideal) ℓ) (g' : Dev Cert.ReferenceDffIdeal.nD → PrngReg), Pre_KernelDffIdeal m →
    (∀ c : Dev Cert.KernelDffIdeal.nD,
      m' ((c.tc : Thread Cert.ReferenceDffIdeal.nD Cert.ReferenceDffIdeal.τ).loc Cert.ReferenceDffIdeal.main_arg0) = m ((c.tc : Thread Cert.KernelDffIdeal.nD Cert.KernelDffIdeal.τ).loc Cert.KernelDffIdeal.main_arg0)
      ∧ m' ((c.tc : Thread Cert.ReferenceDffIdeal.nD Cert.ReferenceDffIdeal.τ).loc Cert.ReferenceDffIdeal.main_arg1) = m ((c.tc : Thread Cert.KernelDffIdeal.nD Cert.KernelDffIdeal.τ).loc Cert.KernelDffIdeal.main_arg1)
      ∧ m' ((c.tc : Thread Cert.ReferenceDffIdeal.nD Cert.ReferenceDffIdeal.τ).loc Cert.ReferenceDffIdeal.main_arg2) = m ((c.tc : Thread Cert.KernelDffIdeal.nD Cert.KernelDffIdeal.τ).loc Cert.KernelDffIdeal.main_arg2)
      ∧ m' ((c.tc : Thread Cert.ReferenceDffIdeal.nD Cert.ReferenceDffIdeal.τ).loc Cert.ReferenceDffIdeal.main_arg3) = m ((c.tc : Thread Cert.KernelDffIdeal.nD Cert.KernelDffIdeal.τ).loc Cert.KernelDffIdeal.main_arg3)) →
    ∃ (v0 : (c : Dev Cert.KernelDffIdeal.nD) → Buf (Elt Ideal) ((c.tc : Thread Cert.KernelDffIdeal.nD Cert.KernelDffIdeal.τ).loc Cert.KernelDffIdeal.main_v0)),
      θ_run (Cert.KernelDffIdeal.defs (F := Ideal)) (onTc (τ := Cert.KernelDffIdeal.τ) (Cert.KernelDffIdeal.main (F := Ideal))) ⟨m, fun _ => 0, g⟩ (fun r => ∀ c : Dev Cert.KernelDffIdeal.nD,
          r.2.mem ((c.tc : Thread Cert.KernelDffIdeal.nD Cert.KernelDffIdeal.τ).loc Cert.KernelDffIdeal.main_v0) = v0 c
          ∧ r.2.mem ((c.tc : Thread Cert.KernelDffIdeal.nD Cert.KernelDffIdeal.τ).loc Cert.KernelDffIdeal.main_arg0) = m ((c.tc : Thread Cert.KernelDffIdeal.nD Cert.KernelDffIdeal.τ).loc Cert.KernelDffIdeal.main_arg0)
          ∧ r.2.mem ((c.tc : Thread Cert.KernelDffIdeal.nD Cert.KernelDffIdeal.τ).loc Cert.KernelDffIdeal.main_arg1) = m ((c.tc : Thread Cert.KernelDffIdeal.nD Cert.KernelDffIdeal.τ).loc Cert.KernelDffIdeal.main_arg1)
          ∧ r.2.mem ((c.tc : Thread Cert.KernelDffIdeal.nD Cert.KernelDffIdeal.τ).loc Cert.KernelDffIdeal.main_arg2) = m ((c.tc : Thread Cert.KernelDffIdeal.nD Cert.KernelDffIdeal.τ).loc Cert.KernelDffIdeal.main_arg2)
          ∧ r.2.mem ((c.tc : Thread Cert.KernelDffIdeal.nD Cert.KernelDffIdeal.τ).loc Cert.KernelDffIdeal.main_arg3) = m ((c.tc : Thread Cert.KernelDffIdeal.nD Cert.KernelDffIdeal.τ).loc Cert.KernelDffIdeal.main_arg3))
      ∧ θ_run (Cert.ReferenceDffIdeal.defs (F := Ideal)) (onTc (τ := Cert.ReferenceDffIdeal.τ) (Cert.ReferenceDffIdeal.main (F := Ideal))) ⟨m', fun _ => 0, g'⟩ (fun r => ∀ c : Dev Cert.ReferenceDffIdeal.nD,
          r.2.mem ((c.tc : Thread Cert.ReferenceDffIdeal.nD Cert.ReferenceDffIdeal.τ).loc Cert.ReferenceDffIdeal.main_v10) = v0 c
          ∧ r.2.mem ((c.tc : Thread Cert.ReferenceDffIdeal.nD Cert.ReferenceDffIdeal.τ).loc Cert.ReferenceDffIdeal.main_arg0) = m' ((c.tc : Thread Cert.ReferenceDffIdeal.nD Cert.ReferenceDffIdeal.τ).loc Cert.ReferenceDffIdeal.main_arg0)
          ∧ r.2.mem ((c.tc : Thread Cert.ReferenceDffIdeal.nD Cert.ReferenceDffIdeal.τ).loc Cert.ReferenceDffIdeal.main_arg1) = m' ((c.tc : Thread Cert.ReferenceDffIdeal.nD Cert.ReferenceDffIdeal.τ).loc Cert.ReferenceDffIdeal.main_arg1)
          ∧ r.2.mem ((c.tc : Thread Cert.ReferenceDffIdeal.nD Cert.ReferenceDffIdeal.τ).loc Cert.ReferenceDffIdeal.main_arg2) = m' ((c.tc : Thread Cert.ReferenceDffIdeal.nD Cert.ReferenceDffIdeal.τ).loc Cert.ReferenceDffIdeal.main_arg2)
          ∧ r.2.mem ((c.tc : Thread Cert.ReferenceDffIdeal.nD Cert.ReferenceDffIdeal.τ).loc Cert.ReferenceDffIdeal.main_arg3) = m' ((c.tc : Thread Cert.ReferenceDffIdeal.nD Cert.ReferenceDffIdeal.τ).loc Cert.ReferenceDffIdeal.main_arg3))

def preserves_KernelSquare_KernelSquareIdeal : Prop :=
  True

def algebraic_KernelSquareIdeal_ReferenceSquareIdeal [hKernelSquareIdeal : Cert.KernelSquareIdeal.Facts] [hReferenceSquareIdeal : Cert.ReferenceSquareIdeal.Facts] : Prop :=
  ∀ (m : (ℓ : Loc Cert.KernelSquareIdeal.nD Cert.KernelSquareIdeal.τ Cert.KernelSquareIdeal.sig) → Buf (Elt Ideal) ℓ) (g : Dev Cert.KernelSquareIdeal.nD → PrngReg)
    (m' : (ℓ : Loc Cert.ReferenceSquareIdeal.nD Cert.ReferenceSquareIdeal.τ Cert.ReferenceSquareIdeal.sig) → Buf (Elt Ideal) ℓ) (g' : Dev Cert.ReferenceSquareIdeal.nD → PrngReg), Pre_KernelSquareIdeal m →
    (∀ c : Dev Cert.KernelSquareIdeal.nD,
      m' ((c.tc : Thread Cert.ReferenceSquareIdeal.nD Cert.ReferenceSquareIdeal.τ).loc Cert.ReferenceSquareIdeal.main_arg0) = m ((c.tc : Thread Cert.KernelSquareIdeal.nD Cert.KernelSquareIdeal.τ).loc Cert.KernelSquareIdeal.main_arg0)
      ∧ m' ((c.tc : Thread Cert.ReferenceSquareIdeal.nD Cert.ReferenceSquareIdeal.τ).loc Cert.ReferenceSquareIdeal.main_arg1) = m ((c.tc : Thread Cert.KernelSquareIdeal.nD Cert.KernelSquareIdeal.τ).loc Cert.KernelSquareIdeal.main_arg1)) →
    ∃ (v0 : (c : Dev Cert.KernelSquareIdeal.nD) → Buf (Elt Ideal) ((c.tc : Thread Cert.KernelSquareIdeal.nD Cert.KernelSquareIdeal.τ).loc Cert.KernelSquareIdeal.main_v0)),
      θ_run (Cert.KernelSquareIdeal.defs (F := Ideal)) (onTc (τ := Cert.KernelSquareIdeal.τ) (Cert.KernelSquareIdeal.main (F := Ideal))) ⟨m, fun _ => 0, g⟩ (fun r => ∀ c : Dev Cert.KernelSquareIdeal.nD,
          r.2.mem ((c.tc : Thread Cert.KernelSquareIdeal.nD Cert.KernelSquareIdeal.τ).loc Cert.KernelSquareIdeal.main_v0) = v0 c
          ∧ r.2.mem ((c.tc : Thread Cert.KernelSquareIdeal.nD Cert.KernelSquareIdeal.τ).loc Cert.KernelSquareIdeal.main_arg0) = m ((c.tc : Thread Cert.KernelSquareIdeal.nD Cert.KernelSquareIdeal.τ).loc Cert.KernelSquareIdeal.main_arg0)
          ∧ r.2.mem ((c.tc : Thread Cert.KernelSquareIdeal.nD Cert.KernelSquareIdeal.τ).loc Cert.KernelSquareIdeal.main_arg1) = m ((c.tc : Thread Cert.KernelSquareIdeal.nD Cert.KernelSquareIdeal.τ).loc Cert.KernelSquareIdeal.main_arg1))
      ∧ θ_run (Cert.ReferenceSquareIdeal.defs (F := Ideal)) (onTc (τ := Cert.ReferenceSquareIdeal.τ) (Cert.ReferenceSquareIdeal.main (F := Ideal))) ⟨m', fun _ => 0, g'⟩ (fun r => ∀ c : Dev Cert.ReferenceSquareIdeal.nD,
          r.2.mem ((c.tc : Thread Cert.ReferenceSquareIdeal.nD Cert.ReferenceSquareIdeal.τ).loc Cert.ReferenceSquareIdeal.main_v5) = v0 c
          ∧ r.2.mem ((c.tc : Thread Cert.ReferenceSquareIdeal.nD Cert.ReferenceSquareIdeal.τ).loc Cert.ReferenceSquareIdeal.main_arg0) = m' ((c.tc : Thread Cert.ReferenceSquareIdeal.nD Cert.ReferenceSquareIdeal.τ).loc Cert.ReferenceSquareIdeal.main_arg0)
          ∧ r.2.mem ((c.tc : Thread Cert.ReferenceSquareIdeal.nD Cert.ReferenceSquareIdeal.τ).loc Cert.ReferenceSquareIdeal.main_arg1) = m' ((c.tc : Thread Cert.ReferenceSquareIdeal.nD Cert.ReferenceSquareIdeal.τ).loc Cert.ReferenceSquareIdeal.main_arg1))

def preserves_KernelWeight_KernelWeightIdeal : Prop :=
  True

def algebraic_KernelWeightIdeal_ReferenceWeightIdeal [hKernelWeightIdeal : Cert.KernelWeightIdeal.Facts] [hReferenceWeightIdeal : Cert.ReferenceWeightIdeal.Facts] : Prop :=
  ∀ (m : (ℓ : Loc Cert.KernelWeightIdeal.nD Cert.KernelWeightIdeal.τ Cert.KernelWeightIdeal.sig) → Buf (Elt Ideal) ℓ) (g : Dev Cert.KernelWeightIdeal.nD → PrngReg)
    (m' : (ℓ : Loc Cert.ReferenceWeightIdeal.nD Cert.ReferenceWeightIdeal.τ Cert.ReferenceWeightIdeal.sig) → Buf (Elt Ideal) ℓ) (g' : Dev Cert.ReferenceWeightIdeal.nD → PrngReg), Pre_KernelWeightIdeal m →
    (∀ c : Dev Cert.KernelWeightIdeal.nD,
      m' ((c.tc : Thread Cert.ReferenceWeightIdeal.nD Cert.ReferenceWeightIdeal.τ).loc Cert.ReferenceWeightIdeal.main_arg0) = m ((c.tc : Thread Cert.KernelWeightIdeal.nD Cert.KernelWeightIdeal.τ).loc Cert.KernelWeightIdeal.main_arg0)
      ∧ m' ((c.tc : Thread Cert.ReferenceWeightIdeal.nD Cert.ReferenceWeightIdeal.τ).loc Cert.ReferenceWeightIdeal.main_arg1) = m ((c.tc : Thread Cert.KernelWeightIdeal.nD Cert.KernelWeightIdeal.τ).loc Cert.KernelWeightIdeal.main_arg1)) →
    ∃ (v0 : (c : Dev Cert.KernelWeightIdeal.nD) → Buf (Elt Ideal) ((c.tc : Thread Cert.KernelWeightIdeal.nD Cert.KernelWeightIdeal.τ).loc Cert.KernelWeightIdeal.main_v0)),
      θ_run (Cert.KernelWeightIdeal.defs (F := Ideal)) (onTc (τ := Cert.KernelWeightIdeal.τ) (Cert.KernelWeightIdeal.main (F := Ideal))) ⟨m, fun _ => 0, g⟩ (fun r => ∀ c : Dev Cert.KernelWeightIdeal.nD,
          r.2.mem ((c.tc : Thread Cert.KernelWeightIdeal.nD Cert.KernelWeightIdeal.τ).loc Cert.KernelWeightIdeal.main_v0) = v0 c
          ∧ r.2.mem ((c.tc : Thread Cert.KernelWeightIdeal.nD Cert.KernelWeightIdeal.τ).loc Cert.KernelWeightIdeal.main_arg0) = m ((c.tc : Thread Cert.KernelWeightIdeal.nD Cert.KernelWeightIdeal.τ).loc Cert.KernelWeightIdeal.main_arg0)
          ∧ r.2.mem ((c.tc : Thread Cert.KernelWeightIdeal.nD Cert.KernelWeightIdeal.τ).loc Cert.KernelWeightIdeal.main_arg1) = m ((c.tc : Thread Cert.KernelWeightIdeal.nD Cert.KernelWeightIdeal.τ).loc Cert.KernelWeightIdeal.main_arg1))
      ∧ θ_run (Cert.ReferenceWeightIdeal.defs (F := Ideal)) (onTc (τ := Cert.ReferenceWeightIdeal.τ) (Cert.ReferenceWeightIdeal.main (F := Ideal))) ⟨m', fun _ => 0, g'⟩ (fun r => ∀ c : Dev Cert.ReferenceWeightIdeal.nD,
          r.2.mem ((c.tc : Thread Cert.ReferenceWeightIdeal.nD Cert.ReferenceWeightIdeal.τ).loc Cert.ReferenceWeightIdeal.main_v6) = v0 c
          ∧ r.2.mem ((c.tc : Thread Cert.ReferenceWeightIdeal.nD Cert.ReferenceWeightIdeal.τ).loc Cert.ReferenceWeightIdeal.main_arg0) = m' ((c.tc : Thread Cert.ReferenceWeightIdeal.nD Cert.ReferenceWeightIdeal.τ).loc Cert.ReferenceWeightIdeal.main_arg0)
          ∧ r.2.mem ((c.tc : Thread Cert.ReferenceWeightIdeal.nD Cert.ReferenceWeightIdeal.τ).loc Cert.ReferenceWeightIdeal.main_arg1) = m' ((c.tc : Thread Cert.ReferenceWeightIdeal.nD Cert.ReferenceWeightIdeal.τ).loc Cert.ReferenceWeightIdeal.main_arg1))

def preserves_KernelResidual_KernelResidualIdeal : Prop :=
  True

def algebraic_KernelResidualIdeal_ReferenceResidualIdeal [hKernelResidualIdeal : Cert.KernelResidualIdeal.Facts] [hReferenceResidualIdeal : Cert.ReferenceResidualIdeal.Facts] : Prop :=
  ∀ (m : (ℓ : Loc Cert.KernelResidualIdeal.nD Cert.KernelResidualIdeal.τ Cert.KernelResidualIdeal.sig) → Buf (Elt Ideal) ℓ) (g : Dev Cert.KernelResidualIdeal.nD → PrngReg)
    (m' : (ℓ : Loc Cert.ReferenceResidualIdeal.nD Cert.ReferenceResidualIdeal.τ Cert.ReferenceResidualIdeal.sig) → Buf (Elt Ideal) ℓ) (g' : Dev Cert.ReferenceResidualIdeal.nD → PrngReg), Pre_KernelResidualIdeal m →
    (∀ c : Dev Cert.KernelResidualIdeal.nD,
      m' ((c.tc : Thread Cert.ReferenceResidualIdeal.nD Cert.ReferenceResidualIdeal.τ).loc Cert.ReferenceResidualIdeal.main_arg0) = m ((c.tc : Thread Cert.KernelResidualIdeal.nD Cert.KernelResidualIdeal.τ).loc Cert.KernelResidualIdeal.main_arg0)
      ∧ m' ((c.tc : Thread Cert.ReferenceResidualIdeal.nD Cert.ReferenceResidualIdeal.τ).loc Cert.ReferenceResidualIdeal.main_arg1) = m ((c.tc : Thread Cert.KernelResidualIdeal.nD Cert.KernelResidualIdeal.τ).loc Cert.KernelResidualIdeal.main_arg1)
      ∧ m' ((c.tc : Thread Cert.ReferenceResidualIdeal.nD Cert.ReferenceResidualIdeal.τ).loc Cert.ReferenceResidualIdeal.main_arg2) = m ((c.tc : Thread Cert.KernelResidualIdeal.nD Cert.KernelResidualIdeal.τ).loc Cert.KernelResidualIdeal.main_arg2)) →
    ∃ (v0 : (c : Dev Cert.KernelResidualIdeal.nD) → Buf (Elt Ideal) ((c.tc : Thread Cert.KernelResidualIdeal.nD Cert.KernelResidualIdeal.τ).loc Cert.KernelResidualIdeal.main_v0)),
      θ_run (Cert.KernelResidualIdeal.defs (F := Ideal)) (onTc (τ := Cert.KernelResidualIdeal.τ) (Cert.KernelResidualIdeal.main (F := Ideal))) ⟨m, fun _ => 0, g⟩ (fun r => ∀ c : Dev Cert.KernelResidualIdeal.nD,
          r.2.mem ((c.tc : Thread Cert.KernelResidualIdeal.nD Cert.KernelResidualIdeal.τ).loc Cert.KernelResidualIdeal.main_v0) = v0 c
          ∧ r.2.mem ((c.tc : Thread Cert.KernelResidualIdeal.nD Cert.KernelResidualIdeal.τ).loc Cert.KernelResidualIdeal.main_arg0) = m ((c.tc : Thread Cert.KernelResidualIdeal.nD Cert.KernelResidualIdeal.τ).loc Cert.KernelResidualIdeal.main_arg0)
          ∧ r.2.mem ((c.tc : Thread Cert.KernelResidualIdeal.nD Cert.KernelResidualIdeal.τ).loc Cert.KernelResidualIdeal.main_arg1) = m ((c.tc : Thread Cert.KernelResidualIdeal.nD Cert.KernelResidualIdeal.τ).loc Cert.KernelResidualIdeal.main_arg1)
          ∧ r.2.mem ((c.tc : Thread Cert.KernelResidualIdeal.nD Cert.KernelResidualIdeal.τ).loc Cert.KernelResidualIdeal.main_arg2) = m ((c.tc : Thread Cert.KernelResidualIdeal.nD Cert.KernelResidualIdeal.τ).loc Cert.KernelResidualIdeal.main_arg2))
      ∧ θ_run (Cert.ReferenceResidualIdeal.defs (F := Ideal)) (onTc (τ := Cert.ReferenceResidualIdeal.τ) (Cert.ReferenceResidualIdeal.main (F := Ideal))) ⟨m', fun _ => 0, g'⟩ (fun r => ∀ c : Dev Cert.ReferenceResidualIdeal.nD,
          r.2.mem ((c.tc : Thread Cert.ReferenceResidualIdeal.nD Cert.ReferenceResidualIdeal.τ).loc Cert.ReferenceResidualIdeal.main_v3) = v0 c
          ∧ r.2.mem ((c.tc : Thread Cert.ReferenceResidualIdeal.nD Cert.ReferenceResidualIdeal.τ).loc Cert.ReferenceResidualIdeal.main_arg0) = m' ((c.tc : Thread Cert.ReferenceResidualIdeal.nD Cert.ReferenceResidualIdeal.τ).loc Cert.ReferenceResidualIdeal.main_arg0)
          ∧ r.2.mem ((c.tc : Thread Cert.ReferenceResidualIdeal.nD Cert.ReferenceResidualIdeal.τ).loc Cert.ReferenceResidualIdeal.main_arg1) = m' ((c.tc : Thread Cert.ReferenceResidualIdeal.nD Cert.ReferenceResidualIdeal.τ).loc Cert.ReferenceResidualIdeal.main_arg1)
          ∧ r.2.mem ((c.tc : Thread Cert.ReferenceResidualIdeal.nD Cert.ReferenceResidualIdeal.τ).loc Cert.ReferenceResidualIdeal.main_arg2) = m' ((c.tc : Thread Cert.ReferenceResidualIdeal.nD Cert.ReferenceResidualIdeal.τ).loc Cert.ReferenceResidualIdeal.main_arg2))

def preserves_KernelBranches_KernelBranchesIdeal : Prop :=
  True

def algebraic_KernelBranchesIdeal_ReferenceBranchesIdeal [hKernelBranchesIdeal : Cert.KernelBranchesIdeal.Facts] [hReferenceBranchesIdeal : Cert.ReferenceBranchesIdeal.Facts] : Prop :=
  ∀ (m : (ℓ : Loc Cert.KernelBranchesIdeal.nD Cert.KernelBranchesIdeal.τ Cert.KernelBranchesIdeal.sig) → Buf (Elt Ideal) ℓ) (g : Dev Cert.KernelBranchesIdeal.nD → PrngReg)
    (m' : (ℓ : Loc Cert.ReferenceBranchesIdeal.nD Cert.ReferenceBranchesIdeal.τ Cert.ReferenceBranchesIdeal.sig) → Buf (Elt Ideal) ℓ) (g' : Dev Cert.ReferenceBranchesIdeal.nD → PrngReg), Pre_KernelBranchesIdeal m →
    (∀ c : Dev Cert.KernelBranchesIdeal.nD,
      m' ((c.tc : Thread Cert.ReferenceBranchesIdeal.nD Cert.ReferenceBranchesIdeal.τ).loc Cert.ReferenceBranchesIdeal.main_arg0) = m ((c.tc : Thread Cert.KernelBranchesIdeal.nD Cert.KernelBranchesIdeal.τ).loc Cert.KernelBranchesIdeal.main_arg0)
      ∧ m' ((c.tc : Thread Cert.ReferenceBranchesIdeal.nD Cert.ReferenceBranchesIdeal.τ).loc Cert.ReferenceBranchesIdeal.main_arg1) = m ((c.tc : Thread Cert.KernelBranchesIdeal.nD Cert.KernelBranchesIdeal.τ).loc Cert.KernelBranchesIdeal.main_arg1)
      ∧ m' ((c.tc : Thread Cert.ReferenceBranchesIdeal.nD Cert.ReferenceBranchesIdeal.τ).loc Cert.ReferenceBranchesIdeal.main_arg2) = m ((c.tc : Thread Cert.KernelBranchesIdeal.nD Cert.KernelBranchesIdeal.τ).loc Cert.KernelBranchesIdeal.main_arg2)
      ∧ m' ((c.tc : Thread Cert.ReferenceBranchesIdeal.nD Cert.ReferenceBranchesIdeal.τ).loc Cert.ReferenceBranchesIdeal.main_arg3) = m ((c.tc : Thread Cert.KernelBranchesIdeal.nD Cert.KernelBranchesIdeal.τ).loc Cert.KernelBranchesIdeal.main_arg3)
      ∧ m' ((c.tc : Thread Cert.ReferenceBranchesIdeal.nD Cert.ReferenceBranchesIdeal.τ).loc Cert.ReferenceBranchesIdeal.main_arg4) = m ((c.tc : Thread Cert.KernelBranchesIdeal.nD Cert.KernelBranchesIdeal.τ).loc Cert.KernelBranchesIdeal.main_arg4)) →
    ∃ (v0 : (c : Dev Cert.KernelBranchesIdeal.nD) → Buf (Elt Ideal) ((c.tc : Thread Cert.KernelBranchesIdeal.nD Cert.KernelBranchesIdeal.τ).loc Cert.KernelBranchesIdeal.main_v0_0)) (v1 : (c : Dev Cert.KernelBranchesIdeal.nD) → Buf (Elt Ideal) ((c.tc : Thread Cert.KernelBranchesIdeal.nD Cert.KernelBranchesIdeal.τ).loc Cert.KernelBranchesIdeal.main_v0_1)) (v2 : (c : Dev Cert.KernelBranchesIdeal.nD) → Buf (Elt Ideal) ((c.tc : Thread Cert.KernelBranchesIdeal.nD Cert.KernelBranchesIdeal.τ).loc Cert.KernelBranchesIdeal.main_v0_2)),
      θ_run (Cert.KernelBranchesIdeal.defs (F := Ideal)) (onTc (τ := Cert.KernelBranchesIdeal.τ) (Cert.KernelBranchesIdeal.main (F := Ideal))) ⟨m, fun _ => 0, g⟩ (fun r => ∀ c : Dev Cert.KernelBranchesIdeal.nD,
          r.2.mem ((c.tc : Thread Cert.KernelBranchesIdeal.nD Cert.KernelBranchesIdeal.τ).loc Cert.KernelBranchesIdeal.main_v0_0) = v0 c
          ∧ r.2.mem ((c.tc : Thread Cert.KernelBranchesIdeal.nD Cert.KernelBranchesIdeal.τ).loc Cert.KernelBranchesIdeal.main_v0_1) = v1 c
          ∧ r.2.mem ((c.tc : Thread Cert.KernelBranchesIdeal.nD Cert.KernelBranchesIdeal.τ).loc Cert.KernelBranchesIdeal.main_v0_2) = v2 c
          ∧ r.2.mem ((c.tc : Thread Cert.KernelBranchesIdeal.nD Cert.KernelBranchesIdeal.τ).loc Cert.KernelBranchesIdeal.main_arg0) = m ((c.tc : Thread Cert.KernelBranchesIdeal.nD Cert.KernelBranchesIdeal.τ).loc Cert.KernelBranchesIdeal.main_arg0)
          ∧ r.2.mem ((c.tc : Thread Cert.KernelBranchesIdeal.nD Cert.KernelBranchesIdeal.τ).loc Cert.KernelBranchesIdeal.main_arg1) = m ((c.tc : Thread Cert.KernelBranchesIdeal.nD Cert.KernelBranchesIdeal.τ).loc Cert.KernelBranchesIdeal.main_arg1)
          ∧ r.2.mem ((c.tc : Thread Cert.KernelBranchesIdeal.nD Cert.KernelBranchesIdeal.τ).loc Cert.KernelBranchesIdeal.main_arg2) = m ((c.tc : Thread Cert.KernelBranchesIdeal.nD Cert.KernelBranchesIdeal.τ).loc Cert.KernelBranchesIdeal.main_arg2)
          ∧ r.2.mem ((c.tc : Thread Cert.KernelBranchesIdeal.nD Cert.KernelBranchesIdeal.τ).loc Cert.KernelBranchesIdeal.main_arg3) = m ((c.tc : Thread Cert.KernelBranchesIdeal.nD Cert.KernelBranchesIdeal.τ).loc Cert.KernelBranchesIdeal.main_arg3)
          ∧ r.2.mem ((c.tc : Thread Cert.KernelBranchesIdeal.nD Cert.KernelBranchesIdeal.τ).loc Cert.KernelBranchesIdeal.main_arg4) = m ((c.tc : Thread Cert.KernelBranchesIdeal.nD Cert.KernelBranchesIdeal.τ).loc Cert.KernelBranchesIdeal.main_arg4))
      ∧ θ_run (Cert.ReferenceBranchesIdeal.defs (F := Ideal)) (onTc (τ := Cert.ReferenceBranchesIdeal.τ) (Cert.ReferenceBranchesIdeal.main (F := Ideal))) ⟨m', fun _ => 0, g'⟩ (fun r => ∀ c : Dev Cert.ReferenceBranchesIdeal.nD,
          r.2.mem ((c.tc : Thread Cert.ReferenceBranchesIdeal.nD Cert.ReferenceBranchesIdeal.τ).loc Cert.ReferenceBranchesIdeal.main_v17) = v0 c
          ∧ r.2.mem ((c.tc : Thread Cert.ReferenceBranchesIdeal.nD Cert.ReferenceBranchesIdeal.τ).loc Cert.ReferenceBranchesIdeal.main_v18) = v1 c
          ∧ r.2.mem ((c.tc : Thread Cert.ReferenceBranchesIdeal.nD Cert.ReferenceBranchesIdeal.τ).loc Cert.ReferenceBranchesIdeal.main_v19) = v2 c
          ∧ r.2.mem ((c.tc : Thread Cert.ReferenceBranchesIdeal.nD Cert.ReferenceBranchesIdeal.τ).loc Cert.ReferenceBranchesIdeal.main_arg0) = m' ((c.tc : Thread Cert.ReferenceBranchesIdeal.nD Cert.ReferenceBranchesIdeal.τ).loc Cert.ReferenceBranchesIdeal.main_arg0)
          ∧ r.2.mem ((c.tc : Thread Cert.ReferenceBranchesIdeal.nD Cert.ReferenceBranchesIdeal.τ).loc Cert.ReferenceBranchesIdeal.main_arg1) = m' ((c.tc : Thread Cert.ReferenceBranchesIdeal.nD Cert.ReferenceBranchesIdeal.τ).loc Cert.ReferenceBranchesIdeal.main_arg1)
          ∧ r.2.mem ((c.tc : Thread Cert.ReferenceBranchesIdeal.nD Cert.ReferenceBranchesIdeal.τ).loc Cert.ReferenceBranchesIdeal.main_arg2) = m' ((c.tc : Thread Cert.ReferenceBranchesIdeal.nD Cert.ReferenceBranchesIdeal.τ).loc Cert.ReferenceBranchesIdeal.main_arg2)
          ∧ r.2.mem ((c.tc : Thread Cert.ReferenceBranchesIdeal.nD Cert.ReferenceBranchesIdeal.τ).loc Cert.ReferenceBranchesIdeal.main_arg3) = m' ((c.tc : Thread Cert.ReferenceBranchesIdeal.nD Cert.ReferenceBranchesIdeal.τ).loc Cert.ReferenceBranchesIdeal.main_arg3)
          ∧ r.2.mem ((c.tc : Thread Cert.ReferenceBranchesIdeal.nD Cert.ReferenceBranchesIdeal.τ).loc Cert.ReferenceBranchesIdeal.main_arg4) = m' ((c.tc : Thread Cert.ReferenceBranchesIdeal.nD Cert.ReferenceBranchesIdeal.τ).loc Cert.ReferenceBranchesIdeal.main_arg4))

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)
      ∧ m' ((c.tc : Thread Cert.ReferencePleIdeal.nD Cert.ReferencePleIdeal.τ).loc Cert.ReferencePleIdeal.main_arg4) = m ((c.tc : Thread Cert.KernelPleIdeal.nD Cert.KernelPleIdeal.τ).loc Cert.KernelPleIdeal.main_arg4)) →
    ∃ (v0 : (c : Dev Cert.KernelPleIdeal.nD) → Buf (Elt Ideal) ((c.tc : Thread Cert.KernelPleIdeal.nD Cert.KernelPleIdeal.τ).loc Cert.KernelPleIdeal.main_v0_0)) (v1 : (c : Dev Cert.KernelPleIdeal.nD) → Buf (Elt Ideal) ((c.tc : Thread Cert.KernelPleIdeal.nD Cert.KernelPleIdeal.τ).loc Cert.KernelPleIdeal.main_v0_1)) (v2 : (c : Dev Cert.KernelPleIdeal.nD) → Buf (Elt Ideal) ((c.tc : Thread Cert.KernelPleIdeal.nD Cert.KernelPleIdeal.τ).loc Cert.KernelPleIdeal.main_v0_2)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v0_0) = v0 c
          ∧ r.2.mem ((c.tc : Thread Cert.KernelPleIdeal.nD Cert.KernelPleIdeal.τ).loc Cert.KernelPleIdeal.main_v0_1) = v1 c
          ∧ r.2.mem ((c.tc : Thread Cert.KernelPleIdeal.nD Cert.KernelPleIdeal.τ).loc Cert.KernelPleIdeal.main_v0_2) = v2 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
          ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v13) = v0 c
          ∧ r.2.mem ((c.tc : Thread Cert.ReferencePleIdeal.nD Cert.ReferencePleIdeal.τ).loc Cert.ReferencePleIdeal.main_v14) = v1 c
          ∧ r.2.mem ((c.tc : Thread Cert.ReferencePleIdeal.nD Cert.ReferencePleIdeal.τ).loc Cert.ReferencePleIdeal.main_v15) = v2 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3)
          ∧ r.2.mem ((c.tc : Thread Cert.ReferencePleIdeal.nD Cert.ReferencePleIdeal.τ).loc Cert.ReferencePleIdeal.main_arg4) = m' ((c.tc : Thread Cert.ReferencePleIdeal.nD Cert.ReferencePleIdeal.τ).loc Cert.ReferencePleIdeal.main_arg4))

def preserves_KernelDattn_KernelDattnIdeal : Prop :=
  True

def algebraic_KernelDattnIdeal_ReferenceDattnIdeal [hKernelDattnIdeal : Cert.KernelDattnIdeal.Facts] [hReferenceDattnIdeal : Cert.ReferenceDattnIdeal.Facts] : Prop :=
  ∀ (m : (ℓ : Loc Cert.KernelDattnIdeal.nD Cert.KernelDattnIdeal.τ Cert.KernelDattnIdeal.sig) → Buf (Elt Ideal) ℓ) (g : Dev Cert.KernelDattnIdeal.nD → PrngReg)
    (m' : (ℓ : Loc Cert.ReferenceDattnIdeal.nD Cert.ReferenceDattnIdeal.τ Cert.ReferenceDattnIdeal.sig) → Buf (Elt Ideal) ℓ) (g' : Dev Cert.ReferenceDattnIdeal.nD → PrngReg), Pre_KernelDattnIdeal m →
    (∀ c : Dev Cert.KernelDattnIdeal.nD,
      m' ((c.tc : Thread Cert.ReferenceDattnIdeal.nD Cert.ReferenceDattnIdeal.τ).loc Cert.ReferenceDattnIdeal.main_arg0) = m ((c.tc : Thread Cert.KernelDattnIdeal.nD Cert.KernelDattnIdeal.τ).loc Cert.KernelDattnIdeal.main_arg0)
      ∧ m' ((c.tc : Thread Cert.ReferenceDattnIdeal.nD Cert.ReferenceDattnIdeal.τ).loc Cert.ReferenceDattnIdeal.main_arg1) = m ((c.tc : Thread Cert.KernelDattnIdeal.nD Cert.KernelDattnIdeal.τ).loc Cert.KernelDattnIdeal.main_arg1)) →
    ∃ (v0 : (c : Dev Cert.KernelDattnIdeal.nD) → Buf (Elt Ideal) ((c.tc : Thread Cert.KernelDattnIdeal.nD Cert.KernelDattnIdeal.τ).loc Cert.KernelDattnIdeal.main_v0)),
      θ_run (Cert.KernelDattnIdeal.defs (F := Ideal)) (onTc (τ := Cert.KernelDattnIdeal.τ) (Cert.KernelDattnIdeal.main (F := Ideal))) ⟨m, fun _ => 0, g⟩ (fun r => ∀ c : Dev Cert.KernelDattnIdeal.nD,
          r.2.mem ((c.tc : Thread Cert.KernelDattnIdeal.nD Cert.KernelDattnIdeal.τ).loc Cert.KernelDattnIdeal.main_v0) = v0 c
          ∧ r.2.mem ((c.tc : Thread Cert.KernelDattnIdeal.nD Cert.KernelDattnIdeal.τ).loc Cert.KernelDattnIdeal.main_arg0) = m ((c.tc : Thread Cert.KernelDattnIdeal.nD Cert.KernelDattnIdeal.τ).loc Cert.KernelDattnIdeal.main_arg0)
          ∧ r.2.mem ((c.tc : Thread Cert.KernelDattnIdeal.nD Cert.KernelDattnIdeal.τ).loc Cert.KernelDattnIdeal.main_arg1) = m ((c.tc : Thread Cert.KernelDattnIdeal.nD Cert.KernelDattnIdeal.τ).loc Cert.KernelDattnIdeal.main_arg1))
      ∧ θ_run (Cert.ReferenceDattnIdeal.defs (F := Ideal)) (onTc (τ := Cert.ReferenceDattnIdeal.τ) (Cert.ReferenceDattnIdeal.main (F := Ideal))) ⟨m', fun _ => 0, g'⟩ (fun r => ∀ c : Dev Cert.ReferenceDattnIdeal.nD,
          r.2.mem ((c.tc : Thread Cert.ReferenceDattnIdeal.nD Cert.ReferenceDattnIdeal.τ).loc Cert.ReferenceDattnIdeal.main_v6) = v0 c
          ∧ r.2.mem ((c.tc : Thread Cert.ReferenceDattnIdeal.nD Cert.ReferenceDattnIdeal.τ).loc Cert.ReferenceDattnIdeal.main_arg0) = m' ((c.tc : Thread Cert.ReferenceDattnIdeal.nD Cert.ReferenceDattnIdeal.τ).loc Cert.ReferenceDattnIdeal.main_arg0)
          ∧ r.2.mem ((c.tc : Thread Cert.ReferenceDattnIdeal.nD Cert.ReferenceDattnIdeal.τ).loc Cert.ReferenceDattnIdeal.main_arg1) = m' ((c.tc : Thread Cert.ReferenceDattnIdeal.nD Cert.ReferenceDattnIdeal.τ).loc Cert.ReferenceDattnIdeal.main_arg1))

def preserves_KernelDsg_KernelDsgIdeal : Prop :=
  True

def algebraic_KernelDsgIdeal_ReferenceDsgIdeal [hKernelDsgIdeal : Cert.KernelDsgIdeal.Facts] [hReferenceDsgIdeal : Cert.ReferenceDsgIdeal.Facts] : Prop :=
  ∀ (m : (ℓ : Loc Cert.KernelDsgIdeal.nD Cert.KernelDsgIdeal.τ Cert.KernelDsgIdeal.sig) → Buf (Elt Ideal) ℓ) (g : Dev Cert.KernelDsgIdeal.nD → PrngReg)
    (m' : (ℓ : Loc Cert.ReferenceDsgIdeal.nD Cert.ReferenceDsgIdeal.τ Cert.ReferenceDsgIdeal.sig) → Buf (Elt Ideal) ℓ) (g' : Dev Cert.ReferenceDsgIdeal.nD → PrngReg), Pre_KernelDsgIdeal m →
    (∀ c : Dev Cert.KernelDsgIdeal.nD,
      m' ((c.tc : Thread Cert.ReferenceDsgIdeal.nD Cert.ReferenceDsgIdeal.τ).loc Cert.ReferenceDsgIdeal.main_arg0) = m ((c.tc : Thread Cert.KernelDsgIdeal.nD Cert.KernelDsgIdeal.τ).loc Cert.KernelDsgIdeal.main_arg0)
      ∧ m' ((c.tc : Thread Cert.ReferenceDsgIdeal.nD Cert.ReferenceDsgIdeal.τ).loc Cert.ReferenceDsgIdeal.main_arg1) = m ((c.tc : Thread Cert.KernelDsgIdeal.nD Cert.KernelDsgIdeal.τ).loc Cert.KernelDsgIdeal.main_arg1)) →
    ∃ (v0 : (c : Dev Cert.KernelDsgIdeal.nD) → Buf (Elt Ideal) ((c.tc : Thread Cert.KernelDsgIdeal.nD Cert.KernelDsgIdeal.τ).loc Cert.KernelDsgIdeal.main_v0)),
      θ_run (Cert.KernelDsgIdeal.defs (F := Ideal)) (onTc (τ := Cert.KernelDsgIdeal.τ) (Cert.KernelDsgIdeal.main (F := Ideal))) ⟨m, fun _ => 0, g⟩ (fun r => ∀ c : Dev Cert.KernelDsgIdeal.nD,
          r.2.mem ((c.tc : Thread Cert.KernelDsgIdeal.nD Cert.KernelDsgIdeal.τ).loc Cert.KernelDsgIdeal.main_v0) = v0 c
          ∧ r.2.mem ((c.tc : Thread Cert.KernelDsgIdeal.nD Cert.KernelDsgIdeal.τ).loc Cert.KernelDsgIdeal.main_arg0) = m ((c.tc : Thread Cert.KernelDsgIdeal.nD Cert.KernelDsgIdeal.τ).loc Cert.KernelDsgIdeal.main_arg0)
          ∧ r.2.mem ((c.tc : Thread Cert.KernelDsgIdeal.nD Cert.KernelDsgIdeal.τ).loc Cert.KernelDsgIdeal.main_arg1) = m ((c.tc : Thread Cert.KernelDsgIdeal.nD Cert.KernelDsgIdeal.τ).loc Cert.KernelDsgIdeal.main_arg1))
      ∧ θ_run (Cert.ReferenceDsgIdeal.defs (F := Ideal)) (onTc (τ := Cert.ReferenceDsgIdeal.τ) (Cert.ReferenceDsgIdeal.main (F := Ideal))) ⟨m', fun _ => 0, g'⟩ (fun r => ∀ c : Dev Cert.ReferenceDsgIdeal.nD,
          r.2.mem ((c.tc : Thread Cert.ReferenceDsgIdeal.nD Cert.ReferenceDsgIdeal.τ).loc Cert.ReferenceDsgIdeal.main_v6) = v0 c
          ∧ r.2.mem ((c.tc : Thread Cert.ReferenceDsgIdeal.nD Cert.ReferenceDsgIdeal.τ).loc Cert.ReferenceDsgIdeal.main_arg0) = m' ((c.tc : Thread Cert.ReferenceDsgIdeal.nD Cert.ReferenceDsgIdeal.τ).loc Cert.ReferenceDsgIdeal.main_arg0)
          ∧ r.2.mem ((c.tc : Thread Cert.ReferenceDsgIdeal.nD Cert.ReferenceDsgIdeal.τ).loc Cert.ReferenceDsgIdeal.main_arg1) = m' ((c.tc : Thread Cert.ReferenceDsgIdeal.nD Cert.ReferenceDsgIdeal.τ).loc Cert.ReferenceDsgIdeal.main_arg1))

def preserves_KernelWattn_KernelWattnIdeal : Prop :=
  True

def algebraic_KernelWattnIdeal_ReferenceWattnIdeal [hKernelWattnIdeal : Cert.KernelWattnIdeal.Facts] [hReferenceWattnIdeal : Cert.ReferenceWattnIdeal.Facts] : Prop :=
  ∀ (m : (ℓ : Loc Cert.KernelWattnIdeal.nD Cert.KernelWattnIdeal.τ Cert.KernelWattnIdeal.sig) → Buf (Elt Ideal) ℓ) (g : Dev Cert.KernelWattnIdeal.nD → PrngReg)
    (m' : (ℓ : Loc Cert.ReferenceWattnIdeal.nD Cert.ReferenceWattnIdeal.τ Cert.ReferenceWattnIdeal.sig) → Buf (Elt Ideal) ℓ) (g' : Dev Cert.ReferenceWattnIdeal.nD → PrngReg), Pre_KernelWattnIdeal m →
    (∀ c : Dev Cert.KernelWattnIdeal.nD,
      m' ((c.tc : Thread Cert.ReferenceWattnIdeal.nD Cert.ReferenceWattnIdeal.τ).loc Cert.ReferenceWattnIdeal.main_arg0) = m ((c.tc : Thread Cert.KernelWattnIdeal.nD Cert.KernelWattnIdeal.τ).loc Cert.KernelWattnIdeal.main_arg0)
      ∧ m' ((c.tc : Thread Cert.ReferenceWattnIdeal.nD Cert.ReferenceWattnIdeal.τ).loc Cert.ReferenceWattnIdeal.main_arg1) = m ((c.tc : Thread Cert.KernelWattnIdeal.nD Cert.KernelWattnIdeal.τ).loc Cert.KernelWattnIdeal.main_arg1)) →
    ∃ (v0 : (c : Dev Cert.KernelWattnIdeal.nD) → Buf (Elt Ideal) ((c.tc : Thread Cert.KernelWattnIdeal.nD Cert.KernelWattnIdeal.τ).loc Cert.KernelWattnIdeal.main_v0)),
      θ_run (Cert.KernelWattnIdeal.defs (F := Ideal)) (onTc (τ := Cert.KernelWattnIdeal.τ) (Cert.KernelWattnIdeal.main (F := Ideal))) ⟨m, fun _ => 0, g⟩ (fun r => ∀ c : Dev Cert.KernelWattnIdeal.nD,
          r.2.mem ((c.tc : Thread Cert.KernelWattnIdeal.nD Cert.KernelWattnIdeal.τ).loc Cert.KernelWattnIdeal.main_v0) = v0 c
          ∧ r.2.mem ((c.tc : Thread Cert.KernelWattnIdeal.nD Cert.KernelWattnIdeal.τ).loc Cert.KernelWattnIdeal.main_arg0) = m ((c.tc : Thread Cert.KernelWattnIdeal.nD Cert.KernelWattnIdeal.τ).loc Cert.KernelWattnIdeal.main_arg0)
          ∧ r.2.mem ((c.tc : Thread Cert.KernelWattnIdeal.nD Cert.KernelWattnIdeal.τ).loc Cert.KernelWattnIdeal.main_arg1) = m ((c.tc : Thread Cert.KernelWattnIdeal.nD Cert.KernelWattnIdeal.τ).loc Cert.KernelWattnIdeal.main_arg1))
      ∧ θ_run (Cert.ReferenceWattnIdeal.defs (F := Ideal)) (onTc (τ := Cert.ReferenceWattnIdeal.τ) (Cert.ReferenceWattnIdeal.main (F := Ideal))) ⟨m', fun _ => 0, g'⟩ (fun r => ∀ c : Dev Cert.ReferenceWattnIdeal.nD,
          r.2.mem ((c.tc : Thread Cert.ReferenceWattnIdeal.nD Cert.ReferenceWattnIdeal.τ).loc Cert.ReferenceWattnIdeal.main_v7) = v0 c
          ∧ r.2.mem ((c.tc : Thread Cert.ReferenceWattnIdeal.nD Cert.ReferenceWattnIdeal.τ).loc Cert.ReferenceWattnIdeal.main_arg0) = m' ((c.tc : Thread Cert.ReferenceWattnIdeal.nD Cert.ReferenceWattnIdeal.τ).loc Cert.ReferenceWattnIdeal.main_arg0)
          ∧ r.2.mem ((c.tc : Thread Cert.ReferenceWattnIdeal.nD Cert.ReferenceWattnIdeal.τ).loc Cert.ReferenceWattnIdeal.main_arg1) = m' ((c.tc : Thread Cert.ReferenceWattnIdeal.nD Cert.ReferenceWattnIdeal.τ).loc Cert.ReferenceWattnIdeal.main_arg1))

def preserves_KernelWsg_KernelWsgIdeal : Prop :=
  True

def algebraic_KernelWsgIdeal_ReferenceWsgIdeal [hKernelWsgIdeal : Cert.KernelWsgIdeal.Facts] [hReferenceWsgIdeal : Cert.ReferenceWsgIdeal.Facts] : Prop :=
  ∀ (m : (ℓ : Loc Cert.KernelWsgIdeal.nD Cert.KernelWsgIdeal.τ Cert.KernelWsgIdeal.sig) → Buf (Elt Ideal) ℓ) (g : Dev Cert.KernelWsgIdeal.nD → PrngReg)
    (m' : (ℓ : Loc Cert.ReferenceWsgIdeal.nD Cert.ReferenceWsgIdeal.τ Cert.ReferenceWsgIdeal.sig) → Buf (Elt Ideal) ℓ) (g' : Dev Cert.ReferenceWsgIdeal.nD → PrngReg), Pre_KernelWsgIdeal m →
    (∀ c : Dev Cert.KernelWsgIdeal.nD,
      m' ((c.tc : Thread Cert.ReferenceWsgIdeal.nD Cert.ReferenceWsgIdeal.τ).loc Cert.ReferenceWsgIdeal.main_arg0) = m ((c.tc : Thread Cert.KernelWsgIdeal.nD Cert.KernelWsgIdeal.τ).loc Cert.KernelWsgIdeal.main_arg0)
      ∧ m' ((c.tc : Thread Cert.ReferenceWsgIdeal.nD Cert.ReferenceWsgIdeal.τ).loc Cert.ReferenceWsgIdeal.main_arg1) = m ((c.tc : Thread Cert.KernelWsgIdeal.nD Cert.KernelWsgIdeal.τ).loc Cert.KernelWsgIdeal.main_arg1)) →
    ∃ (v0 : (c : Dev Cert.KernelWsgIdeal.nD) → Buf (Elt Ideal) ((c.tc : Thread Cert.KernelWsgIdeal.nD Cert.KernelWsgIdeal.τ).loc Cert.KernelWsgIdeal.main_v0)),
      θ_run (Cert.KernelWsgIdeal.defs (F := Ideal)) (onTc (τ := Cert.KernelWsgIdeal.τ) (Cert.KernelWsgIdeal.main (F := Ideal))) ⟨m, fun _ => 0, g⟩ (fun r => ∀ c : Dev Cert.KernelWsgIdeal.nD,
          r.2.mem ((c.tc : Thread Cert.KernelWsgIdeal.nD Cert.KernelWsgIdeal.τ).loc Cert.KernelWsgIdeal.main_v0) = v0 c
          ∧ r.2.mem ((c.tc : Thread Cert.KernelWsgIdeal.nD Cert.KernelWsgIdeal.τ).loc Cert.KernelWsgIdeal.main_arg0) = m ((c.tc : Thread Cert.KernelWsgIdeal.nD Cert.KernelWsgIdeal.τ).loc Cert.KernelWsgIdeal.main_arg0)
          ∧ r.2.mem ((c.tc : Thread Cert.KernelWsgIdeal.nD Cert.KernelWsgIdeal.τ).loc Cert.KernelWsgIdeal.main_arg1) = m ((c.tc : Thread Cert.KernelWsgIdeal.nD Cert.KernelWsgIdeal.τ).loc Cert.KernelWsgIdeal.main_arg1))
      ∧ θ_run (Cert.ReferenceWsgIdeal.defs (F := Ideal)) (onTc (τ := Cert.ReferenceWsgIdeal.τ) (Cert.ReferenceWsgIdeal.main (F := Ideal))) ⟨m', fun _ => 0, g'⟩ (fun r => ∀ c : Dev Cert.ReferenceWsgIdeal.nD,
          r.2.mem ((c.tc : Thread Cert.ReferenceWsgIdeal.nD Cert.ReferenceWsgIdeal.τ).loc Cert.ReferenceWsgIdeal.main_v7) = v0 c
          ∧ r.2.mem ((c.tc : Thread Cert.ReferenceWsgIdeal.nD Cert.ReferenceWsgIdeal.τ).loc Cert.ReferenceWsgIdeal.main_arg0) = m' ((c.tc : Thread Cert.ReferenceWsgIdeal.nD Cert.ReferenceWsgIdeal.τ).loc Cert.ReferenceWsgIdeal.main_arg0)
          ∧ r.2.mem ((c.tc : Thread Cert.ReferenceWsgIdeal.nD Cert.ReferenceWsgIdeal.τ).loc Cert.ReferenceWsgIdeal.main_arg1) = m' ((c.tc : Thread Cert.ReferenceWsgIdeal.nD Cert.ReferenceWsgIdeal.τ).loc Cert.ReferenceWsgIdeal.main_arg1))

def preserves_KernelWple_KernelWpleIdeal : Prop :=
  True

def algebraic_KernelWpleIdeal_ReferenceWpleIdeal [hKernelWpleIdeal : Cert.KernelWpleIdeal.Facts] [hReferenceWpleIdeal : Cert.ReferenceWpleIdeal.Facts] : Prop :=
  ∀ (m : (ℓ : Loc Cert.KernelWpleIdeal.nD Cert.KernelWpleIdeal.τ Cert.KernelWpleIdeal.sig) → Buf (Elt Ideal) ℓ) (g : Dev Cert.KernelWpleIdeal.nD → PrngReg)
    (m' : (ℓ : Loc Cert.ReferenceWpleIdeal.nD Cert.ReferenceWpleIdeal.τ Cert.ReferenceWpleIdeal.sig) → Buf (Elt Ideal) ℓ) (g' : Dev Cert.ReferenceWpleIdeal.nD → PrngReg), Pre_KernelWpleIdeal m →
    (∀ c : Dev Cert.KernelWpleIdeal.nD,
      m' ((c.tc : Thread Cert.ReferenceWpleIdeal.nD Cert.ReferenceWpleIdeal.τ).loc Cert.ReferenceWpleIdeal.main_arg0) = m ((c.tc : Thread Cert.KernelWpleIdeal.nD Cert.KernelWpleIdeal.τ).loc Cert.KernelWpleIdeal.main_arg0)
      ∧ m' ((c.tc : Thread Cert.ReferenceWpleIdeal.nD Cert.ReferenceWpleIdeal.τ).loc Cert.ReferenceWpleIdeal.main_arg1) = m ((c.tc : Thread Cert.KernelWpleIdeal.nD Cert.KernelWpleIdeal.τ).loc Cert.KernelWpleIdeal.main_arg1)) →
    ∃ (v0 : (c : Dev Cert.KernelWpleIdeal.nD) → Buf (Elt Ideal) ((c.tc : Thread Cert.KernelWpleIdeal.nD Cert.KernelWpleIdeal.τ).loc Cert.KernelWpleIdeal.main_v0)),
      θ_run (Cert.KernelWpleIdeal.defs (F := Ideal)) (onTc (τ := Cert.KernelWpleIdeal.τ) (Cert.KernelWpleIdeal.main (F := Ideal))) ⟨m, fun _ => 0, g⟩ (fun r => ∀ c : Dev Cert.KernelWpleIdeal.nD,
          r.2.mem ((c.tc : Thread Cert.KernelWpleIdeal.nD Cert.KernelWpleIdeal.τ).loc Cert.KernelWpleIdeal.main_v0) = v0 c
          ∧ r.2.mem ((c.tc : Thread Cert.KernelWpleIdeal.nD Cert.KernelWpleIdeal.τ).loc Cert.KernelWpleIdeal.main_arg0) = m ((c.tc : Thread Cert.KernelWpleIdeal.nD Cert.KernelWpleIdeal.τ).loc Cert.KernelWpleIdeal.main_arg0)
          ∧ r.2.mem ((c.tc : Thread Cert.KernelWpleIdeal.nD Cert.KernelWpleIdeal.τ).loc Cert.KernelWpleIdeal.main_arg1) = m ((c.tc : Thread Cert.KernelWpleIdeal.nD Cert.KernelWpleIdeal.τ).loc Cert.KernelWpleIdeal.main_arg1))
      ∧ θ_run (Cert.ReferenceWpleIdeal.defs (F := Ideal)) (onTc (τ := Cert.ReferenceWpleIdeal.τ) (Cert.ReferenceWpleIdeal.main (F := Ideal))) ⟨m', fun _ => 0, g'⟩ (fun r => ∀ c : Dev Cert.ReferenceWpleIdeal.nD,
          r.2.mem ((c.tc : Thread Cert.ReferenceWpleIdeal.nD Cert.ReferenceWpleIdeal.τ).loc Cert.ReferenceWpleIdeal.main_v6) = v0 c
          ∧ r.2.mem ((c.tc : Thread Cert.ReferenceWpleIdeal.nD Cert.ReferenceWpleIdeal.τ).loc Cert.ReferenceWpleIdeal.main_arg0) = m' ((c.tc : Thread Cert.ReferenceWpleIdeal.nD Cert.ReferenceWpleIdeal.τ).loc Cert.ReferenceWpleIdeal.main_arg0)
          ∧ r.2.mem ((c.tc : Thread Cert.ReferenceWpleIdeal.nD Cert.ReferenceWpleIdeal.τ).loc Cert.ReferenceWpleIdeal.main_arg1) = m' ((c.tc : Thread Cert.ReferenceWpleIdeal.nD Cert.ReferenceWpleIdeal.τ).loc Cert.ReferenceWpleIdeal.main_arg1))

def preserves_KernelPlegate_KernelPlegateIdeal : Prop :=
  True

def algebraic_KernelPlegateIdeal_ReferencePlegateIdeal [hKernelPlegateIdeal : Cert.KernelPlegateIdeal.Facts] [hReferencePlegateIdeal : Cert.ReferencePlegateIdeal.Facts] : Prop :=
  ∀ (m : (ℓ : Loc Cert.KernelPlegateIdeal.nD Cert.KernelPlegateIdeal.τ Cert.KernelPlegateIdeal.sig) → Buf (Elt Ideal) ℓ) (g : Dev Cert.KernelPlegateIdeal.nD → PrngReg)
    (m' : (ℓ : Loc Cert.ReferencePlegateIdeal.nD Cert.ReferencePlegateIdeal.τ Cert.ReferencePlegateIdeal.sig) → Buf (Elt Ideal) ℓ) (g' : Dev Cert.ReferencePlegateIdeal.nD → PrngReg), Pre_KernelPlegateIdeal m →
    (∀ c : Dev Cert.KernelPlegateIdeal.nD,
      m' ((c.tc : Thread Cert.ReferencePlegateIdeal.nD Cert.ReferencePlegateIdeal.τ).loc Cert.ReferencePlegateIdeal.main_arg0) = m ((c.tc : Thread Cert.KernelPlegateIdeal.nD Cert.KernelPlegateIdeal.τ).loc Cert.KernelPlegateIdeal.main_arg0)
      ∧ m' ((c.tc : Thread Cert.ReferencePlegateIdeal.nD Cert.ReferencePlegateIdeal.τ).loc Cert.ReferencePlegateIdeal.main_arg1) = m ((c.tc : Thread Cert.KernelPlegateIdeal.nD Cert.KernelPlegateIdeal.τ).loc Cert.KernelPlegateIdeal.main_arg1)
      ∧ m' ((c.tc : Thread Cert.ReferencePlegateIdeal.nD Cert.ReferencePlegateIdeal.τ).loc Cert.ReferencePlegateIdeal.main_arg2) = m ((c.tc : Thread Cert.KernelPlegateIdeal.nD Cert.KernelPlegateIdeal.τ).loc Cert.KernelPlegateIdeal.main_arg2)) →
    ∃ (v0 : (c : Dev Cert.KernelPlegateIdeal.nD) → Buf (Elt Ideal) ((c.tc : Thread Cert.KernelPlegateIdeal.nD Cert.KernelPlegateIdeal.τ).loc Cert.KernelPlegateIdeal.main_v7_0)) (v1 : (c : Dev Cert.KernelPlegateIdeal.nD) → Buf (Elt Ideal) ((c.tc : Thread Cert.KernelPlegateIdeal.nD Cert.KernelPlegateIdeal.τ).loc Cert.KernelPlegateIdeal.main_v7_1)),
      θ_run (Cert.KernelPlegateIdeal.defs (F := Ideal)) (onTc (τ := Cert.KernelPlegateIdeal.τ) (Cert.KernelPlegateIdeal.main (F := Ideal))) ⟨m, fun _ => 0, g⟩ (fun r => ∀ c : Dev Cert.KernelPlegateIdeal.nD,
          r.2.mem ((c.tc : Thread Cert.KernelPlegateIdeal.nD Cert.KernelPlegateIdeal.τ).loc Cert.KernelPlegateIdeal.main_v7_0) = v0 c
          ∧ r.2.mem ((c.tc : Thread Cert.KernelPlegateIdeal.nD Cert.KernelPlegateIdeal.τ).loc Cert.KernelPlegateIdeal.main_v7_1) = v1 c
          ∧ r.2.mem ((c.tc : Thread Cert.KernelPlegateIdeal.nD Cert.KernelPlegateIdeal.τ).loc Cert.KernelPlegateIdeal.main_arg0) = m ((c.tc : Thread Cert.KernelPlegateIdeal.nD Cert.KernelPlegateIdeal.τ).loc Cert.KernelPlegateIdeal.main_arg0)
          ∧ r.2.mem ((c.tc : Thread Cert.KernelPlegateIdeal.nD Cert.KernelPlegateIdeal.τ).loc Cert.KernelPlegateIdeal.main_arg1) = m ((c.tc : Thread Cert.KernelPlegateIdeal.nD Cert.KernelPlegateIdeal.τ).loc Cert.KernelPlegateIdeal.main_arg1)
          ∧ r.2.mem ((c.tc : Thread Cert.KernelPlegateIdeal.nD Cert.KernelPlegateIdeal.τ).loc Cert.KernelPlegateIdeal.main_arg2) = m ((c.tc : Thread Cert.KernelPlegateIdeal.nD Cert.KernelPlegateIdeal.τ).loc Cert.KernelPlegateIdeal.main_arg2))
      ∧ θ_run (Cert.ReferencePlegateIdeal.defs (F := Ideal)) (onTc (τ := Cert.ReferencePlegateIdeal.τ) (Cert.ReferencePlegateIdeal.main (F := Ideal))) ⟨m', fun _ => 0, g'⟩ (fun r => ∀ c : Dev Cert.ReferencePlegateIdeal.nD,
          r.2.mem ((c.tc : Thread Cert.ReferencePlegateIdeal.nD Cert.ReferencePlegateIdeal.τ).loc Cert.ReferencePlegateIdeal.main_v14) = v0 c
          ∧ r.2.mem ((c.tc : Thread Cert.ReferencePlegateIdeal.nD Cert.ReferencePlegateIdeal.τ).loc Cert.ReferencePlegateIdeal.main_v15) = v1 c
          ∧ r.2.mem ((c.tc : Thread Cert.ReferencePlegateIdeal.nD Cert.ReferencePlegateIdeal.τ).loc Cert.ReferencePlegateIdeal.main_arg0) = m' ((c.tc : Thread Cert.ReferencePlegateIdeal.nD Cert.ReferencePlegateIdeal.τ).loc Cert.ReferencePlegateIdeal.main_arg0)
          ∧ r.2.mem ((c.tc : Thread Cert.ReferencePlegateIdeal.nD Cert.ReferencePlegateIdeal.τ).loc Cert.ReferencePlegateIdeal.main_arg1) = m' ((c.tc : Thread Cert.ReferencePlegateIdeal.nD Cert.ReferencePlegateIdeal.τ).loc Cert.ReferencePlegateIdeal.main_arg1)
          ∧ r.2.mem ((c.tc : Thread Cert.ReferencePlegateIdeal.nD Cert.ReferencePlegateIdeal.τ).loc Cert.ReferencePlegateIdeal.main_arg2) = m' ((c.tc : Thread Cert.ReferencePlegateIdeal.nD Cert.ReferencePlegateIdeal.τ).loc Cert.ReferencePlegateIdeal.main_arg2))

def Claim : Prop :=
  ∃ (hKernel : Cert.Kernel.Facts) (hKernelIdeal : Cert.KernelIdeal.Facts) (hReferenceIdeal : Cert.ReferenceIdeal.Facts) (hKernelAct : Cert.KernelAct.Facts) (hKernelActIdeal : Cert.KernelActIdeal.Facts) (hReferenceActIdeal : Cert.ReferenceActIdeal.Facts) (hKernelWin : Cert.KernelWin.Facts) (hKernelWinIdeal : Cert.KernelWinIdeal.Facts) (hReferenceWinIdeal : Cert.ReferenceWinIdeal.Facts) (hKernelDown : Cert.KernelDown.Facts) (hKernelDownIdeal : Cert.KernelDownIdeal.Facts) (hReferenceDownIdeal : Cert.ReferenceDownIdeal.Facts) (hKernelGate : Cert.KernelGate.Facts) (hKernelGateIdeal : Cert.KernelGateIdeal.Facts) (hReferenceGateIdeal : Cert.ReferenceGateIdeal.Facts) (hKernelIn : Cert.KernelIn.Facts) (hKernelInIdeal : Cert.KernelInIdeal.Facts) (hReferenceInIdeal : Cert.ReferenceInIdeal.Facts) (hKernelSwiglu : Cert.KernelSwiglu.Facts) (hKernelSwigluIdeal : Cert.KernelSwigluIdeal.Facts) (hReferenceSwigluIdeal : Cert.ReferenceSwigluIdeal.Facts) (hKernelOut : Cert.KernelOut.Facts) (hKernelOutIdeal : Cert.KernelOutIdeal.Facts) (hReferenceOutIdeal : Cert.ReferenceOutIdeal.Facts) (hKernelDh : Cert.KernelDh.Facts) (hKernelDhIdeal : Cert.KernelDhIdeal.Facts) (hReferenceDhIdeal : Cert.ReferenceDhIdeal.Facts) (hKernelDff : Cert.KernelDff.Facts) (hKernelDffIdeal : Cert.KernelDffIdeal.Facts) (hReferenceDffIdeal : Cert.ReferenceDffIdeal.Facts) (hKernelSquare : Cert.KernelSquare.Facts) (hKernelSquareIdeal : Cert.KernelSquareIdeal.Facts) (hReferenceSquareIdeal : Cert.ReferenceSquareIdeal.Facts) (hKernelWeight : Cert.KernelWeight.Facts) (hKernelWeightIdeal : Cert.KernelWeightIdeal.Facts) (hReferenceWeightIdeal : Cert.ReferenceWeightIdeal.Facts) (hKernelResidual : Cert.KernelResidual.Facts) (hKernelResidualIdeal : Cert.KernelResidualIdeal.Facts) (hReferenceResidualIdeal : Cert.ReferenceResidualIdeal.Facts) (hKernelBranches : Cert.KernelBranches.Facts) (hKernelBranchesIdeal : Cert.KernelBranchesIdeal.Facts) (hReferenceBranchesIdeal : Cert.ReferenceBranchesIdeal.Facts) (hKernelPle : Cert.KernelPle.Facts) (hKernelPleIdeal : Cert.KernelPleIdeal.Facts) (hReferencePleIdeal : Cert.ReferencePleIdeal.Facts) (hKernelDattn : Cert.KernelDattn.Facts) (hKernelDattnIdeal : Cert.KernelDattnIdeal.Facts) (hReferenceDattnIdeal : Cert.ReferenceDattnIdeal.Facts) (hKernelDsg : Cert.KernelDsg.Facts) (hKernelDsgIdeal : Cert.KernelDsgIdeal.Facts) (hReferenceDsgIdeal : Cert.ReferenceDsgIdeal.Facts) (hKernelWattn : Cert.KernelWattn.Facts) (hKernelWattnIdeal : Cert.KernelWattnIdeal.Facts) (hReferenceWattnIdeal : Cert.ReferenceWattnIdeal.Facts) (hKernelWsg : Cert.KernelWsg.Facts) (hKernelWsgIdeal : Cert.KernelWsgIdeal.Facts) (hReferenceWsgIdeal : Cert.ReferenceWsgIdeal.Facts) (hKernelWple : Cert.KernelWple.Facts) (hKernelWpleIdeal : Cert.KernelWpleIdeal.Facts) (hReferenceWpleIdeal : Cert.ReferenceWpleIdeal.Facts) (hKernelPlegate : Cert.KernelPlegate.Facts) (hKernelPlegateIdeal : Cert.KernelPlegateIdeal.Facts) (hReferencePlegateIdeal : Cert.ReferencePlegateIdeal.Facts) (hPre_finite : Cert.Pre_finite.Facts) (hPre_finite_act : Cert.Pre_finite_act.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelAct (hKernelAct := hKernelAct)
    ∧ quiescent_KernelActIdeal (hKernelActIdeal := hKernelActIdeal)
    ∧ quiescent_KernelActIdeal_pre_finite_act (hKernelActIdeal := hKernelActIdeal) (hPre_finite_act := hPre_finite_act)
    ∧ quiescent_ReferenceActIdeal (hReferenceActIdeal := hReferenceActIdeal)
    ∧ quiescent_ReferenceActIdeal_pre_finite_act (hReferenceActIdeal := hReferenceActIdeal) (hPre_finite_act := hPre_finite_act)
    ∧ quiescent_KernelWin (hKernelWin := hKernelWin)
    ∧ quiescent_KernelWinIdeal (hKernelWinIdeal := hKernelWinIdeal)
    ∧ quiescent_ReferenceWinIdeal (hReferenceWinIdeal := hReferenceWinIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelSwiglu (hKernelSwiglu := hKernelSwiglu)
    ∧ quiescent_KernelSwigluIdeal (hKernelSwigluIdeal := hKernelSwigluIdeal)
    ∧ quiescent_ReferenceSwigluIdeal (hReferenceSwigluIdeal := hReferenceSwigluIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelDff (hKernelDff := hKernelDff)
    ∧ quiescent_KernelDffIdeal (hKernelDffIdeal := hKernelDffIdeal)
    ∧ quiescent_ReferenceDffIdeal (hReferenceDffIdeal := hReferenceDffIdeal)
    ∧ quiescent_KernelSquare (hKernelSquare := hKernelSquare)
    ∧ quiescent_KernelSquareIdeal (hKernelSquareIdeal := hKernelSquareIdeal)
    ∧ quiescent_ReferenceSquareIdeal (hReferenceSquareIdeal := hReferenceSquareIdeal)
    ∧ quiescent_KernelWeight (hKernelWeight := hKernelWeight)
    ∧ quiescent_KernelWeightIdeal (hKernelWeightIdeal := hKernelWeightIdeal)
    ∧ quiescent_ReferenceWeightIdeal (hReferenceWeightIdeal := hReferenceWeightIdeal)
    ∧ quiescent_KernelResidual (hKernelResidual := hKernelResidual)
    ∧ quiescent_KernelResidualIdeal (hKernelResidualIdeal := hKernelResidualIdeal)
    ∧ quiescent_ReferenceResidualIdeal (hReferenceResidualIdeal := hReferenceResidualIdeal)
    ∧ quiescent_KernelBranches (hKernelBranches := hKernelBranches)
    ∧ quiescent_KernelBranchesIdeal (hKernelBranchesIdeal := hKernelBranchesIdeal)
    ∧ quiescent_ReferenceBranchesIdeal (hReferenceBranchesIdeal := hReferenceBranchesIdeal)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ quiescent_KernelDattn (hKernelDattn := hKernelDattn)
    ∧ quiescent_KernelDattnIdeal (hKernelDattnIdeal := hKernelDattnIdeal)
    ∧ quiescent_ReferenceDattnIdeal (hReferenceDattnIdeal := hReferenceDattnIdeal)
    ∧ quiescent_KernelDsg (hKernelDsg := hKernelDsg)
    ∧ quiescent_KernelDsgIdeal (hKernelDsgIdeal := hKernelDsgIdeal)
    ∧ quiescent_ReferenceDsgIdeal (hReferenceDsgIdeal := hReferenceDsgIdeal)
    ∧ quiescent_KernelWattn (hKernelWattn := hKernelWattn)
    ∧ quiescent_KernelWattnIdeal (hKernelWattnIdeal := hKernelWattnIdeal)
    ∧ quiescent_ReferenceWattnIdeal (hReferenceWattnIdeal := hReferenceWattnIdeal)
    ∧ quiescent_KernelWsg (hKernelWsg := hKernelWsg)
    ∧ quiescent_KernelWsgIdeal (hKernelWsgIdeal := hKernelWsgIdeal)
    ∧ quiescent_ReferenceWsgIdeal (hReferenceWsgIdeal := hReferenceWsgIdeal)
    ∧ quiescent_KernelWple (hKernelWple := hKernelWple)
    ∧ quiescent_KernelWpleIdeal (hKernelWpleIdeal := hKernelWpleIdeal)
    ∧ quiescent_ReferenceWpleIdeal (hReferenceWpleIdeal := hReferenceWpleIdeal)
    ∧ quiescent_KernelPlegate (hKernelPlegate := hKernelPlegate)
    ∧ quiescent_KernelPlegateIdeal (hKernelPlegateIdeal := hKernelPlegateIdeal)
    ∧ quiescent_ReferencePlegateIdeal (hReferencePlegateIdeal := hReferencePlegateIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelAct_KernelActIdeal
    ∧ algebraic_KernelActIdeal_ReferenceActIdeal_pre_finite_act (hKernelActIdeal := hKernelActIdeal) (hReferenceActIdeal := hReferenceActIdeal) (hPre_finite_act := hPre_finite_act)
    ∧ preserves_KernelWin_KernelWinIdeal
    ∧ algebraic_KernelWinIdeal_ReferenceWinIdeal (hKernelWinIdeal := hKernelWinIdeal) (hReferenceWinIdeal := hReferenceWinIdeal)
    ∧ preserves_KernelDown_KernelDownIdeal
    ∧ algebraic_KernelDownIdeal_ReferenceDownIdeal (hKernelDownIdeal := hKernelDownIdeal) (hReferenceDownIdeal := hReferenceDownIdeal)
    ∧ preserves_KernelGate_KernelGateIdeal
    ∧ algebraic_KernelGateIdeal_ReferenceGateIdeal (hKernelGateIdeal := hKernelGateIdeal) (hReferenceGateIdeal := hReferenceGateIdeal)
    ∧ preserves_KernelIn_KernelInIdeal
    ∧ algebraic_KernelInIdeal_ReferenceInIdeal (hKernelInIdeal := hKernelInIdeal) (hReferenceInIdeal := hReferenceInIdeal)
    ∧ preserves_KernelSwiglu_KernelSwigluIdeal
    ∧ algebraic_KernelSwigluIdeal_ReferenceSwigluIdeal (hKernelSwigluIdeal := hKernelSwigluIdeal) (hReferenceSwigluIdeal := hReferenceSwigluIdeal)
    ∧ preserves_KernelOut_KernelOutIdeal
    ∧ algebraic_KernelOutIdeal_ReferenceOutIdeal (hKernelOutIdeal := hKernelOutIdeal) (hReferenceOutIdeal := hReferenceOutIdeal)
    ∧ preserves_KernelDh_KernelDhIdeal
    ∧ algebraic_KernelDhIdeal_ReferenceDhIdeal (hKernelDhIdeal := hKernelDhIdeal) (hReferenceDhIdeal := hReferenceDhIdeal)
    ∧ preserves_KernelDff_KernelDffIdeal
    ∧ algebraic_KernelDffIdeal_ReferenceDffIdeal (hKernelDffIdeal := hKernelDffIdeal) (hReferenceDffIdeal := hReferenceDffIdeal)
    ∧ preserves_KernelSquare_KernelSquareIdeal
    ∧ algebraic_KernelSquareIdeal_ReferenceSquareIdeal (hKernelSquareIdeal := hKernelSquareIdeal) (hReferenceSquareIdeal := hReferenceSquareIdeal)
    ∧ preserves_KernelWeight_KernelWeightIdeal
    ∧ algebraic_KernelWeightIdeal_ReferenceWeightIdeal (hKernelWeightIdeal := hKernelWeightIdeal) (hReferenceWeightIdeal := hReferenceWeightIdeal)
    ∧ preserves_KernelResidual_KernelResidualIdeal
    ∧ algebraic_KernelResidualIdeal_ReferenceResidualIdeal (hKernelResidualIdeal := hKernelResidualIdeal) (hReferenceResidualIdeal := hReferenceResidualIdeal)
    ∧ preserves_KernelBranches_KernelBranchesIdeal
    ∧ algebraic_KernelBranchesIdeal_ReferenceBranchesIdeal (hKernelBranchesIdeal := hKernelBranchesIdeal) (hReferenceBranchesIdeal := hReferenceBranchesIdeal)
    ∧ preserves_KernelPle_KernelPleIdeal
    ∧ algebraic_KernelPleIdeal_ReferencePleIdeal (hKernelPleIdeal := hKernelPleIdeal) (hReferencePleIdeal := hReferencePleIdeal)
    ∧ preserves_KernelDattn_KernelDattnIdeal
    ∧ algebraic_KernelDattnIdeal_ReferenceDattnIdeal (hKernelDattnIdeal := hKernelDattnIdeal) (hReferenceDattnIdeal := hReferenceDattnIdeal)
    ∧ preserves_KernelDsg_KernelDsgIdeal
    ∧ algebraic_KernelDsgIdeal_ReferenceDsgIdeal (hKernelDsgIdeal := hKernelDsgIdeal) (hReferenceDsgIdeal := hReferenceDsgIdeal)
    ∧ preserves_KernelWattn_KernelWattnIdeal
    ∧ algebraic_KernelWattnIdeal_ReferenceWattnIdeal (hKernelWattnIdeal := hKernelWattnIdeal) (hReferenceWattnIdeal := hReferenceWattnIdeal)
    ∧ preserves_KernelWsg_KernelWsgIdeal
    ∧ algebraic_KernelWsgIdeal_ReferenceWsgIdeal (hKernelWsgIdeal := hKernelWsgIdeal) (hReferenceWsgIdeal := hReferenceWsgIdeal)
    ∧ preserves_KernelWple_KernelWpleIdeal
    ∧ algebraic_KernelWpleIdeal_ReferenceWpleIdeal (hKernelWpleIdeal := hKernelWpleIdeal) (hReferenceWpleIdeal := hReferenceWpleIdeal)
    ∧ preserves_KernelPlegate_KernelPlegateIdeal
    ∧ algebraic_KernelPlegateIdeal_ReferencePlegateIdeal (hKernelPlegateIdeal := hKernelPlegateIdeal) (hReferencePlegateIdeal := hReferencePlegateIdeal)
-- ==== Pre_finite.lean ====
abbrev S4096x3x4x128 : Shape := ⟨4, ![4096, 3, 4, 128]⟩
abbrev S4096x4x128 : Shape := ⟨3, ![4096, 4, 128]⟩
abbrev S_ : Shape := ⟨0, ![]⟩

class Facts : Prop where
  bcast_S_S4096x3x4x128 : S_.BroadcastsInDim S4096x3x4x128 (![] : Fin 0 → Fin S4096x3x4x128.rank)
  bcast_S_S4096x4x128 : S_.BroadcastsInDim S4096x4x128 (![] : Fin 0 → Fin S4096x4x128.rank)

variable [Facts]

def fn {F : FTy → Type} [FloatOps F] (main_arg0 : FVec F S4096x3x4x128 .f32) (main_arg1 : FVec F S4096x3x4x128 .f32) (main_arg2 : FVec F S4096x3x4x128 .f32) (main_arg3 : FVec F S4096x4x128 .f32) : IVec S4096x3x4x128 1 × IVec S4096x3x4x128 1 × IVec S4096x3x4x128 1 × IVec S4096x4x128 1 :=
  let main_v0 : FVec F S4096x3x4x128 .f32 := Host.absf main_arg0
  let main_cst : FVec F S_ .f32 := constant S_ .f32 0x7F800000#32
  let main_v1 : FVec F S4096x3x4x128 .f32 := broadcastInDim S4096x3x4x128 ![] bcast_S_S4096x3x4x128 main_cst
  let main_v2 : IVec S4096x3x4x128 1 := cmpf .olt main_v0 main_v1
  let main_v3 : FVec F S4096x3x4x128 .f32 := Host.absf main_arg1
  let main_cst_0 : FVec F S_ .f32 := constant S_ .f32 0x7F800000#32
  let main_v4 : FVec F S4096x3x4x128 .f32 := broadcastInDim S4096x3x4x128 ![] bcast_S_S4096x3x4x128 main_cst_0
  let main_v5 : IVec S4096x3x4x128 1 := cmpf .olt main_v3 main_v4
  let main_v6 : FVec F S4096x3x4x128 .f32 := Host.absf main_arg2
  let main_cst_1 : FVec F S_ .f32 := constant S_ .f32 0x7F800000#32
  let main_v7 : FVec F S4096x3x4x128 .f32 := broadcastInDim S4096x3x4x128 ![] bcast_S_S4096x3x4x128 main_cst_1
  let main_v8 : IVec S4096x3x4x128 1 := cmpf .olt main_v6 main_v7
  let main_v9 : FVec F S4096x4x128 .f32 := Host.absf main_arg3
  let main_cst_2 : FVec F S_ .f32 := constant S_ .f32 0x7F800000#32
  let main_v10 : FVec F S4096x4x128 .f32 := broadcastInDim S4096x4x128 ![] bcast_S_S4096x4x128 main_cst_2
  let main_v11 : IVec S4096x4x128 1 := cmpf .olt main_v9 main_v10
  (main_v2, main_v5, main_v8, main_v11)
-- ==== Pre_finite_act.lean ====
abbrev S4096x2048 : Shape := ⟨2, ![4096, 2048]⟩
abbrev S4096x5632 : Shape := ⟨2, ![4096, 5632]⟩
abbrev S5632x2048 : Shape := ⟨2, ![5632, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S4096x5632 : S_.BroadcastsInDim S4096x5632 (![] : Fin 0 → Fin S4096x5632.rank)
  bcast_S_S5632x2048 : S_.BroadcastsInDim S5632x2048 (![] : Fin 0 → Fin S5632x2048.rank)

variable [Facts]

def fn {F : FTy → Type} [FloatOps F] (main_arg0 : FVec F S4096x2048 .bf16) (main_arg1 : FVec F S4096x5632 .bf16) (main_arg2 : FVec F S4096x5632 .bf16) (main_arg3 : FVec F S5632x2048 .bf16) : IVec S4096x2048 1 × IVec S4096x5632 1 × IVec S4096x5632 1 × IVec S5632x2048 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S4096x5632 .f32 := (extf .f32 · bitsLt_bf16_f32) main_arg1
  let main_v5 : FVec F S4096x5632 .f32 := Host.absf main_v4
  let main_cst_0 : FVec F S_ .f32 := constant S_ .f32 0x7F800000#32
  let main_v6 : FVec F S4096x5632 .f32 := broadcastInDim S4096x5632 ![] bcast_S_S4096x5632 main_cst_0
  let main_v7 : IVec S4096x5632 1 := cmpf .olt main_v5 main_v6
  let main_v8 : FVec F S4096x5632 .f32 := (extf .f32 · bitsLt_bf16_f32) main_arg2
  let main_v9 : FVec F S4096x5632 .f32 := Host.absf main_v8
  let main_cst_1 : FVec F S_ .f32 := constant S_ .f32 0x7F800000#32
  let main_v10 : FVec F S4096x5632 .f32 := broadcastInDim S4096x5632 ![] bcast_S_S4096x5632 main_cst_1
  let main_v11 : IVec S4096x5632 1 := cmpf .olt main_v9 main_v10
  let main_v12 : FVec F S5632x2048 .f32 := (extf .f32 · bitsLt_bf16_f32) main_arg3
  let main_v13 : FVec F S5632x2048 .f32 := Host.absf main_v12
  let main_cst_2 : FVec F S_ .f32 := constant S_ .f32 0x7F800000#32
  let main_v14 : FVec F S5632x2048 .f32 := broadcastInDim S5632x2048 ![] bcast_S_S5632x2048 main_cst_2
  let main_v15 : IVec S5632x2048 1 := cmpf .olt main_v13 main_v14
  (main_v3, main_v7, main_v11, main_v15)
-- ==== Kernel.lean ====
abbrev S4096x3x4x128 : Shape := ⟨4, ![4096, 3, 4, 128]⟩
abbrev S4096x4x128 : Shape := ⟨3, ![4096, 4, 128]⟩
abbrev S3 : Shape := ⟨1, ![3]⟩
abbrev S3x1x1 : Shape := ⟨3, ![3, 1, 1]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S3x4096x4096 : Shape := ⟨3, ![3, 4096, 4096]⟩
abbrev S_ : Shape := ⟨0, ![]⟩
abbrev S3x4x4096x4096 : Shape := ⟨4, ![3, 4, 4096, 4096]⟩
abbrev S3x1x4096x4096 : Shape := ⟨4, ![3, 1, 4096, 4096]⟩
abbrev S3x4x4096 : Shape := ⟨3, ![3, 4, 4096]⟩
abbrev S3x4x4096x1 : Shape := ⟨4, ![3, 4, 4096, 1]⟩
abbrev S1x4x4096 : Shape := ⟨3, ![1, 4, 4096]⟩
abbrev S4x4096 : Shape := ⟨2, ![4, 4096]⟩
abbrev S4x128x4096 : Shape := ⟨3, ![4, 128, 4096]⟩
abbrev S4096x1536 : Shape := ⟨2, ![4096, 1536]⟩
abbrev S4096x4608 : Shape := ⟨2, ![4096, 4608]⟩
abbrev S4096x512 : Shape := ⟨2, ![4096, 512]⟩
abbrev S4x4096x1 : Shape := ⟨3, ![4, 4096, 1]⟩
abbrev S256x128 : Shape := ⟨2, ![256, 128]⟩
abbrev S4096x128 : Shape := ⟨2, ![4096, 128]⟩
abbrev S1x256x1 : Shape := ⟨3, ![1, 256, 1]⟩
abbrev S6144x128 : Shape := ⟨2, ![6144, 128]⟩
abbrev S256x2304 : Shape := ⟨2, ![256, 2304]⟩
abbrev S256 : Shape := ⟨1, ![256]⟩
abbrev S256x1 : Shape := ⟨2, ![256, 1]⟩
abbrev S64x128 : Shape := ⟨2, ![64, 128]⟩
abbrev S256x384 : Shape := ⟨2, ![256, 384]⟩
abbrev S384x128 : Shape := ⟨2, ![384, 128]⟩
abbrev S1x384 : Shape := ⟨2, ![1, 384]⟩
abbrev S256x768 : Shape := ⟨2, ![256, 768]⟩
abbrev S768x128 : Shape := ⟨2, ![768, 128]⟩
abbrev S1x768 : Shape := ⟨2, ![1, 768]⟩
abbrev S1024x128 : Shape := ⟨2, ![1024, 128]⟩
abbrev S2304x128 : Shape := ⟨2, ![2304, 128]⟩
abbrev S1x2304 : Shape := ⟨2, ![1, 2304]⟩

abbrev nBuf : Space → Nat
  | .hbm => 98
  | .vmem => 23
  | .smem => 0
  | _ => 0

abbrev bufTy : (tb : Table) → Fin (tcTables nBuf tb) → BufTy
  | .hbm, ⟨0, _⟩ => ⟨S4096x3x4x128, .f32⟩
  | .hbm, ⟨1, _⟩ => ⟨S4096x3x4x128, .f32⟩
  | .hbm, ⟨2, _⟩ => ⟨S4096x3x4x128, .f32⟩
  | .hbm, ⟨3, _⟩ => ⟨S4096x4x128, .f32⟩
  | .hbm, ⟨4, _⟩ => ⟨S3, .i32⟩
  | .hbm, ⟨5, _⟩ => ⟨S3, .i32⟩
  | .hbm, ⟨6, _⟩ => ⟨S3x1x1, .i32⟩
  | .hbm, ⟨7, _⟩ => ⟨S3x1x1, .i32⟩
  | .hbm, ⟨8, _⟩ => ⟨S4096, .i32⟩
  | .hbm, ⟨9, _⟩ => ⟨S1x1x4096, .i32⟩
  | .hbm, ⟨10, _⟩ => ⟨S1x4096x1, .i32⟩
  | .hbm, ⟨11, _⟩ => ⟨S1x4096x4096, .i32⟩
  | .hbm, ⟨12, _⟩ => ⟨S1x4096x4096, .i32⟩
  | .hbm, ⟨13, _⟩ => ⟨S1x4096x4096, .i32⟩
  | .hbm, ⟨14, _⟩ => ⟨S1x4096x4096, .i32⟩
  | .hbm, ⟨15, _⟩ => ⟨S3x4096x4096, .i32⟩
  | .hbm, ⟨16, _⟩ => ⟨S3x4096x4096, .i32⟩
  | .hbm, ⟨17, _⟩ => ⟨S3x4096x4096, .i1⟩
  | .hbm, ⟨18, _⟩ => ⟨S3x4096x4096, .i32⟩
  | .hbm, ⟨19, _⟩ => ⟨S3x4096x4096, .i32⟩
  | .hbm, ⟨20, _⟩ => ⟨S3x4096x4096, .i32⟩
  | .hbm, ⟨21, _⟩ => ⟨S_, .i32⟩
  | .hbm, ⟨22, _⟩ => ⟨S3x4096x4096, .i32⟩
  | .hbm, ⟨23, _⟩ => ⟨S3x4096x4096, .i1⟩
  | .hbm, ⟨24, _⟩ => ⟨S3x4096x4096, .i1⟩
  | .hbm, ⟨25, _⟩ => ⟨S3x4x4096x4096, .f32⟩
  | .hbm, ⟨26, _⟩ => ⟨S_, .f32⟩
  | .hbm, ⟨27, _⟩ => ⟨S3x4x4096x4096, .f32⟩
  | .hbm, ⟨28, _⟩ => ⟨S3x4x4096x4096, .f32⟩
  | .hbm, ⟨29, _⟩ => ⟨S3x1x4096x4096, .i1⟩
  | .hbm, ⟨30, _⟩ => ⟨S_, .f32⟩
  | .hbm, ⟨31, _⟩ => ⟨S_, .f32⟩
  | .hbm, ⟨32, _⟩ => ⟨S3x4x4096x4096, .i1⟩
  | .hbm, ⟨33, _⟩ => ⟨S3x4x4096x4096, .f32⟩
  | .hbm, ⟨34, _⟩ => ⟨S3x4x4096x4096, .f32⟩
  | .hbm, ⟨35, _⟩ => ⟨S_, .f32⟩
  | .hbm, ⟨36, _⟩ => ⟨S3x4x4096, .f32⟩
  | .hbm, ⟨37, _⟩ => ⟨S3x4x4096x1, .f32⟩
  | .hbm, ⟨38, _⟩ => ⟨S3x4x4096x4096, .f32⟩
  | .hbm, ⟨39, _⟩ => ⟨S3x4x4096x4096, .f32⟩
  | .hbm, ⟨40, _⟩ => ⟨S3x4x4096x4096, .f32⟩
  | .hbm, ⟨41, _⟩ => ⟨S_, .f32⟩
  | .hbm, ⟨42, _⟩ => ⟨S3x4x4096, .f32⟩
  | .hbm, ⟨43, _⟩ => ⟨S3x4x4096x1, .f32⟩
  | .hbm, ⟨44, _⟩ => ⟨S3x4x4096x1, .f32⟩
  | .hbm, ⟨45, _⟩ => ⟨S3x4x4096x1, .f32⟩
  | .hbm, ⟨46, _⟩ => ⟨S3x4x4096, .f32⟩
  | .hbm, ⟨47, _⟩ => ⟨S3x4x4096x4096, .f32⟩
  | .hbm, ⟨48, _⟩ => ⟨S3x4x4096x4096, .f32⟩
  | .hbm, ⟨49, _⟩ => ⟨S1x4x4096, .f32⟩
  | .hbm, ⟨50, _⟩ => ⟨S4x4096, .f32⟩
  | .hbm, ⟨51, _⟩ => ⟨S1x4x4096, .f32⟩
  | .hbm, ⟨52, _⟩ => ⟨S4x4096, .f32⟩
  | .hbm, ⟨53, _⟩ => ⟨S4x4096, .f32⟩
  | .hbm, ⟨54, _⟩ => ⟨S1x4x4096, .f32⟩
  | .hbm, ⟨55, _⟩ => ⟨S4x4096, .f32⟩
  | .hbm, ⟨56, _⟩ => ⟨S4x4096, .f32⟩
  | .hbm, ⟨57, _⟩ => ⟨S1x4x4096, .f32⟩
  | .hbm, ⟨58, _⟩ => ⟨S4x4096, .f32⟩
  | .hbm, ⟨59, _⟩ => ⟨S4x4096, .f32⟩
  | .hbm, ⟨60, _⟩ => ⟨S4x4096, .f32⟩
  | .hbm, ⟨61, _⟩ => ⟨S1x4x4096, .f32⟩
  | .hbm, ⟨62, _⟩ => ⟨S4x4096, .f32⟩
  | .hbm, ⟨63, _⟩ => ⟨S4x4096, .f32⟩
  | .hbm, ⟨64, _⟩ => ⟨S4x4096, .f32⟩
  | .hbm, ⟨65, _⟩ => ⟨S4x4096, .f32⟩
  | .hbm, ⟨66, _⟩ => ⟨S1x4x4096, .f32⟩
  | .hbm, ⟨67, _⟩ => ⟨S4x4096, .f32⟩
  | .hbm, ⟨68, _⟩ => ⟨S4x4096, .f32⟩
  | .hbm, ⟨69, _⟩ => ⟨S4x4096, .f32⟩
  | .hbm, ⟨70, _⟩ => ⟨S4x4096, .f32⟩
  | .hbm, ⟨71, _⟩ => ⟨S4x4096, .f32⟩
  | .hbm, ⟨72, _⟩ => ⟨S4x4096, .f32⟩
  | .hbm, ⟨73, _⟩ => ⟨S1x4x4096, .f32⟩
  | .hbm, ⟨74, _⟩ => ⟨S3x4x4096, .f32⟩
  | .hbm, ⟨75, _⟩ => ⟨S3x4x4096, .f32⟩
  | .hbm, ⟨76, _⟩ => ⟨S3x4x4096, .f32⟩
  | .hbm, ⟨77, _⟩ => ⟨S3x4x4096x1, .f32⟩
  | .hbm, ⟨78, _⟩ => ⟨S3x4x4096x4096, .f32⟩
  | .hbm, ⟨79, _⟩ => ⟨S3x4x4096x4096, .f32⟩
  | .hbm, ⟨80, _⟩ => ⟨S4x128x4096, .f32⟩
  | .hbm, ⟨81, _⟩ => ⟨S4096x4x128, .f32⟩
  | .hbm, ⟨82, _⟩ => ⟨S4096x1536, .f32⟩
  | .hbm, ⟨83, _⟩ => ⟨S_, .f32⟩
  | .hbm, ⟨84, _⟩ => ⟨S4096x1536, .f32⟩
  | .hbm, ⟨85, _⟩ => ⟨S4096x1536, .f32⟩
  | .hbm, ⟨86, _⟩ => ⟨S4096x1536, .f32⟩
  | .hbm, ⟨87, _⟩ => ⟨S4096x1536, .f32⟩
  | .hbm, ⟨88, _⟩ => ⟨S4096x4608, .f32⟩
  | .hbm, ⟨89, _⟩ => ⟨S4096x4608, .bf16⟩
  | .hbm, ⟨90, _⟩ => ⟨S4096x512, .f32⟩
  | .hbm, ⟨91, _⟩ => ⟨S4096x512, .bf16⟩
  | .hbm, ⟨92, _⟩ => ⟨S4096x512, .f32⟩
  | .hbm, ⟨93, _⟩ => ⟨S4096x512, .bf16⟩
  | .hbm, ⟨94, _⟩ => ⟨S4x4096x1, .f32⟩
  | .hbm, ⟨95, _⟩ => ⟨S4096x1536, .bf16⟩
  | .hbm, ⟨96, _⟩ => ⟨S4096x1536, .bf16⟩
  | .hbm, ⟨97, _⟩ => ⟨S4096x1536, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S1x256x1, .f32⟩
  | .local _ .vmem, ⟨11, _⟩ => ⟨S1x256x1, .f32⟩
  | .local _ .vmem, ⟨12, _⟩ => ⟨S256x128, .bf16⟩
  | .local _ .vmem, ⟨13, _⟩ => ⟨S256x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S6144x128, .bf16⟩
  | .local _ .vmem, ⟨19, _⟩ => ⟨S6144x128, .bf16⟩
  | .local _ .vmem, ⟨20, _⟩ => ⟨S6144x128, .f32⟩
  | .local _ .vmem, ⟨21, _⟩ => ⟨S6144x128, .f32⟩
  | .local _ .vmem, ⟨22, _⟩ => ⟨S256x2304, .f32⟩
  | _, _ => ⟨S4096x3x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_5 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80_0 : Ref sig .tc := ⟨.hbm, 95, rfl⟩
abbrev main_v80_1 : Ref sig .tc := ⟨.hbm, 96, rfl⟩
abbrev main_v80_2 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 3, 16], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  v0
def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_8 : BitVec 32 := 0#32
  let v17 : BitVec 1 := Scalar.cmpi .ne v16 c0_i32_8
  v17

def k0_off1 (i : grid0.Coords) : Fin 2 → Nat :=
  let arg2 : BitVec 32 := BitVec.ofNat 32 (i 2).val
  let c256_i32 : BitVec 32 := 256#32
  let v0 : BitVec 32 := Scalar.muli arg2 c256_i32
  let v1 : BitVec 32 := v0
  let v27 : Index := Scalar.indexCast v1
  let c0_13 : Index := 0#32
  ![v27.toNat, 0]
def k0_cond4 (i : grid0.Coords) : BitVec 1 :=
  let arg1 : BitVec 32 := BitVec.ofNat 32 (i 1).val
  let c1_i32 : BitVec 32 := 1#32
  let v18 : BitVec 1 := Scalar.cmpi .eq arg1 c1_i32
  let v19 : BitVec 32 := Scalar.extui v18
  let c0_i32_9 : BitVec 32 := 0#32
  let v20 : BitVec 1 := Scalar.cmpi .ne v19 c0_i32_9
  v20

def k0_off2 (i : grid0.Coords) : Fin 2 → Nat :=
  let arg2 : BitVec 32 := BitVec.ofNat 32 (i 2).val
  let c256_i32 : BitVec 32 := 256#32
  let v0 : BitVec 32 := Scalar.muli arg2 c256_i32
  let v1 : BitVec 32 := v0
  let v27 : Index := Scalar.indexCast v1
  let c0_13 : Index := 0#32
  ![v27.toNat, 0]
def k0_cond7 (i : grid0.Coords) : BitVec 1 :=
  let arg1 : BitVec 32 := BitVec.ofNat 32 (i 1).val
  let c2_i32 : BitVec 32 := 2#32
  let v21 : BitVec 1 := Scalar.cmpi .eq arg1 c2_i32
  let v22 : BitVec 32 := Scalar.extui v21
  let c0_i32_10 : BitVec 32 := 0#32
  let v23 : BitVec 1 := Scalar.cmpi .ne v22 c0_i32_10
  v23

def k0_off3 (i : grid0.Coords) : Fin 2 → Nat :=
  let arg2 : BitVec 32 := BitVec.ofNat 32 (i 2).val
  let c256_i32 : BitVec 32 := 256#32
  let v0 : BitVec 32 := Scalar.muli arg2 c256_i32
  let v1 : BitVec 32 := v0
  let v27 : Index := Scalar.indexCast v1
  let c0_13 : Index := 0#32
  ![v27.toNat, 0]
def k0_cond3 (i : grid0.Coords) : BitVec 1 :=
  let arg2 : BitVec 32 := BitVec.ofNat 32 (i 2).val
  let c15_i32 : BitVec 32 := 15#32
  let v78 : BitVec 1 := Scalar.cmpi .eq arg2 c15_i32
  let v79 : BitVec 32 := Scalar.extui v78
  let c0_i32_32 : BitVec 32 := 0#32
  let v80 : BitVec 1 := Scalar.cmpi .ne v79 c0_i32_32
  v80

def k0_cond6 (i : grid0.Coords) : BitVec 1 :=
  let arg2 : BitVec 32 := BitVec.ofNat 32 (i 2).val
  let c15_i32 : BitVec 32 := 15#32
  let v78 : BitVec 1 := Scalar.cmpi .eq arg2 c15_i32
  let v79 : BitVec 32 := Scalar.extui v78
  let c0_i32_33 : BitVec 32 := 0#32
  let v80 : BitVec 1 := Scalar.cmpi .ne v79 c0_i32_33
  v80

def k0_cond9 (i : grid0.Coords) : BitVec 1 :=
  let arg2 : BitVec 32 := BitVec.ofNat 32 (i 2).val
  let c15_i32 : BitVec 32 := 15#32
  let v78 : BitVec 1 := Scalar.cmpi .eq arg2 c15_i32
  let v79 : BitVec 32 := Scalar.extui v78
  let c0_i32_32 : BitVec 32 := 0#32
  let v80 : BitVec 1 := Scalar.cmpi .ne v79 c0_i32_32
  v80

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c0_i32 : BitVec 32 := 0#32
  let v1 : BitVec 32 := Scalar.addi c0_i32 v0
  let v2 : BitVec 32 := Scalar.addi v1 arg0
  let c0_i32_0 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c12_i32 : BitVec 32 := 12#32
  let v1 : BitVec 32 := Scalar.addi c12_i32 v0
  let v2 : BitVec 32 := Scalar.addi v1 arg0
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c24_i32 : BitVec 32 := 24#32
  let v1 : BitVec 32 := Scalar.addi c24_i32 v0
  let v2 : BitVec 32 := Scalar.addi v1 arg0
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c0_i32 : BitVec 32 := 0#32
  let v1 : BitVec 32 := Scalar.addi c0_i32 v0
  let v2 : BitVec 32 := Scalar.addi v1 arg0
  let c0_i32_0 : BitVec 32 := 0#32
  ![arg2.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c0_i32 : BitVec 32 := 0#32
  let v1 : BitVec 32 := Scalar.addi c0_i32 v0
  let v2 : BitVec 32 := Scalar.addi v1 arg0
  let c0_i32_0 : BitVec 32 := 0#32
  let c0_i32_1 : BitVec 32 := 0#32
  ![c0_i32_0.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c0_i32 : BitVec 32 := 0#32
  let v1 : BitVec 32 := Scalar.addi c0_i32 v0
  let v2 : BitVec 32 := Scalar.addi v1 arg0
  let c0_i32_0 : BitVec 32 := 0#32
  let c0_i32_1 : BitVec 32 := 0#32
  ![c0_i32_0.toNat, v2.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S4096x3x4x128 : Shape := ⟨4, ![4096, 3, 4, 128]⟩
abbrev S4096x4x128 : Shape := ⟨3, ![4096, 4, 128]⟩
abbrev S3 : Shape := ⟨1, ![3]⟩
abbrev S3x1x1 : Shape := ⟨3, ![3, 1, 1]⟩
abbrev S4096 : Shape := ⟨1, ![4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S3x4096x4096 : Shape := ⟨3, ![3, 4096, 4096]⟩
abbrev S_ : Shape := ⟨0, ![]⟩
abbrev S3x4x4096x4096 : Shape := ⟨4, ![3, 4, 4096, 4096]⟩
abbrev S3x1x4096x4096 : Shape := ⟨4, ![3, 1, 4096, 4096]⟩
abbrev S3x4x4096 : Shape := ⟨3, ![3, 4, 4096]⟩
abbrev S3x4x4096x1 : Shape := ⟨4, ![3, 4, 4096, 1]⟩
abbrev S3x4x4096x128 : Shape := ⟨4, ![3, 4, 4096, 128]⟩
abbrev S4x4096 : Shape := ⟨2, ![4, 4096]⟩
abbrev S1x4x4096 : Shape := ⟨3, ![1, 4, 4096]⟩
abbrev S4x4096x128 : Shape := ⟨3, ![4, 4096, 128]⟩
abbrev S3x4x128x4096 : Shape := ⟨4, ![3, 4, 128, 4096]⟩
abbrev S4096x1536 : Shape := ⟨2, ![4096, 1536]⟩

abbrev nBuf : Space → Nat
  | .hbm => 177
  | .vmem => 0
  | .smem => 0
  | _ => 0

abbrev hbmTy0_0 (i : Nat) : BufTy := match i % 128 with
  | 0 => ⟨S4096x3x4x128, .f32⟩
  | 1 => ⟨S4096x3x4x128, .f32⟩
  | 2 => ⟨S4096x3x4x128, .f32⟩
  | 3 => ⟨S4096x4x128, .f32⟩
  | 4 => ⟨S3, .i32⟩
  | 5 => ⟨S3, .i32⟩
  | 6 => ⟨S3x1x1, .i32⟩
  | 7 => ⟨S3x1x1, .i32⟩
  | 8 => ⟨S4096, .i32⟩
  | 9 => ⟨S1x1x4096, .i32⟩
  | 10 => ⟨S1x4096x1, .i32⟩
  | 11 => ⟨S1x4096x4096, .i32⟩
  | 12 => ⟨S1x4096x4096, .i32⟩
  | 13 => ⟨S1x4096x4096, .i32⟩
  | 14 => ⟨S1x4096x4096, .i32⟩
  | 15 => ⟨S3x4096x4096, .i32⟩
  | 16 => ⟨S3x4096x4096, .i32⟩
  | 17 => ⟨S3x4096x4096, .i1⟩
  | 18 => ⟨S3x4096x4096, .i32⟩
  | 19 => ⟨S3x4096x4096, .i32⟩
  | 20 => ⟨S3x4096x4096, .i32⟩
  | 21 => ⟨S_, .i32⟩
  | 22 => ⟨S3x4096x4096, .i32⟩
  | 23 => ⟨S3x4096x4096, .i1⟩
  | 24 => ⟨S3x4096x4096, .i1⟩
  | 25 => ⟨S3x4x4096x4096, .f32⟩
  | 26 => ⟨S_, .f32⟩
  | 27 => ⟨S3x4x4096x4096, .f32⟩
  | 28 => ⟨S3x4x4096x4096, .f32⟩
  | 29 => ⟨S3x1x4096x4096, .i1⟩
  | 30 => ⟨S_, .f32⟩
  | 31 => ⟨S_, .f32⟩
  | 32 => ⟨S3x4x4096x4096, .i1⟩
  | 33 => ⟨S3x4x4096x4096, .f32⟩
  | 34 => ⟨S3x4x4096x4096, .f32⟩
  | 35 => ⟨S_, .f32⟩
  | 36 => ⟨S3x4x4096x4096, .f32⟩
  | 37 => ⟨S_, .f32⟩
  | 38 => ⟨S3x4x4096, .f32⟩
  | 39 => ⟨S3x4x4096x1, .f32⟩
  | 40 => ⟨S3x4x4096x4096, .f32⟩
  | 41 => ⟨S3x4x4096x4096, .i1⟩
  | 42 => ⟨S3x4x4096x4096, .f32⟩
  | 43 => ⟨S_, .f32⟩
  | 44 => ⟨S3x4x4096, .f32⟩
  | 45 => ⟨S3x4x4096x1, .f32⟩
  | 46 => ⟨S3x4x4096x4096, .f32⟩
  | 47 => ⟨S3x4x4096x4096, .f32⟩
  | 48 => ⟨S3x4x4096x4096, .f32⟩
  | 49 => ⟨S_, .f32⟩
  | 50 => ⟨S3x4x4096, .f32⟩
  | 51 => ⟨S3x4x4096x1, .f32⟩
  | 52 => ⟨S3x4x4096x1, .f32⟩
  | 53 => ⟨S3x4x4096x1, .f32⟩
  | 54 => ⟨S3x4x4096, .f32⟩
  | 55 => ⟨S3x4x4096x4096, .f32⟩
  | 56 => ⟨S3x4x4096x4096, .f32⟩
  | 57 => ⟨S3x4x4096x1, .f32⟩
  | 58 => ⟨S_, .f32⟩
  | 59 => ⟨S3x4x4096x1, .f32⟩
  | 60 => ⟨S3x4x4096x1, .f32⟩
  | 61 => ⟨S3x4x4096x128, .f32⟩
  | 62 => ⟨S_, .f32⟩
  | 63 => ⟨S4x4096, .f32⟩
  | 64 => ⟨S1x4x4096, .f32⟩
  | 65 => ⟨S3x4x4096, .f32⟩
  | 66 => ⟨S3x4x4096, .i1⟩
  | 67 => ⟨S3x4x4096, .f32⟩
  | 68 => ⟨S_, .f32⟩
  | 69 => ⟨S4x4096, .f32⟩
  | 70 => ⟨S_, .f32⟩
  | 71 => ⟨S4x4096, .f32⟩
  | 72 => ⟨S4x4096, .f32⟩
  | 73 => ⟨S_, .f32⟩
  | 74 => ⟨S4x4096, .f32⟩
  | 75 => ⟨S4x4096, .i1⟩
  | 76 => ⟨S_, .f32⟩
  | 77 => ⟨S4x4096, .f32⟩
  | 78 => ⟨S4x4096, .i1⟩
  | 79 => ⟨S_, .f32⟩
  | 80 => ⟨S4x4096, .f32⟩
  | 81 => ⟨S_, .f32⟩
  | 82 => ⟨S4x4096, .f32⟩
  | 83 => ⟨S_, .f32⟩
  | 84 => ⟨S4x4096, .f32⟩
  | 85 => ⟨S4x4096, .f32⟩
  | 86 => ⟨S4x4096, .f32⟩
  | 87 => ⟨S1x4x4096, .f32⟩
  | 88 => ⟨S3x4x4096, .f32⟩
  | 89 => ⟨S3x4x4096, .f32⟩
  | 90 => ⟨S3x4x4096, .f32⟩
  | 91 => ⟨S_, .f32⟩
  | 92 => ⟨S4x4096, .f32⟩
  | 93 => ⟨S1x4x4096, .f32⟩
  | 94 => ⟨S3x4x4096, .f32⟩
  | 95 => ⟨S3x4x4096, .f32⟩
  | 96 => ⟨S1x4x4096, .f32⟩
  | 97 => ⟨S_, .f32⟩
  | 98 => ⟨S1x4x4096, .f32⟩
  | 99 => ⟨S1x4x4096, .f32⟩
  | 100 => ⟨S3x4x4096x1, .f32⟩
  | 101 => ⟨S3x4x4096x128, .f32⟩
  | 102 => ⟨S3x4x4096x128, .f32⟩
  | 103 => ⟨S_, .f32⟩
  | 104 => ⟨S4x4096x128, .f32⟩
  | 105 => ⟨S4096x4x128, .f32⟩
  | 106 => ⟨S4x4096x128, .f32⟩
  | 107 => ⟨S3x4x4096x128, .f32⟩
  | 108 => ⟨S3x4x4096x128, .f32⟩
  | 109 => ⟨S3x4x4096x128, .f32⟩
  | 110 => ⟨S3x4x4096x128, .f32⟩
  | 111 => ⟨S_, .f32⟩
  | 112 => ⟨S3x4x4096, .f32⟩
  | 113 => ⟨S3x4x4096x1, .f32⟩
  | 114 => ⟨S_, .f32⟩
  | 115 => ⟨S3x4x4096, .f32⟩
  | 116 => ⟨S3x4x4096, .f32⟩
  | 117 => ⟨S3x4x4096, .f32⟩
  | 118 => ⟨S3x4x4096, .f32⟩
  | 119 => ⟨S_, .f32⟩
  | 120 => ⟨S4x4096, .f32⟩
  | 121 => ⟨S1x4x4096, .f32⟩
  | 122 => ⟨S1x4x4096, .f32⟩
  | 123 => ⟨S3x4x4096, .f32⟩
  | 124 => ⟨S3x4x4096, .f32⟩
  | 125 => ⟨S_, .f32⟩
  | 126 => ⟨S4x4096, .f32⟩
  | 127 => ⟨S3x4x4096, .f32⟩
  | _ => ⟨S4096x3x4x128, .f32⟩

abbrev hbmTy0_1 (i : Nat) : BufTy := match i % 128 with
  | 0 => ⟨S3x4x4096, .f32⟩
  | 1 => ⟨S3x4x4096, .f32⟩
  | 2 => ⟨S3x4x128x4096, .f32⟩
  | 3 => ⟨S4096x3x4x128, .f32⟩
  | 4 => ⟨S3x4x4096x4096, .f32⟩
  | 5 => ⟨S3x4x4096x4096, .f32⟩
  | 6 => ⟨S3x4x4096x4096, .f32⟩
  | 7 => ⟨S3x4x4096x4096, .f32⟩
  | 8 => ⟨S_, .f32⟩
  | 9 => ⟨S3x4x4096, .f32⟩
  | 10 => ⟨S3x4x4096x1, .f32⟩
  | 11 => ⟨S3x4x4096x1, .f32⟩
  | 12 => ⟨S3x4x4096x4096, .f32⟩
  | 13 => ⟨S3x4x4096x4096, .f32⟩
  | 14 => ⟨S3x4x4096x1, .f32⟩
  | 15 => ⟨S3x4x4096x1, .f32⟩
  | 16 => ⟨S3x4x4096x1, .f32⟩
  | 17 => ⟨S_, .f32⟩
  | 18 => ⟨S3x4x4096, .f32⟩
  | 19 => ⟨S3x4x4096x4096, .f32⟩
  | 20 => ⟨S3x4x4096x4096, .f32⟩
  | 21 => ⟨S3x4x4096x4096, .f32⟩
  | 22 => ⟨S3x4x4096x4096, .f32⟩
  | 23 => ⟨S_, .f32⟩
  | 24 => ⟨S3x4x4096, .f32⟩
  | 25 => ⟨S3x4x4096x1, .f32⟩
  | 26 => ⟨S3x4x4096x1, .f32⟩
  | 27 => ⟨S_, .f32⟩
  | 28 => ⟨S3x4x4096, .f32⟩
  | 29 => ⟨S3x4x4096, .f32⟩
  | 30 => ⟨S3x4x4096x4096, .f32⟩
  | 31 => ⟨S3x4x4096x4096, .f32⟩
  | 32 => ⟨S3x4x4096x4096, .f32⟩
  | 33 => ⟨S_, .f32⟩
  | 34 => ⟨S3x4x4096x4096, .f32⟩
  | 35 => ⟨S3x4x4096x4096, .f32⟩
  | 36 => ⟨S_, .f32⟩
  | 37 => ⟨S3x4x4096x4096, .f32⟩
  | 38 => ⟨S3x4x4096x4096, .f32⟩
  | 39 => ⟨S3x4x4096x128, .f32⟩
  | 40 => ⟨S4096x3x4x128, .f32⟩
  | 41 => ⟨S3x4x4096x128, .f32⟩
  | 42 => ⟨S4096x3x4x128, .f32⟩
  | 43 => ⟨S4096x1536, .f32⟩
  | 44 => ⟨S4096x1536, .bf16⟩
  | 45 => ⟨S4096x1536, .f32⟩
  | 46 => ⟨S4096x1536, .bf16⟩
  | 47 => ⟨S4096x1536, .f32⟩
  | 48 => ⟨S4096x1536, .bf16⟩
  | _ => ⟨S4096x3x4x128, .f32⟩

abbrev hbmTy (i : Nat) : BufTy := match i / 128 with
  | 0 => hbmTy0_0 i
  | 1 => hbmTy0_1 i
  | _ => ⟨S4096x3x4x128, .f32⟩

abbrev bufTy : (tb : Table) → Fin (tcTables nBuf tb) → BufTy
  | .hbm, ⟨i, _⟩ => hbmTy i
  | _, _ => ⟨S4096x3x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_call0_v0 : Ref sig .tc := ⟨.hbm, 31, rfl⟩
abbrev main_v22_1 : Ref sig .tc := ⟨.hbm, 32, rfl⟩
abbrev main_call0_v2 : Ref sig .tc := ⟨.hbm, 33, rfl⟩
abbrev main_v22_0 : Ref sig .tc := ⟨.hbm, 34, rfl⟩
abbrev main_call0_cst : Ref sig .tc := ⟨.hbm, 35, rfl⟩
abbrev main_v22_2 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_16 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_17 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_18 : Ref sig .tc := ⟨.hbm, 111, rfl⟩
abbrev main_v82 : Ref sig .tc := ⟨.hbm, 112, rfl⟩
abbrev main_v83 : Ref sig .tc := ⟨.hbm, 113, rfl⟩
abbrev main_cst_19 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_20 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_21 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_22 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_23 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_24 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_25 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_call1_cst : Ref sig .tc := ⟨.hbm, 161, rfl⟩
abbrev main_call1_v0 : Ref sig .tc := ⟨.hbm, 162, rfl⟩
abbrev main_v124 : Ref sig .tc := ⟨.hbm, 163, rfl⟩
abbrev main_cst_26 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩

abbrev nD : Nat := 1
abbrev τ : Topo := Topo.v7x

variable {F : FTy → Type} [FloatOps F]

def κ : String → Option EReal := fun
  | "mask" => some ⊥
  | _ => none
-- ==== KernelAct.lean ====
abbrev S4096x2048 : Shape := ⟨2, ![4096, 2048]⟩
abbrev S4096x5632 : Shape := ⟨2, ![4096, 5632]⟩
abbrev S5632x2048 : Shape := ⟨2, ![5632, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S5632x2048, .bf16⟩
  | .hbm, ⟨4, _⟩ => ⟨S4096x5632, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceActIdeal.lean ====
abbrev S4096x2048 : Shape := ⟨2, ![4096, 2048]⟩
abbrev S4096x5632 : Shape := ⟨2, ![4096, 5632]⟩
abbrev S5632x2048 : Shape := ⟨2, ![5632, 2048]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S5632x2048, .bf16⟩
  | .hbm, ⟨4, _⟩ => ⟨S5632x2048, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x2048, .f32⟩
  | .hbm, ⟨22, _⟩ => ⟨S4096x2048, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .bf16⟩
  | .hbm, ⟨31, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== KernelWin.lean ====
abbrev S4096x2048 : Shape := ⟨2, ![4096, 2048]⟩
abbrev S4096x10752 : Shape := ⟨2, ![4096, 10752]⟩
abbrev S2048x10752 : Shape := ⟨2, ![2048, 10752]⟩
abbrev S4096x1024 : Shape := ⟨2, ![4096, 1024]⟩
abbrev S4096x768 : Shape := ⟨2, ![4096, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x10752, .bf16⟩
  | .hbm, ⟨2, _⟩ => ⟨S2048x10752, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1024x768, .bf16⟩
  | .local _ .vmem, ⟨5, _⟩ => ⟨S1024x768, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWinIdeal.lean ====
abbrev S4096x2048 : Shape := ⟨2, ![4096, 2048]⟩
abbrev S4096x10752 : Shape := ⟨2, ![4096, 10752]⟩
abbrev S_ : Shape := ⟨0, ![]⟩
abbrev S2048x10752 : Shape := ⟨2, ![2048, 10752]⟩
abbrev S10752x2048 : Shape := ⟨2, ![10752, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x10752, .bf16⟩
  | .hbm, ⟨2, _⟩ => ⟨S_, .f32⟩
  | .hbm, ⟨3, _⟩ => ⟨S2048x10752, .f32⟩
  | .hbm, ⟨4, _⟩ => ⟨S4096x2048, .f32⟩
  | .hbm, ⟨5, _⟩ => ⟨S4096x10752, .f32⟩
  | .hbm, ⟨6, _⟩ => ⟨S4096x10752, .f32⟩
  | .hbm, ⟨7, _⟩ => ⟨S10752x2048, .f32⟩
  | .hbm, ⟨8, _⟩ => ⟨S2048x10752, .f32⟩
  | .hbm, ⟨9, _⟩ => ⟨S2048x10752, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDown.lean ====
abbrev S4096x5632 : Shape := ⟨2, ![4096, 5632]⟩
abbrev S4096x2048 : Shape := ⟨2, ![4096, 2048]⟩
abbrev S5632x2048 : Shape := ⟨2, ![5632, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelGate.lean ====
abbrev S4096x2048 : Shape := ⟨2, ![4096, 2048]⟩
abbrev S4096x5632 : Shape := ⟨2, ![4096, 5632]⟩
abbrev S2048x5632 : Shape := ⟨2, ![2048, 5632]⟩
abbrev S2048x2048 : Shape := ⟨2, ![2048, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S2048x5632, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGateIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelIn.lean ====
abbrev S4096x2048 : Shape := ⟨2, ![4096, 2048]⟩
abbrev S2048x10752 : Shape := ⟨2, ![2048, 10752]⟩
abbrev S4096x10752 : Shape := ⟨2, ![4096, 10752]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x10752, .bf16⟩
  | .hbm, ⟨2, _⟩ => ⟨S4096x10752, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S4096x2048 : Shape := ⟨2, ![4096, 2048]⟩
abbrev S2048x10752 : Shape := ⟨2, ![2048, 10752]⟩
abbrev S4096x10752 : Shape := ⟨2, ![4096, 10752]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x10752, .bf16⟩
  | .hbm, ⟨2, _⟩ => ⟨S4096x2048, .f32⟩
  | .hbm, ⟨3, _⟩ => ⟨S2048x10752, .f32⟩
  | .hbm, ⟨4, _⟩ => ⟨S4096x10752, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelSwiglu.lean ====
abbrev S4096x2048 : Shape := ⟨2, ![4096, 2048]⟩
abbrev S2048x5632 : Shape := ⟨2, ![2048, 5632]⟩
abbrev S4096x5632 : Shape := ⟨2, ![4096, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .bf16⟩
  | .local _ .vmem, ⟨5, _⟩ => ⟨S1024x2048, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceSwigluIdeal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S4096x2048, .f32⟩
  | .hbm, ⟨4, _⟩ => ⟨S2048x5632, .f32⟩
  | .hbm, ⟨5, _⟩ => ⟨S4096x5632, .f32⟩
  | .hbm, ⟨6, _⟩ => ⟨S4096x2048, .f32⟩
  | .hbm, ⟨7, _⟩ => ⟨S2048x5632, .f32⟩
  | .hbm, ⟨8, _⟩ => ⟨S4096x5632, .f32⟩
  | .hbm, ⟨9, _⟩ => ⟨S4096x5632, .bf16⟩
  | .hbm, ⟨10, _⟩ => ⟨S4096x5632, .bf16⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== KernelOut.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDh.lean ====
abbrev S4096x10752 : Shape := ⟨2, ![4096, 10752]⟩
abbrev S2048x10752 : Shape := ⟨2, ![2048, 10752]⟩
abbrev S4096x2048 : Shape := ⟨2, ![4096, 2048]⟩
abbrev S1024x3584 : Shape := ⟨2, ![1024, 3584]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x10752, .bf16⟩
  | .hbm, ⟨1, _⟩ => ⟨S2048x10752, .bf16⟩
  | .hbm, ⟨2, _⟩ => ⟨S4096x2048, .bf16⟩
  | .local _ .vmem, ⟨0, _⟩ => ⟨S1024x3584, .bf16⟩
  | .local _ .vmem, ⟨1, _⟩ => ⟨S1024x3584, .bf16⟩
  | .local _ .vmem, ⟨2, _⟩ => ⟨S1024x3584, .bf16⟩
  | .local _ .vmem, ⟨3, _⟩ => ⟨S1024x3584, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhIdeal.lean ====
abbrev S4096x10752 : Shape := ⟨2, ![4096, 10752]⟩
abbrev S2048x10752 : Shape := ⟨2, ![2048, 10752]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x10752, .bf16⟩
  | .hbm, ⟨1, _⟩ => ⟨S2048x10752, .bf16⟩
  | .hbm, ⟨2, _⟩ => ⟨S_, .f32⟩
  | .hbm, ⟨3, _⟩ => ⟨S4096x2048, .f32⟩
  | .hbm, ⟨4, _⟩ => ⟨S2048x10752, .f32⟩
  | .hbm, ⟨5, _⟩ => ⟨S4096x10752, .f32⟩
  | .hbm, ⟨6, _⟩ => ⟨S4096x10752, .f32⟩
  | .hbm, ⟨7, _⟩ => ⟨S4096x2048, .f32⟩
  | .hbm, ⟨8, _⟩ => ⟨S4096x2048, .bf16⟩
  | _, _ => ⟨S4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDff.lean ====
abbrev S4096x5632 : Shape := ⟨2, ![4096, 5632]⟩
abbrev S2048x5632 : Shape := ⟨2, ![2048, 5632]⟩
abbrev S4096x2048 : Shape := ⟨2, ![4096, 2048]⟩
abbrev S1024x1408 : Shape := ⟨2, ![1024, 1408]⟩
abbrev S1024x1024 : Shape := ⟨2, ![1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S4096x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceDffIdeal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S_, .f32⟩
  | .hbm, ⟨5, _⟩ => ⟨S4096x2048, .f32⟩
  | .hbm, ⟨6, _⟩ => ⟨S2048x5632, .f32⟩
  | .hbm, ⟨7, _⟩ => ⟨S4096x5632, .f32⟩
  | .hbm, ⟨8, _⟩ => ⟨S2048x5632, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== KernelSquare.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceSquareIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelWeight.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWeightIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelResidual.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceResidualIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelBranches.lean ====
abbrev S4096x512 : Shape := ⟨2, ![4096, 512]⟩
abbrev S4096x1024 : Shape := ⟨2, ![4096, 1024]⟩
abbrev S512x2048 : Shape := ⟨2, ![512, 2048]⟩
abbrev S1024x2048 : Shape := ⟨2, ![1024, 2048]⟩
abbrev S4096x10752 : Shape := ⟨2, ![4096, 10752]⟩
abbrev S4096x2048 : Shape := ⟨2, ![4096, 2048]⟩
abbrev S1024x512 : Shape := ⟨2, ![1024, 512]⟩
abbrev S512x512 : Shape := ⟨2, ![512, 512]⟩
abbrev S1024x1024 : Shape := ⟨2, ![1024, 1024]⟩

abbrev nBuf : Space → Nat
  | .hbm => 8
  | .vmem => 18
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x2048, .bf16⟩
  | .hbm, ⟨3, _⟩ => ⟨S1024x2048, .bf16⟩
  | .hbm, ⟨4, _⟩ => ⟨S4096x10752, .f32⟩
  | .hbm, ⟨5, _⟩ => ⟨S4096x2048, .bf16⟩
  | .hbm, ⟨6, _⟩ => ⟨S4096x2048, .bf16⟩
  | .hbm, ⟨7, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.addi c13_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.addi c17_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceBranchesIdeal.lean ====
abbrev S4096x512 : Shape := ⟨2, ![4096, 512]⟩
abbrev S4096x1024 : Shape := ⟨2, ![4096, 1024]⟩
abbrev S512x2048 : Shape := ⟨2, ![512, 2048]⟩
abbrev S1024x2048 : Shape := ⟨2, ![1024, 2048]⟩
abbrev S4096x10752 : Shape := ⟨2, ![4096, 10752]⟩
abbrev S4096x2048 : Shape := ⟨2, ![4096, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x2048, .bf16⟩
  | .hbm, ⟨3, _⟩ => ⟨S1024x2048, .bf16⟩
  | .hbm, ⟨4, _⟩ => ⟨S4096x10752, .f32⟩
  | .hbm, ⟨5, _⟩ => ⟨S4096x512, .f32⟩
  | .hbm, ⟨6, _⟩ => ⟨S512x2048, .f32⟩
  | .hbm, ⟨7, _⟩ => ⟨S4096x2048, .f32⟩
  | .hbm, ⟨8, _⟩ => ⟨S4096x1024, .f32⟩
  | .hbm, ⟨9, _⟩ => ⟨S1024x2048, .f32⟩
  | .hbm, ⟨10, _⟩ => ⟨S4096x2048, .f32⟩
  | .hbm, ⟨11, _⟩ => ⟨S4096x10752, .f32⟩
  | .hbm, ⟨12, _⟩ => ⟨S4096x10752, .f32⟩
  | .hbm, ⟨13, _⟩ => ⟨S_, .f32⟩
  | .hbm, ⟨14, _⟩ => ⟨S4096x10752, .f32⟩
  | .hbm, ⟨15, _⟩ => ⟨S4096x10752, .f32⟩
  | .hbm, ⟨16, _⟩ => ⟨S_, .f32⟩
  | .hbm, ⟨17, _⟩ => ⟨S4096x10752, .f32⟩
  | .hbm, ⟨18, _⟩ => ⟨S4096x10752, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | .hbm, ⟨25, _⟩ => ⟨S4096x2048, .bf16⟩
  | .hbm, ⟨26, _⟩ => ⟨S4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelPle.lean ====
abbrev S4096x2048 : Shape := ⟨2, ![4096, 2048]⟩
abbrev S2048x2048 : Shape := ⟨2, ![2048, 2048]⟩
abbrev S4096x256 : Shape := ⟨2, ![4096, 256]⟩
abbrev S256x2048 : Shape := ⟨2, ![256, 2048]⟩
abbrev S1024x2048 : Shape := ⟨2, ![1024, 2048]⟩
abbrev S2048x512 : Shape := ⟨2, ![2048, 512]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 8
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x256, .bf16⟩
  | .hbm, ⟨3, _⟩ => ⟨S256x2048, .bf16⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x256, .bf16⟩
  | .local _ .vmem, ⟨5, _⟩ => ⟨S1024x256, .bf16⟩
  | .local _ .vmem, ⟨6, _⟩ => ⟨S256x512, .bf16⟩
  | .local _ .vmem, ⟨7, _⟩ => ⟨S256x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferencePleIdeal.lean ====
abbrev S4096x2048 : Shape := ⟨2, ![4096, 2048]⟩
abbrev S2048x2048 : Shape := ⟨2, ![2048, 2048]⟩
abbrev S4096x256 : Shape := ⟨2, ![4096, 256]⟩
abbrev S256x2048 : Shape := ⟨2, ![256, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x256, .bf16⟩
  | .hbm, ⟨3, _⟩ => ⟨S256x2048, .bf16⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x256, .f32⟩
  | .hbm, ⟨17, _⟩ => ⟨S256x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .bf16⟩
  | .hbm, ⟨22, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelDattn.lean ====
abbrev S4096x4096 : Shape := ⟨2, ![4096, 4096]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S512x2048, .bf16⟩
  | .hbm, ⟨2, _⟩ => ⟨S4096x512, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .bf16⟩
  | .local _ .vmem, ⟨4, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDattnIdeal.lean ====
abbrev S4096x4096 : Shape := ⟨2, ![4096, 4096]⟩
abbrev S512x2048 : Shape := ⟨2, ![512, 2048]⟩
abbrev S_ : Shape := ⟨0, ![]⟩
abbrev S4096x512 : Shape := ⟨2, ![4096, 512]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S512x2048, .bf16⟩
  | .hbm, ⟨2, _⟩ => ⟨S_, .f32⟩
  | .hbm, ⟨3, _⟩ => ⟨S4096x512, .f32⟩
  | .hbm, ⟨4, _⟩ => ⟨S512x2048, .f32⟩
  | .hbm, ⟨5, _⟩ => ⟨S4096x2048, .f32⟩
  | .hbm, ⟨6, _⟩ => ⟨S4096x2048, .bf16⟩
  | .hbm, ⟨7, _⟩ => ⟨S4096x2048, .f32⟩
  | .hbm, ⟨8, _⟩ => ⟨S4096x512, .f32⟩
  | .hbm, ⟨9, _⟩ => ⟨S4096x512, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDsg.lean ====
abbrev S4096x4096 : Shape := ⟨2, ![4096, 4096]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S1024x2048, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDsgIdeal.lean ====
abbrev S4096x4096 : Shape := ⟨2, ![4096, 4096]⟩
abbrev S1024x2048 : Shape := ⟨2, ![1024, 2048]⟩
abbrev S_ : Shape := ⟨0, ![]⟩
abbrev S4096x1024 : Shape := ⟨2, ![4096, 1024]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .bf16⟩
  | .hbm, ⟨7, _⟩ => ⟨S4096x2048, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelWattn.lean ====
abbrev S4096x512 : Shape := ⟨2, ![4096, 512]⟩
abbrev S4096x4096 : Shape := ⟨2, ![4096, 4096]⟩
abbrev S512x2048 : Shape := ⟨2, ![512, 2048]⟩
abbrev S2048x512 : Shape := ⟨2, ![2048, 512]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceWattnIdeal.lean ====
abbrev S4096x512 : Shape := ⟨2, ![4096, 512]⟩
abbrev S4096x4096 : Shape := ⟨2, ![4096, 4096]⟩
abbrev S_ : Shape := ⟨0, ![]⟩
abbrev S512x2048 : Shape := ⟨2, ![512, 2048]⟩
abbrev S4096x2048 : Shape := ⟨2, ![4096, 2048]⟩
abbrev S2048x512 : Shape := ⟨2, ![2048, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x4096, .bf16⟩
  | .hbm, ⟨2, _⟩ => ⟨S_, .f32⟩
  | .hbm, ⟨3, _⟩ => ⟨S512x2048, .f32⟩
  | .hbm, ⟨4, _⟩ => ⟨S4096x512, .f32⟩
  | .hbm, ⟨5, _⟩ => ⟨S4096x2048, .f32⟩
  | .hbm, ⟨6, _⟩ => ⟨S4096x2048, .bf16⟩
  | .hbm, ⟨7, _⟩ => ⟨S4096x2048, .f32⟩
  | .hbm, ⟨8, _⟩ => ⟨S2048x512, .f32⟩
  | .hbm, ⟨9, _⟩ => ⟨S512x2048, .f32⟩
  | .hbm, ⟨10, _⟩ => ⟨S512x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelWsg.lean ====
abbrev S4096x1024 : Shape := ⟨2, ![4096, 1024]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWsgIdeal.lean ====
abbrev S4096x1024 : Shape := ⟨2, ![4096, 1024]⟩
abbrev S4096x4096 : Shape := ⟨2, ![4096, 4096]⟩
abbrev S_ : Shape := ⟨0, ![]⟩
abbrev S1024x2048 : Shape := ⟨2, ![1024, 2048]⟩
abbrev S4096x2048 : Shape := ⟨2, ![4096, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .bf16⟩
  | .hbm, ⟨7, _⟩ => ⟨S4096x2048, .f32⟩
  | .hbm, ⟨8, _⟩ => ⟨S2048x1024, .f32⟩
  | .hbm, ⟨9, _⟩ => ⟨S1024x2048, .f32⟩
  | .hbm, ⟨10, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelWple.lean ====
abbrev S4096x256 : Shape := ⟨2, ![4096, 256]⟩
abbrev S4096x2048 : Shape := ⟨2, ![4096, 2048]⟩
abbrev S256x2048 : Shape := ⟨2, ![256, 2048]⟩

abbrev nBuf : Space → Nat
  | .hbm => 3
  | .vmem => 3
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S256x2048, .bf16⟩
  | .local _ .vmem, ⟨0, _⟩ => ⟨S4096x256, .bf16⟩
  | .local _ .vmem, ⟨1, _⟩ => ⟨S4096x2048, .bf16⟩
  | .local _ .vmem, ⟨2, _⟩ => ⟨S256x2048, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceWpleIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S_, .f32⟩
  | .hbm, ⟨3, _⟩ => ⟨S256x2048, .f32⟩
  | .hbm, ⟨4, _⟩ => ⟨S4096x256, .f32⟩
  | .hbm, ⟨5, _⟩ => ⟨S4096x2048, .f32⟩
  | .hbm, ⟨6, _⟩ => ⟨S4096x2048, .f32⟩
  | .hbm, ⟨7, _⟩ => ⟨S2048x256, .f32⟩
  | .hbm, ⟨8, _⟩ => ⟨S256x2048, .f32⟩
  | .hbm, ⟨9, _⟩ => ⟨S256x2048, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelPlegate.lean ====
abbrev S4096x2048 : Shape := ⟨2, ![4096, 2048]⟩
abbrev S_ : Shape := ⟨0, ![]⟩
abbrev S256x2048 : Shape := ⟨2, ![256, 2048]⟩

abbrev nBuf : Space → Nat
  | .hbm => 14
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .bf16⟩
  | .hbm, ⟨12, _⟩ => ⟨S4096x2048, .bf16⟩
  | .hbm, ⟨13, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferencePlegateIdeal.lean ====
abbrev S4096x2048 : Shape := ⟨2, ![4096, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .bf16⟩
  | .hbm, ⟨21, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.KernelIdeal.Steps.lean ====
module

public import proofs.«01_k».proof.Proof.Gen.KernelIdeal.Frame
public import proofs.«01_k».proof.Proof.Gen.KernelIdeal.Skeleton
public import Idealize.ShloMosaic.Lib.VecWindow

/-! What one grid point of the backward kernel does to its buffers, as functions of vectors: one set of functions per
    group of heads (reach 64, 256 and 1024 keys to either side of a query). -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

open VecWindow (window put)

/-- The first row of a grid point's query tile, which is also the first row of its key window in the padded buffers. -/
def rowOff (i : grid0.Coords) : Fin 2 → ℕ := ![256 * (i 2).val, 0]

/-- The first row as the kernel's word. -/
abbrev rowWord (i : grid0.Coords) : BitVec 32 := Scalar.muli (BitVec.ofNat 32 (i 2).val) 256#32

theorem rowWord_toNat (i : grid0.Coords) : (rowWord i).toNat = 256 * (i 2).val := by
  have h : (i 2).val < 16 := (i 2).isLt
  show (BitVec.ofNat 32 (i 2).val * 256#32).toNat = _
  rw [BitVec.toNat_mul, BitVec.toNat_ofNat]
  show ((i 2).val % 2 ^ 32) * 256 % 2 ^ 32 = _
  rw [Nat.mod_eq_of_lt (a := (i 2).val) (by omega), Nat.mod_eq_of_lt (by omega), Nat.mul_comm]

/-- The kernel's test for the first query tile of a head. -/
abbrev isFirst (i : grid0.Coords) : Prop :=
  Scalar.cmpi .ne (Scalar.extui (Scalar.cmpi .eq (BitVec.ofNat 32 (i 2).val) 0#32) : BitVec 32) 0#32 = 1#1

/-- A buffer after a store. -/
theorem read_store {sh : Shape} {e : EltTy} (a : Memref sig .tc .vmem sh e) (f : a.view.ty.Contents (Elt F)) {off size : Fin sh.rank → ℕ}
    (inb : ∀ x, off x + size x ≤ sh.size x) (w : (Rect.unit off size inb).shape.Idx → Elt F e) (L : List (View.Piece (Elt F) sh e)) :
    a.view.read (Elt F) (a.view.writes (Elt F) f (⟨Rect.unit off size inb, w⟩ :: L)) = put (a.view.read (Elt F) (a.view.writes (Elt F) f L)) off size w :=
  View.read_writes_cons_put _ _ _ _ _ rfl

/-- An accumulator after a store over the whole of it. -/
theorem store_acc (a : Memref sig .tc .vmem S6144x128 .f32) (f : a.view.ty.Contents (Elt F)) (w : Vec F S6144x128 .f32) (L : List (View.Piece (Elt F) S6144x128 .f32)) :
    a.view.read (Elt F) (a.view.writes (Elt F) f (⟨Rect.unit (s := S6144x128) ![0, 0] ![6144, 128] inb_S6144x128_S6144x128_0_0, w⟩ :: L)) = w :=
  View.read_writes_full a.view f inb_S6144x128_S6144x128_0_0 w L

/-- A load of a whole query tile. -/
theorem ld_q (a : Memref sig .tc .vmem S256x128 .bf16) (ha : a.IsWhole) (x : Vec F S256x128 .bf16) :
    a.view.readAt (Elt F) (Rect.unit (s := S256x128) ![0, 0] ![256, 128] inb_S256x128_S256x128_0_0).toLoadRect (ha.unread x) = x :=
  (View.readAt_full _ _ _).trans (ha.read_unread x)

/-- A load of a whole block of keys or values. -/
theorem ld_k (a : Memref sig .tc .vmem S4096x128 .bf16) (ha : a.IsWhole) (x : Vec F S4096x128 .bf16) :
    a.view.readAt (Elt F) (Rect.unit (s := S4096x128) ![0, 0] ![4096, 128] inb_S4096x128_S4096x128_0_0).toLoadRect (ha.unread x) = x :=
  (View.readAt_full _ _ _).trans (ha.read_unread x)

/-- A load of a whole tile of log-sum-exps. -/
theorem ld_l (a : Memref sig .tc .vmem S1x256x1 .f32) (ha : a.IsWhole) (x : Vec F S1x256x1 .f32) :
    a.view.readAt (Elt F) (Rect.unit (s := S1x256x1) ![0, 0, 0] ![1, 256, 1] inb_S1x256x1_S1x256x1_0_0_0).toLoadRect (ha.unread x) = x :=
  (View.readAt_full _ _ _).trans (ha.read_unread x)

/-! ## Group 1: windows of 384 keys -/

theorem k0_off1_row (i : grid0.Coords) : k0_off1 i = rowOff i :=
  congrArg (fun n : ℕ => (![n, 0] : Fin 2 → ℕ)) (rowWord_toNat i)

theorem row_inb1 (i : grid0.Coords) : ∀ a, rowOff i a + S384x128.size a ≤ S6144x128.size a := fun a => by
  have h : (i 2).val < 16 := (i 2).isLt
  match a with
  | ⟨0, _⟩ => show 256 * (i 2).val + 384 ≤ 6144; omega
  | ⟨1, _⟩ => show 0 + 128 ≤ 128; omega

/-- The key window of a padded buffer at a grid point. -/
def win1 {e : EltTy} (X : Vec F S6144x128 e) (i : grid0.Coords) : Vec F S384x128 e :=
  window X (rowOff i) S384x128.size (row_inb1 i)

/-- The band's mask, read from its buffer. -/
def bias1 (X : Vec F S256x2304 .f32) : Vec F S256x384 .f32 := window X ![0, 0] S256x384.size inb_S256x2304_S256x384_0_0

/-- A load of a key window. -/
theorem ld_win1 {e : EltTy} (a : Memref sig .tc .vmem S6144x128 e) (f : a.view.ty.Contents (Elt F)) (i : grid0.Coords)
    (inb : ∀ x, k0_off1 i x + ![384, 128] x ≤ S6144x128.size x) :
    a.view.readAt (Elt F) (Rect.unit (s := S6144x128) (k0_off1 i) ![384, 128] inb).toLoadRect f = win1 (a.view.read (Elt F) f) i := by
  rw [View.readAt_unit a.view _ inb (k0_off1_row i) (row_inb1 i)]; rfl

/-- A load of the mask. -/
theorem ld_bias1 (a : Memref sig .tc .vmem S256x2304 .f32) (f : a.view.ty.Contents (Elt F)) :
    a.view.readAt (Elt F) (Rect.unit (s := S256x2304) ![0, 0] ![256, 384] inb_S256x2304_S256x384_0_0).toLoadRect f = bias1 (a.view.read (Elt F) f) := rfl

/-- A load of the mask right after its store. -/
theorem cov_bias1 (a : Memref sig .tc .vmem S256x2304 .f32) (w : Vec F S256x384 .f32) :
    a.view.readCov [⟨Rect.unit (s := S256x2304) ![0, 0] ![256, 384] inb_S256x2304_S256x384_0_0, w⟩]
      (Rect.unit (s := S256x2304) ![0, 0] ![256, 384] inb_S256x2304_S256x384_0_0).toLoadRect = w := by
  refine (View.readAt_unit a.view _ inb_S256x2304_S256x384_0_0 rfl inb_S256x2304_S256x384_0_0).trans ?_
  rw [View.read_writes_cons_put a.view _ inb_S256x2304_S256x384_0_0 w [] rfl]
  exact VecWindow.window_put_same _ _ _ _ _

/-- A load of the rows of an accumulator that hold keys. -/
theorem ld_acc1 (a : Memref sig .tc .vmem S6144x128 .f32) (f : a.view.ty.Contents (Elt F)) :
    a.view.readAt (Elt F) (Rect.unit (s := S6144x128) ![64, 0] ![4096, 128] inb_S6144x128_S4096x128_64_0).toLoadRect f
      = window (a.view.read (Elt F) f) ![64, 0] S4096x128.size inb_S6144x128_S4096x128_64_0 := rfl

/-- A padded key or value buffer after the first grid point of a head: the block between two blocks of zeros. -/
def fillK1 (B : Vec F S4096x128 .bf16) (Y : Vec F S6144x128 .bf16) : Vec F S6144x128 .bf16 :=
  put (put (put Y ![0, 0] S64x128.size (k0_pay17 (F := F))) ![64, 0] S4096x128.size (k0_pay18 B)) ![4160, 0] S64x128.size (k0_pay19 (F := F))

/-- The same for the values. -/
def fillV1 (B : Vec F S4096x128 .bf16) (Y : Vec F S6144x128 .bf16) : Vec F S6144x128 .bf16 :=
  put (put (put Y ![0, 0] S64x128.size (k0_pay20 (F := F))) ![64, 0] S4096x128.size (k0_pay21 B)) ![4160, 0] S64x128.size (k0_pay22 (F := F))

/-- The mask's buffer after the first grid point of a head. -/
def fillB1 (Y : Vec F S256x2304 .f32) : Vec F S256x2304 .f32 := put Y ![0, 0] S256x384.size (k0_pay25 (F := F))

theorem bias_fill1 (Y : Vec F S256x2304 .f32) : bias1 (fillB1 Y) = k0_pay25 (F := F) :=
  VecWindow.window_put_same _ _ _ inb_S256x2304_S256x384_0_0 _

/-- The weights of a query tile over its key window. -/
def wts1 (i : grid0.Coords) (q : Vec F S256x128 .bf16) (l : Vec F S1x256x1 .f32) (kw : Vec F S384x128 .bf16) (b : Vec F S256x384 .f32) : FVec F S256x384 .f32 :=
  k0_pay26 (rowWord i) (k0_pay1 q) (k0_pay4 l) kw b

/-- The gradient of the scores of a query tile. -/
def dsc1 (i : grid0.Coords) (q o dO : Vec F S256x128 .bf16) (l : Vec F S1x256x1 .f32) (kw vw : Vec F S384x128 .bf16) (b : Vec F S256x384 .f32) : FVec F S256x384 .bf16 :=
  k0_pay27 (rowWord i) (k0_pay1 q) (k0_pay2 dO) (k0_pay3 dO o) (k0_pay4 l) kw vw b

/-- The gradient of the queries of a tile. -/
def dqt1 (i : grid0.Coords) (q o dO : Vec F S256x128 .bf16) (l : Vec F S1x256x1 .f32) (kw vw : Vec F S384x128 .bf16) (b : Vec F S256x384 .f32) : FVec F S256x128 .bf16 :=
  k0_pay28 (rowWord i) (k0_pay1 q) (k0_pay2 dO) (k0_pay3 dO o) (k0_pay4 l) kw vw b

/-- The keys' accumulator after a tile's contribution. -/
def stepK1 (i : grid0.Coords) (q o dO : Vec F S256x128 .bf16) (l : Vec F S1x256x1 .f32) (kw vw : Vec F S384x128 .bf16) (b : Vec F S256x384 .f32) (X : Vec F S6144x128 .f32) : Vec F S6144x128 .f32 :=
  put X (rowOff i) S384x128.size (k0_pay5 q (dsc1 i q o dO l kw vw b) (win1 X i) (constant S384x128 .f32 0x00000000#32))

/-- The values' accumulator after a tile's contribution. -/
def stepV1 (i : grid0.Coords) (q dO : Vec F S256x128 .bf16) (l : Vec F S1x256x1 .f32) (kw : Vec F S384x128 .bf16) (b : Vec F S256x384 .f32) (X : Vec F S6144x128 .f32) : Vec F S6144x128 .f32 :=
  put X (rowOff i) S384x128.size (k0_pay6 dO (wts1 i q l kw b) (win1 X i))

/-- The keys' gradient read off its accumulator. -/
def outK1 (X : Vec F S6144x128 .f32) : FVec F S4096x128 .bf16 := k0_pay7 (window X ![64, 0] S4096x128.size inb_S6144x128_S4096x128_64_0)

/-- The values' gradient read off its accumulator. -/
def outV1 (X : Vec F S6144x128 .f32) : FVec F S4096x128 .bf16 := k0_pay8 (window X ![64, 0] S4096x128.size inb_S6144x128_S4096x128_64_0)

/-! ## Group 2: windows of 768 keys -/

theorem k0_off2_row (i : grid0.Coords) : k0_off2 i = rowOff i :=
  congrArg (fun n : ℕ => (![n, 0] : Fin 2 → ℕ)) (rowWord_toNat i)

theorem row_inb2 (i : grid0.Coords) : ∀ a, rowOff i a + S768x128.size a ≤ S6144x128.size a := fun a => by
  have h : (i 2).val < 16 := (i 2).isLt
  match a with
  | ⟨0, _⟩ => show 256 * (i 2).val + 768 ≤ 6144; omega
  | ⟨1, _⟩ => show 0 + 128 ≤ 128; omega

/-- The key window of a padded buffer at a grid point. -/
def win2 {e : EltTy} (X : Vec F S6144x128 e) (i : grid0.Coords) : Vec F S768x128 e :=
  window X (rowOff i) S768x128.size (row_inb2 i)

/-- The band's mask, read from its buffer. -/
def bias2 (X : Vec F S256x2304 .f32) : Vec F S256x768 .f32 := window X ![0, 0] S256x768.size inb_S256x2304_S256x768_0_0

/-- A load of a key window. -/
theorem ld_win2 {e : EltTy} (a : Memref sig .tc .vmem S6144x128 e) (f : a.view.ty.Contents (Elt F)) (i : grid0.Coords)
    (inb : ∀ x, k0_off2 i x + ![768, 128] x ≤ S6144x128.size x) :
    a.view.readAt (Elt F) (Rect.unit (s := S6144x128) (k0_off2 i) ![768, 128] inb).toLoadRect f = win2 (a.view.read (Elt F) f) i := by
  rw [View.readAt_unit a.view _ inb (k0_off2_row i) (row_inb2 i)]; rfl

/-- A load of the mask. -/
theorem ld_bias2 (a : Memref sig .tc .vmem S256x2304 .f32) (f : a.view.ty.Contents (Elt F)) :
    a.view.readAt (Elt F) (Rect.unit (s := S256x2304) ![0, 0] ![256, 768] inb_S256x2304_S256x768_0_0).toLoadRect f = bias2 (a.view.read (Elt F) f) := rfl

/-- A load of the mask right after its store. -/
theorem cov_bias2 (a : Memref sig .tc .vmem S256x2304 .f32) (w : Vec F S256x768 .f32) :
    a.view.readCov [⟨Rect.unit (s := S256x2304) ![0, 0] ![256, 768] inb_S256x2304_S256x768_0_0, w⟩]
      (Rect.unit (s := S256x2304) ![0, 0] ![256, 768] inb_S256x2304_S256x768_0_0).toLoadRect = w := by
  refine (View.readAt_unit a.view _ inb_S256x2304_S256x768_0_0 rfl inb_S256x2304_S256x768_0_0).trans ?_
  rw [View.read_writes_cons_put a.view _ inb_S256x2304_S256x768_0_0 w [] rfl]
  exact VecWindow.window_put_same _ _ _ _ _

/-- A load of the rows of an accumulator that hold keys. -/
theorem ld_acc2 (a : Memref sig .tc .vmem S6144x128 .f32) (f : a.view.ty.Contents (Elt F)) :
    a.view.readAt (Elt F) (Rect.unit (s := S6144x128) ![256, 0] ![4096, 128] inb_S6144x128_S4096x128_256_0).toLoadRect f
      = window (a.view.read (Elt F) f) ![256, 0] S4096x128.size inb_S6144x128_S4096x128_256_0 := rfl

/-- A padded key or value buffer after the first grid point of a head: the block between two blocks of zeros. -/
def fillK2 (B : Vec F S4096x128 .bf16) (Y : Vec F S6144x128 .bf16) : Vec F S6144x128 .bf16 :=
  put (put (put Y ![0, 0] S256x128.size (k0_pay29 (F := F))) ![256, 0] S4096x128.size (k0_pay30 B)) ![4352, 0] S256x128.size (k0_pay31 (F := F))

/-- The same for the values. -/
def fillV2 (B : Vec F S4096x128 .bf16) (Y : Vec F S6144x128 .bf16) : Vec F S6144x128 .bf16 :=
  put (put (put Y ![0, 0] S256x128.size (k0_pay32 (F := F))) ![256, 0] S4096x128.size (k0_pay33 B)) ![4352, 0] S256x128.size (k0_pay34 (F := F))

/-- The mask's buffer after the first grid point of a head. -/
def fillB2 (Y : Vec F S256x2304 .f32) : Vec F S256x2304 .f32 := put Y ![0, 0] S256x768.size (k0_pay37 (F := F))

theorem bias_fill2 (Y : Vec F S256x2304 .f32) : bias2 (fillB2 Y) = k0_pay37 (F := F) :=
  VecWindow.window_put_same _ _ _ inb_S256x2304_S256x768_0_0 _

/-- The weights of a query tile over its key window. -/
def wts2 (i : grid0.Coords) (q : Vec F S256x128 .bf16) (l : Vec F S1x256x1 .f32) (kw : Vec F S768x128 .bf16) (b : Vec F S256x768 .f32) : FVec F S256x768 .f32 :=
  k0_pay38 (rowWord i) (k0_pay1 q) (k0_pay4 l) kw b

/-- The gradient of the scores of a query tile. -/
def dsc2 (i : grid0.Coords) (q o dO : Vec F S256x128 .bf16) (l : Vec F S1x256x1 .f32) (kw vw : Vec F S768x128 .bf16) (b : Vec F S256x768 .f32) : FVec F S256x768 .bf16 :=
  k0_pay39 (rowWord i) (k0_pay1 q) (k0_pay2 dO) (k0_pay3 dO o) (k0_pay4 l) kw vw b

/-- The gradient of the queries of a tile. -/
def dqt2 (i : grid0.Coords) (q o dO : Vec F S256x128 .bf16) (l : Vec F S1x256x1 .f32) (kw vw : Vec F S768x128 .bf16) (b : Vec F S256x768 .f32) : FVec F S256x128 .bf16 :=
  k0_pay40 (rowWord i) (k0_pay1 q) (k0_pay2 dO) (k0_pay3 dO o) (k0_pay4 l) kw vw b

/-- The keys' accumulator after a tile's contribution. -/
def stepK2 (i : grid0.Coords) (q o dO : Vec F S256x128 .bf16) (l : Vec F S1x256x1 .f32) (kw vw : Vec F S768x128 .bf16) (b : Vec F S256x768 .f32) (X : Vec F S6144x128 .f32) : Vec F S6144x128 .f32 :=
  put X (rowOff i) S768x128.size (k0_pay9 q (dsc2 i q o dO l kw vw b) (win2 X i) (constant S768x128 .f32 0x00000000#32))

/-- The values' accumulator after a tile's contribution. -/
def stepV2 (i : grid0.Coords) (q dO : Vec F S256x128 .bf16) (l : Vec F S1x256x1 .f32) (kw : Vec F S768x128 .bf16) (b : Vec F S256x768 .f32) (X : Vec F S6144x128 .f32) : Vec F S6144x128 .f32 :=
  put X (rowOff i) S768x128.size (k0_pay10 dO (wts2 i q l kw b) (win2 X i))

/-- The keys' gradient read off its accumulator. -/
def outK2 (X : Vec F S6144x128 .f32) : FVec F S4096x128 .bf16 := k0_pay11 (window X ![256, 0] S4096x128.size inb_S6144x128_S4096x128_256_0)

/-- The values' gradient read off its accumulator. -/
def outV2 (X : Vec F S6144x128 .f32) : FVec F S4096x128 .bf16 := k0_pay12 (window X ![256, 0] S4096x128.size inb_S6144x128_S4096x128_256_0)

/-! ## Group 3: windows of 2304 keys -/

theorem k0_off3_row (i : grid0.Coords) : k0_off3 i = rowOff i :=
  congrArg (fun n : ℕ => (![n, 0] : Fin 2 → ℕ)) (rowWord_toNat i)

theorem row_inb3 (i : grid0.Coords) : ∀ a, rowOff i a + S2304x128.size a ≤ S6144x128.size a := fun a => by
  have h : (i 2).val < 16 := (i 2).isLt
  match a with
  | ⟨0, _⟩ => show 256 * (i 2).val + 2304 ≤ 6144; omega
  | ⟨1, _⟩ => show 0 + 128 ≤ 128; omega

/-- The key window of a padded buffer at a grid point. -/
def win3 {e : EltTy} (X : Vec F S6144x128 e) (i : grid0.Coords) : Vec F S2304x128 e :=
  window X (rowOff i) S2304x128.size (row_inb3 i)

/-- The band's mask, read from its buffer. -/
def bias3 (X : Vec F S256x2304 .f32) : Vec F S256x2304 .f32 := window X ![0, 0] S256x2304.size inb_S256x2304_S256x2304_0_0

/-- A load of a key window. -/
theorem ld_win3 {e : EltTy} (a : Memref sig .tc .vmem S6144x128 e) (f : a.view.ty.Contents (Elt F)) (i : grid0.Coords)
    (inb : ∀ x, k0_off3 i x + ![2304, 128] x ≤ S6144x128.size x) :
    a.view.readAt (Elt F) (Rect.unit (s := S6144x128) (k0_off3 i) ![2304, 128] inb).toLoadRect f = win3 (a.view.read (Elt F) f) i := by
  rw [View.readAt_unit a.view _ inb (k0_off3_row i) (row_inb3 i)]; rfl

/-- A load of the mask. -/
theorem ld_bias3 (a : Memref sig .tc .vmem S256x2304 .f32) (f : a.view.ty.Contents (Elt F)) :
    a.view.readAt (Elt F) (Rect.unit (s := S256x2304) ![0, 0] ![256, 2304] inb_S256x2304_S256x2304_0_0).toLoadRect f = bias3 (a.view.read (Elt F) f) := rfl

/-- A load of the mask right after its store. -/
theorem cov_bias3 (a : Memref sig .tc .vmem S256x2304 .f32) (w : Vec F S256x2304 .f32) :
    a.view.readCov [⟨Rect.unit (s := S256x2304) ![0, 0] ![256, 2304] inb_S256x2304_S256x2304_0_0, w⟩]
      (Rect.unit (s := S256x2304) ![0, 0] ![256, 2304] inb_S256x2304_S256x2304_0_0).toLoadRect = w := by
  refine (View.readAt_unit a.view _ inb_S256x2304_S256x2304_0_0 rfl inb_S256x2304_S256x2304_0_0).trans ?_
  rw [View.read_writes_cons_put a.view _ inb_S256x2304_S256x2304_0_0 w [] rfl]
  exact VecWindow.window_put_same _ _ _ _ _

/-- A load of the rows of an accumulator that hold keys. -/
theorem ld_acc3 (a : Memref sig .tc .vmem S6144x128 .f32) (f : a.view.ty.Contents (Elt F)) :
    a.view.readAt (Elt F) (Rect.unit (s := S6144x128) ![1024, 0] ![4096, 128] inb_S6144x128_S4096x128_1024_0).toLoadRect f
      = window (a.view.read (Elt F) f) ![1024, 0] S4096x128.size inb_S6144x128_S4096x128_1024_0 := rfl

/-- A padded key or value buffer after the first grid point of a head: the block between two blocks of zeros. -/
def fillK3 (B : Vec F S4096x128 .bf16) (Y : Vec F S6144x128 .bf16) : Vec F S6144x128 .bf16 :=
  put (put (put Y ![0, 0] S1024x128.size (k0_pay41 (F := F))) ![1024, 0] S4096x128.size (k0_pay42 B)) ![5120, 0] S1024x128.size (k0_pay43 (F := F))

/-- The same for the values. -/
def fillV3 (B : Vec F S4096x128 .bf16) (Y : Vec F S6144x128 .bf16) : Vec F S6144x128 .bf16 :=
  put (put (put Y ![0, 0] S1024x128.size (k0_pay44 (F := F))) ![1024, 0] S4096x128.size (k0_pay45 B)) ![5120, 0] S1024x128.size (k0_pay46 (F := F))

/-- The mask's buffer after the first grid point of a head. -/
def fillB3 (Y : Vec F S256x2304 .f32) : Vec F S256x2304 .f32 := put Y ![0, 0] S256x2304.size (k0_pay49 (F := F))

theorem bias_fill3 (Y : Vec F S256x2304 .f32) : bias3 (fillB3 Y) = k0_pay49 (F := F) :=
  VecWindow.window_put_same _ _ _ inb_S256x2304_S256x2304_0_0 _

/-- The weights of a query tile over its key window. -/
def wts3 (i : grid0.Coords) (q : Vec F S256x128 .bf16) (l : Vec F S1x256x1 .f32) (kw : Vec F S2304x128 .bf16) (b : Vec F S256x2304 .f32) : FVec F S256x2304 .f32 :=
  k0_pay50 (rowWord i) (k0_pay1 q) (k0_pay4 l) kw b

/-- The gradient of the scores of a query tile. -/
def dsc3 (i : grid0.Coords) (q o dO : Vec F S256x128 .bf16) (l : Vec F S1x256x1 .f32) (kw vw : Vec F S2304x128 .bf16) (b : Vec F S256x2304 .f32) : FVec F S256x2304 .bf16 :=
  k0_pay51 (rowWord i) (k0_pay1 q) (k0_pay2 dO) (k0_pay3 dO o) (k0_pay4 l) kw vw b

/-- The gradient of the queries of a tile. -/
def dqt3 (i : grid0.Coords) (q o dO : Vec F S256x128 .bf16) (l : Vec F S1x256x1 .f32) (kw vw : Vec F S2304x128 .bf16) (b : Vec F S256x2304 .f32) : FVec F S256x128 .bf16 :=
  k0_pay52 (rowWord i) (k0_pay1 q) (k0_pay2 dO) (k0_pay3 dO o) (k0_pay4 l) kw vw b

/-- The keys' accumulator after a tile's contribution. -/
def stepK3 (i : grid0.Coords) (q o dO : Vec F S256x128 .bf16) (l : Vec F S1x256x1 .f32) (kw vw : Vec F S2304x128 .bf16) (b : Vec F S256x2304 .f32) (X : Vec F S6144x128 .f32) : Vec F S6144x128 .f32 :=
  put X (rowOff i) S2304x128.size (k0_pay13 q (dsc3 i q o dO l kw vw b) (win3 X i) (constant S2304x128 .f32 0x00000000#32))

/-- The values' accumulator after a tile's contribution. -/
def stepV3 (i : grid0.Coords) (q dO : Vec F S256x128 .bf16) (l : Vec F S1x256x1 .f32) (kw : Vec F S2304x128 .bf16) (b : Vec F S256x2304 .f32) (X : Vec F S6144x128 .f32) : Vec F S6144x128 .f32 :=
  put X (rowOff i) S2304x128.size (k0_pay14 dO (wts3 i q l kw b) (win3 X i))

/-- The keys' gradient read off its accumulator. -/
def outK3 (X : Vec F S6144x128 .f32) : FVec F S4096x128 .bf16 := k0_pay15 (window X ![1024, 0] S4096x128.size inb_S6144x128_S4096x128_1024_0)

/-- The values' gradient read off its accumulator. -/
def outV3 (X : Vec F S6144x128 .f32) : FVec F S4096x128 .bf16 := k0_pay16 (window X ![1024, 0] S4096x128.size inb_S6144x128_S4096x128_1024_0)

end Cert.KernelIdeal.Hand

end
-- ==== Proof.KernelIdeal.State.lean ====
module

public import proofs.«01_k».proof.Proof.KernelIdeal.Steps
public import Idealize.ShloMosaic.Lib.Claim
public import Idealize.ShloMosaic.Lib.Pipeline.ValueKit

/-! What the scratch holds between grid points, and what each grid point writes back. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

open VecWindow (window put)

variable (m : (ℓ : Loc nD τ sig) → Buf (Elt F) ℓ)

/-! ## The tests of a grid point, by its number -/

/-- The number of a head and group, of a group, and of a query tile. -/
theorem coord1 (t : Fin cfg0.N) : (grid0.coords t 1).val = t.val / 16 % 3 := Pipeline.Grid.coords_val t 1 (by decide) rfl
theorem coord2 (t : Fin cfg0.N) : (grid0.coords t 2).val = t.val % 16 := by
  have h : (grid0.coords t 2).val = t.val / 1 % 16 := Pipeline.Grid.coords_val t 2 (by decide) rfl
  rw [h, Nat.div_one]

theorem group1_iff (t : Fin cfg0.N) : k0_cond1 (grid0.coords t) = 1#1 ↔ t.val / 16 % 3 = 0 := by
  have ht : t.val < 192 := Nat.lt_of_lt_of_eq t.isLt N_0
  simp only [k0_cond1, coord1]
  word_cmp

theorem last1_iff (t : Fin cfg0.N) : k0_cond3 (grid0.coords t) = 1#1 ↔ t.val % 16 = 15 := by
  have ht : t.val < 192 := Nat.lt_of_lt_of_eq t.isLt N_0
  simp only [k0_cond3, coord2]
  word_cmp

theorem group2_iff (t : Fin cfg0.N) : k0_cond4 (grid0.coords t) = 1#1 ↔ t.val / 16 % 3 = 1 := by
  have ht : t.val < 192 := Nat.lt_of_lt_of_eq t.isLt N_0
  simp only [k0_cond4, coord1]
  word_cmp

theorem last2_iff (t : Fin cfg0.N) : k0_cond6 (grid0.coords t) = 1#1 ↔ t.val % 16 = 15 := by
  have ht : t.val < 192 := Nat.lt_of_lt_of_eq t.isLt N_0
  simp only [k0_cond6, coord2]
  word_cmp

theorem group3_iff (t : Fin cfg0.N) : k0_cond7 (grid0.coords t) = 1#1 ↔ t.val / 16 % 3 = 2 := by
  have ht : t.val < 192 := Nat.lt_of_lt_of_eq t.isLt N_0
  simp only [k0_cond7, coord1]
  word_cmp

theorem last3_iff (t : Fin cfg0.N) : k0_cond9 (grid0.coords t) = 1#1 ↔ t.val % 16 = 15 := by
  have ht : t.val < 192 := Nat.lt_of_lt_of_eq t.isLt N_0
  simp only [k0_cond9, coord2]
  word_cmp

theorem first_iff (t : Fin cfg0.N) : isFirst (grid0.coords t) ↔ t.val % 16 = 0 := by
  have ht : t.val < 192 := Nat.lt_of_lt_of_eq t.isLt N_0
  simp only [isFirst, coord2]
  word_cmp

/-! ## When the outputs are left alone -/

theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl
theorem live4 (t : Fin cfg0.N) : cfg0.idle 4 (grid0.coords t) = false := rfl
theorem live5 (t : Fin cfg0.N) : cfg0.idle 5 (grid0.coords t) = false := rfl
theorem live6 : ∀ t : Fin cfg0.N, cfg0.idle 6 (grid0.coords t) = false := by decide +kernel
theorem live7 : ∀ t : Fin cfg0.N, t.val % 16 = 15 → cfg0.idle 7 (grid0.coords t) = false := by decide +kernel
theorem idle7 : ∀ t : Fin cfg0.N, ¬ t.val % 16 = 15 → cfg0.idle 7 (grid0.coords t) = true := by decide +kernel
theorem kept7 : ∀ t : Fin cfg0.N, ¬ t.val % 16 = 15 → (cfg0.win 7).flush t = false := by decide +kernel
theorem live8 : ∀ t : Fin cfg0.N, t.val % 16 = 15 → cfg0.idle 8 (grid0.coords t) = false := by decide +kernel
theorem idle8 : ∀ t : Fin cfg0.N, ¬ t.val % 16 = 15 → cfg0.idle 8 (grid0.coords t) = true := by decide +kernel
theorem kept8 : ∀ t : Fin cfg0.N, ¬ t.val % 16 = 15 → (cfg0.win 8).flush t = false := by decide +kernel

/-! ## The blocks of a grid point -/

/-- The queries that grid point `t` reads. -/
def qB (c : Dev nD) (t : Fin cfg0.N) : Vec F S256x128 .bf16 := iblk m c 0 t

/-- The keys that grid point `t` reads. -/
def kB (c : Dev nD) (t : Fin cfg0.N) : Vec F S4096x128 .bf16 := iblk m c 1 t

/-- The values that grid point `t` reads. -/
def vB (c : Dev nD) (t : Fin cfg0.N) : Vec F S4096x128 .bf16 := iblk m c 2 t

/-- The attention outputs that grid point `t` reads. -/
def oB (c : Dev nD) (t : Fin cfg0.N) : Vec F S256x128 .bf16 := iblk m c 3 t

/-- The outputs' gradients that grid point `t` reads. -/
def dB (c : Dev nD) (t : Fin cfg0.N) : Vec F S256x128 .bf16 := iblk m c 4 t

/-- The log-sum-exps that grid point `t` reads. -/
def lB (c : Dev nD) (t : Fin cfg0.N) : Vec F S1x256x1 .f32 := iblk m c 5 t

theorem kB_congr (c : Dev nD) (t t' : Fin cfg0.N) (h : t.val / 16 = t'.val / 16) : kB m c t = kB m c t' := by
  have e0 (s : Fin cfg0.N) : (grid0.coords s 0).val = s.val / 48 % 4 := Pipeline.Grid.coords_val s 0 (by decide) rfl
  have e : cc0_transform_1 (grid0.coords t) = cc0_transform_1 (grid0.coords t') := hreads0_1 _ _ fun a ha => by
    match a, ha with
    | ⟨0, _⟩, _ => exact Fin.ext (by rw [show (⟨0, _⟩ : Fin grid0.rank) = 0 from rfl, e0 t, e0 t']; omega)
    | ⟨1, _⟩, _ => exact Fin.ext (by rw [show (⟨1, _⟩ : Fin grid0.rank) = 1 from rfl, coord1 t, coord1 t']; omega)
    | ⟨2, _⟩, ha => exact absurd (show reads0_1 2 = true from ha) (by decide)
  have e' : (cfg0.win 1).index t = (cfg0.win 1).index t' := e
  unfold kB
  funext y
  blk_ext [iblk, e']

theorem vB_congr (c : Dev nD) (t t' : Fin cfg0.N) (h : t.val / 16 = t'.val / 16) : vB m c t = vB m c t' := by
  have e0 (s : Fin cfg0.N) : (grid0.coords s 0).val = s.val / 48 % 4 := Pipeline.Grid.coords_val s 0 (by decide) rfl
  have e : cc0_transform_2 (grid0.coords t) = cc0_transform_2 (grid0.coords t') := hreads0_2 _ _ fun a ha => by
    match a, ha with
    | ⟨0, _⟩, _ => exact Fin.ext (by rw [show (⟨0, _⟩ : Fin grid0.rank) = 0 from rfl, e0 t, e0 t']; omega)
    | ⟨1, _⟩, _ => exact Fin.ext (by rw [show (⟨1, _⟩ : Fin grid0.rank) = 1 from rfl, coord1 t, coord1 t']; omega)
    | ⟨2, _⟩, ha => exact absurd (show reads0_2 2 = true from ha) (by decide)
  have e' : (cfg0.win 2).index t = (cfg0.win 2).index t' := e
  unfold vB
  funext y
  blk_ext [iblk, e']

/-! ## The accumulators after each grid point -/

/-- A store read at a place depends on what was there before only outside it. -/
theorem put_congr {α : Type} {s : Shape} (X X' : s.Idx → α) (off sz : Fin s.rank → ℕ) (w : ((a : Fin s.rank) → Fin (sz a)) → α) (y : s.Idx)
    (h : ¬ (∀ a, off a ≤ (y a).val ∧ (y a).val < off a + sz a) → X y = X' y) : put X off sz w y = put X' off sz w y := by
  unfold VecWindow.put
  by_cases hh : ∀ a, off a ≤ (y a).val ∧ (y a).val < off a + sz a
  · rw [dif_pos hh, dif_pos hh]
  · rw [dif_neg hh, dif_neg hh]; exact h hh

/-- Three stores one above the other, read at a row below their end, do not depend on what was there before. -/
theorem fill_congr {α : Type} (Y Y' : S6144x128.Idx → α) (p p' : ℕ) (h1 : p' = p + 4096)
    (w1 w3 : ((a : Fin S6144x128.rank) → Fin (![p, 128] a)) → α) (w2 : ((a : Fin S6144x128.rank) → Fin (![4096, 128] a)) → α)
    (y : S6144x128.Idx) (h : (y 0).val < p' + p) :
    put (put (put Y ![0, 0] ![p, 128] w1) ![p, 0] ![4096, 128] w2) ![p', 0] ![p, 128] w3 y
      = put (put (put Y' ![0, 0] ![p, 128] w1) ![p, 0] ![4096, 128] w2) ![p', 0] ![p, 128] w3 y := by
  refine put_congr _ _ _ _ _ _ fun h3 => put_congr _ _ _ _ _ _ fun h2 => put_congr _ _ _ _ _ _ fun h1 => ?_
  have hy1 : (y 1).val < 128 := (y 1).isLt
  by_cases c3 : p' ≤ (y 0).val
  · exact absurd (fun a => by
      match a with
      | ⟨0, _⟩ => exact ⟨c3, h⟩
      | ⟨1, _⟩ => exact ⟨Nat.zero_le _, (Nat.zero_add 128).symm ▸ hy1⟩) h3
  · by_cases c2 : p ≤ (y 0).val
    · exact absurd (fun a => by
        match a with
        | ⟨0, _⟩ => exact ⟨c2, show (y 0).val < p + 4096 by omega⟩
        | ⟨1, _⟩ => exact ⟨Nat.zero_le _, (Nat.zero_add 128).symm ▸ hy1⟩) h2
    · exact absurd (fun a => by
        match a with
        | ⟨0, _⟩ => exact ⟨Nat.zero_le _, show (y 0).val < 0 + p by omega⟩
        | ⟨1, _⟩ => exact ⟨Nat.zero_le _, (Nat.zero_add 128).symm ▸ hy1⟩) h1

/-- The grid point of a number. -/
def pt (n : ℕ) : Fin cfg0.N := if h : n < cfg0.N then ⟨n, h⟩ else ⟨0, by decide⟩

theorem pt_val (t : Fin cfg0.N) : pt t.val = t := dif_pos t.isLt

theorem pt_val' (n : ℕ) (h : n < cfg0.N) : (pt n).val = n := by rw [pt, dif_pos h]

/-- An accumulator of zeros. -/
def zeroAcc : Vec F S6144x128 .f32 := k0_pay23 (F := F)

/-- A padded buffer before anything is put in it (any contents would do). -/
def blank : Vec F S6144x128 .bf16 := fun _ => FloatOps.ofBits .bf16 0#16

theorem win1_fillK (B : Vec F S4096x128 .bf16) (Y Y' : Vec F S6144x128 .bf16) (i : grid0.Coords) :
    win1 (fillK1 B Y) i = win1 (fillK1 B Y') i := by
  funext y
  have hi : (i 2).val < 16 := (i 2).isLt
  have hy : (y 0).val < 384 := (y 0).isLt
  have e0 : (((Rect.unit (s := S6144x128) (rowOff i) S384x128.size (row_inb1 i)).emb y) 0).val = 256 * (i 2).val + 1 * (y 0).val := rfl
  exact fill_congr Y Y' 64 4160 rfl _ _ _ _ (by rw [e0]; omega)

theorem win1_fillV (B : Vec F S4096x128 .bf16) (Y Y' : Vec F S6144x128 .bf16) (i : grid0.Coords) :
    win1 (fillV1 B Y) i = win1 (fillV1 B Y') i := by
  funext y
  have hi : (i 2).val < 16 := (i 2).isLt
  have hy : (y 0).val < 384 := (y 0).isLt
  have e0 : (((Rect.unit (s := S6144x128) (rowOff i) S384x128.size (row_inb1 i)).emb y) 0).val = 256 * (i 2).val + 1 * (y 0).val := rfl
  exact fill_congr Y Y' 64 4160 rfl _ _ _ _ (by rw [e0]; omega)

/-- The key window, the value window and the mask that grid point `t` of group 1 works on. -/
def kwin1 (c : Dev nD) (t : Fin cfg0.N) : Vec F S384x128 .bf16 := win1 (fillK1 (kB m c t) blank) (grid0.coords t)
def vwin1 (c : Dev nD) (t : Fin cfg0.N) : Vec F S384x128 .bf16 := win1 (fillV1 (vB m c t) blank) (grid0.coords t)
def mask1 : Vec F S256x384 .f32 := k0_pay25 (F := F)

/-- What grid point `t` of group 1 does to the accumulators and writes back. -/
def nextK1 (c : Dev nD) (t : Fin cfg0.N) (X : Vec F S6144x128 .f32) : Vec F S6144x128 .f32 :=
  stepK1 (grid0.coords t) (qB m c t) (oB m c t) (dB m c t) (lB m c t) (kwin1 m c t) (vwin1 m c t) mask1 X
def nextV1 (c : Dev nD) (t : Fin cfg0.N) (X : Vec F S6144x128 .f32) : Vec F S6144x128 .f32 :=
  stepV1 (grid0.coords t) (qB m c t) (dB m c t) (lB m c t) (kwin1 m c t) mask1 X
def dq1 (c : Dev nD) (t : Fin cfg0.N) : FVec F S256x128 .bf16 :=
  dqt1 (grid0.coords t) (qB m c t) (oB m c t) (dB m c t) (lB m c t) (kwin1 m c t) (vwin1 m c t) mask1

theorem win2_fillK (B : Vec F S4096x128 .bf16) (Y Y' : Vec F S6144x128 .bf16) (i : grid0.Coords) :
    win2 (fillK2 B Y) i = win2 (fillK2 B Y') i := by
  funext y
  have hi : (i 2).val < 16 := (i 2).isLt
  have hy : (y 0).val < 768 := (y 0).isLt
  have e0 : (((Rect.unit (s := S6144x128) (rowOff i) S768x128.size (row_inb2 i)).emb y) 0).val = 256 * (i 2).val + 1 * (y 0).val := rfl
  exact fill_congr Y Y' 256 4352 rfl _ _ _ _ (by rw [e0]; omega)

theorem win2_fillV (B : Vec F S4096x128 .bf16) (Y Y' : Vec F S6144x128 .bf16) (i : grid0.Coords) :
    win2 (fillV2 B Y) i = win2 (fillV2 B Y') i := by
  funext y
  have hi : (i 2).val < 16 := (i 2).isLt
  have hy : (y 0).val < 768 := (y 0).isLt
  have e0 : (((Rect.unit (s := S6144x128) (rowOff i) S768x128.size (row_inb2 i)).emb y) 0).val = 256 * (i 2).val + 1 * (y 0).val := rfl
  exact fill_congr Y Y' 256 4352 rfl _ _ _ _ (by rw [e0]; omega)

/-- The key window, the value window and the mask that grid point `t` of group 2 works on. -/
def kwin2 (c : Dev nD) (t : Fin cfg0.N) : Vec F S768x128 .bf16 := win2 (fillK2 (kB m c t) blank) (grid0.coords t)
def vwin2 (c : Dev nD) (t : Fin cfg0.N) : Vec F S768x128 .bf16 := win2 (fillV2 (vB m c t) blank) (grid0.coords t)
def mask2 : Vec F S256x768 .f32 := k0_pay37 (F := F)

/-- What grid point `t` of group 2 does to the accumulators and writes back. -/
def nextK2 (c : Dev nD) (t : Fin cfg0.N) (X : Vec F S6144x128 .f32) : Vec F S6144x128 .f32 :=
  stepK2 (grid0.coords t) (qB m c t) (oB m c t) (dB m c t) (lB m c t) (kwin2 m c t) (vwin2 m c t) mask2 X
def nextV2 (c : Dev nD) (t : Fin cfg0.N) (X : Vec F S6144x128 .f32) : Vec F S6144x128 .f32 :=
  stepV2 (grid0.coords t) (qB m c t) (dB m c t) (lB m c t) (kwin2 m c t) mask2 X
def dq2 (c : Dev nD) (t : Fin cfg0.N) : FVec F S256x128 .bf16 :=
  dqt2 (grid0.coords t) (qB m c t) (oB m c t) (dB m c t) (lB m c t) (kwin2 m c t) (vwin2 m c t) mask2

theorem win3_fillK (B : Vec F S4096x128 .bf16) (Y Y' : Vec F S6144x128 .bf16) (i : grid0.Coords) :
    win3 (fillK3 B Y) i = win3 (fillK3 B Y') i := by
  funext y
  have hi : (i 2).val < 16 := (i 2).isLt
  have hy : (y 0).val < 2304 := (y 0).isLt
  have e0 : (((Rect.unit (s := S6144x128) (rowOff i) S2304x128.size (row_inb3 i)).emb y) 0).val = 256 * (i 2).val + 1 * (y 0).val := rfl
  exact fill_congr Y Y' 1024 5120 rfl _ _ _ _ (by rw [e0]; omega)

theorem win3_fillV (B : Vec F S4096x128 .bf16) (Y Y' : Vec F S6144x128 .bf16) (i : grid0.Coords) :
    win3 (fillV3 B Y) i = win3 (fillV3 B Y') i := by
  funext y
  have hi : (i 2).val < 16 := (i 2).isLt
  have hy : (y 0).val < 2304 := (y 0).isLt
  have e0 : (((Rect.unit (s := S6144x128) (rowOff i) S2304x128.size (row_inb3 i)).emb y) 0).val = 256 * (i 2).val + 1 * (y 0).val := rfl
  exact fill_congr Y Y' 1024 5120 rfl _ _ _ _ (by rw [e0]; omega)

/-- The key window, the value window and the mask that grid point `t` of group 3 works on. -/
def kwin3 (c : Dev nD) (t : Fin cfg0.N) : Vec F S2304x128 .bf16 := win3 (fillK3 (kB m c t) blank) (grid0.coords t)
def vwin3 (c : Dev nD) (t : Fin cfg0.N) : Vec F S2304x128 .bf16 := win3 (fillV3 (vB m c t) blank) (grid0.coords t)
def mask3 : Vec F S256x2304 .f32 := k0_pay49 (F := F)

/-- What grid point `t` of group 3 does to the accumulators and writes back. -/
def nextK3 (c : Dev nD) (t : Fin cfg0.N) (X : Vec F S6144x128 .f32) : Vec F S6144x128 .f32 :=
  stepK3 (grid0.coords t) (qB m c t) (oB m c t) (dB m c t) (lB m c t) (kwin3 m c t) (vwin3 m c t) mask3 X
def nextV3 (c : Dev nD) (t : Fin cfg0.N) (X : Vec F S6144x128 .f32) : Vec F S6144x128 .f32 :=
  stepV3 (grid0.coords t) (qB m c t) (dB m c t) (lB m c t) (kwin3 m c t) mask3 X
def dq3 (c : Dev nD) (t : Fin cfg0.N) : FVec F S256x128 .bf16 :=
  dqt3 (grid0.coords t) (qB m c t) (oB m c t) (dB m c t) (lB m c t) (kwin3 m c t) (vwin3 m c t) mask3

/-- One step of the keys' accumulator. -/
def nextK (c : Dev nD) (t : Fin cfg0.N) (X : Vec F S6144x128 .f32) : Vec F S6144x128 .f32 :=
  if t.val / 16 % 3 = 0 then nextK1 m c t X else if t.val / 16 % 3 = 1 then nextK2 m c t X else nextK3 m c t X

/-- The keys' accumulator after grid point `n`: started from zeros at each head's first query tile. -/
def accK (c : Dev nD) : ℕ → Vec F S6144x128 .f32
  | 0 => nextK m c (pt 0) zeroAcc
  | n + 1 => nextK m c (pt (n + 1)) (if (n + 1) % 16 = 0 then zeroAcc else accK c n)

theorem accK_first (c : Dev nD) (t : Fin cfg0.N) (h : t.val % 16 = 0) : accK m c t.val = nextK m c t zeroAcc := by
  obtain ⟨n, hn⟩ := t
  have e := pt_val (⟨n, hn⟩ : Fin cfg0.N)
  cases n with
  | zero => exact congrArg (fun s => nextK m c s zeroAcc) e
  | succ n =>
    have h' : (n + 1) % 16 = 0 := h
    show nextK m c (pt (n + 1)) (if (n + 1) % 16 = 0 then zeroAcc else accK m c n) = _
    rw [if_pos h', e]

theorem accK_next (c : Dev nD) (t : Fin cfg0.N) (h : ¬ t.val % 16 = 0) : accK m c t.val = nextK m c t (accK m c (t.val - 1)) := by
  obtain ⟨n, hn⟩ := t
  have e := pt_val (⟨n, hn⟩ : Fin cfg0.N)
  cases n with
  | zero => exact absurd rfl h
  | succ n =>
    have h' : ¬ (n + 1) % 16 = 0 := h
    show nextK m c (pt (n + 1)) (if (n + 1) % 16 = 0 then zeroAcc else accK m c n) = _
    rw [if_neg h', e]; rfl

/-- The keys' gradient read off the accumulator at grid point `t`. -/
def gradK (c : Dev nD) (t : Fin cfg0.N) : FVec F S4096x128 .bf16 :=
  if t.val / 16 % 3 = 0 then outK1 (accK m c t.val) else if t.val / 16 % 3 = 1 then outK2 (accK m c t.val) else outK3 (accK m c t.val)

/-- One step of the values' accumulator. -/
def nextV (c : Dev nD) (t : Fin cfg0.N) (X : Vec F S6144x128 .f32) : Vec F S6144x128 .f32 :=
  if t.val / 16 % 3 = 0 then nextV1 m c t X else if t.val / 16 % 3 = 1 then nextV2 m c t X else nextV3 m c t X

/-- The values' accumulator after grid point `n`: started from zeros at each head's first query tile. -/
def accV (c : Dev nD) : ℕ → Vec F S6144x128 .f32
  | 0 => nextV m c (pt 0) zeroAcc
  | n + 1 => nextV m c (pt (n + 1)) (if (n + 1) % 16 = 0 then zeroAcc else accV c n)

theorem accV_first (c : Dev nD) (t : Fin cfg0.N) (h : t.val % 16 = 0) : accV m c t.val = nextV m c t zeroAcc := by
  obtain ⟨n, hn⟩ := t
  have e := pt_val (⟨n, hn⟩ : Fin cfg0.N)
  cases n with
  | zero => exact congrArg (fun s => nextV m c s zeroAcc) e
  | succ n =>
    have h' : (n + 1) % 16 = 0 := h
    show nextV m c (pt (n + 1)) (if (n + 1) % 16 = 0 then zeroAcc else accV m c n) = _
    rw [if_pos h', e]

theorem accV_next (c : Dev nD) (t : Fin cfg0.N) (h : ¬ t.val % 16 = 0) : accV m c t.val = nextV m c t (accV m c (t.val - 1)) := by
  obtain ⟨n, hn⟩ := t
  have e := pt_val (⟨n, hn⟩ : Fin cfg0.N)
  cases n with
  | zero => exact absurd rfl h
  | succ n =>
    have h' : ¬ (n + 1) % 16 = 0 := h
    show nextV m c (pt (n + 1)) (if (n + 1) % 16 = 0 then zeroAcc else accV m c n) = _
    rw [if_neg h', e]; rfl

/-- The values' gradient read off the accumulator at grid point `t`. -/
def gradV (c : Dev nD) (t : Fin cfg0.N) : FVec F S4096x128 .bf16 :=
  if t.val / 16 % 3 = 0 then outV1 (accV m c t.val) else if t.val / 16 % 3 = 1 then outV2 (accV m c t.val) else outV3 (accV m c t.val)

/-- The queries' gradient of grid point `t`. -/
def gradQ (c : Dev nD) (t : Fin cfg0.N) : FVec F S256x128 .bf16 :=
  if t.val / 16 % 3 = 0 then dq1 m c t else if t.val / 16 % 3 = 1 then dq2 m c t else dq3 m c t

/-- What the scratch holds after grid point `t`. -/
def Held (c : Dev nD) (t : Fin cfg0.N) (X12 X13 : Vec F S6144x128 .bf16) (X14 X15 : Vec F S6144x128 .f32) (X16 : Vec F S256x2304 .f32) : Prop :=
  X14 = accK m c t.val ∧ X15 = accV m c t.val ∧ ∃ Y12 Y13 Y16,
    (t.val / 16 % 3 = 0 → X12 = fillK1 (kB m c t) Y12 ∧ X13 = fillV1 (vB m c t) Y13 ∧ X16 = fillB1 Y16)
    ∧ (t.val / 16 % 3 = 1 → X12 = fillK2 (kB m c t) Y12 ∧ X13 = fillV2 (vB m c t) Y13 ∧ X16 = fillB2 Y16)
    ∧ (t.val / 16 % 3 = 2 → X12 = fillK3 (kB m c t) Y12 ∧ X13 = fillV3 (vB m c t) Y13 ∧ X16 = fillB3 Y16)

/-- The invariant before grid point `n`: at a head's first query tile the scratch holds anything. -/
def PhiS (c : Dev nD) (n : ℕ) : sProp 𝕄 :=
  if n % 16 = 0 then Pipeline.ΦA spec0 c
  else iprop(∃ X12 X13 X14 X15 X16, ⌜Held m c (pt (n - 1)) X12 X13 X14 X15 X16⌝
    ∗ owns (c : Thread nD τ) (Memref.whole cc0_scratch0 : Memref sig .tc .vmem S6144x128 .bf16) fullShare X12
    ∗ owns (c : Thread nD τ) (Memref.whole cc0_scratch1 : Memref sig .tc .vmem S6144x128 .bf16) fullShare X13
    ∗ owns (c : Thread nD τ) (Memref.whole cc0_scratch2 : Memref sig .tc .vmem S6144x128 .f32) fullShare X14
    ∗ owns (c : Thread nD τ) (Memref.whole cc0_scratch3 : Memref sig .tc .vmem S6144x128 .f32) fullShare X15
    ∗ owns (c : Thread nD τ) (Memref.whole cc0_scratch4 : Memref sig .tc .vmem S256x2304 .f32) fullShare X16
    ∗ (∃ r, prngReg c r))

/-- The launch's own invariant, buffer by buffer. -/
theorem PhiA_eq (c : Dev nD) : (Pipeline.ΦA spec0 c : sProp 𝕄)
    = iprop(iprop((∃ d, owns (c : Thread nD τ) (Memref.whole cc0_scratch0 : Memref sig .tc .vmem S6144x128 .bf16) fullShare d)
      ∗ (∃ d, owns (c : Thread nD τ) (Memref.whole cc0_scratch1 : Memref sig .tc .vmem S6144x128 .bf16) fullShare d)
      ∗ (∃ d, owns (c : Thread nD τ) (Memref.whole cc0_scratch2 : Memref sig .tc .vmem S6144x128 .f32) fullShare d)
      ∗ (∃ d, owns (c : Thread nD τ) (Memref.whole cc0_scratch3 : Memref sig .tc .vmem S6144x128 .f32) fullShare d)
      ∗ (∃ d, owns (c : Thread nD τ) (Memref.whole cc0_scratch4 : Memref sig .tc .vmem S256x2304 .f32) fullShare d)) ∗ (∃ r, prngReg c r)) := by
  unfold Pipeline.ΦA; rw [scopedRest0_eq]; simp only [owns_whole]; try rfl

/-- The pipeline's data: the arrays as the region finds them, each input's block left in place, the gradients written back. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => gradQ m c t
    | ⟨7, _⟩ => gradK m c t
    | ⟨8, _⟩ => gradV m c t
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = qB m c t := by dsimp only [dats]; rfl
theorem after0_1 (c : Dev nD) (t : Fin cfg0.N) : (dats m 0 c).after 1 t = kB m c t := by dsimp only [dats]; rfl
theorem after0_2 (c : Dev nD) (t : Fin cfg0.N) : (dats m 0 c).after 2 t = vB m c t := by dsimp only [dats]; rfl
theorem after0_3 (c : Dev nD) (t : Fin cfg0.N) : (dats m 0 c).after 3 t = oB m c t := by dsimp only [dats]; rfl
theorem after0_4 (c : Dev nD) (t : Fin cfg0.N) : (dats m 0 c).after 4 t = dB m c t := by dsimp only [dats]; rfl
theorem after0_5 (c : Dev nD) (t : Fin cfg0.N) : (dats m 0 c).after 5 t = lB m c t := by dsimp only [dats]; rfl
theorem after0_6 (c : Dev nD) (t : Fin cfg0.N) : (dats m 0 c).after 6 t = gradQ m c t := by dsimp only [dats]
theorem after0_7 (c : Dev nD) (t : Fin cfg0.N) : (dats m 0 c).after 7 t = gradK m c t := by dsimp only [dats]
theorem after0_8 (c : Dev nD) (t : Fin cfg0.N) : (dats m 0 c).after 8 t = gradV m c t := by dsimp only [dats]
theorem before0_0 (c : Dev nD) (t : Fin cfg0.N) (d) : (dats m 0 c).before 0 t d = qB m c t :=
  before0_0_of m (dats m 0 c) (A_eq m c 0) (after0_0 m c) t d
theorem before0_1 (c : Dev nD) (t : Fin cfg0.N) (d) : (dats m 0 c).before 1 t d = kB m c t :=
  before0_1_of m (dats m 0 c) (A_eq m c 1) (after0_1 m c) t d
theorem before0_2 (c : Dev nD) (t : Fin cfg0.N) (d) : (dats m 0 c).before 2 t d = vB m c t :=
  before0_2_of m (dats m 0 c) (A_eq m c 2) (after0_2 m c) t d
theorem before0_3 (c : Dev nD) (t : Fin cfg0.N) (d) : (dats m 0 c).before 3 t d = oB m c t :=
  before0_3_of m (dats m 0 c) (A_eq m c 3) (after0_3 m c) t d
theorem before0_4 (c : Dev nD) (t : Fin cfg0.N) (d) : (dats m 0 c).before 4 t d = dB m c t :=
  before0_4_of m (dats m 0 c) (A_eq m c 4) (after0_4 m c) t d
theorem before0_5 (c : Dev nD) (t : Fin cfg0.N) (d) : (dats m 0 c).before 5 t d = lB m c t :=
  before0_5_of m (dats m 0 c) (A_eq m c 5) (after0_5 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

end Cert.KernelIdeal.Hand

end
-- ==== Proof.KernelIdeal.Held.lean ====
module

public import proofs.«01_k».proof.Proof.KernelIdeal.State

/-! A grid point takes what the scratch held after the point before to what it holds after this one. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

open VecWindow (window put)

variable (m : (ℓ : Loc nD τ sig) → Buf (Elt F) ℓ)

/-- Group 1: buffers filled from this point's keys and values give this point's windows and mask. -/
theorem windows1 (c : Dev nD) (t : Fin cfg0.N) (X12 X13 Y12 Y13 : Vec F S6144x128 .bf16) (X16 Y16 : Vec F S256x2304 .f32)
    (h : X12 = fillK1 (kB m c t) Y12 ∧ X13 = fillV1 (vB m c t) Y13 ∧ X16 = fillB1 Y16) :
    win1 X12 (grid0.coords t) = kwin1 m c t ∧ win1 X13 (grid0.coords t) = vwin1 m c t ∧ bias1 X16 = mask1 :=
  ⟨h.1 ▸ win1_fillK _ _ _ _, h.2.1 ▸ win1_fillV _ _ _ _, h.2.2 ▸ bias_fill1 _⟩

theorem next_eq1 (c : Dev nD) (t : Fin cfg0.N) (hg : t.val / 16 % 3 = 0) (X : Vec F S6144x128 .f32) :
    nextK m c t X = nextK1 m c t X ∧ nextV m c t X = nextV1 m c t X := ⟨(by rw [nextK, if_pos hg]), (by rw [nextV, if_pos hg])⟩

theorem grads_eq1 (c : Dev nD) (t : Fin cfg0.N) (hg : t.val / 16 % 3 = 0) :
    gradQ m c t = dq1 m c t ∧ gradK m c t = outK1 (accK m c t.val) ∧ gradV m c t = outV1 (accV m c t.val) :=
  ⟨(by rw [gradQ, if_pos hg]), (by rw [gradK, if_pos hg]), (by rw [gradV, if_pos hg])⟩

/-- What the scratch held, read at a point of the same head and group. -/
theorem Held.filled1 {m : (ℓ : Loc nD τ sig) → Buf (Elt F) ℓ} {c : Dev nD} {s : Fin cfg0.N} (t : Fin cfg0.N) {X12 X13 X14 X15 X16} (H : Held m c s X12 X13 X14 X15 X16)
    (hs : s.val / 16 = t.val / 16) (hg : t.val / 16 % 3 = 0) :
    ∃ Y12 Y13 Y16, X12 = fillK1 (kB m c t) Y12 ∧ X13 = fillV1 (vB m c t) Y13 ∧ X16 = fillB1 Y16 := by
  obtain ⟨_, _, Y12, Y13, Y16, h1, h2, h3⟩ := H
  rw [← kB_congr m c s t hs, ← vB_congr m c s t hs]
  exact ⟨Y12, Y13, Y16, h1 (by omega)⟩

/-- The scratch after a point whose accumulators are one step on. -/
theorem held_of1 (c : Dev nD) (t : Fin cfg0.N) (hg : t.val / 16 % 3 = 0) (X12 X13 Y12 Y13 : Vec F S6144x128 .bf16) (X14 X15) (X16 Y16 : Vec F S256x2304 .f32)
    (h : X12 = fillK1 (kB m c t) Y12 ∧ X13 = fillV1 (vB m c t) Y13 ∧ X16 = fillB1 Y16)
    (hK : accK m c t.val = nextK m c t X14) (hV : accV m c t.val = nextV m c t X15) :
    Held m c t X12 X13 (stepK1 (grid0.coords t) (qB m c t) (oB m c t) (dB m c t) (lB m c t) (win1 X12 (grid0.coords t)) (win1 X13 (grid0.coords t)) (bias1 X16) X14) (stepV1 (grid0.coords t) (qB m c t) (dB m c t) (lB m c t) (win1 X12 (grid0.coords t)) (bias1 X16) X15) X16 := by
  obtain ⟨e1, e2, e3⟩ := windows1 m c t X12 X13 Y12 Y13 X16 Y16 h
  refine ⟨?_, ?_, Y12, Y13, Y16, fun _ => h, fun hh => absurd hh (by omega), fun hh => absurd hh (by omega)⟩
  · rw [e1, e2, e3, hK, (next_eq1 m c t hg X14).1]; rfl
  · rw [e1, e3, hV, (next_eq1 m c t hg X15).2]; rfl

/-- The queries' gradient that the point writes back. -/
theorem gradQ_of1 (c : Dev nD) (t : Fin cfg0.N) (hg : t.val / 16 % 3 = 0) (X12 X13 Y12 Y13 : Vec F S6144x128 .bf16) (X16 Y16 : Vec F S256x2304 .f32)
    (h : X12 = fillK1 (kB m c t) Y12 ∧ X13 = fillV1 (vB m c t) Y13 ∧ X16 = fillB1 Y16) :
    dqt1 (grid0.coords t) (qB m c t) (oB m c t) (dB m c t) (lB m c t) (win1 X12 (grid0.coords t)) (win1 X13 (grid0.coords t)) (bias1 X16) = gradQ m c t := by
  obtain ⟨e1, e2, e3⟩ := windows1 m c t X12 X13 Y12 Y13 X16 Y16 h
  rw [(grads_eq1 m c t hg).1, e1, e2, e3]; rfl

/-- The keys' and values' gradients that a head's last point writes back. -/
theorem grads_of1 (c : Dev nD) (t : Fin cfg0.N) (hg : t.val / 16 % 3 = 0) (X12 X13 X14 X15 X16)
    (H : Held m c t X12 X13 X14 X15 X16) : outK1 X14 = gradK m c t ∧ outV1 X15 = gradV m c t := by
  rw [(grads_eq1 m c t hg).2.1, (grads_eq1 m c t hg).2.2, H.1, H.2.1]; exact ⟨rfl, rfl⟩

/-- Group 2: buffers filled from this point's keys and values give this point's windows and mask. -/
theorem windows2 (c : Dev nD) (t : Fin cfg0.N) (X12 X13 Y12 Y13 : Vec F S6144x128 .bf16) (X16 Y16 : Vec F S256x2304 .f32)
    (h : X12 = fillK2 (kB m c t) Y12 ∧ X13 = fillV2 (vB m c t) Y13 ∧ X16 = fillB2 Y16) :
    win2 X12 (grid0.coords t) = kwin2 m c t ∧ win2 X13 (grid0.coords t) = vwin2 m c t ∧ bias2 X16 = mask2 :=
  ⟨h.1 ▸ win2_fillK _ _ _ _, h.2.1 ▸ win2_fillV _ _ _ _, h.2.2 ▸ bias_fill2 _⟩

theorem next_eq2 (c : Dev nD) (t : Fin cfg0.N) (hg : t.val / 16 % 3 = 1) (X : Vec F S6144x128 .f32) :
    nextK m c t X = nextK2 m c t X ∧ nextV m c t X = nextV2 m c t X := ⟨(by rw [nextK, if_neg (by omega), if_pos hg]), (by rw [nextV, if_neg (by omega), if_pos hg])⟩

theorem grads_eq2 (c : Dev nD) (t : Fin cfg0.N) (hg : t.val / 16 % 3 = 1) :
    gradQ m c t = dq2 m c t ∧ gradK m c t = outK2 (accK m c t.val) ∧ gradV m c t = outV2 (accV m c t.val) :=
  ⟨(by rw [gradQ, if_neg (by omega), if_pos hg]), (by rw [gradK, if_neg (by omega), if_pos hg]), (by rw [gradV, if_neg (by omega), if_pos hg])⟩

/-- What the scratch held, read at a point of the same head and group. -/
theorem Held.filled2 {m : (ℓ : Loc nD τ sig) → Buf (Elt F) ℓ} {c : Dev nD} {s : Fin cfg0.N} (t : Fin cfg0.N) {X12 X13 X14 X15 X16} (H : Held m c s X12 X13 X14 X15 X16)
    (hs : s.val / 16 = t.val / 16) (hg : t.val / 16 % 3 = 1) :
    ∃ Y12 Y13 Y16, X12 = fillK2 (kB m c t) Y12 ∧ X13 = fillV2 (vB m c t) Y13 ∧ X16 = fillB2 Y16 := by
  obtain ⟨_, _, Y12, Y13, Y16, h1, h2, h3⟩ := H
  rw [← kB_congr m c s t hs, ← vB_congr m c s t hs]
  exact ⟨Y12, Y13, Y16, h2 (by omega)⟩

/-- The scratch after a point whose accumulators are one step on. -/
theorem held_of2 (c : Dev nD) (t : Fin cfg0.N) (hg : t.val / 16 % 3 = 1) (X12 X13 Y12 Y13 : Vec F S6144x128 .bf16) (X14 X15) (X16 Y16 : Vec F S256x2304 .f32)
    (h : X12 = fillK2 (kB m c t) Y12 ∧ X13 = fillV2 (vB m c t) Y13 ∧ X16 = fillB2 Y16)
    (hK : accK m c t.val = nextK m c t X14) (hV : accV m c t.val = nextV m c t X15) :
    Held m c t X12 X13 (stepK2 (grid0.coords t) (qB m c t) (oB m c t) (dB m c t) (lB m c t) (win2 X12 (grid0.coords t)) (win2 X13 (grid0.coords t)) (bias2 X16) X14) (stepV2 (grid0.coords t) (qB m c t) (dB m c t) (lB m c t) (win2 X12 (grid0.coords t)) (bias2 X16) X15) X16 := by
  obtain ⟨e1, e2, e3⟩ := windows2 m c t X12 X13 Y12 Y13 X16 Y16 h
  refine ⟨?_, ?_, Y12, Y13, Y16, fun hh => absurd hh (by omega), fun _ => h, fun hh => absurd hh (by omega)⟩
  · rw [e1, e2, e3, hK, (next_eq2 m c t hg X14).1]; rfl
  · rw [e1, e3, hV, (next_eq2 m c t hg X15).2]; rfl

/-- The queries' gradient that the point writes back. -/
theorem gradQ_of2 (c : Dev nD) (t : Fin cfg0.N) (hg : t.val / 16 % 3 = 1) (X12 X13 Y12 Y13 : Vec F S6144x128 .bf16) (X16 Y16 : Vec F S256x2304 .f32)
    (h : X12 = fillK2 (kB m c t) Y12 ∧ X13 = fillV2 (vB m c t) Y13 ∧ X16 = fillB2 Y16) :
    dqt2 (grid0.coords t) (qB m c t) (oB m c t) (dB m c t) (lB m c t) (win2 X12 (grid0.coords t)) (win2 X13 (grid0.coords t)) (bias2 X16) = gradQ m c t := by
  obtain ⟨e1, e2, e3⟩ := windows2 m c t X12 X13 Y12 Y13 X16 Y16 h
  rw [(grads_eq2 m c t hg).1, e1, e2, e3]; rfl

/-- The keys' and values' gradients that a head's last point writes back. -/
theorem grads_of2 (c : Dev nD) (t : Fin cfg0.N) (hg : t.val / 16 % 3 = 1) (X12 X13 X14 X15 X16)
    (H : Held m c t X12 X13 X14 X15 X16) : outK2 X14 = gradK m c t ∧ outV2 X15 = gradV m c t := by
  rw [(grads_eq2 m c t hg).2.1, (grads_eq2 m c t hg).2.2, H.1, H.2.1]; exact ⟨rfl, rfl⟩

/-- Group 3: buffers filled from this point's keys and values give this point's windows and mask. -/
theorem windows3 (c : Dev nD) (t : Fin cfg0.N) (X12 X13 Y12 Y13 : Vec F S6144x128 .bf16) (X16 Y16 : Vec F S256x2304 .f32)
    (h : X12 = fillK3 (kB m c t) Y12 ∧ X13 = fillV3 (vB m c t) Y13 ∧ X16 = fillB3 Y16) :
    win3 X12 (grid0.coords t) = kwin3 m c t ∧ win3 X13 (grid0.coords t) = vwin3 m c t ∧ bias3 X16 = mask3 :=
  ⟨h.1 ▸ win3_fillK _ _ _ _, h.2.1 ▸ win3_fillV _ _ _ _, h.2.2 ▸ bias_fill3 _⟩

theorem next_eq3 (c : Dev nD) (t : Fin cfg0.N) (hg : t.val / 16 % 3 = 2) (X : Vec F S6144x128 .f32) :
    nextK m c t X = nextK3 m c t X ∧ nextV m c t X = nextV3 m c t X := ⟨(by rw [nextK, if_neg (by omega), if_neg (by omega)]), (by rw [nextV, if_neg (by omega), if_neg (by omega)])⟩

theorem grads_eq3 (c : Dev nD) (t : Fin cfg0.N) (hg : t.val / 16 % 3 = 2) :
    gradQ m c t = dq3 m c t ∧ gradK m c t = outK3 (accK m c t.val) ∧ gradV m c t = outV3 (accV m c t.val) :=
  ⟨(by rw [gradQ, if_neg (by omega), if_neg (by omega)]), (by rw [gradK, if_neg (by omega), if_neg (by omega)]), (by rw [gradV, if_neg (by omega), if_neg (by omega)])⟩

/-- What the scratch held, read at a point of the same head and group. -/
theorem Held.filled3 {m : (ℓ : Loc nD τ sig) → Buf (Elt F) ℓ} {c : Dev nD} {s : Fin cfg0.N} (t : Fin cfg0.N) {X12 X13 X14 X15 X16} (H : Held m c s X12 X13 X14 X15 X16)
    (hs : s.val / 16 = t.val / 16) (hg : t.val / 16 % 3 = 2) :
    ∃ Y12 Y13 Y16, X12 = fillK3 (kB m c t) Y12 ∧ X13 = fillV3 (vB m c t) Y13 ∧ X16 = fillB3 Y16 := by
  obtain ⟨_, _, Y12, Y13, Y16, h1, h2, h3⟩ := H
  rw [← kB_congr m c s t hs, ← vB_congr m c s t hs]
  exact ⟨Y12, Y13, Y16, h3 (by omega)⟩

/-- The scratch after a point whose accumulators are one step on. -/
theorem held_of3 (c : Dev nD) (t : Fin cfg0.N) (hg : t.val / 16 % 3 = 2) (X12 X13 Y12 Y13 : Vec F S6144x128 .bf16) (X14 X15) (X16 Y16 : Vec F S256x2304 .f32)
    (h : X12 = fillK3 (kB m c t) Y12 ∧ X13 = fillV3 (vB m c t) Y13 ∧ X16 = fillB3 Y16)
    (hK : accK m c t.val = nextK m c t X14) (hV : accV m c t.val = nextV m c t X15) :
    Held m c t X12 X13 (stepK3 (grid0.coords t) (qB m c t) (oB m c t) (dB m c t) (lB m c t) (win3 X12 (grid0.coords t)) (win3 X13 (grid0.coords t)) (bias3 X16) X14) (stepV3 (grid0.coords t) (qB m c t) (dB m c t) (lB m c t) (win3 X12 (grid0.coords t)) (bias3 X16) X15) X16 := by
  obtain ⟨e1, e2, e3⟩ := windows3 m c t X12 X13 Y12 Y13 X16 Y16 h
  refine ⟨?_, ?_, Y12, Y13, Y16, fun hh => absurd hh (by omega), fun hh => absurd hh (by omega), fun _ => h⟩
  · rw [e1, e2, e3, hK, (next_eq3 m c t hg X14).1]; rfl
  · rw [e1, e3, hV, (next_eq3 m c t hg X15).2]; rfl

/-- The queries' gradient that the point writes back. -/
theorem gradQ_of3 (c : Dev nD) (t : Fin cfg0.N) (hg : t.val / 16 % 3 = 2) (X12 X13 Y12 Y13 : Vec F S6144x128 .bf16) (X16 Y16 : Vec F S256x2304 .f32)
    (h : X12 = fillK3 (kB m c t) Y12 ∧ X13 = fillV3 (vB m c t) Y13 ∧ X16 = fillB3 Y16) :
    dqt3 (grid0.coords t) (qB m c t) (oB m c t) (dB m c t) (lB m c t) (win3 X12 (grid0.coords t)) (win3 X13 (grid0.coords t)) (bias3 X16) = gradQ m c t := by
  obtain ⟨e1, e2, e3⟩ := windows3 m c t X12 X13 Y12 Y13 X16 Y16 h
  rw [(grads_eq3 m c t hg).1, e1, e2, e3]; rfl

/-- The keys' and values' gradients that a head's last point writes back. -/
theorem grads_of3 (c : Dev nD) (t : Fin cfg0.N) (hg : t.val / 16 % 3 = 2) (X12 X13 X14 X15 X16)
    (H : Held m c t X12 X13 X14 X15 X16) : outK3 X14 = gradK m c t ∧ outV3 X15 = gradV m c t := by
  rw [(grads_eq3 m c t hg).2.1, (grads_eq3 m c t hg).2.2, H.1, H.2.1]; exact ⟨rfl, rfl⟩

theorem PhiS_first (c : Dev nD) (n : ℕ) (h : n % 16 = 0) : PhiS m c n = Pipeline.ΦA spec0 c := if_pos h

/-- The invariant before a point that is not a head's first, and after one that is not a head's last. -/
theorem PhiS_prev (c : Dev nD) (t : Fin cfg0.N) (h : ¬ t.val % 16 = 0) : PhiS m c t.val =
    iprop(∃ X12 X13 X14 X15 X16, ⌜Held m c (pt (t.val - 1)) X12 X13 X14 X15 X16⌝
    ∗ owns (c : Thread nD τ) (Memref.whole cc0_scratch0 : Memref sig .tc .vmem S6144x128 .bf16) fullShare X12
    ∗ owns (c : Thread nD τ) (Memref.whole cc0_scratch1 : Memref sig .tc .vmem S6144x128 .bf16) fullShare X13
    ∗ owns (c : Thread nD τ) (Memref.whole cc0_scratch2 : Memref sig .tc .vmem S6144x128 .f32) fullShare X14
    ∗ owns (c : Thread nD τ) (Memref.whole cc0_scratch3 : Memref sig .tc .vmem S6144x128 .f32) fullShare X15
    ∗ owns (c : Thread nD τ) (Memref.whole cc0_scratch4 : Memref sig .tc .vmem S256x2304 .f32) fullShare X16
    ∗ (∃ r, prngReg c r)) := if_neg h

theorem PhiS_next (c : Dev nD) (t : Fin cfg0.N) (h : ¬ t.val % 16 = 15) : PhiS m c (t.val + 1) =
    iprop(∃ X12 X13 X14 X15 X16, ⌜Held m c t X12 X13 X14 X15 X16⌝
    ∗ owns (c : Thread nD τ) (Memref.whole cc0_scratch0 : Memref sig .tc .vmem S6144x128 .bf16) fullShare X12
    ∗ owns (c : Thread nD τ) (Memref.whole cc0_scratch1 : Memref sig .tc .vmem S6144x128 .bf16) fullShare X13
    ∗ owns (c : Thread nD τ) (Memref.whole cc0_scratch2 : Memref sig .tc .vmem S6144x128 .f32) fullShare X14
    ∗ owns (c : Thread nD τ) (Memref.whole cc0_scratch3 : Memref sig .tc .vmem S6144x128 .f32) fullShare X15
    ∗ owns (c : Thread nD τ) (Memref.whole cc0_scratch4 : Memref sig .tc .vmem S256x2304 .f32) fullShare X16
    ∗ (∃ r, prngReg c r)) := by
  have e : PhiS m c (t.val + 1) = _ := if_neg (by omega)
  rw [e, Nat.add_sub_cancel, pt_val]

end Cert.KernelIdeal.Hand

end
-- ==== Proof.KernelIdeal.Run1First.lean ====
module

public import proofs.«01_k».proof.Proof.KernelIdeal.Steps

/-! The body at a grid point of group 1, first query tile of a head. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

open VecWindow (window put)

set_option maxHeartbeats 2000000 in
/-- Group 1, first query tile. -/
theorem run1First (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x256x1 .f32) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S6144x128 .bf16) (harg12 : arg12.IsWhole) (arg13 : Memref sig .tc .vmem S6144x128 .bf16) (harg13 : arg13.IsWhole) (arg14 : Memref sig .tc .vmem S6144x128 .f32) (harg14 : arg14.IsWhole) (arg15 : Memref sig .tc .vmem S6144x128 .f32) (harg15 : arg15.IsWhole) (arg16 : Memref sig .tc .vmem S256x2304 .f32) (harg16 : arg16.IsWhole)
    (hg : k0_cond1 i = 1#1) (hn0 : ¬ k0_cond4 i = 1#1) (hn1 : ¬ k0_cond7 i = 1#1) (hf : isFirst i) (hl : ¬ k0_cond3 i = 1#1)
    (xq : Vec F S256x128 .bf16) (xk xv : Vec F S4096x128 .bf16) (xo xd : Vec F S256x128 .bf16) (xl : Vec F S1x256x1 .f32) (y10 y11 : Vec F S4096x128 .bf16)
    (E : Set ℕ) (K : PUnit → sProp 𝕄) :
    iprop(owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare xd ∗ owns (c : Thread nD τ) arg8 fullShare xl ∗ (∃ z, owns (c : Thread nD τ) arg9 fullShare z) ∗ owns (c : Thread nD τ) arg10 fullShare y10 ∗ owns (c : Thread nD τ) arg11 fullShare y11 ∗ (∃ z, owns (c : Thread nD τ) arg12 fullShare z) ∗ (∃ z, owns (c : Thread nD τ) arg13 fullShare z) ∗ (∃ z, owns (c : Thread nD τ) arg14 fullShare z) ∗ (∃ z, owns (c : Thread nD τ) arg15 fullShare z) ∗ (∃ z, owns (c : Thread nD τ) arg16 fullShare z)
        ∗ (iprop(∃ Y12 Y13 Y16 X12 X13 X16, ⌜X12 = fillK1 xk Y12 ∧ X13 = fillV1 xv Y13 ∧ X16 = fillB1 Y16⌝ ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare xd ∗ owns (c : Thread nD τ) arg8 fullShare xl ∗ owns (c : Thread nD τ) arg9 fullShare (dqt1 i xq xo xd xl (win1 X12 i) (win1 X13 i) (bias1 X16)) ∗ owns (c : Thread nD τ) arg10 fullShare y10 ∗ owns (c : Thread nD τ) arg11 fullShare y11 ∗ owns (c : Thread nD τ) arg12 fullShare X12 ∗ owns (c : Thread nD τ) arg13 fullShare X13 ∗ owns (c : Thread nD τ) arg14 fullShare (stepK1 i xq xo xd xl (win1 X12 i) (win1 X13 i) (bias1 X16) (k0_pay23 (F := F))) ∗ owns (c : Thread nD τ) arg15 fullShare (stepV1 i xq xd xl (win1 X12 i) (bias1 X16) (k0_pay24 (F := F))) ∗ owns (c : Thread nD τ) arg16 fullShare X16) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%z9, %f9, %hf9, H9⟩, ⟨%f10, %hf10, H10⟩, ⟨%f11, %hf11, H11⟩, ⟨%z12, %f12, %hf12, H12⟩, ⟨%z13, %f13, %hf13, H13⟩, ⟨%z14, %f14, %hf14, H14⟩, ⟨%z15, %f15, %hf15, H15⟩, ⟨%z16, %f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11
  simp only [cc0_attn_bwd_eq_skeleton]; unfold cc0_attn_bwd_skel
  simp only [k0_part1_eq_skeleton, k0_part2_eq_skeleton]
  sl_exec (disch := first | sl_exact hg | sl_exact hn0 | sl_exact hn1 | sl_exact hf | sl_exact hl)
  sl_step
  iapply Hk
  iexists (arg12.view.read (Elt F) f12), (arg13.view.read (Elt F) f13), (arg16.view.read (Elt F) f16), _, _, _
  isplitr; · ipureintro; exact ⟨rfl, rfl, rfl⟩
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; rotate_left; · iexact H9
    ipureintro
    refine (View.read_writes_full _ _ _ _ _).trans ?_; sl_unfold_run_names; simp only [ld_q, ld_l, ld_k, ld_win1, ld_bias1, cov_bias1, bias_fill1, ld_acc1, read_store, k0_off1_row, View.writes_nil, Memref.IsWhole.read_unread]; rfl
  isplitl [H10]
  · iexists _; isplitr; · ipureintro; exact harg10.read_unread _
    iexact H10
  isplitl [H11]
  · iexists _; isplitr; · ipureintro; exact harg11.read_unread _
    iexact H11
  isplitl [H12]
  · iexists _; isplitr; rotate_left; · iexact H12
    ipureintro
    sl_unfold_run_names; simp only [ld_q, ld_l, ld_k, ld_win1, ld_bias1, cov_bias1, bias_fill1, ld_acc1, read_store, k0_off1_row, View.writes_nil, Memref.IsWhole.read_unread]; rfl
  isplitl [H13]
  · iexists _; isplitr; rotate_left; · iexact H13
    ipureintro
    sl_unfold_run_names; simp only [ld_q, ld_l, ld_k, ld_win1, ld_bias1, cov_bias1, bias_fill1, ld_acc1, read_store, k0_off1_row, View.writes_nil, Memref.IsWhole.read_unread]; rfl
  isplitl [H14]
  · iexists _; isplitr; rotate_left; · iexact H14
    ipureintro
    refine (View.read_writes_cons_put _ _ _ _ _ (k0_off1_row i)).trans ?_; sl_unfold_run_names; simp only [store_acc, ld_win1]; simp only [ld_q, ld_l, ld_k, ld_win1, ld_bias1, cov_bias1, bias_fill1, ld_acc1, read_store, k0_off1_row, View.writes_nil, Memref.IsWhole.read_unread]; rfl
  isplitl [H15]
  · iexists _; isplitr; rotate_left; · iexact H15
    ipureintro
    refine (View.read_writes_cons_put _ _ _ _ _ (k0_off1_row i)).trans ?_; sl_unfold_run_names; simp only [store_acc, ld_win1]; simp only [ld_q, ld_l, ld_k, ld_win1, ld_bias1, cov_bias1, bias_fill1, ld_acc1, read_store, k0_off1_row, View.writes_nil, Memref.IsWhole.read_unread]; rfl
  iexists _; isplitr; rotate_left; · iexact H16
  ipureintro
  sl_unfold_run_names; simp only [ld_q, ld_l, ld_k, ld_win1, ld_bias1, cov_bias1, bias_fill1, ld_acc1, read_store, k0_off1_row, View.writes_nil, Memref.IsWhole.read_unread]; rfl

end Cert.KernelIdeal.Hand

end
-- ==== Proof.KernelIdeal.Run1Mid.lean ====
module

public import proofs.«01_k».proof.Proof.KernelIdeal.Steps

/-! The body at a grid point of group 1, middle query tile of a head. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

open VecWindow (window put)

set_option maxHeartbeats 2000000 in
/-- Group 1, middle query tile. -/
theorem run1Mid (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x256x1 .f32) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S6144x128 .bf16) (harg12 : arg12.IsWhole) (arg13 : Memref sig .tc .vmem S6144x128 .bf16) (harg13 : arg13.IsWhole) (arg14 : Memref sig .tc .vmem S6144x128 .f32) (harg14 : arg14.IsWhole) (arg15 : Memref sig .tc .vmem S6144x128 .f32) (harg15 : arg15.IsWhole) (arg16 : Memref sig .tc .vmem S256x2304 .f32) (harg16 : arg16.IsWhole)
    (hg : k0_cond1 i = 1#1) (hn0 : ¬ k0_cond4 i = 1#1) (hn1 : ¬ k0_cond7 i = 1#1) (hf : ¬ isFirst i) (hl : ¬ k0_cond3 i = 1#1)
    (xq : Vec F S256x128 .bf16) (xk xv : Vec F S4096x128 .bf16) (xo xd : Vec F S256x128 .bf16) (xl : Vec F S1x256x1 .f32) (y10 y11 : Vec F S4096x128 .bf16) (X12 X13 : Vec F S6144x128 .bf16) (X14 X15 : Vec F S6144x128 .f32) (X16 : Vec F S256x2304 .f32)
    (E : Set ℕ) (K : PUnit → sProp 𝕄) :
    iprop(owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare xd ∗ owns (c : Thread nD τ) arg8 fullShare xl ∗ (∃ z, owns (c : Thread nD τ) arg9 fullShare z) ∗ owns (c : Thread nD τ) arg10 fullShare y10 ∗ owns (c : Thread nD τ) arg11 fullShare y11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16
        ∗ (iprop(owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare xd ∗ owns (c : Thread nD τ) arg8 fullShare xl ∗ owns (c : Thread nD τ) arg9 fullShare (dqt1 i xq xo xd xl (win1 X12 i) (win1 X13 i) (bias1 X16)) ∗ owns (c : Thread nD τ) arg10 fullShare y10 ∗ owns (c : Thread nD τ) arg11 fullShare y11 ∗ owns (c : Thread nD τ) arg12 fullShare X12 ∗ owns (c : Thread nD τ) arg13 fullShare X13 ∗ owns (c : Thread nD τ) arg14 fullShare (stepK1 i xq xo xd xl (win1 X12 i) (win1 X13 i) (bias1 X16) X14) ∗ owns (c : Thread nD τ) arg15 fullShare (stepV1 i xq xd xl (win1 X12 i) (bias1 X16) X15) ∗ owns (c : Thread nD τ) arg16 fullShare X16) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%z9, %f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  simp only [cc0_attn_bwd_eq_skeleton]; unfold cc0_attn_bwd_skel
  simp only [k0_part1_eq_skeleton, k0_part2_eq_skeleton]
  sl_exec (disch := first | sl_exact hg | sl_exact hn0 | sl_exact hn1 | sl_exact hf | sl_exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; rotate_left; · iexact H9
    ipureintro
    refine (View.read_writes_full _ _ _ _ _).trans ?_; sl_unfold_run_names; simp only [ld_q, ld_l, ld_k, ld_win1, ld_bias1, cov_bias1, bias_fill1, ld_acc1, read_store, k0_off1_row, View.writes_nil, Memref.IsWhole.read_unread]; rfl
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; rotate_left; · iexact H14
    ipureintro
    sl_unfold_run_names; simp only [ld_q, ld_l, ld_k, ld_win1, ld_bias1, cov_bias1, bias_fill1, ld_acc1, read_store, k0_off1_row, View.writes_nil, Memref.IsWhole.read_unread]; rfl
  isplitl [H15]
  · iexists _; isplitr; rotate_left; · iexact H15
    ipureintro
    sl_unfold_run_names; simp only [ld_q, ld_l, ld_k, ld_win1, ld_bias1, cov_bias1, bias_fill1, ld_acc1, read_store, k0_off1_row, View.writes_nil, Memref.IsWhole.read_unread]; rfl
  iexists _; isplitr; · ipureintro; exact harg16.read_unread _
  iexact H16

end Cert.KernelIdeal.Hand

end
-- ==== Proof.KernelIdeal.Run1Last.lean ====
module

public import proofs.«01_k».proof.Proof.KernelIdeal.Steps

/-! The body at a grid point of group 1, last query tile of a head. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

open VecWindow (window put)

set_option maxHeartbeats 2000000 in
/-- Group 1, last query tile. -/
theorem run1Last (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x256x1 .f32) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S6144x128 .bf16) (harg12 : arg12.IsWhole) (arg13 : Memref sig .tc .vmem S6144x128 .bf16) (harg13 : arg13.IsWhole) (arg14 : Memref sig .tc .vmem S6144x128 .f32) (harg14 : arg14.IsWhole) (arg15 : Memref sig .tc .vmem S6144x128 .f32) (harg15 : arg15.IsWhole) (arg16 : Memref sig .tc .vmem S256x2304 .f32) (harg16 : arg16.IsWhole)
    (hg : k0_cond1 i = 1#1) (hn0 : ¬ k0_cond4 i = 1#1) (hn1 : ¬ k0_cond7 i = 1#1) (hf : ¬ isFirst i) (hl : k0_cond3 i = 1#1)
    (xq : Vec F S256x128 .bf16) (xk xv : Vec F S4096x128 .bf16) (xo xd : Vec F S256x128 .bf16) (xl : Vec F S1x256x1 .f32) (X12 X13 : Vec F S6144x128 .bf16) (X14 X15 : Vec F S6144x128 .f32) (X16 : Vec F S256x2304 .f32)
    (E : Set ℕ) (K : PUnit → sProp 𝕄) :
    iprop(owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare xd ∗ owns (c : Thread nD τ) arg8 fullShare xl ∗ (∃ z, owns (c : Thread nD τ) arg9 fullShare z) ∗ (∃ z, owns (c : Thread nD τ) arg10 fullShare z) ∗ (∃ z, owns (c : Thread nD τ) arg11 fullShare z) ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16
        ∗ (iprop(owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare xd ∗ owns (c : Thread nD τ) arg8 fullShare xl ∗ owns (c : Thread nD τ) arg9 fullShare (dqt1 i xq xo xd xl (win1 X12 i) (win1 X13 i) (bias1 X16)) ∗ owns (c : Thread nD τ) arg10 fullShare (outK1 (stepK1 i xq xo xd xl (win1 X12 i) (win1 X13 i) (bias1 X16) X14)) ∗ owns (c : Thread nD τ) arg11 fullShare (outV1 (stepV1 i xq xd xl (win1 X12 i) (bias1 X16) X15)) ∗ owns (c : Thread nD τ) arg12 fullShare X12 ∗ owns (c : Thread nD τ) arg13 fullShare X13 ∗ owns (c : Thread nD τ) arg14 fullShare (stepK1 i xq xo xd xl (win1 X12 i) (win1 X13 i) (bias1 X16) X14) ∗ owns (c : Thread nD τ) arg15 fullShare (stepV1 i xq xd xl (win1 X12 i) (bias1 X16) X15) ∗ owns (c : Thread nD τ) arg16 fullShare X16) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%z9, %f9, %hf9, H9⟩, ⟨%z10, %f10, %hf10, H10⟩, ⟨%z11, %f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13; obtain rfl := harg14.eq_unread hf14; obtain rfl := harg15.eq_unread hf15; obtain rfl := harg16.eq_unread hf16
  simp only [cc0_attn_bwd_eq_skeleton]; unfold cc0_attn_bwd_skel
  simp only [k0_part1_eq_skeleton, k0_part2_eq_skeleton]
  sl_exec (disch := first | sl_exact hg | sl_exact hn0 | sl_exact hn1 | sl_exact hf | sl_exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; rotate_left; · iexact H9
    ipureintro
    refine (View.read_writes_full _ _ _ _ _).trans ?_; sl_unfold_run_names; simp only [ld_q, ld_l, ld_k, ld_win1, ld_bias1, cov_bias1, bias_fill1, ld_acc1, read_store, k0_off1_row, View.writes_nil, Memref.IsWhole.read_unread]; rfl
  isplitl [H10]
  · iexists _; isplitr; rotate_left; · iexact H10
    ipureintro
    refine (View.read_writes_full _ _ _ _ _).trans ?_; sl_unfold_run_names; simp only [ld_q, ld_l, ld_k, ld_win1, ld_bias1, cov_bias1, bias_fill1, ld_acc1, read_store, k0_off1_row, View.writes_nil, Memref.IsWhole.read_unread]; rfl
  isplitl [H11]
  · iexists _; isplitr; rotate_left; · iexact H11
    ipureintro
    refine (View.read_writes_full _ _ _ _ _).trans ?_; sl_unfold_run_names; simp only [ld_q, ld_l, ld_k, ld_win1, ld_bias1, cov_bias1, bias_fill1, ld_acc1, read_store, k0_off1_row, View.writes_nil, Memref.IsWhole.read_unread]; rfl
  isplitl [H12]
  · iexists _; isplitr; · ipureintro; exact harg12.read_unread _
    iexact H12
  isplitl [H13]
  · iexists _; isplitr; · ipureintro; exact harg13.read_unread _
    iexact H13
  isplitl [H14]
  · iexists _; isplitr; rotate_left; · iexact H14
    ipureintro
    sl_unfold_run_names; simp only [ld_q, ld_l, ld_k, ld_win1, ld_bias1, cov_bias1, bias_fill1, ld_acc1, read_store, k0_off1_row, View.writes_nil, Memref.IsWhole.read_unread]; rfl
  isplitl [H15]
  · iexists _; isplitr; rotate_left; · iexact H15
    ipureintro
    sl_unfold_run_names; simp only [ld_q, ld_l, ld_k, ld_win1, ld_bias1, cov_bias1, bias_fill1, ld_acc1, read_store, k0_off1_row, View.writes_nil, Memref.IsWhole.read_unread]; rfl
  iexists _; isplitr; · ipureintro; exact harg16.read_unread _
  iexact H16

end Cert.KernelIdeal.Hand

end
-- ==== Proof.KernelIdeal.Body1.lean ====
module

public import proofs.«01_k».proof.Proof.KernelIdeal.Held
public import proofs.«01_k».proof.Proof.KernelIdeal.Run1First
public import proofs.«01_k».proof.Proof.KernelIdeal.Run1Mid
public import proofs.«01_k».proof.Proof.KernelIdeal.Run1Last

/-! The body of group 1 between its two invariants. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

set_option maxHeartbeats 2000000 in
/-- Group 1, a head's first query tile. -/
theorem body1First (c : Dev nD) (t : Fin cfg0.N) (hg : t.val / 16 % 3 = 0) (h0 : t.val % 16 = 0) :
    bodyPre m c t ⊢ wp frame (wpE (defs₀ (F := F)) Variants.none c none) Set.univ (bodyAt0 t) (fun _ => bodyPost m c t) := by
  unfold bodyPre bodyPost bodyAt0
  have h15 : ¬ t.val % 16 = 15 := by omega
  have hN : t.val < 192 := lt_of_lt_of_eq t.isLt N_0
  simp only [before0_0, before0_1, before0_2, before0_3, before0_4, before0_5]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  rw [show (dats m 0 c).leavesExact 0 t = owns (c : Thread nD τ) (win0_0.stage (cfg0.slots t 0)) fullShare ((dats m 0 c).after 0 t) from by
    unfold Dat.leavesExact; rw [live0 t], after0_0]
  rw [show (dats m 0 c).leavesExact 1 t = owns (c : Thread nD τ) (win0_1.stage (cfg0.slots t 1)) fullShare ((dats m 0 c).after 1 t) from by
    unfold Dat.leavesExact; rw [live1 t], after0_1]
  rw [show (dats m 0 c).leavesExact 2 t = owns (c : Thread nD τ) (win0_2.stage (cfg0.slots t 2)) fullShare ((dats m 0 c).after 2 t) from by
    unfold Dat.leavesExact; rw [live2 t], after0_2]
  rw [show (dats m 0 c).leavesExact 3 t = owns (c : Thread nD τ) (win0_3.stage (cfg0.slots t 3)) fullShare ((dats m 0 c).after 3 t) from by
    unfold Dat.leavesExact; rw [live3 t], after0_3]
  rw [show (dats m 0 c).leavesExact 4 t = owns (c : Thread nD τ) (win0_4.stage (cfg0.slots t 4)) fullShare ((dats m 0 c).after 4 t) from by
    unfold Dat.leavesExact; rw [live4 t], after0_4]
  rw [show (dats m 0 c).leavesExact 5 t = owns (c : Thread nD τ) (win0_5.stage (cfg0.slots t 5)) fullShare ((dats m 0 c).after 5 t) from by
    unfold Dat.leavesExact; rw [live5 t], after0_5]
  rw [show (dats m 0 c).leavesExact 6 t = owns (c : Thread nD τ) (win0_6.stage (cfg0.slots t 6)) fullShare ((dats m 0 c).after 6 t) from by
    unfold Dat.leavesExact; rw [live6 t], after0_6]
  rw [Dat.leavesExact_idle (dats m 0 c) 7 t (idle7 t h15) (kept7 t h15)]
  rw [Dat.leavesExact_idle (dats m 0 c) 8 t (idle8 t h15) (kept8 t h15)]
  rw [PhiS_first m c _ h0, PhiA_eq, PhiS_next m c t h15]
  iintro ⟨⟨⟨S12, S13, S14, S15, S16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run1First c (grid0.coords t) _ _ _ _ _ _ _ _ _ _ _ _ _ _ _ _ _ _ _ _ _ _ _ _ _ _ _ _ ((group1_iff t).mpr hg) (fun h => absurd ((group2_iff t).mp h) (by omega)) (fun h => absurd ((group3_iff t).mp h) (by omega)) ((first_iff t).mpr h0) (fun h => h15 ((last1_iff t).mp h)) (qB m c t) (kB m c t) (vB m c t) (oB m c t) (dB m c t) (lB m c t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [S12]; · iexact S12
  isplitl [S13]; · iexact S13
  isplitl [S14]; · iexact S14
  isplitl [S15]; · iexact S15
  isplitl [S16]; · iexact S16
  iintro ⟨%Y12, %Y13, %Y16, %X12, %X13, %X16, %hfill, H0, H1, H2, H3, H4, H5, H6, H7, H8, S12, S13, S14, S15, S16⟩
  have hh := held_of1 m c t hg X12 X13 Y12 Y13 zeroAcc zeroAcc X16 Y16 hfill (accK_first m c t h0) (accV_first m c t h0)
  have hq := gradQ_of1 m c t hg X12 X13 Y12 Y13 X16 Y16 hfill
  isplitl [S12 S13 S14 S15 S16 Hg]
  · iexists _; iexists _; iexists _; iexists _; iexists _
    isplitr; rotate_left
    · isplitl [S12]; · iexact S12
      isplitl [S13]; · iexact S13
      isplitl [S14]; · iexact S14
      isplitl [S15]; · iexact S15
      isplitl [S16]; · iexact S16
      iexact Hg
    ipureintro; exact hh
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [← hq]; iexact H6
  isplitl [H7]; · iexists _; iexact H7
  iexists _; iexact H8

set_option maxHeartbeats 2000000 in
/-- Group 1, a head's middle query tiles. -/
theorem body1Mid (c : Dev nD) (t : Fin cfg0.N) (hg : t.val / 16 % 3 = 0) (h0 : ¬ t.val % 16 = 0) (h15 : ¬ t.val % 16 = 15) :
    bodyPre m c t ⊢ wp frame (wpE (defs₀ (F := F)) Variants.none c none) Set.univ (bodyAt0 t) (fun _ => bodyPost m c t) := by
  unfold bodyPre bodyPost bodyAt0
  have hN : t.val < 192 := lt_of_lt_of_eq t.isLt N_0
  simp only [before0_0, before0_1, before0_2, before0_3, before0_4, before0_5]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  rw [show (dats m 0 c).leavesExact 0 t = owns (c : Thread nD τ) (win0_0.stage (cfg0.slots t 0)) fullShare ((dats m 0 c).after 0 t) from by
    unfold Dat.leavesExact; rw [live0 t], after0_0]
  rw [show (dats m 0 c).leavesExact 1 t = owns (c : Thread nD τ) (win0_1.stage (cfg0.slots t 1)) fullShare ((dats m 0 c).after 1 t) from by
    unfold Dat.leavesExact; rw [live1 t], after0_1]
  rw [show (dats m 0 c).leavesExact 2 t = owns (c : Thread nD τ) (win0_2.stage (cfg0.slots t 2)) fullShare ((dats m 0 c).after 2 t) from by
    unfold Dat.leavesExact; rw [live2 t], after0_2]
  rw [show (dats m 0 c).leavesExact 3 t = owns (c : Thread nD τ) (win0_3.stage (cfg0.slots t 3)) fullShare ((dats m 0 c).after 3 t) from by
    unfold Dat.leavesExact; rw [live3 t], after0_3]
  rw [show (dats m 0 c).leavesExact 4 t = owns (c : Thread nD τ) (win0_4.stage (cfg0.slots t 4)) fullShare ((dats m 0 c).after 4 t) from by
    unfold Dat.leavesExact; rw [live4 t], after0_4]
  rw [show (dats m 0 c).leavesExact 5 t = owns (c : Thread nD τ) (win0_5.stage (cfg0.slots t 5)) fullShare ((dats m 0 c).after 5 t) from by
    unfold Dat.leavesExact; rw [live5 t], after0_5]
  rw [show (dats m 0 c).leavesExact 6 t = owns (c : Thread nD τ) (win0_6.stage (cfg0.slots t 6)) fullShare ((dats m 0 c).after 6 t) from by
    unfold Dat.leavesExact; rw [live6 t], after0_6]
  rw [Dat.leavesExact_idle (dats m 0 c) 7 t (idle7 t h15) (kept7 t h15)]
  rw [Dat.leavesExact_idle (dats m 0 c) 8 t (idle8 t h15) (kept8 t h15)]
  rw [PhiS_prev m c t h0]
  rw [PhiS_next m c t h15]
  iintro ⟨⟨%X12, %X13, %X14, %X15, %X16, %hH, S12, S13, S14, S15, S16, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨Y12, Y13, Y16, hfill⟩ := hH.filled1 t (by rw [pt_val' _ (Nat.lt_of_le_of_lt (Nat.sub_le _ 1) t.isLt)]; omega) hg
  have hX14 : X14 = accK m c (t.val - 1) := hH.1.trans (by rw [pt_val' _ (Nat.lt_of_le_of_lt (Nat.sub_le _ 1) t.isLt)])
  have hX15 : X15 = accV m c (t.val - 1) := hH.2.1.trans (by rw [pt_val' _ (Nat.lt_of_le_of_lt (Nat.sub_le _ 1) t.isLt)])
  have hh := held_of1 m c t hg X12 X13 Y12 Y13 X14 X15 X16 Y16 hfill (by rw [hX14]; exact accK_next m c t h0) (by rw [hX15]; exact accV_next m c t h0)
  have hq := gradQ_of1 m c t hg X12 X13 Y12 Y13 X16 Y16 hfill
  iapply (run1Mid c (grid0.coords t) _ _ _ _ _ _ _ _ _ _ _ _ _ _ _ _ _ _ _ _ _ _ _ _ _ _ _ _ ((group1_iff t).mpr hg) (fun h => absurd ((group2_iff t).mp h) (by omega)) (fun h => absurd ((group3_iff t).mp h) (by omega)) (fun h => h0 ((first_iff t).mp h)) (fun h => h15 ((last1_iff t).mp h)) (qB m c t) (kB m c t) (vB m c t) (oB m c t) (dB m c t) (lB m c t) _ _ X12 X13 X14 X15 X16 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [S12]; · iexact S12
  isplitl [S13]; · iexact S13
  isplitl [S14]; · iexact S14
  isplitl [S15]; · iexact S15
  isplitl [S16]; · iexact S16
  iintro ⟨H0, H1, H2, H3, H4, H5, H6, H7, H8, S12, S13, S14, S15, S16⟩
  isplitl [S12 S13 S14 S15 S16 Hg]
  · iexists _; iexists _; iexists _; iexists _; iexists _
    isplitr; rotate_left
    · isplitl [S12]; · iexact S12
      isplitl [S13]; · iexact S13
      isplitl [S14]; · iexact S14
      isplitl [S15]; · iexact S15
      isplitl [S16]; · iexact S16
      iexact Hg
    ipureintro; exact hh
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [← hq]; iexact H6
  isplitl [H7]; · iexists _; iexact H7
  iexists _; iexact H8

set_option maxHeartbeats 2000000 in
/-- Group 1, a head's last query tile. -/
theorem body1Last (c : Dev nD) (t : Fin cfg0.N) (hg : t.val / 16 % 3 = 0) (h15 : t.val % 16 = 15) :
    bodyPre m c t ⊢ wp frame (wpE (defs₀ (F := F)) Variants.none c none) Set.univ (bodyAt0 t) (fun _ => bodyPost m c t) := by
  unfold bodyPre bodyPost bodyAt0
  have h0 : ¬ t.val % 16 = 0 := by omega
  have hN : t.val < 192 := lt_of_lt_of_eq t.isLt N_0
  simp only [before0_0, before0_1, before0_2, before0_3, before0_4, before0_5]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  rw [show (dats m 0 c).leavesExact 0 t = owns (c : Thread nD τ) (win0_0.stage (cfg0.slots t 0)) fullShare ((dats m 0 c).after 0 t) from by
    unfold Dat.leavesExact; rw [live0 t], after0_0]
  rw [show (dats m 0 c).leavesExact 1 t = owns (c : Thread nD τ) (win0_1.stage (cfg0.slots t 1)) fullShare ((dats m 0 c).after 1 t) from by
    unfold Dat.leavesExact; rw [live1 t], after0_1]
  rw [show (dats m 0 c).leavesExact 2 t = owns (c : Thread nD τ) (win0_2.stage (cfg0.slots t 2)) fullShare ((dats m 0 c).after 2 t) from by
    unfold Dat.leavesExact; rw [live2 t], after0_2]
  rw [show (dats m 0 c).leavesExact 3 t = owns (c : Thread nD τ) (win0_3.stage (cfg0.slots t 3)) fullShare ((dats m 0 c).after 3 t) from by
    unfold Dat.leavesExact; rw [live3 t], after0_3]
  rw [show (dats m 0 c).leavesExact 4 t = owns (c : Thread nD τ) (win0_4.stage (cfg0.slots t 4)) fullShare ((dats m 0 c).after 4 t) from by
    unfold Dat.leavesExact; rw [live4 t], after0_4]
  rw [show (dats m 0 c).leavesExact 5 t = owns (c : Thread nD τ) (win0_5.stage (cfg0.slots t 5)) fullShare ((dats m 0 c).after 5 t) from by
    unfold Dat.leavesExact; rw [live5 t], after0_5]
  rw [show (dats m 0 c).leavesExact 6 t = owns (c : Thread nD τ) (win0_6.stage (cfg0.slots t 6)) fullShare ((dats m 0 c).after 6 t) from by
    unfold Dat.leavesExact; rw [live6 t], after0_6]
  rw [show (dats m 0 c).leavesExact 7 t = owns (c : Thread nD τ) (win0_7.stage (cfg0.slots t 7)) fullShare ((dats m 0 c).after 7 t) from by
    unfold Dat.leavesExact; rw [live7 t h15], after0_7]
  rw [show (dats m 0 c).leavesExact 8 t = owns (c : Thread nD τ) (win0_8.stage (cfg0.slots t 8)) fullShare ((dats m 0 c).after 8 t) from by
    unfold Dat.leavesExact; rw [live8 t h15], after0_8]
  rw [PhiS_prev m c t h0]
  rw [PhiS_first m c (t.val + 1) (by omega), PhiA_eq]
  iintro ⟨⟨%X12, %X13, %X14, %X15, %X16, %hH, S12, S13, S14, S15, S16, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨Y12, Y13, Y16, hfill⟩ := hH.filled1 t (by rw [pt_val' _ (Nat.lt_of_le_of_lt (Nat.sub_le _ 1) t.isLt)]; omega) hg
  have hX14 : X14 = accK m c (t.val - 1) := hH.1.trans (by rw [pt_val' _ (Nat.lt_of_le_of_lt (Nat.sub_le _ 1) t.isLt)])
  have hX15 : X15 = accV m c (t.val - 1) := hH.2.1.trans (by rw [pt_val' _ (Nat.lt_of_le_of_lt (Nat.sub_le _ 1) t.isLt)])
  have hh := held_of1 m c t hg X12 X13 Y12 Y13 X14 X15 X16 Y16 hfill (by rw [hX14]; exact accK_next m c t h0) (by rw [hX15]; exact accV_next m c t h0)
  have hq := gradQ_of1 m c t hg X12 X13 Y12 Y13 X16 Y16 hfill
  obtain ⟨ek, ev⟩ := grads_of1 m c t hg _ _ _ _ _ hh
  iapply (run1Last c (grid0.coords t) _ _ _ _ _ _ _ _ _ _ _ _ _ _ _ _ _ _ _ _ _ _ _ _ _ _ _ _ ((group1_iff t).mpr hg) (fun h => absurd ((group2_iff t).mp h) (by omega)) (fun h => absurd ((group3_iff t).mp h) (by omega)) (fun h => h0 ((first_iff t).mp h)) ((last1_iff t).mpr h15) (qB m c t) (kB m c t) (vB m c t) (oB m c t) (dB m c t) (lB m c t) X12 X13 X14 X15 X16 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [S12]; · iexact S12
  isplitl [S13]; · iexact S13
  isplitl [S14]; · iexact S14
  isplitl [S15]; · iexact S15
  isplitl [S16]; · iexact S16
  iintro ⟨H0, H1, H2, H3, H4, H5, H6, H7, H8, S12, S13, S14, S15, S16⟩
  isplitl [S12 S13 S14 S15 S16 Hg]
  · isplitl [S12 S13 S14 S15 S16]
    · isplitl [S12]; · iexists _; iexact S12
      isplitl [S13]; · iexists _; iexact S13
      isplitl [S14]; · iexists _; iexact S14
      isplitl [S15]; · iexists _; iexact S15
      iexists _; iexact S16
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [← hq]; iexact H6
  isplitl [H7]; · rw [← ek]; iexact H7
  rw [← ev]; iexact H8

end Cert.KernelIdeal.Hand

end
-- ==== Proof.KernelIdeal.Run2First.lean ====
module

public import proofs.«01_k».proof.Proof.KernelIdeal.Steps

/-! The body at a grid point of group 2, first query tile of a head. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

open VecWindow (window put)

set_option maxHeartbeats 2000000 in
/-- Group 2, first query tile. -/
theorem run2First (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x256x1 .f32) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S6144x128 .bf16) (harg12 : arg12.IsWhole) (arg13 : Memref sig .tc .vmem S6144x128 .bf16) (harg13 : arg13.IsWhole) (arg14 : Memref sig .tc .vmem S6144x128 .f32) (harg14 : arg14.IsWhole) (arg15 : Memref sig .tc .vmem S6144x128 .f32) (harg15 : arg15.IsWhole) (arg16 : Memref sig .tc .vmem S256x2304 .f32) (harg16 : arg16.IsWhole)
    (hg : k0_cond4 i = 1#1) (hn0 : ¬ k0_cond1 i = 1#1) (hn1 : ¬ k0_cond7 i = 1#1) (hf : isFirst i) (hl : ¬ k0_cond6 i = 1#1)
    (xq : Vec F S256x128 .bf16) (xk xv : Vec F S4096x128 .bf16) (xo xd : Vec F S256x128 .bf16) (xl : Vec F S1x256x1 .f32) (y10 y11 : Vec F S4096x128 .bf16)
    (E : Set ℕ) (K : PUnit → sProp 𝕄) :
    iprop(owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare xd ∗ owns (c : Thread nD τ) arg8 fullShare xl ∗ (∃ z, owns (c : Thread nD τ) arg9 fullShare z) ∗ owns (c : Thread nD τ) arg10 fullShare y10 ∗ owns (c : Thread nD τ) arg11 fullShare y11 ∗ (∃ z, owns (c : Thread nD τ) arg12 fullShare z) ∗ (∃ z, owns (c : Thread nD τ) arg13 fullShare z) ∗ (∃ z, owns (c : Thread nD τ) arg14 fullShare z) ∗ (∃ z, owns (c : Thread nD τ) arg15 fullShare z) ∗ (∃ z, owns (c : Thread nD τ) arg16 fullShare z)
        ∗ (iprop(∃ Y12 Y13 Y16 X12 X13 X16, ⌜X12 = fillK2 xk Y12 ∧ X13 = fillV2 xv Y13 ∧ X16 = fillB2 Y16⌝ ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare xd ∗ owns (c : Thread nD τ) arg8 fullShare xl ∗ owns (c : Thread nD τ) arg9 fullShare (dqt2 i xq xo xd xl (win2 X12 i) (win2 X13 i) (bias2 X16)) ∗ owns (c : Thread nD τ) arg10 fullShare y10 ∗ owns (c : Thread nD τ) arg11 fullShare y11 ∗ owns (c : Thread nD τ) arg12 fullShare X12 ∗ owns (c : Thread nD τ) arg13 fullShare X13 ∗ owns (c : Thread nD τ) arg14 fullShare (stepK2 i xq xo xd xl (win2 X12 i) (win2 X13 i) (bias2 X16) (k0_pay35 (F := F))) ∗ owns (c : Thread nD τ) arg15 fullShare (stepV2 i xq xd xl (win2 X12 i) (bias2 X16) (k0_pay36 (F := F))) ∗ owns (c : Thread nD τ) arg16 fullShare X16) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%z9, %f9, %hf9, H9⟩, ⟨%f10, %hf10, H10⟩, ⟨%f11, %hf11, H11⟩, ⟨%z12, %f12, %hf12, H12⟩, ⟨%z13, %f13, %hf13, H13⟩, ⟨%z14, %f14, %hf14, H14⟩, ⟨%z15, %f15, %hf15, H15⟩, ⟨%z16, %f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11
  simp only [cc0_attn_bwd_eq_skeleton]; unfold cc0_attn_bwd_skel
  simp only [k0_part3_eq_skeleton, k0_part4_eq_skeleton]
  sl_exec (disch := first | sl_exact hg | sl_exact hn0 | sl_exact hn1 | sl_exact hf | sl_exact hl)
  sl_step
  iapply Hk
  iexists (arg12.view.read (Elt F) f12), (arg13.view.read (Elt F) f13), (arg16.view.read (Elt F) f16), _, _, _
  isplitr; · ipureintro; exact ⟨rfl, rfl, rfl⟩
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; rotate_left; · iexact H9
    ipureintro
    refine (View.read_writes_full _ _ _ _ _).trans ?_; sl_unfold_run_names; simp only [ld_q, ld_l, ld_k, ld_win2, ld_bias2, cov_bias2, bias_fill2, ld_acc2, read_store, k0_off2_row, View.writes_nil, Memref.IsWhole.read_unread]; rfl
  isplitl [H10]
  · iexists _; isplitr; · ipureintro; exact harg10.read_unread _
    iexact H10
  isplitl [H11]
  · iexists _; isplitr; · ipureintro; exact harg11.read_unread _
    iexact H11
  isplitl [H12]
  · iexists _; isplitr; rotate_left; · iexact H12
    ipureintro
    sl_unfold_run_names; simp only [ld_q, ld_l, ld_k, ld_win2, ld_bias2, cov_bias2, bias_fill2, ld_acc2, read_store, k0_off2_row, View.writes_nil, Memref.IsWhole.read_unread]; rfl
  isplitl [H13]
  · iexists _; isplitr; rotate_left; · iexact H13
    ipureintro
    sl_unfold_run_names; simp only [ld_q, ld_l, ld_k, ld_win2, ld_bias2, cov_bias2, bias_fill2, ld_acc2, read_store, k0_off2_row, View.writes_nil, Memref.IsWhole.read_unread]; rfl
  isplitl [H14]
  · iexists _; isplitr; rotate_left; · iexact H14
    ipureintro
    refine (View.read_writes_cons_put _ _ _ _ _ (k0_off2_row i)).trans ?_; sl_unfold_run_names; simp only [store_acc, ld_win2]; simp only [ld_q, ld_l, ld_k, ld_win2, ld_bias2, cov_bias2, bias_fill2, ld_acc2, read_store, k0_off2_row, View.writes_nil, Memref.IsWhole.read_unread]; rfl
  isplitl [H15]
  · iexists _; isplitr; rotate_left; · iexact H15
    ipureintro
    refine (View.read_writes_cons_put _ _ _ _ _ (k0_off2_row i)).trans ?_; sl_unfold_run_names; simp only [store_acc, ld_win2]; simp only [ld_q, ld_l, ld_k, ld_win2, ld_bias2, cov_bias2, bias_fill2, ld_acc2, read_store, k0_off2_row, View.writes_nil, Memref.IsWhole.read_unread]; rfl
  iexists _; isplitr; rotate_left; · iexact H16
  ipureintro
  sl_unfold_run_names; simp only [ld_q, ld_l, ld_k, ld_win2, ld_bias2, cov_bias2, bias_fill2, ld_acc2, read_store, k0_off2_row, View.writes_nil, Memref.IsWhole.read_unread]; rfl

end Cert.KernelIdeal.Hand

end
-- ==== Proof.KernelIdeal.Run2Mid.lean ====
module

public import proofs.«01_k».proof.Proof.KernelIdeal.Steps

/-! The body at a grid point of group 2, middle query tile of a head. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

open VecWindow (window put)

set_option maxHeartbeats 2000000 in
/-- Group 2, middle query tile. -/
theorem run2Mid (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x256x1 .f32) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S6144x128 .bf16) (harg12 : arg12.IsWhole) (arg13 : Memref sig .tc .vmem S6144x128 .bf16) (harg13 : arg13.IsWhole) (arg14 : Memref sig .tc .vmem S6144x128 .f32) (harg14 : arg14.IsWhole) (arg15 : Memref sig .tc .vmem S6144x128 .f32) (harg15 : arg15.IsWhole) (arg16 : Memref sig .tc .vmem S256x2304 .f32) (harg16 : arg16.IsWhole)
    (hg : k0_cond4 i = 1#1) (hn0 : ¬ k0_cond1 i = 1#1) (hn1 : ¬ k0_cond7 i = 1#1) (hf : ¬ isFirst i) (hl : ¬ k0_cond6 i = 1#1)
    (xq : Vec F S256x128 .bf16) (xk xv : Vec F S4096x128 .bf16) (xo xd : Vec F S256x128 .bf16) (xl : Vec F S1x256x1 .f32) (y10 y11 : Vec F S4096x128 .bf16) (X12 X13 : Vec F S6144x128 .bf16) (X14 X15 : Vec F S6144x128 .f32) (X16 : Vec F S256x2304 .f32)
    (E : Set ℕ) (K : PUnit → sProp 𝕄) :
    iprop(owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare xd ∗ owns (c : Thread nD τ) arg8 fullShare xl ∗ (∃ z, owns (c : Thread nD τ) arg9 fullShare z) ∗ owns (c : Thread nD τ) arg10 fullShare y10 ∗ owns (c : Thread nD τ) arg11 fullShare y11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16
        ∗ (iprop(owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare xd ∗ owns (c : Thread nD τ) arg8 fullShare xl ∗ owns (c : Thread nD τ) arg9 fullShare (dqt2 i xq xo xd xl (win2 X12 i) (win2 X13 i) (bias2 X16)) ∗ owns (c : Thread nD τ) arg10 fullShare y10 ∗ owns (c : Thread nD τ) arg11 fullShare y11 ∗ owns (c : Thread nD τ) arg12 fullShare X12 ∗ owns (c : Thread nD τ) arg13 fullShare X13 ∗ owns (c : Thread nD τ) arg14 fullShare (stepK2 i xq xo xd xl (win2 X12 i) (win2 X13 i) (bias2 X16) X14) ∗ owns (c : Thread nD τ) arg15 fullShare (stepV2 i xq xd xl (win2 X12 i) (bias2 X16) X15) ∗ owns (c : Thread nD τ) arg16 fullShare X16) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%z9, %f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  simp only [cc0_attn_bwd_eq_skeleton]; unfold cc0_attn_bwd_skel
  simp only [k0_part3_eq_skeleton, k0_part4_eq_skeleton]
  sl_exec (disch := first | sl_exact hg | sl_exact hn0 | sl_exact hn1 | sl_exact hf | sl_exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; rotate_left; · iexact H9
    ipureintro
    refine (View.read_writes_full _ _ _ _ _).trans ?_; sl_unfold_run_names; simp only [ld_q, ld_l, ld_k, ld_win2, ld_bias2, cov_bias2, bias_fill2, ld_acc2, read_store, k0_off2_row, View.writes_nil, Memref.IsWhole.read_unread]; rfl
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; rotate_left; · iexact H14
    ipureintro
    sl_unfold_run_names; simp only [ld_q, ld_l, ld_k, ld_win2, ld_bias2, cov_bias2, bias_fill2, ld_acc2, read_store, k0_off2_row, View.writes_nil, Memref.IsWhole.read_unread]; rfl
  isplitl [H15]
  · iexists _; isplitr; rotate_left; · iexact H15
    ipureintro
    sl_unfold_run_names; simp only [ld_q, ld_l, ld_k, ld_win2, ld_bias2, cov_bias2, bias_fill2, ld_acc2, read_store, k0_off2_row, View.writes_nil, Memref.IsWhole.read_unread]; rfl
  iexists _; isplitr; · ipureintro; exact harg16.read_unread _
  iexact H16

end Cert.KernelIdeal.Hand

end
-- ==== Proof.KernelIdeal.Run2Last.lean ====
module

public import proofs.«01_k».proof.Proof.KernelIdeal.Steps

/-! The body at a grid point of group 2, last query tile of a head. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

open VecWindow (window put)

set_option maxHeartbeats 2000000 in
/-- Group 2, last query tile. -/
theorem run2Last (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x256x1 .f32) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S6144x128 .bf16) (harg12 : arg12.IsWhole) (arg13 : Memref sig .tc .vmem S6144x128 .bf16) (harg13 : arg13.IsWhole) (arg14 : Memref sig .tc .vmem S6144x128 .f32) (harg14 : arg14.IsWhole) (arg15 : Memref sig .tc .vmem S6144x128 .f32) (harg15 : arg15.IsWhole) (arg16 : Memref sig .tc .vmem S256x2304 .f32) (harg16 : arg16.IsWhole)
    (hg : k0_cond4 i = 1#1) (hn0 : ¬ k0_cond1 i = 1#1) (hn1 : ¬ k0_cond7 i = 1#1) (hf : ¬ isFirst i) (hl : k0_cond6 i = 1#1)
    (xq : Vec F S256x128 .bf16) (xk xv : Vec F S4096x128 .bf16) (xo xd : Vec F S256x128 .bf16) (xl : Vec F S1x256x1 .f32) (X12 X13 : Vec F S6144x128 .bf16) (X14 X15 : Vec F S6144x128 .f32) (X16 : Vec F S256x2304 .f32)
    (E : Set ℕ) (K : PUnit → sProp 𝕄) :
    iprop(owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare xd ∗ owns (c : Thread nD τ) arg8 fullShare xl ∗ (∃ z, owns (c : Thread nD τ) arg9 fullShare z) ∗ (∃ z, owns (c : Thread nD τ) arg10 fullShare z) ∗ (∃ z, owns (c : Thread nD τ) arg11 fullShare z) ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16
        ∗ (iprop(owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare xd ∗ owns (c : Thread nD τ) arg8 fullShare xl ∗ owns (c : Thread nD τ) arg9 fullShare (dqt2 i xq xo xd xl (win2 X12 i) (win2 X13 i) (bias2 X16)) ∗ owns (c : Thread nD τ) arg10 fullShare (outK2 (stepK2 i xq xo xd xl (win2 X12 i) (win2 X13 i) (bias2 X16) X14)) ∗ owns (c : Thread nD τ) arg11 fullShare (outV2 (stepV2 i xq xd xl (win2 X12 i) (bias2 X16) X15)) ∗ owns (c : Thread nD τ) arg12 fullShare X12 ∗ owns (c : Thread nD τ) arg13 fullShare X13 ∗ owns (c : Thread nD τ) arg14 fullShare (stepK2 i xq xo xd xl (win2 X12 i) (win2 X13 i) (bias2 X16) X14) ∗ owns (c : Thread nD τ) arg15 fullShare (stepV2 i xq xd xl (win2 X12 i) (bias2 X16) X15) ∗ owns (c : Thread nD τ) arg16 fullShare X16) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%z9, %f9, %hf9, H9⟩, ⟨%z10, %f10, %hf10, H10⟩, ⟨%z11, %f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13; obtain rfl := harg14.eq_unread hf14; obtain rfl := harg15.eq_unread hf15; obtain rfl := harg16.eq_unread hf16
  simp only [cc0_attn_bwd_eq_skeleton]; unfold cc0_attn_bwd_skel
  simp only [k0_part3_eq_skeleton, k0_part4_eq_skeleton]
  sl_exec (disch := first | sl_exact hg | sl_exact hn0 | sl_exact hn1 | sl_exact hf | sl_exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; rotate_left; · iexact H9
    ipureintro
    refine (View.read_writes_full _ _ _ _ _).trans ?_; sl_unfold_run_names; simp only [ld_q, ld_l, ld_k, ld_win2, ld_bias2, cov_bias2, bias_fill2, ld_acc2, read_store, k0_off2_row, View.writes_nil, Memref.IsWhole.read_unread]; rfl
  isplitl [H10]
  · iexists _; isplitr; rotate_left; · iexact H10
    ipureintro
    refine (View.read_writes_full _ _ _ _ _).trans ?_; sl_unfold_run_names; simp only [ld_q, ld_l, ld_k, ld_win2, ld_bias2, cov_bias2, bias_fill2, ld_acc2, read_store, k0_off2_row, View.writes_nil, Memref.IsWhole.read_unread]; rfl
  isplitl [H11]
  · iexists _; isplitr; rotate_left; · iexact H11
    ipureintro
    refine (View.read_writes_full _ _ _ _ _).trans ?_; sl_unfold_run_names; simp only [ld_q, ld_l, ld_k, ld_win2, ld_bias2, cov_bias2, bias_fill2, ld_acc2, read_store, k0_off2_row, View.writes_nil, Memref.IsWhole.read_unread]; rfl
  isplitl [H12]
  · iexists _; isplitr; · ipureintro; exact harg12.read_unread _
    iexact H12
  isplitl [H13]
  · iexists _; isplitr; · ipureintro; exact harg13.read_unread _
    iexact H13
  isplitl [H14]
  · iexists _; isplitr; rotate_left; · iexact H14
    ipureintro
    sl_unfold_run_names; simp only [ld_q, ld_l, ld_k, ld_win2, ld_bias2, cov_bias2, bias_fill2, ld_acc2, read_store, k0_off2_row, View.writes_nil, Memref.IsWhole.read_unread]; rfl
  isplitl [H15]
  · iexists _; isplitr; rotate_left; · iexact H15
    ipureintro
    sl_unfold_run_names; simp only [ld_q, ld_l, ld_k, ld_win2, ld_bias2, cov_bias2, bias_fill2, ld_acc2, read_store, k0_off2_row, View.writes_nil, Memref.IsWhole.read_unread]; rfl
  iexists _; isplitr; · ipureintro; exact harg16.read_unread _
  iexact H16

end Cert.KernelIdeal.Hand

end
-- ==== Proof.KernelIdeal.Body2.lean ====
module

public import proofs.«01_k».proof.Proof.KernelIdeal.Held
public import proofs.«01_k».proof.Proof.KernelIdeal.Run2First
public import proofs.«01_k».proof.Proof.KernelIdeal.Run2Mid
public import proofs.«01_k».proof.Proof.KernelIdeal.Run2Last

/-! The body of group 2 between its two invariants. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

set_option maxHeartbeats 2000000 in
/-- Group 2, a head's first query tile. -/
theorem body2First (c : Dev nD) (t : Fin cfg0.N) (hg : t.val / 16 % 3 = 1) (h0 : t.val % 16 = 0) :
    bodyPre m c t ⊢ wp frame (wpE (defs₀ (F := F)) Variants.none c none) Set.univ (bodyAt0 t) (fun _ => bodyPost m c t) := by
  unfold bodyPre bodyPost bodyAt0
  have h15 : ¬ t.val % 16 = 15 := by omega
  have hN : t.val < 192 := lt_of_lt_of_eq t.isLt N_0
  simp only [before0_0, before0_1, before0_2, before0_3, before0_4, before0_5]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  rw [show (dats m 0 c).leavesExact 0 t = owns (c : Thread nD τ) (win0_0.stage (cfg0.slots t 0)) fullShare ((dats m 0 c).after 0 t) from by
    unfold Dat.leavesExact; rw [live0 t], after0_0]
  rw [show (dats m 0 c).leavesExact 1 t = owns (c : Thread nD τ) (win0_1.stage (cfg0.slots t 1)) fullShare ((dats m 0 c).after 1 t) from by
    unfold Dat.leavesExact; rw [live1 t], after0_1]
  rw [show (dats m 0 c).leavesExact 2 t = owns (c : Thread nD τ) (win0_2.stage (cfg0.slots t 2)) fullShare ((dats m 0 c).after 2 t) from by
    unfold Dat.leavesExact; rw [live2 t], after0_2]
  rw [show (dats m 0 c).leavesExact 3 t = owns (c : Thread nD τ) (win0_3.stage (cfg0.slots t 3)) fullShare ((dats m 0 c).after 3 t) from by
    unfold Dat.leavesExact; rw [live3 t], after0_3]
  rw [show (dats m 0 c).leavesExact 4 t = owns (c : Thread nD τ) (win0_4.stage (cfg0.slots t 4)) fullShare ((dats m 0 c).after 4 t) from by
    unfold Dat.leavesExact; rw [live4 t], after0_4]
  rw [show (dats m 0 c).leavesExact 5 t = owns (c : Thread nD τ) (win0_5.stage (cfg0.slots t 5)) fullShare ((dats m 0 c).after 5 t) from by
    unfold Dat.leavesExact; rw [live5 t], after0_5]
  rw [show (dats m 0 c).leavesExact 6 t = owns (c : Thread nD τ) (win0_6.stage (cfg0.slots t 6)) fullShare ((dats m 0 c).after 6 t) from by
    unfold Dat.leavesExact; rw [live6 t], after0_6]
  rw [Dat.leavesExact_idle (dats m 0 c) 7 t (idle7 t h15) (kept7 t h15)]
  rw [Dat.leavesExact_idle (dats m 0 c) 8 t (idle8 t h15) (kept8 t h15)]
  rw [PhiS_first m c _ h0, PhiA_eq, PhiS_next m c t h15]
  iintro ⟨⟨⟨S12, S13, S14, S15, S16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run2First c (grid0.coords t) _ _ _ _ _ _ _ _ _ _ _ _ _ _ _ _ _ _ _ _ _ _ _ _ _ _ _ _ ((group2_iff t).mpr hg) (fun h => absurd ((group1_iff t).mp h) (by omega)) (fun h => absurd ((group3_iff t).mp h) (by omega)) ((first_iff t).mpr h0) (fun h => h15 ((last2_iff t).mp h)) (qB m c t) (kB m c t) (vB m c t) (oB m c t) (dB m c t) (lB m c t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [S12]; · iexact S12
  isplitl [S13]; · iexact S13
  isplitl [S14]; · iexact S14
  isplitl [S15]; · iexact S15
  isplitl [S16]; · iexact S16
  iintro ⟨%Y12, %Y13, %Y16, %X12, %X13, %X16, %hfill, H0, H1, H2, H3, H4, H5, H6, H7, H8, S12, S13, S14, S15, S16⟩
  have hh := held_of2 m c t hg X12 X13 Y12 Y13 zeroAcc zeroAcc X16 Y16 hfill (accK_first m c t h0) (accV_first m c t h0)
  have hq := gradQ_of2 m c t hg X12 X13 Y12 Y13 X16 Y16 hfill
  isplitl [S12 S13 S14 S15 S16 Hg]
  · iexists _; iexists _; iexists _; iexists _; iexists _
    isplitr; rotate_left
    · isplitl [S12]; · iexact S12
      isplitl [S13]; · iexact S13
      isplitl [S14]; · iexact S14
      isplitl [S15]; · iexact S15
      isplitl [S16]; · iexact S16
      iexact Hg
    ipureintro; exact hh
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [← hq]; iexact H6
  isplitl [H7]; · iexists _; iexact H7
  iexists _; iexact H8

set_option maxHeartbeats 2000000 in
/-- Group 2, a head's middle query tiles. -/
theorem body2Mid (c : Dev nD) (t : Fin cfg0.N) (hg : t.val / 16 % 3 = 1) (h0 : ¬ t.val % 16 = 0) (h15 : ¬ t.val % 16 = 15) :
    bodyPre m c t ⊢ wp frame (wpE (defs₀ (F := F)) Variants.none c none) Set.univ (bodyAt0 t) (fun _ => bodyPost m c t) := by
  unfold bodyPre bodyPost bodyAt0
  have hN : t.val < 192 := lt_of_lt_of_eq t.isLt N_0
  simp only [before0_0, before0_1, before0_2, before0_3, before0_4, before0_5]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  rw [show (dats m 0 c).leavesExact 0 t = owns (c : Thread nD τ) (win0_0.stage (cfg0.slots t 0)) fullShare ((dats m 0 c).after 0 t) from by
    unfold Dat.leavesExact; rw [live0 t], after0_0]
  rw [show (dats m 0 c).leavesExact 1 t = owns (c : Thread nD τ) (win0_1.stage (cfg0.slots t 1)) fullShare ((dats m 0 c).after 1 t) from by
    unfold Dat.leavesExact; rw [live1 t], after0_1]
  rw [show (dats m 0 c).leavesExact 2 t = owns (c : Thread nD τ) (win0_2.stage (cfg0.slots t 2)) fullShare ((dats m 0 c).after 2 t) from by
    unfold Dat.leavesExact; rw [live2 t], after0_2]
  rw [show (dats m 0 c).leavesExact 3 t = owns (c : Thread nD τ) (win0_3.stage (cfg0.slots t 3)) fullShare ((dats m 0 c).after 3 t) from by
    unfold Dat.leavesExact; rw [live3 t], after0_3]
  rw [show (dats m 0 c).leavesExact 4 t = owns (c : Thread nD τ) (win0_4.stage (cfg0.slots t 4)) fullShare ((dats m 0 c).after 4 t) from by
    unfold Dat.leavesExact; rw [live4 t], after0_4]
  rw [show (dats m 0 c).leavesExact 5 t = owns (c : Thread nD τ) (win0_5.stage (cfg0.slots t 5)) fullShare ((dats m 0 c).after 5 t) from by
    unfold Dat.leavesExact; rw [live5 t], after0_5]
  rw [show (dats m 0 c).leavesExact 6 t = owns (c : Thread nD τ) (win0_6.stage (cfg0.slots t 6)) fullShare ((dats m 0 c).after 6 t) from by
    unfold Dat.leavesExact; rw [live6 t], after0_6]
  rw [Dat.leavesExact_idle (dats m 0 c) 7 t (idle7 t h15) (kept7 t h15)]
  rw [Dat.leavesExact_idle (dats m 0 c) 8 t (idle8 t h15) (kept8 t h15)]
  rw [PhiS_prev m c t h0]
  rw [PhiS_next m c t h15]
  iintro ⟨⟨%X12, %X13, %X14, %X15, %X16, %hH, S12, S13, S14, S15, S16, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨Y12, Y13, Y16, hfill⟩ := hH.filled2 t (by rw [pt_val' _ (Nat.lt_of_le_of_lt (Nat.sub_le _ 1) t.isLt)]; omega) hg
  have hX14 : X14 = accK m c (t.val - 1) := hH.1.trans (by rw [pt_val' _ (Nat.lt_of_le_of_lt (Nat.sub_le _ 1) t.isLt)])
  have hX15 : X15 = accV m c (t.val - 1) := hH.2.1.trans (by rw [pt_val' _ (Nat.lt_of_le_of_lt (Nat.sub_le _ 1) t.isLt)])
  have hh := held_of2 m c t hg X12 X13 Y12 Y13 X14 X15 X16 Y16 hfill (by rw [hX14]; exact accK_next m c t h0) (by rw [hX15]; exact accV_next m c t h0)
  have hq := gradQ_of2 m c t hg X12 X13 Y12 Y13 X16 Y16 hfill
  iapply (run2Mid c (grid0.coords t) _ _ _ _ _ _ _ _ _ _ _ _ _ _ _ _ _ _ _ _ _ _ _ _ _ _ _ _ ((group2_iff t).mpr hg) (fun h => absurd ((group1_iff t).mp h) (by omega)) (fun h => absurd ((group3_iff t).mp h) (by omega)) (fun h => h0 ((first_iff t).mp h)) (fun h => h15 ((last2_iff t).mp h)) (qB m c t) (kB m c t) (vB m c t) (oB m c t) (dB m c t) (lB m c t) _ _ X12 X13 X14 X15 X16 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [S12]; · iexact S12
  isplitl [S13]; · iexact S13
  isplitl [S14]; · iexact S14
  isplitl [S15]; · iexact S15
  isplitl [S16]; · iexact S16
  iintro ⟨H0, H1, H2, H3, H4, H5, H6, H7, H8, S12, S13, S14, S15, S16⟩
  isplitl [S12 S13 S14 S15 S16 Hg]
  · iexists _; iexists _; iexists _; iexists _; iexists _
    isplitr; rotate_left
    · isplitl [S12]; · iexact S12
      isplitl [S13]; · iexact S13
      isplitl [S14]; · iexact S14
      isplitl [S15]; · iexact S15
      isplitl [S16]; · iexact S16
      iexact Hg
    ipureintro; exact hh
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [← hq]; iexact H6
  isplitl [H7]; · iexists _; iexact H7
  iexists _; iexact H8

set_option maxHeartbeats 2000000 in
/-- Group 2, a head's last query tile. -/
theorem body2Last (c : Dev nD) (t : Fin cfg0.N) (hg : t.val / 16 % 3 = 1) (h15 : t.val % 16 = 15) :
    bodyPre m c t ⊢ wp frame (wpE (defs₀ (F := F)) Variants.none c none) Set.univ (bodyAt0 t) (fun _ => bodyPost m c t) := by
  unfold bodyPre bodyPost bodyAt0
  have h0 : ¬ t.val % 16 = 0 := by omega
  have hN : t.val < 192 := lt_of_lt_of_eq t.isLt N_0
  simp only [before0_0, before0_1, before0_2, before0_3, before0_4, before0_5]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  rw [show (dats m 0 c).leavesExact 0 t = owns (c : Thread nD τ) (win0_0.stage (cfg0.slots t 0)) fullShare ((dats m 0 c).after 0 t) from by
    unfold Dat.leavesExact; rw [live0 t], after0_0]
  rw [show (dats m 0 c).leavesExact 1 t = owns (c : Thread nD τ) (win0_1.stage (cfg0.slots t 1)) fullShare ((dats m 0 c).after 1 t) from by
    unfold Dat.leavesExact; rw [live1 t], after0_1]
  rw [show (dats m 0 c).leavesExact 2 t = owns (c : Thread nD τ) (win0_2.stage (cfg0.slots t 2)) fullShare ((dats m 0 c).after 2 t) from by
    unfold Dat.leavesExact; rw [live2 t], after0_2]
  rw [show (dats m 0 c).leavesExact 3 t = owns (c : Thread nD τ) (win0_3.stage (cfg0.slots t 3)) fullShare ((dats m 0 c).after 3 t) from by
    unfold Dat.leavesExact; rw [live3 t], after0_3]
  rw [show (dats m 0 c).leavesExact 4 t = owns (c : Thread nD τ) (win0_4.stage (cfg0.slots t 4)) fullShare ((dats m 0 c).after 4 t) from by
    unfold Dat.leavesExact; rw [live4 t], after0_4]
  rw [show (dats m 0 c).leavesExact 5 t = owns (c : Thread nD τ) (win0_5.stage (cfg0.slots t 5)) fullShare ((dats m 0 c).after 5 t) from by
    unfold Dat.leavesExact; rw [live5 t], after0_5]
  rw [show (dats m 0 c).leavesExact 6 t = owns (c : Thread nD τ) (win0_6.stage (cfg0.slots t 6)) fullShare ((dats m 0 c).after 6 t) from by
    unfold Dat.leavesExact; rw [live6 t], after0_6]
  rw [show (dats m 0 c).leavesExact 7 t = owns (c : Thread nD τ) (win0_7.stage (cfg0.slots t 7)) fullShare ((dats m 0 c).after 7 t) from by
    unfold Dat.leavesExact; rw [live7 t h15], after0_7]
  rw [show (dats m 0 c).leavesExact 8 t = owns (c : Thread nD τ) (win0_8.stage (cfg0.slots t 8)) fullShare ((dats m 0 c).after 8 t) from by
    unfold Dat.leavesExact; rw [live8 t h15], after0_8]
  rw [PhiS_prev m c t h0]
  rw [PhiS_first m c (t.val + 1) (by omega), PhiA_eq]
  iintro ⟨⟨%X12, %X13, %X14, %X15, %X16, %hH, S12, S13, S14, S15, S16, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨Y12, Y13, Y16, hfill⟩ := hH.filled2 t (by rw [pt_val' _ (Nat.lt_of_le_of_lt (Nat.sub_le _ 1) t.isLt)]; omega) hg
  have hX14 : X14 = accK m c (t.val - 1) := hH.1.trans (by rw [pt_val' _ (Nat.lt_of_le_of_lt (Nat.sub_le _ 1) t.isLt)])
  have hX15 : X15 = accV m c (t.val - 1) := hH.2.1.trans (by rw [pt_val' _ (Nat.lt_of_le_of_lt (Nat.sub_le _ 1) t.isLt)])
  have hh := held_of2 m c t hg X12 X13 Y12 Y13 X14 X15 X16 Y16 hfill (by rw [hX14]; exact accK_next m c t h0) (by rw [hX15]; exact accV_next m c t h0)
  have hq := gradQ_of2 m c t hg X12 X13 Y12 Y13 X16 Y16 hfill
  obtain ⟨ek, ev⟩ := grads_of2 m c t hg _ _ _ _ _ hh
  iapply (run2Last c (grid0.coords t) _ _ _ _ _ _ _ _ _ _ _ _ _ _ _ _ _ _ _ _ _ _ _ _ _ _ _ _ ((group2_iff t).mpr hg) (fun h => absurd ((group1_iff t).mp h) (by omega)) (fun h => absurd ((group3_iff t).mp h) (by omega)) (fun h => h0 ((first_iff t).mp h)) ((last2_iff t).mpr h15) (qB m c t) (kB m c t) (vB m c t) (oB m c t) (dB m c t) (lB m c t) X12 X13 X14 X15 X16 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [S12]; · iexact S12
  isplitl [S13]; · iexact S13
  isplitl [S14]; · iexact S14
  isplitl [S15]; · iexact S15
  isplitl [S16]; · iexact S16
  iintro ⟨H0, H1, H2, H3, H4, H5, H6, H7, H8, S12, S13, S14, S15, S16⟩
  isplitl [S12 S13 S14 S15 S16 Hg]
  · isplitl [S12 S13 S14 S15 S16]
    · isplitl [S12]; · iexists _; iexact S12
      isplitl [S13]; · iexists _; iexact S13
      isplitl [S14]; · iexists _; iexact S14
      isplitl [S15]; · iexists _; iexact S15
      iexists _; iexact S16
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [← hq]; iexact H6
  isplitl [H7]; · rw [← ek]; iexact H7
  rw [← ev]; iexact H8

end Cert.KernelIdeal.Hand

end
-- ==== Proof.KernelIdeal.Run3First.lean ====
module

public import proofs.«01_k».proof.Proof.KernelIdeal.Steps

/-! The body at a grid point of group 3, first query tile of a head. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

open VecWindow (window put)

set_option maxHeartbeats 2000000 in
/-- Group 3, first query tile. -/
theorem run3First (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x256x1 .f32) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S6144x128 .bf16) (harg12 : arg12.IsWhole) (arg13 : Memref sig .tc .vmem S6144x128 .bf16) (harg13 : arg13.IsWhole) (arg14 : Memref sig .tc .vmem S6144x128 .f32) (harg14 : arg14.IsWhole) (arg15 : Memref sig .tc .vmem S6144x128 .f32) (harg15 : arg15.IsWhole) (arg16 : Memref sig .tc .vmem S256x2304 .f32) (harg16 : arg16.IsWhole)
    (hg : k0_cond7 i = 1#1) (hn0 : ¬ k0_cond1 i = 1#1) (hn1 : ¬ k0_cond4 i = 1#1) (hf : isFirst i) (hl : ¬ k0_cond9 i = 1#1)
    (xq : Vec F S256x128 .bf16) (xk xv : Vec F S4096x128 .bf16) (xo xd : Vec F S256x128 .bf16) (xl : Vec F S1x256x1 .f32) (y10 y11 : Vec F S4096x128 .bf16)
    (E : Set ℕ) (K : PUnit → sProp 𝕄) :
    iprop(owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare xd ∗ owns (c : Thread nD τ) arg8 fullShare xl ∗ (∃ z, owns (c : Thread nD τ) arg9 fullShare z) ∗ owns (c : Thread nD τ) arg10 fullShare y10 ∗ owns (c : Thread nD τ) arg11 fullShare y11 ∗ (∃ z, owns (c : Thread nD τ) arg12 fullShare z) ∗ (∃ z, owns (c : Thread nD τ) arg13 fullShare z) ∗ (∃ z, owns (c : Thread nD τ) arg14 fullShare z) ∗ (∃ z, owns (c : Thread nD τ) arg15 fullShare z) ∗ (∃ z, owns (c : Thread nD τ) arg16 fullShare z)
        ∗ (iprop(∃ Y12 Y13 Y16 X12 X13 X16, ⌜X12 = fillK3 xk Y12 ∧ X13 = fillV3 xv Y13 ∧ X16 = fillB3 Y16⌝ ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare xd ∗ owns (c : Thread nD τ) arg8 fullShare xl ∗ owns (c : Thread nD τ) arg9 fullShare (dqt3 i xq xo xd xl (win3 X12 i) (win3 X13 i) (bias3 X16)) ∗ owns (c : Thread nD τ) arg10 fullShare y10 ∗ owns (c : Thread nD τ) arg11 fullShare y11 ∗ owns (c : Thread nD τ) arg12 fullShare X12 ∗ owns (c : Thread nD τ) arg13 fullShare X13 ∗ owns (c : Thread nD τ) arg14 fullShare (stepK3 i xq xo xd xl (win3 X12 i) (win3 X13 i) (bias3 X16) (k0_pay47 (F := F))) ∗ owns (c : Thread nD τ) arg15 fullShare (stepV3 i xq xd xl (win3 X12 i) (bias3 X16) (k0_pay48 (F := F))) ∗ owns (c : Thread nD τ) arg16 fullShare X16) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%z9, %f9, %hf9, H9⟩, ⟨%f10, %hf10, H10⟩, ⟨%f11, %hf11, H11⟩, ⟨%z12, %f12, %hf12, H12⟩, ⟨%z13, %f13, %hf13, H13⟩, ⟨%z14, %f14, %hf14, H14⟩, ⟨%z15, %f15, %hf15, H15⟩, ⟨%z16, %f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11
  simp only [cc0_attn_bwd_eq_skeleton]; unfold cc0_attn_bwd_skel
  simp only [k0_part5_eq_skeleton, k0_part6_eq_skeleton]
  sl_exec (disch := first | sl_exact hg | sl_exact hn0 | sl_exact hn1 | sl_exact hf | sl_exact hl)
  sl_step
  iapply Hk
  iexists (arg12.view.read (Elt F) arg12.view.junk), (arg13.view.read (Elt F) arg13.view.junk), (arg16.view.read (Elt F) f16), _, _, _
  isplitr; · ipureintro; exact ⟨rfl, rfl, rfl⟩
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; rotate_left; · iexact H9
    ipureintro
    refine (View.read_writes_full _ _ _ _ _).trans ?_; sl_unfold_run_names; simp only [ld_q, ld_l, ld_k, ld_win3, ld_bias3, cov_bias3, bias_fill3, ld_acc3, read_store, k0_off3_row, View.writes_nil, Memref.IsWhole.read_unread]; rfl
  isplitl [H10]
  · iexists _; isplitr; · ipureintro; exact harg10.read_unread _
    iexact H10
  isplitl [H11]
  · iexists _; isplitr; · ipureintro; exact harg11.read_unread _
    iexact H11
  isplitl [H12]
  · iexists _; isplitr; rotate_left; · iexact H12
    ipureintro
    sl_unfold_run_names; simp only [ld_q, ld_l, ld_k, ld_win3, ld_bias3, cov_bias3, bias_fill3, ld_acc3, read_store, k0_off3_row, View.writes_nil, Memref.IsWhole.read_unread]; rfl
  isplitl [H13]
  · iexists _; isplitr; rotate_left; · iexact H13
    ipureintro
    sl_unfold_run_names; simp only [ld_q, ld_l, ld_k, ld_win3, ld_bias3, cov_bias3, bias_fill3, ld_acc3, read_store, k0_off3_row, View.writes_nil, Memref.IsWhole.read_unread]; rfl
  isplitl [H14]
  · iexists _; isplitr; rotate_left; · iexact H14
    ipureintro
    refine (View.read_writes_cons_put _ _ _ _ _ (k0_off3_row i)).trans ?_; sl_unfold_run_names; simp only [store_acc, ld_win3]; simp only [ld_q, ld_l, ld_k, ld_win3, ld_bias3, cov_bias3, bias_fill3, ld_acc3, read_store, k0_off3_row, View.writes_nil, Memref.IsWhole.read_unread]; rfl
  isplitl [H15]
  · iexists _; isplitr; rotate_left; · iexact H15
    ipureintro
    refine (View.read_writes_cons_put _ _ _ _ _ (k0_off3_row i)).trans ?_; sl_unfold_run_names; simp only [store_acc, ld_win3]; simp only [ld_q, ld_l, ld_k, ld_win3, ld_bias3, cov_bias3, bias_fill3, ld_acc3, read_store, k0_off3_row, View.writes_nil, Memref.IsWhole.read_unread]; rfl
  iexists _; isplitr; rotate_left; · iexact H16
  ipureintro
  sl_unfold_run_names; simp only [ld_q, ld_l, ld_k, ld_win3, ld_bias3, cov_bias3, bias_fill3, ld_acc3, read_store, k0_off3_row, View.writes_nil, Memref.IsWhole.read_unread]; rfl

end Cert.KernelIdeal.Hand

end
-- ==== Proof.KernelIdeal.Run3Mid.lean ====
module

public import proofs.«01_k».proof.Proof.KernelIdeal.Steps

/-! The body at a grid point of group 3, middle query tile of a head. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

open VecWindow (window put)

set_option maxHeartbeats 2000000 in
/-- Group 3, middle query tile. -/
theorem run3Mid (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x256x1 .f32) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S6144x128 .bf16) (harg12 : arg12.IsWhole) (arg13 : Memref sig .tc .vmem S6144x128 .bf16) (harg13 : arg13.IsWhole) (arg14 : Memref sig .tc .vmem S6144x128 .f32) (harg14 : arg14.IsWhole) (arg15 : Memref sig .tc .vmem S6144x128 .f32) (harg15 : arg15.IsWhole) (arg16 : Memref sig .tc .vmem S256x2304 .f32) (harg16 : arg16.IsWhole)
    (hg : k0_cond7 i = 1#1) (hn0 : ¬ k0_cond1 i = 1#1) (hn1 : ¬ k0_cond4 i = 1#1) (hf : ¬ isFirst i) (hl : ¬ k0_cond9 i = 1#1)
    (xq : Vec F S256x128 .bf16) (xk xv : Vec F S4096x128 .bf16) (xo xd : Vec F S256x128 .bf16) (xl : Vec F S1x256x1 .f32) (y10 y11 : Vec F S4096x128 .bf16) (X12 X13 : Vec F S6144x128 .bf16) (X14 X15 : Vec F S6144x128 .f32) (X16 : Vec F S256x2304 .f32)
    (E : Set ℕ) (K : PUnit → sProp 𝕄) :
    iprop(owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare xd ∗ owns (c : Thread nD τ) arg8 fullShare xl ∗ (∃ z, owns (c : Thread nD τ) arg9 fullShare z) ∗ owns (c : Thread nD τ) arg10 fullShare y10 ∗ owns (c : Thread nD τ) arg11 fullShare y11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16
        ∗ (iprop(owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare xd ∗ owns (c : Thread nD τ) arg8 fullShare xl ∗ owns (c : Thread nD τ) arg9 fullShare (dqt3 i xq xo xd xl (win3 X12 i) (win3 X13 i) (bias3 X16)) ∗ owns (c : Thread nD τ) arg10 fullShare y10 ∗ owns (c : Thread nD τ) arg11 fullShare y11 ∗ owns (c : Thread nD τ) arg12 fullShare X12 ∗ owns (c : Thread nD τ) arg13 fullShare X13 ∗ owns (c : Thread nD τ) arg14 fullShare (stepK3 i xq xo xd xl (win3 X12 i) (win3 X13 i) (bias3 X16) X14) ∗ owns (c : Thread nD τ) arg15 fullShare (stepV3 i xq xd xl (win3 X12 i) (bias3 X16) X15) ∗ owns (c : Thread nD τ) arg16 fullShare X16) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%z9, %f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  simp only [cc0_attn_bwd_eq_skeleton]; unfold cc0_attn_bwd_skel
  simp only [k0_part5_eq_skeleton, k0_part6_eq_skeleton]
  sl_exec (disch := first | sl_exact hg | sl_exact hn0 | sl_exact hn1 | sl_exact hf | sl_exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; rotate_left; · iexact H9
    ipureintro
    refine (View.read_writes_full _ _ _ _ _).trans ?_; sl_unfold_run_names; simp only [ld_q, ld_l, ld_k, ld_win3, ld_bias3, cov_bias3, bias_fill3, ld_acc3, read_store, k0_off3_row, View.writes_nil, Memref.IsWhole.read_unread]; rfl
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; rotate_left; · iexact H14
    ipureintro
    sl_unfold_run_names; simp only [ld_q, ld_l, ld_k, ld_win3, ld_bias3, cov_bias3, bias_fill3, ld_acc3, read_store, k0_off3_row, View.writes_nil, Memref.IsWhole.read_unread]; rfl
  isplitl [H15]
  · iexists _; isplitr; rotate_left; · iexact H15
    ipureintro
    sl_unfold_run_names; simp only [ld_q, ld_l, ld_k, ld_win3, ld_bias3, cov_bias3, bias_fill3, ld_acc3, read_store, k0_off3_row, View.writes_nil, Memref.IsWhole.read_unread]; rfl
  iexists _; isplitr; · ipureintro; exact harg16.read_unread _
  iexact H16

end Cert.KernelIdeal.Hand

end
-- ==== Proof.KernelIdeal.Run3Last.lean ====
module

public import proofs.«01_k».proof.Proof.KernelIdeal.Steps

/-! The body at a grid point of group 3, last query tile of a head. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

open VecWindow (window put)

set_option maxHeartbeats 2000000 in
/-- Group 3, last query tile. -/
theorem run3Last (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x256x1 .f32) (harg8 : arg8.IsWhole) (arg9 : Memref sig .tc .vmem S256x128 .bf16) (harg9 : arg9.IsWhole) (arg10 : Memref sig .tc .vmem S4096x128 .bf16) (harg10 : arg10.IsWhole) (arg11 : Memref sig .tc .vmem S4096x128 .bf16) (harg11 : arg11.IsWhole) (arg12 : Memref sig .tc .vmem S6144x128 .bf16) (harg12 : arg12.IsWhole) (arg13 : Memref sig .tc .vmem S6144x128 .bf16) (harg13 : arg13.IsWhole) (arg14 : Memref sig .tc .vmem S6144x128 .f32) (harg14 : arg14.IsWhole) (arg15 : Memref sig .tc .vmem S6144x128 .f32) (harg15 : arg15.IsWhole) (arg16 : Memref sig .tc .vmem S256x2304 .f32) (harg16 : arg16.IsWhole)
    (hg : k0_cond7 i = 1#1) (hn0 : ¬ k0_cond1 i = 1#1) (hn1 : ¬ k0_cond4 i = 1#1) (hf : ¬ isFirst i) (hl : k0_cond9 i = 1#1)
    (xq : Vec F S256x128 .bf16) (xk xv : Vec F S4096x128 .bf16) (xo xd : Vec F S256x128 .bf16) (xl : Vec F S1x256x1 .f32) (X12 X13 : Vec F S6144x128 .bf16) (X14 X15 : Vec F S6144x128 .f32) (X16 : Vec F S256x2304 .f32)
    (E : Set ℕ) (K : PUnit → sProp 𝕄) :
    iprop(owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare xd ∗ owns (c : Thread nD τ) arg8 fullShare xl ∗ (∃ z, owns (c : Thread nD τ) arg9 fullShare z) ∗ (∃ z, owns (c : Thread nD τ) arg10 fullShare z) ∗ (∃ z, owns (c : Thread nD τ) arg11 fullShare z) ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16
        ∗ (iprop(owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare xd ∗ owns (c : Thread nD τ) arg8 fullShare xl ∗ owns (c : Thread nD τ) arg9 fullShare (dqt3 i xq xo xd xl (win3 X12 i) (win3 X13 i) (bias3 X16)) ∗ owns (c : Thread nD τ) arg10 fullShare (outK3 (stepK3 i xq xo xd xl (win3 X12 i) (win3 X13 i) (bias3 X16) X14)) ∗ owns (c : Thread nD τ) arg11 fullShare (outV3 (stepV3 i xq xd xl (win3 X12 i) (bias3 X16) X15)) ∗ owns (c : Thread nD τ) arg12 fullShare X12 ∗ owns (c : Thread nD τ) arg13 fullShare X13 ∗ owns (c : Thread nD τ) arg14 fullShare (stepK3 i xq xo xd xl (win3 X12 i) (win3 X13 i) (bias3 X16) X14) ∗ owns (c : Thread nD τ) arg15 fullShare (stepV3 i xq xd xl (win3 X12 i) (bias3 X16) X15) ∗ owns (c : Thread nD τ) arg16 fullShare X16) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%z9, %f9, %hf9, H9⟩, ⟨%z10, %f10, %hf10, H10⟩, ⟨%z11, %f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13; obtain rfl := harg14.eq_unread hf14; obtain rfl := harg15.eq_unread hf15; obtain rfl := harg16.eq_unread hf16
  simp only [cc0_attn_bwd_eq_skeleton]; unfold cc0_attn_bwd_skel
  simp only [k0_part5_eq_skeleton, k0_part6_eq_skeleton]
  sl_exec (disch := first | sl_exact hg | sl_exact hn0 | sl_exact hn1 | sl_exact hf | sl_exact hl)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; rotate_left; · iexact H9
    ipureintro
    refine (View.read_writes_full _ _ _ _ _).trans ?_; sl_unfold_run_names; simp only [ld_q, ld_l, ld_k, ld_win3, ld_bias3, cov_bias3, bias_fill3, ld_acc3, read_store, k0_off3_row, View.writes_nil, Memref.IsWhole.read_unread]; rfl
  isplitl [H10]
  · iexists _; isplitr; rotate_left; · iexact H10
    ipureintro
    refine (View.read_writes_full _ _ _ _ _).trans ?_; sl_unfold_run_names; simp only [ld_q, ld_l, ld_k, ld_win3, ld_bias3, cov_bias3, bias_fill3, ld_acc3, read_store, k0_off3_row, View.writes_nil, Memref.IsWhole.read_unread]; rfl
  isplitl [H11]
  · iexists _; isplitr; rotate_left; · iexact H11
    ipureintro
    refine (View.read_writes_full _ _ _ _ _).trans ?_; sl_unfold_run_names; simp only [ld_q, ld_l, ld_k, ld_win3, ld_bias3, cov_bias3, bias_fill3, ld_acc3, read_store, k0_off3_row, View.writes_nil, Memref.IsWhole.read_unread]; rfl
  isplitl [H12]
  · iexists _; isplitr; · ipureintro; exact harg12.read_unread _
    iexact H12
  isplitl [H13]
  · iexists _; isplitr; · ipureintro; exact harg13.read_unread _
    iexact H13
  isplitl [H14]
  · iexists _; isplitr; rotate_left; · iexact H14
    ipureintro
    sl_unfold_run_names; simp only [ld_q, ld_l, ld_k, ld_win3, ld_bias3, cov_bias3, bias_fill3, ld_acc3, read_store, k0_off3_row, View.writes_nil, Memref.IsWhole.read_unread]; rfl
  isplitl [H15]
  · iexists _; isplitr; rotate_left; · iexact H15
    ipureintro
    sl_unfold_run_names; simp only [ld_q, ld_l, ld_k, ld_win3, ld_bias3, cov_bias3, bias_fill3, ld_acc3, read_store, k0_off3_row, View.writes_nil, Memref.IsWhole.read_unread]; rfl
  iexists _; isplitr; · ipureintro; exact harg16.read_unread _
  iexact H16

end Cert.KernelIdeal.Hand

end
-- ==== Proof.KernelIdeal.Body3.lean ====
module

public import proofs.«01_k».proof.Proof.KernelIdeal.Held
public import proofs.«01_k».proof.Proof.KernelIdeal.Run3First
public import proofs.«01_k».proof.Proof.KernelIdeal.Run3Mid
public import proofs.«01_k».proof.Proof.KernelIdeal.Run3Last

/-! The body of group 3 between its two invariants. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

set_option maxHeartbeats 2000000 in
/-- Group 3, a head's first query tile. -/
theorem body3First (c : Dev nD) (t : Fin cfg0.N) (hg : t.val / 16 % 3 = 2) (h0 : t.val % 16 = 0) :
    bodyPre m c t ⊢ wp frame (wpE (defs₀ (F := F)) Variants.none c none) Set.univ (bodyAt0 t) (fun _ => bodyPost m c t) := by
  unfold bodyPre bodyPost bodyAt0
  have h15 : ¬ t.val % 16 = 15 := by omega
  have hN : t.val < 192 := lt_of_lt_of_eq t.isLt N_0
  simp only [before0_0, before0_1, before0_2, before0_3, before0_4, before0_5]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  rw [show (dats m 0 c).leavesExact 0 t = owns (c : Thread nD τ) (win0_0.stage (cfg0.slots t 0)) fullShare ((dats m 0 c).after 0 t) from by
    unfold Dat.leavesExact; rw [live0 t], after0_0]
  rw [show (dats m 0 c).leavesExact 1 t = owns (c : Thread nD τ) (win0_1.stage (cfg0.slots t 1)) fullShare ((dats m 0 c).after 1 t) from by
    unfold Dat.leavesExact; rw [live1 t], after0_1]
  rw [show (dats m 0 c).leavesExact 2 t = owns (c : Thread nD τ) (win0_2.stage (cfg0.slots t 2)) fullShare ((dats m 0 c).after 2 t) from by
    unfold Dat.leavesExact; rw [live2 t], after0_2]
  rw [show (dats m 0 c).leavesExact 3 t = owns (c : Thread nD τ) (win0_3.stage (cfg0.slots t 3)) fullShare ((dats m 0 c).after 3 t) from by
    unfold Dat.leavesExact; rw [live3 t], after0_3]
  rw [show (dats m 0 c).leavesExact 4 t = owns (c : Thread nD τ) (win0_4.stage (cfg0.slots t 4)) fullShare ((dats m 0 c).after 4 t) from by
    unfold Dat.leavesExact; rw [live4 t], after0_4]
  rw [show (dats m 0 c).leavesExact 5 t = owns (c : Thread nD τ) (win0_5.stage (cfg0.slots t 5)) fullShare ((dats m 0 c).after 5 t) from by
    unfold Dat.leavesExact; rw [live5 t], after0_5]
  rw [show (dats m 0 c).leavesExact 6 t = owns (c : Thread nD τ) (win0_6.stage (cfg0.slots t 6)) fullShare ((dats m 0 c).after 6 t) from by
    unfold Dat.leavesExact; rw [live6 t], after0_6]
  rw [Dat.leavesExact_idle (dats m 0 c) 7 t (idle7 t h15) (kept7 t h15)]
  rw [Dat.leavesExact_idle (dats m 0 c) 8 t (idle8 t h15) (kept8 t h15)]
  rw [PhiS_first m c _ h0, PhiA_eq, PhiS_next m c t h15]
  iintro ⟨⟨⟨S12, S13, S14, S15, S16⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run3First c (grid0.coords t) _ _ _ _ _ _ _ _ _ _ _ _ _ _ _ _ _ _ _ _ _ _ _ _ _ _ _ _ ((group3_iff t).mpr hg) (fun h => absurd ((group1_iff t).mp h) (by omega)) (fun h => absurd ((group2_iff t).mp h) (by omega)) ((first_iff t).mpr h0) (fun h => h15 ((last3_iff t).mp h)) (qB m c t) (kB m c t) (vB m c t) (oB m c t) (dB m c t) (lB m c t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [S12]; · iexact S12
  isplitl [S13]; · iexact S13
  isplitl [S14]; · iexact S14
  isplitl [S15]; · iexact S15
  isplitl [S16]; · iexact S16
  iintro ⟨%Y12, %Y13, %Y16, %X12, %X13, %X16, %hfill, H0, H1, H2, H3, H4, H5, H6, H7, H8, S12, S13, S14, S15, S16⟩
  have hh := held_of3 m c t hg X12 X13 Y12 Y13 zeroAcc zeroAcc X16 Y16 hfill (accK_first m c t h0) (accV_first m c t h0)
  have hq := gradQ_of3 m c t hg X12 X13 Y12 Y13 X16 Y16 hfill
  isplitl [S12 S13 S14 S15 S16 Hg]
  · iexists _; iexists _; iexists _; iexists _; iexists _
    isplitr; rotate_left
    · isplitl [S12]; · iexact S12
      isplitl [S13]; · iexact S13
      isplitl [S14]; · iexact S14
      isplitl [S15]; · iexact S15
      isplitl [S16]; · iexact S16
      iexact Hg
    ipureintro; exact hh
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [← hq]; iexact H6
  isplitl [H7]; · iexists _; iexact H7
  iexists _; iexact H8

set_option maxHeartbeats 2000000 in
/-- Group 3, a head's middle query tiles. -/
theorem body3Mid (c : Dev nD) (t : Fin cfg0.N) (hg : t.val / 16 % 3 = 2) (h0 : ¬ t.val % 16 = 0) (h15 : ¬ t.val % 16 = 15) :
    bodyPre m c t ⊢ wp frame (wpE (defs₀ (F := F)) Variants.none c none) Set.univ (bodyAt0 t) (fun _ => bodyPost m c t) := by
  unfold bodyPre bodyPost bodyAt0
  have hN : t.val < 192 := lt_of_lt_of_eq t.isLt N_0
  simp only [before0_0, before0_1, before0_2, before0_3, before0_4, before0_5]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  rw [show (dats m 0 c).leavesExact 0 t = owns (c : Thread nD τ) (win0_0.stage (cfg0.slots t 0)) fullShare ((dats m 0 c).after 0 t) from by
    unfold Dat.leavesExact; rw [live0 t], after0_0]
  rw [show (dats m 0 c).leavesExact 1 t = owns (c : Thread nD τ) (win0_1.stage (cfg0.slots t 1)) fullShare ((dats m 0 c).after 1 t) from by
    unfold Dat.leavesExact; rw [live1 t], after0_1]
  rw [show (dats m 0 c).leavesExact 2 t = owns (c : Thread nD τ) (win0_2.stage (cfg0.slots t 2)) fullShare ((dats m 0 c).after 2 t) from by
    unfold Dat.leavesExact; rw [live2 t], after0_2]
  rw [show (dats m 0 c).leavesExact 3 t = owns (c : Thread nD τ) (win0_3.stage (cfg0.slots t 3)) fullShare ((dats m 0 c).after 3 t) from by
    unfold Dat.leavesExact; rw [live3 t], after0_3]
  rw [show (dats m 0 c).leavesExact 4 t = owns (c : Thread nD τ) (win0_4.stage (cfg0.slots t 4)) fullShare ((dats m 0 c).after 4 t) from by
    unfold Dat.leavesExact; rw [live4 t], after0_4]
  rw [show (dats m 0 c).leavesExact 5 t = owns (c : Thread nD τ) (win0_5.stage (cfg0.slots t 5)) fullShare ((dats m 0 c).after 5 t) from by
    unfold Dat.leavesExact; rw [live5 t], after0_5]
  rw [show (dats m 0 c).leavesExact 6 t = owns (c : Thread nD τ) (win0_6.stage (cfg0.slots t 6)) fullShare ((dats m 0 c).after 6 t) from by
    unfold Dat.leavesExact; rw [live6 t], after0_6]
  rw [Dat.leavesExact_idle (dats m 0 c) 7 t (idle7 t h15) (kept7 t h15)]
  rw [Dat.leavesExact_idle (dats m 0 c) 8 t (idle8 t h15) (kept8 t h15)]
  rw [PhiS_prev m c t h0]
  rw [PhiS_next m c t h15]
  iintro ⟨⟨%X12, %X13, %X14, %X15, %X16, %hH, S12, S13, S14, S15, S16, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨Y12, Y13, Y16, hfill⟩ := hH.filled3 t (by rw [pt_val' _ (Nat.lt_of_le_of_lt (Nat.sub_le _ 1) t.isLt)]; omega) hg
  have hX14 : X14 = accK m c (t.val - 1) := hH.1.trans (by rw [pt_val' _ (Nat.lt_of_le_of_lt (Nat.sub_le _ 1) t.isLt)])
  have hX15 : X15 = accV m c (t.val - 1) := hH.2.1.trans (by rw [pt_val' _ (Nat.lt_of_le_of_lt (Nat.sub_le _ 1) t.isLt)])
  have hh := held_of3 m c t hg X12 X13 Y12 Y13 X14 X15 X16 Y16 hfill (by rw [hX14]; exact accK_next m c t h0) (by rw [hX15]; exact accV_next m c t h0)
  have hq := gradQ_of3 m c t hg X12 X13 Y12 Y13 X16 Y16 hfill
  iapply (run3Mid c (grid0.coords t) _ _ _ _ _ _ _ _ _ _ _ _ _ _ _ _ _ _ _ _ _ _ _ _ _ _ _ _ ((group3_iff t).mpr hg) (fun h => absurd ((group1_iff t).mp h) (by omega)) (fun h => absurd ((group2_iff t).mp h) (by omega)) (fun h => h0 ((first_iff t).mp h)) (fun h => h15 ((last3_iff t).mp h)) (qB m c t) (kB m c t) (vB m c t) (oB m c t) (dB m c t) (lB m c t) _ _ X12 X13 X14 X15 X16 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [S12]; · iexact S12
  isplitl [S13]; · iexact S13
  isplitl [S14]; · iexact S14
  isplitl [S15]; · iexact S15
  isplitl [S16]; · iexact S16
  iintro ⟨H0, H1, H2, H3, H4, H5, H6, H7, H8, S12, S13, S14, S15, S16⟩
  isplitl [S12 S13 S14 S15 S16 Hg]
  · iexists _; iexists _; iexists _; iexists _; iexists _
    isplitr; rotate_left
    · isplitl [S12]; · iexact S12
      isplitl [S13]; · iexact S13
      isplitl [S14]; · iexact S14
      isplitl [S15]; · iexact S15
      isplitl [S16]; · iexact S16
      iexact Hg
    ipureintro; exact hh
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [← hq]; iexact H6
  isplitl [H7]; · iexists _; iexact H7
  iexists _; iexact H8

set_option maxHeartbeats 2000000 in
/-- Group 3, a head's last query tile. -/
theorem body3Last (c : Dev nD) (t : Fin cfg0.N) (hg : t.val / 16 % 3 = 2) (h15 : t.val % 16 = 15) :
    bodyPre m c t ⊢ wp frame (wpE (defs₀ (F := F)) Variants.none c none) Set.univ (bodyAt0 t) (fun _ => bodyPost m c t) := by
  unfold bodyPre bodyPost bodyAt0
  have h0 : ¬ t.val % 16 = 0 := by omega
  have hN : t.val < 192 := lt_of_lt_of_eq t.isLt N_0
  simp only [before0_0, before0_1, before0_2, before0_3, before0_4, before0_5]
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  rw [show (dats m 0 c).leavesExact 0 t = owns (c : Thread nD τ) (win0_0.stage (cfg0.slots t 0)) fullShare ((dats m 0 c).after 0 t) from by
    unfold Dat.leavesExact; rw [live0 t], after0_0]
  rw [show (dats m 0 c).leavesExact 1 t = owns (c : Thread nD τ) (win0_1.stage (cfg0.slots t 1)) fullShare ((dats m 0 c).after 1 t) from by
    unfold Dat.leavesExact; rw [live1 t], after0_1]
  rw [show (dats m 0 c).leavesExact 2 t = owns (c : Thread nD τ) (win0_2.stage (cfg0.slots t 2)) fullShare ((dats m 0 c).after 2 t) from by
    unfold Dat.leavesExact; rw [live2 t], after0_2]
  rw [show (dats m 0 c).leavesExact 3 t = owns (c : Thread nD τ) (win0_3.stage (cfg0.slots t 3)) fullShare ((dats m 0 c).after 3 t) from by
    unfold Dat.leavesExact; rw [live3 t], after0_3]
  rw [show (dats m 0 c).leavesExact 4 t = owns (c : Thread nD τ) (win0_4.stage (cfg0.slots t 4)) fullShare ((dats m 0 c).after 4 t) from by
    unfold Dat.leavesExact; rw [live4 t], after0_4]
  rw [show (dats m 0 c).leavesExact 5 t = owns (c : Thread nD τ) (win0_5.stage (cfg0.slots t 5)) fullShare ((dats m 0 c).after 5 t) from by
    unfold Dat.leavesExact; rw [live5 t], after0_5]
  rw [show (dats m 0 c).leavesExact 6 t = owns (c : Thread nD τ) (win0_6.stage (cfg0.slots t 6)) fullShare ((dats m 0 c).after 6 t) from by
    unfold Dat.leavesExact; rw [live6 t], after0_6]
  rw [show (dats m 0 c).leavesExact 7 t = owns (c : Thread nD τ) (win0_7.stage (cfg0.slots t 7)) fullShare ((dats m 0 c).after 7 t) from by
    unfold Dat.leavesExact; rw [live7 t h15], after0_7]
  rw [show (dats m 0 c).leavesExact 8 t = owns (c : Thread nD τ) (win0_8.stage (cfg0.slots t 8)) fullShare ((dats m 0 c).after 8 t) from by
    unfold Dat.leavesExact; rw [live8 t h15], after0_8]
  rw [PhiS_prev m c t h0]
  rw [PhiS_first m c (t.val + 1) (by omega), PhiA_eq]
  iintro ⟨⟨%X12, %X13, %X14, %X15, %X16, %hH, S12, S13, S14, S15, S16, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨Y12, Y13, Y16, hfill⟩ := hH.filled3 t (by rw [pt_val' _ (Nat.lt_of_le_of_lt (Nat.sub_le _ 1) t.isLt)]; omega) hg
  have hX14 : X14 = accK m c (t.val - 1) := hH.1.trans (by rw [pt_val' _ (Nat.lt_of_le_of_lt (Nat.sub_le _ 1) t.isLt)])
  have hX15 : X15 = accV m c (t.val - 1) := hH.2.1.trans (by rw [pt_val' _ (Nat.lt_of_le_of_lt (Nat.sub_le _ 1) t.isLt)])
  have hh := held_of3 m c t hg X12 X13 Y12 Y13 X14 X15 X16 Y16 hfill (by rw [hX14]; exact accK_next m c t h0) (by rw [hX15]; exact accV_next m c t h0)
  have hq := gradQ_of3 m c t hg X12 X13 Y12 Y13 X16 Y16 hfill
  obtain ⟨ek, ev⟩ := grads_of3 m c t hg _ _ _ _ _ hh
  iapply (run3Last c (grid0.coords t) _ _ _ _ _ _ _ _ _ _ _ _ _ _ _ _ _ _ _ _ _ _ _ _ _ _ _ _ ((group3_iff t).mpr hg) (fun h => absurd ((group1_iff t).mp h) (by omega)) (fun h => absurd ((group2_iff t).mp h) (by omega)) (fun h => h0 ((first_iff t).mp h)) ((last3_iff t).mpr h15) (qB m c t) (kB m c t) (vB m c t) (oB m c t) (dB m c t) (lB m c t) X12 X13 X14 X15 X16 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [S12]; · iexact S12
  isplitl [S13]; · iexact S13
  isplitl [S14]; · iexact S14
  isplitl [S15]; · iexact S15
  isplitl [S16]; · iexact S16
  iintro ⟨H0, H1, H2, H3, H4, H5, H6, H7, H8, S12, S13, S14, S15, S16⟩
  isplitl [S12 S13 S14 S15 S16 Hg]
  · isplitl [S12 S13 S14 S15 S16]
    · isplitl [S12]; · iexists _; iexact S12
      isplitl [S13]; · iexists _; iexact S13
      isplitl [S14]; · iexists _; iexact S14
      isplitl [S15]; · iexists _; iexact S15
      iexists _; iexact S16
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [← hq]; iexact H6
  isplitl [H7]; · rw [← ek]; iexact H7
  rw [← ev]; iexact H8

end Cert.KernelIdeal.Hand

end
-- ==== Proof.KernelIdeal.Frame.lean ====
module

public import proofs.«01_k».proof.Proof.KernelIdeal.Body1
public import proofs.«01_k».proof.Proof.KernelIdeal.Body2
public import proofs.«01_k».proof.Proof.KernelIdeal.Body3

/-! The run of the launch, and the frame. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body at any grid point: one of nine cases, by its group and its place among a head's query tiles. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · by_cases g1 : t.val / 16 % 3 = 0
    · exact body1First m c t g1 h0
    · by_cases g2 : t.val / 16 % 3 = 1
      · exact body2First m c t g2 h0
      · exact body3First m c t (by omega) h0
  · by_cases h15 : t.val % 16 = 15
    · by_cases g1 : t.val / 16 % 3 = 0
      · exact body1Last m c t g1 h15
      · by_cases g2 : t.val / 16 % 3 = 1
        · exact body2Last m c t g2 h15
        · exact body3Last m c t (by omega) h15
    · by_cases g1 : t.val / 16 % 3 = 0
      · exact body1Mid m c t g1 h0 h15
      · by_cases g2 : t.val / 16 % 3 = 1
        · exact body2Mid m c t g2 h0 h15
        · exact body3Mid m c t (by omega) h0 h15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS_first m c 0 rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl, PhiS_first m c _ (by rw [show cfg0.N = 192 from N_0])]
  try exact Idealize.SL.BI.Entails.refl _

set_option backward.isDefEq.respectTransparency.types false in
/-- The launch ends with every array at what the pipeline's data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every execution ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Value.Spec.lean ====
module

public import Mathlib.Analysis.SpecialFunctions.Log.Basic
public import Mathlib.Algebra.BigOperators.Field

/-! The gradients of the dilated-window attention over the reals, with the identities that bring the chain rule's
expressions to the recomputing form. -/

@[expose] public section

noncomputable section

namespace Cert.Att

open Finset

/-- The distance up to which a query of group `g` sees keys. -/
def rad (g : ℕ) : ℕ := 64 * 4 ^ g

/-- The step between the keys that a query of group `g` sees. -/
def dil (g : ℕ) : ℕ := 4 ^ g

/-- Query `i` of group `g` sees key `k`. -/
def sees (g i k : ℕ) : Prop := ((k : ℤ) - i).natAbs ≤ rad g ∧ ((k : ℤ) - i).natAbs % dil g = 0

instance (g i k : ℕ) : Decidable (sees g i k) := by unfold sees; infer_instance

theorem sees_self (g i : ℕ) : sees g i i := by simp [sees]

/-- The arrays q, k and v by token, group, head and lane, the cotangent by token, head and lane, and the factor of the scores. -/
structure Arrs where
  q : ℕ → ℕ → ℕ → ℕ → ℝ
  k : ℕ → ℕ → ℕ → ℕ → ℝ
  v : ℕ → ℕ → ℕ → ℕ → ℝ
  o : ℕ → ℕ → ℕ → ℝ
  σ : ℝ

variable (A : Arrs)

/-- A score. -/
def sc (g h i k : ℕ) : ℝ := (∑ d ∈ range 128, A.q i g h d * A.k k g h d) * A.σ

/-- The exponential of a score; 0 where the key is not seen. -/
def ex (g h i k : ℕ) : ℝ := if sees g i k then Real.exp (sc A g h i k) else 0

/-- A group's sum of exponentials. -/
def zg (g h i : ℕ) : ℝ := ∑ k ∈ range 4096, ex A g h i k

/-- The sum of exponentials of the three groups. -/
def zz (h i : ℕ) : ℝ := ∑ g ∈ range 3, zg A g h i

/-- A weight of the softmax over the keys of the three groups. -/
def wt (g h i k : ℕ) : ℝ := ex A g h i k / zz A h i

/-- A group's share of a query's weights. -/
def wg (g h i : ℕ) : ℝ := zg A g h i / zz A h i

/-- A group's own output. -/
def og (g h i d : ℕ) : ℝ := ∑ k ∈ range 4096, ex A g h i k / zg A g h i * A.v k g h d

/-- The attention's output. -/
def att (h i d : ℕ) : ℝ := ∑ g ∈ range 3, ∑ k ∈ range 4096, wt A g h i k * A.v k g h d

/-- The cotangent times the output, summed over the lanes. -/
def del (h i : ℕ) : ℝ := ∑ d ∈ range 128, A.o i h d * att A h i d

/-- The cotangent times a key's value row. -/
def ov (g h i k : ℕ) : ℝ := ∑ d ∈ range 128, A.o i h d * A.v k g h d

/-- The cotangent times a group's own output. -/
def oo (g h i : ℕ) : ℝ := ∑ d ∈ range 128, A.o i h d * og A g h i d

/-- The cotangent of a score (before the factor). -/
def ds (g h i k : ℕ) : ℝ := wt A g h i k * (ov A g h i k - del A h i)

/-- The gradient of q. -/
def gq (i g h d : ℕ) : ℝ := (∑ k ∈ range 4096, ds A g h i k * A.k k g h d) * A.σ

/-- The gradient of k. -/
def gk (k g h d : ℕ) : ℝ := ∑ i ∈ range 4096, ds A g h i k * (A.q i g h d * A.σ)

/-- The gradient of v. -/
def gv (k g h d : ℕ) : ℝ := ∑ i ∈ range 4096, wt A g h i k * A.o i h d

theorem ex_nonneg (g h i k : ℕ) : 0 ≤ ex A g h i k := by
  unfold ex; split
  · exact (Real.exp_pos _).le
  · exact le_rfl

theorem zg_pos (g h i : ℕ) (hi : i < 4096) : 0 < zg A g h i := by
  refine sum_pos' (fun k _ => ex_nonneg A g h i k) ⟨i, mem_range.2 hi, ?_⟩
  unfold ex; rw [if_pos (sees_self g i)]; exact Real.exp_pos _

theorem zz_pos (h i : ℕ) (hi : i < 4096) : 0 < zz A h i :=
  sum_pos (fun g _ => zg_pos A g h i hi) ⟨0, by simp⟩

theorem wt_zero (g h i k : ℕ) (hn : ¬ sees g i k) : wt A g h i k = 0 := by
  unfold wt ex; rw [if_neg hn, zero_div]

theorem ds_zero (g h i k : ℕ) (hn : ¬ sees g i k) : ds A g h i k = 0 := by
  unfold ds; rw [wt_zero A g h i k hn, zero_mul]

/-- The weight as a group's own weight times the group's share. -/
theorem wt_eq (g h i k : ℕ) (hi : i < 4096) : ex A g h i k / zg A g h i * wg A g h i = wt A g h i k := by
  have := (zg_pos A g h i hi).ne'; have := (zz_pos A h i hi).ne'
  unfold wt wg; field_simp

theorem sum_wt (g h i : ℕ) : ∑ k ∈ range 4096, wt A g h i k = wg A g h i := by
  unfold wt wg zg; rw [sum_div]

theorem sum_own (g h i : ℕ) (hi : i < 4096) : ∑ k ∈ range 4096, ex A g h i k / zg A g h i * ov A g h i k = oo A g h i := by
  unfold ov oo og
  simp only [mul_sum]
  rw [sum_comm]
  exact sum_congr rfl fun d _ => sum_congr rfl fun k _ => by ring

theorem sum_shares (h i : ℕ) (hi : i < 4096) : ∑ g ∈ range 3, wg A g h i * oo A g h i = del A h i := by
  unfold oo del att og
  simp only [mul_sum]
  rw [sum_comm]
  refine sum_congr rfl fun d _ => sum_congr rfl fun g _ => sum_congr rfl fun k _ => ?_
  rw [← wt_eq A g h i k hi]; ring

/-- The cotangents of a query's scores of one group sum to the share times the excess of the group's output over the whole's. -/
theorem sum_ds (g h i : ℕ) (hi : i < 4096) : ∑ k ∈ range 4096, ds A g h i k = wg A g h i * (oo A g h i - del A h i) := by
  unfold ds
  simp only [mul_sub]
  rw [sum_sub_distrib, ← sum_mul, sum_wt, ← sum_own A g h i hi, mul_sum]
  congr 1
  exact sum_congr rfl fun k _ => by rw [← wt_eq A g h i k hi]; ring

/-- The cotangent of a group's log-sum-exp, as the chain rule writes it: with the exponentials lowered by `b`. -/
theorem share_grad (g h i : ℕ) (hi : i < 4096) (b : ℝ) (hb : 0 < b) :
    (oo A g h i / (zz A h i * b) + -∑ g' ∈ range 3, oo A g' h i * (1 / ((zz A h i * b) * (zz A h i * b))) * (zg A g' h i * b))
      * (zg A g h i * b) = wg A g h i * (oo A g h i - del A h i) := by
  have h0 := (zz_pos A h i hi).ne'
  rw [← sum_shares A h i hi]
  have e : ∑ g' ∈ range 3, oo A g' h i * (1 / ((zz A h i * b) * (zz A h i * b))) * (zg A g' h i * b)
      = (∑ g' ∈ range 3, wg A g' h i * oo A g' h i) / (zz A h i * b) := by
    rw [sum_div]
    exact sum_congr rfl fun g' _ => by unfold wg; field_simp
  rw [e]; unfold wg; field_simp; ring

/-- The cotangent of a score, as the chain rule writes it: with a group's exponentials lowered by `b`. -/
theorem score_grad (g h i k : ℕ) (hi : i < 4096) (b : ℝ) (hb : 0 < b) :
    (wg A g h i * ov A g h i k / (zg A g h i * b)
      + (-(∑ k' ∈ range 4096, wg A g h i * ov A g h i k' * (1 / ((zg A g h i * b) * (zg A g h i * b))) * (ex A g h i k' * b))
        + wg A g h i * (oo A g h i - del A h i) / (zg A g h i * b))) * (ex A g h i k * b) = ds A g h i k := by
  have h0 := (zg_pos A g h i hi).ne'
  have e : ∑ k' ∈ range 4096, wg A g h i * ov A g h i k' * (1 / ((zg A g h i * b) * (zg A g h i * b))) * (ex A g h i k' * b)
      = wg A g h i * oo A g h i / (zg A g h i * b) := by
    rw [← sum_own A g h i hi, mul_sum, sum_div]
    exact sum_congr rfl fun k' _ => by field_simp
  rw [e]; unfold ds; rw [← wt_eq A g h i k hi]; field_simp; ring

end Cert.Att

end
-- ==== Proof.Value.Scalar.lean ====
module

public import proofs.«01_k».proof.Proof.Value.Spec
public import Idealize.ShloMosaic.Lib.Affine
public import Idealize.ShloMosaic.Lib.Pipeline.ValueKit

/-! Operations on extended reals that are real numbers, and the words that say which keys a query sees. -/

@[expose] public section

noncomputable section

namespace Cert.Att

open Idealize.ShloMosaic

theorem sum_coe (n : ℕ) (f : ℕ → ℝ) :
    (∑ x : Fin n, ((f x.val : ℝ) : EReal)) = ((∑ x ∈ Finset.range n, f x : ℝ) : EReal) := by
  induction n with
  | zero => simp
  | succ n ih =>
    rw [Fin.sum_univ_castSucc, Finset.sum_range_succ, EReal.coe_add, ← ih]
    rfl

/-- A sum over a coordinate whose terms are the real numbers `f`. -/
theorem sum_eq_coe (n : ℕ) (x : Fin n → EReal) (f : ℕ → ℝ) (e : ∀ j : Fin n, x j = ((f j.val : ℝ) : EReal)) :
    (∑ j : Fin n, x j) = ((∑ j ∈ Finset.range n, f j : ℝ) : EReal) := by
  rw [← sum_coe]; exact Finset.sum_congr rfl fun j _ => e j

theorem sum_one (x : Fin 1 → EReal) : (∑ j : Fin 1, x j) = x 0 := by simp

theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem one_div_real (y : ℝ) (hy : y ≠ 0) : Ideal.div 1 (y : EReal) = ((1 / y : ℝ) : EReal) := by
  rw [← EReal.coe_one]; exact div_real 1 y hy

theorem log_real (x : ℝ) (hx : 0 < x) : Ideal.log (x : EReal) = ((Real.log x : ℝ) : EReal) := by
  rw [Ideal.log_coe, if_neg (not_le.2 hx)]

theorem exp_sub_real (x y : ℝ) : Ideal.exp ((x : EReal) - (y : EReal)) = ((Real.exp x * Real.exp (-y) : ℝ) : EReal) := by
  rw [← EReal.coe_sub, Ideal.exp_coe, sub_eq_add_neg, Real.exp_add]

theorem exp_bot_sub (y : ℝ) : Ideal.exp ((⊥ : EReal) - (y : EReal)) = 0 := by
  rw [EReal.bot_sub, Ideal.exp_bot]

theorem ofBits_neg_inf : Ideal.ofBits .f32 0xFF800000#32 = ⊥ := by simp [Ideal.ofBits, Ideal.ieee]

theorem ofBits_pos_inf : Ideal.ofBits .f32 0x7F800000#32 = ⊤ := by simp [Ideal.ofBits, Ideal.ieee]

/-- The factor of the scores. -/
def sigma : ℝ := (Ideal.ofBits .f32 0x3DB504F3#32).toReal

theorem ofBits_sigma : Ideal.ofBits .f32 0x3DB504F3#32 = ((sigma : ℝ) : EReal) := by
  unfold sigma
  have e : Ideal.ofBits .f32 0x3DB504F3#32 = ((11863283 * ((2 : ℝ) ^ 27)⁻¹ : ℝ) : EReal) := by
    simp [Ideal.ofBits, Ideal.ieee, -EReal.coe_mul]
  rw [e, EReal.toReal_coe]

/-- The greatest of finitely many values, from −∞: one of them. -/
theorem fold_max_mem {ι : Type*} (s : Finset ι) (f : ι → EReal) (i : ι) (hi : i ∈ s) :
    (∃ j ∈ s, s.fold max ⊥ f = f j) ∧ f i ≤ s.fold max ⊥ f := by
  have e : s.fold max ⊥ f = s.sup f := rfl
  rw [e]
  exact ⟨Finset.exists_mem_eq_sup s ⟨i, hi⟩ f, Finset.le_sup hi⟩

/-- The greatest of values none of which is +∞ and one of which is a real number is a real number. -/
theorem fold_max_real {ι : Type*} (s : Finset ι) (f : ι → EReal) (i : ι) (hi : i ∈ s) (ht : ∀ j ∈ s, f j ≠ ⊤)
    (hb : f i ≠ ⊥) : ∃ j ∈ s, ∃ b : ℝ, s.fold max ⊥ f = (b : EReal) ∧ f j = (b : EReal) := by
  obtain ⟨⟨j, hj, e⟩, hle⟩ := fold_max_mem s f i hi
  have h1 : f j ≠ ⊤ := ht j hj
  have h2 : f j ≠ ⊥ := fun h => hb (by rw [e, h] at hle; exact le_bot_iff.1 hle)
  exact ⟨j, hj, (f j).toReal, by rw [e, EReal.coe_toReal h1 h2], by rw [EReal.coe_toReal h1 h2]⟩

/-- The distance of two tokens as a word. -/
theorem abs_word (i k : ℕ) (hi : i < 65536) (hk : k < 65536) :
    IntOp.absi (IntOp.subi (BitVec.ofNat 32 k) (BitVec.ofNat 32 i)) = BitVec.ofNat 32 ((k : ℤ) - i).natAbs := by
  have e : (IntOp.subi (BitVec.ofNat 32 k) (BitVec.ofNat 32 i)).toNat = (2 ^ 32 - i + k) % 2 ^ 32 := by
    unfold IntOp.subi
    rw [BitVec.toNat_sub, BitVec.toNat_ofNat, BitVec.toNat_ofNat]; omega
  unfold IntOp.absi
  by_cases h : i ≤ k
  · rw [if_neg (by rw [BitVec.msb_eq_decide, e]; simp; omega)]
    apply BitVec.eq_of_toNat_eq; rw [e, BitVec.toNat_ofNat]; omega
  · rw [if_pos (by rw [BitVec.msb_eq_decide, e]; simp; omega)]
    apply BitVec.eq_of_toNat_eq; rw [BitVec.toNat_neg, e, BitVec.toNat_ofNat]; omega

theorem sle_word (n r : ℕ) (hn : n < 65536) (hr : r < 65536) :
    (BitVec.ofNat 32 n).sle (BitVec.ofNat 32 r) = decide (n ≤ r) := by
  rw [BitVec.sle_eq_decide, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  congr 1
  exact propext Int.ofNat_le

/-- The reference's and the host lines' test of a query and a key. -/
theorem sees_word (u : ArithUnit) (g : ℕ) (hg : g < 3) (i k : ℕ) (hi : i < 4096) (hk : k < 4096) (r d : BitVec 32)
    (hr : r = BitVec.ofNat 32 (rad g)) (hd : d = BitVec.ofNat 32 (dil g)) :
    IntOp.andi (IntOp.cmpi .sle (IntOp.absi (IntOp.subi (BitVec.ofNat 32 k) (BitVec.ofNat 32 i))) r)
      (IntOp.cmpi .eq (IntOp.remsi u (IntOp.absi (IntOp.subi (BitVec.ofNat 32 k) (BitVec.ofNat 32 i))) d) 0#32)
      = BitVec.ofBool (decide (sees g i k)) := by
  have hr' : rad g < 65536 := by unfold rad; interval_cases g <;> norm_num
  have hd0 : 0 < dil g := by unfold dil; positivity
  have hd' : dil g < 65536 := by unfold dil; interval_cases g <;> norm_num
  rw [hr, hd, abs_word i k (by omega) (by omega)]
  have hn : ((k : ℤ) - i).natAbs < 65536 := by omega
  have e2 : (IntOp.remsi u (BitVec.ofNat 32 ((k : ℤ) - i).natAbs) (BitVec.ofNat 32 (dil g)) == 0#32)
      = decide (((k : ℤ) - i).natAbs % dil g = 0) := by
    have := IntOp.remsi_eq_zero_iff u (x := BitVec.ofNat 32 ((k : ℤ) - i).natAbs)
      (by rw [BitVec.toNat_ofNat]; omega) (dil g) hd0 (by omega)
    rw [BitVec.toNat_ofNat, Nat.mod_eq_of_lt (by omega), Nat.dvd_iff_mod_eq_zero] at this
    rw [beq_eq_decide]
    exact decide_eq_decide.2 this
  show BitVec.ofBool ((BitVec.ofNat 32 ((k : ℤ) - i).natAbs).sle (BitVec.ofNat 32 (rad g)))
    &&& BitVec.ofBool (IntOp.remsi u (BitVec.ofNat 32 ((k : ℤ) - i).natAbs) (BitVec.ofNat 32 (dil g)) == 0#32) = _
  rw [e2, sle_word _ _ hn hr']
  by_cases h1 : ((k : ℤ) - i).natAbs ≤ rad g <;> by_cases h2 : ((k : ℤ) - i).natAbs % dil g = 0 <;> simp [sees, h1, h2]

/-- The group, the head and the lane of a column of a flattened array. -/
abbrev colG (c : Fin 1536) : Fin 3 := ⟨c.val / 512, by omega⟩
abbrev colH (c : Fin 1536) : Fin 4 := ⟨c.val / 128 % 4, by omega⟩
abbrev colD (c : Fin 1536) : Fin 128 := ⟨c.val % 128, by omega⟩

/-- An array [4096, 1536] of real numbers, given by token, group, head and lane. -/
def flat (f : ℕ → ℕ → ℕ → ℕ → ℝ) : FVec Ideal ⟨2, ![4096, 1536]⟩ .bf16 := fun y =>
  ((f (y 0).val ((y 1).val / 512) ((y 1).val / 128 % 4) ((y 1).val % 128) : ℝ) : EReal)

theorem flat_at (f : ℕ → ℕ → ℕ → ℕ → ℝ) (i : Fin 4096) (c : Fin 1536) :
    flat f (ix2 i c) = ((f i (colG c) (colH c) (colD c) : ℝ) : EReal) := rfl

end Cert.Att

end
-- ==== Proof.Value.HostRead.lean ====
module

public import proofs.«01_k».proof.Proof.Gen.KernelIdeal.Frame
public import proofs.«01_k».proof.Proof.Value.Scalar

/-! The arrays the launch reads, as the host lines compute them from the arguments. -/

@[expose] public section

set_option maxRecDepth 16384

noncomputable section

namespace Cert.Att

open Idealize.ShloMosaic Idealize.ShloMosaic.TcCoe Idealize.ShloMosaic.Tactic Idealize.ShloMosaic.StableHlo
open Idealize.SL.Sem
open Cert.KernelIdeal Cert.KernelIdeal.Gen

abbrev Vec4 := FVec Ideal S4096x3x4x128 FTy.f32

/-- The distances of the tokens. -/
def hDist : IVec S1x4096x4096 32 :=
  absi (subi (broadcastInDim S1x4096x4096 ![0, 1, 2] bcast_S1x1x4096_S1x4096x4096_0_1_2 (broadcastInDim S1x1x4096 ![2] bcast_S4096_S1x1x4096_2 (iotaInDim S4096 32 0)))
    (broadcastInDim S1x4096x4096 ![0, 1, 2] bcast_S1x4096x1_S1x4096x4096_0_1_2 (broadcastInDim S1x4096x1 ![1] bcast_S4096_S1x4096x1_1 (iotaInDim S4096 32 0))))

/-- Which keys a group's query sees. -/
def hSees : IVec S3x4096x4096 1 :=
  andi (cmpi .sle (broadcastInDim S3x4096x4096 ![0, 1, 2] bcast_S1x4096x4096_S3x4096x4096_0_1_2 hDist)
      (broadcastInDim S3x4096x4096 ![0, 1, 2] bcast_S3x1x1_S3x4096x4096_0_1_2 (broadcastInDim S3x1x1 ![0] bcast_S3_S3x1x1_0 (fun i => lit0 (S3.rowMajor i)))))
    (cmpi .eq (Host.remsi (broadcastInDim S3x4096x4096 ![0, 1, 2] bcast_S1x4096x4096_S3x4096x4096_0_1_2 hDist)
      (broadcastInDim S3x4096x4096 ![0, 1, 2] bcast_S3x1x1_S3x4096x4096_0_1_2 (broadcastInDim S3x1x1 ![0] bcast_S3_S3x1x1_0 (fun i => lit1 (S3.rowMajor i)))))
      (broadcastInDim S3x4096x4096 ![] bcast_S_S3x4096x4096 (constantI S_ 32 0#32)))

/-- The scores, −∞ where a key is not seen. -/
def hScore (q k : Vec4) : FVec Ideal S3x4x4096x4096 .f32 :=
  select (broadcastInDim S3x4x4096x4096 ![0, 1, 2, 3] bcast_S3x1x4096x4096_S3x4x4096x4096_0_1_2_3 (broadcastInDim S3x1x4096x4096 ![0, 2, 3] bcast_S3x4096x4096_S3x1x4096x4096_0_2_3 hSees))
    (mulf (Host.dotGeneral dot_S4096x3x4x128_S4096x3x4x128_S3x4x4096x4096_3_3_0_0_12_12 none q k) (broadcastInDim S3x4x4096x4096 ![] bcast_S_S3x4x4096x4096 (constant S_ .f32 0x3DB504F3#32)))
    (broadcastInDim S3x4x4096x4096 ![] bcast_S_S3x4x4096x4096 (id (constant S_ .f32 0xFF800000#32)))

theorem read_v22 (W : Valuation τ sig (Elt Ideal)) :
    after (hostOps0 ++ hostOps0_1) W (Proc.tc.devRef main_v22) = hScore (W (Proc.tc.devRef main_arg0)) (W (Proc.tc.devRef main_arg1)) := by
  simp only [hostOps0, hostOps0_1, List.cons_append, List.nil_append]
  after_results
  rfl

/-- The lines up to the groups' weights, up to the log-sum-exp, up to the attention, and the rest. -/
def opsA : List (HloOp τ sig (Elt Ideal)) := (hostOps0_2 (F := Ideal)).take 14
def opsB : List (HloOp τ sig (Elt Ideal)) := ((hostOps0_2 (F := Ideal)).drop 14).take 24
def opsC : List (HloOp τ sig (Elt Ideal)) := ((hostOps0_2 (F := Ideal)).drop 38).take 9
def opsD : List (HloOp τ sig (Elt Ideal)) := (hostOps0_2 (F := Ideal)).drop 47

theorem ops_split : hostOps0_2 (F := Ideal) = opsA ++ (opsB ++ (opsC ++ opsD)) := rfl

/-- The greatest scores, a column each. -/
def hMax (s : FVec Ideal S3x4x4096x4096 .f32) : FVec Ideal S3x4x4096x1 .f32 :=
  broadcastInDim S3x4x4096x1 ![0, 1, 2] bcast_S3x4x4096_S3x4x4096x1_0_1_2 (Host.reduce FloatOps.maximumf s (constant S_ .f32 0xFF800000#32) reducesTo_S3x4x4096x4096_S3x4x4096_d3 h_S_)

def hExp (s : FVec Ideal S3x4x4096x4096 .f32) : FVec Ideal S3x4x4096x4096 .f32 :=
  Host.exp (subf s (broadcastInDim S3x4x4096x4096 ![0, 1, 2, 3] bcast_S3x4x4096x1_S3x4x4096x4096_0_1_2_3 (hMax s)))

def hDen (s : FVec Ideal S3x4x4096x4096 .f32) : FVec Ideal S3x4x4096x1 .f32 :=
  broadcastInDim S3x4x4096x1 ![0, 1, 2] bcast_S3x4x4096_S3x4x4096x1_0_1_2 (Host.reduceAdd (hExp s) (constant S_ .f32 0x00000000#32) reducesTo_S3x4x4096x4096_S3x4x4096_d3 h_S_)

def hLse (s : FVec Ideal S3x4x4096x4096 .f32) : FVec Ideal S3x4x4096 .f32 :=
  shapeCast S3x4x4096 (addf (hMax s) (Host.log (hDen s))) shapeCasts_S3x4x4096x1_S3x4x4096

def hWts (s : FVec Ideal S3x4x4096x4096 .f32) : FVec Ideal S3x4x4096x4096 .f32 :=
  Host.divf (hExp s) (broadcastInDim S3x4x4096x4096 ![0, 1, 2, 3] bcast_S3x4x4096x1_S3x4x4096x4096_0_1_2_3 (hDen s))

theorem read_v32 (W : Valuation τ sig (Elt Ideal)) :
    after opsA W (Proc.tc.devRef main_v32) = hLse (W (Proc.tc.devRef main_v22)) := by
  unfold opsA
  simp only [List.take_succ_cons, List.take_zero]
  after_results
  unfold hLse hDen hExp hMax
  rfl

theorem read_v34 (W : Valuation τ sig (Elt Ideal)) :
    after opsA W (Proc.tc.devRef main_v34) = hWts (W (Proc.tc.devRef main_v22)) := by
  unfold opsA
  simp only [List.take_succ_cons, List.take_zero]
  after_results
  unfold hWts hDen hExp hMax
  rfl

/-- A group's row of the log-sum-exps. -/
def hRow0 (l : FVec Ideal S3x4x4096 .f32) : FVec Ideal S4x4096 .f32 :=
  shapeCast S4x4096 (extractStridedSlice S1x4x4096 ![0, 0, 0] l slices_S3x4x4096_S1x4x4096_0_0_0) shapeCasts_S1x4x4096_S4x4096
def hRow1 (l : FVec Ideal S3x4x4096 .f32) : FVec Ideal S4x4096 .f32 :=
  shapeCast S4x4096 (extractStridedSlice S1x4x4096 ![1, 0, 0] l slices_S3x4x4096_S1x4x4096_1_0_0) shapeCasts_S1x4x4096_S4x4096
def hRow2 (l : FVec Ideal S3x4x4096 .f32) : FVec Ideal S4x4096 .f32 :=
  shapeCast S4x4096 (extractStridedSlice S1x4x4096 ![2, 0, 0] l slices_S3x4x4096_S1x4x4096_2_0_0) shapeCasts_S1x4x4096_S4x4096

def hTop (l : FVec Ideal S3x4x4096 .f32) : FVec Ideal S4x4096 .f32 := maximumf (maximumf (hRow0 l) (hRow1 l)) (hRow2 l)

/-- The log-sum-exp over the three groups. -/
def hAll (l : FVec Ideal S3x4x4096 .f32) : FVec Ideal S4x4096 .f32 :=
  addf (hTop l) (Host.log (addf (addf (Host.exp (subf (hRow0 l) (hTop l))) (Host.exp (subf (hRow1 l) (hTop l)))) (Host.exp (subf (hRow2 l) (hTop l)))))

theorem read_v58 (W : Valuation τ sig (Elt Ideal)) :
    after opsB W (Proc.tc.devRef main_v58) = hAll (W (Proc.tc.devRef main_v32)) := by
  unfold opsB
  simp only [List.take_succ_cons, List.take_zero, List.drop_succ_cons, List.drop_zero]
  after_results
  rfl

/-- The attention. -/
def hAtt (l : FVec Ideal S3x4x4096 .f32) (a : FVec Ideal S4x4096 .f32) (p : FVec Ideal S3x4x4096x4096 .f32) (v : Vec4) : FVec Ideal S4096x4x128 .f32 :=
  transpose S4096x4x128 [2, 0, 1] (Host.dotGeneral dot_S4096x3x4x128_S3x4x4096x4096_S4x128x4096_10_03_3_2_2_1 none v
    (mulf (broadcastInDim S3x4x4096x4096 ![0, 1, 2, 3] bcast_S3x4x4096x1_S3x4x4096x4096_0_1_2_3 (broadcastInDim S3x4x4096x1 ![0, 1, 2] bcast_S3x4x4096_S3x4x4096x1_0_1_2
      (Host.exp (subf l (broadcastInDim S3x4x4096 ![0, 1, 2] bcast_S1x4x4096_S3x4x4096_0_1_2 (broadcastInDim S1x4x4096 ![1, 2] bcast_S4x4096_S1x4x4096_1_2 a)))))) p))
    transposes_S4x128x4096_S4096x4x128_2_0_1

theorem read_v67 (W : Valuation τ sig (Elt Ideal)) :
    after opsC W (Proc.tc.devRef main_v67) = hAtt (W (Proc.tc.devRef main_v32)) (W (Proc.tc.devRef main_v58)) (W (Proc.tc.devRef main_v34)) (W (Proc.tc.devRef main_arg2)) := by
  unfold opsC
  simp only [List.take_succ_cons, List.take_zero, List.drop_succ_cons, List.drop_zero]
  after_results
  rfl

/-- The three arrays beside each other, the first scaled. -/
def hQkv (q k v : Vec4) : FVec Ideal S4096x4608 .bf16 :=
  truncf .bf16 (concatenate S4096x4608 1 [⟨S4096x1536, mulf (shapeCast S4096x1536 q shapeCasts_S4096x3x4x128_S4096x1536) (broadcastInDim S4096x1536 ![] bcast_S_S4096x1536 (constant (F := Ideal) S_ .f32 0x3DB504F3#32))⟩,
    ⟨S4096x1536, shapeCast S4096x1536 k shapeCasts_S4096x3x4x128_S4096x1536⟩, ⟨S4096x1536, shapeCast S4096x1536 v shapeCasts_S4096x3x4x128_S4096x1536⟩] concatenates_S4096x1536_S4096x1536_S4096x1536_S4096x4608_d1) bitsLt_bf16_f32

def hFlat (x : FVec Ideal S4096x4x128 .f32) : FVec Ideal S4096x512 .bf16 :=
  truncf .bf16 (shapeCast S4096x512 x shapeCasts_S4096x4x128_S4096x512) bitsLt_bf16_f32

def hCol (a : FVec Ideal S4x4096 .f32) : FVec Ideal S4x4096x1 .f32 := broadcastInDim S4x4096x1 ![0, 1] bcast_S4x4096_S4x4096x1_0_1 a

theorem read_v74 (W : Valuation τ sig (Elt Ideal)) :
    after opsD W (Proc.tc.devRef main_v74) = hQkv (W (Proc.tc.devRef main_arg0)) (W (Proc.tc.devRef main_arg1)) (W (Proc.tc.devRef main_arg2)) := by
  unfold opsD
  simp only [List.drop_succ_cons, List.drop_zero]
  after_results
  rfl

theorem read_v76 (W : Valuation τ sig (Elt Ideal)) :
    after opsD W (Proc.tc.devRef main_v76) = hFlat (W (Proc.tc.devRef main_v67)) := by
  unfold opsD
  simp only [List.drop_succ_cons, List.drop_zero]
  after_results
  rfl

theorem read_v78 (W : Valuation τ sig (Elt Ideal)) :
    after opsD W (Proc.tc.devRef main_v78) = hFlat (W (Proc.tc.devRef main_arg3)) := by
  unfold opsD
  simp only [List.drop_succ_cons, List.drop_zero]
  after_results
  rfl

theorem read_v79 (W : Valuation τ sig (Elt Ideal)) :
    after opsD W (Proc.tc.devRef main_v79) = hCol (W (Proc.tc.devRef main_v58)) := by
  unfold opsD
  simp only [List.drop_succ_cons, List.drop_zero]
  after_results
  rfl

end Cert.Att

end
-- ==== Proof.Value.HostVal.lean ====
module

public import proofs.«01_k».proof.Proof.Value.HostRead

/-! The arrays the launch reads, at real arguments. -/

@[expose] public section

set_option maxRecDepth 16384

noncomputable section

namespace Cert.Att

open Idealize.ShloMosaic Idealize.ShloMosaic.TcCoe Idealize.ShloMosaic.Tactic Idealize.ShloMosaic.StableHlo
open Idealize.SL.Sem
open Cert.KernelIdeal Cert.KernelIdeal.Gen

/-- The arguments are the real arrays of `A`. -/
structure Reads (A : Arrs) (q k v : Vec4) (o : FVec Ideal S4096x4x128 FTy.f32) : Prop where
  q : ∀ (i : Fin 4096) (g : Fin 3) (h : Fin 4) (d : Fin 128), q (ix4 i g h d) = ((A.q i g h d : ℝ) : EReal)
  k : ∀ (i : Fin 4096) (g : Fin 3) (h : Fin 4) (d : Fin 128), k (ix4 i g h d) = ((A.k i g h d : ℝ) : EReal)
  v : ∀ (i : Fin 4096) (g : Fin 3) (h : Fin 4) (d : Fin 128), v (ix4 i g h d) = ((A.v i g h d : ℝ) : EReal)
  o : ∀ (i : Fin 4096) (h : Fin 4) (d : Fin 128), o (ix3 i h d) = ((A.o i h d : ℝ) : EReal)
  σ : A.σ = sigma

theorem sees_at (g : Fin 3) (i k : Fin 4096) : hSees (ix3 g i k) = BitVec.ofBool (decide (sees g i k)) := by
  unfold hSees hDist
  pointwise
  exact sees_word _ g g.isLt i k i.isLt k.isLt _ _ (by fin_cases g <;> rfl) (by fin_cases g <;> rfl)

variable (A : Arrs) (q k v : Vec4) (o : FVec Ideal S4096x4x128 FTy.f32) (R : Reads A q k v o)

include R

theorem score_at (g : Fin 3) (h : Fin 4) (i j : Fin 4096) :
    hScore q k (ix4 g h i j) = if sees g i j then ((sc A g h i j : ℝ) : EReal) else ⊥ := by
  have hs := sees_at g i j
  unfold hScore
  generalize hSees = w at hs ⊢
  pointwise
  rw [hs, sum_eq_coe 128 _ (fun d => A.q i g h d * A.k j g h d) fun d => ?e, ofBits_sigma, ← R.σ, ← EReal.coe_mul]
  case e => rw [R.q, R.k, EReal.coe_mul]
  by_cases hc : sees g i j
  · rw [if_pos hc, decide_eq_true hc]; rfl
  · rw [if_neg hc, decide_eq_false hc]; exact ofBits_neg_inf

theorem max_at (g : Fin 3) (h : Fin 4) (i : Fin 4096) : ∃ b : ℝ, hMax (hScore q k) (ix4 g h i 0) = (b : EReal) := by
  have key := score_at A q k v o R g h i
  unfold hMax
  generalize hScore q k = w at key ⊢
  obtain ⟨j, -, b, h1, -⟩ := fold_max_real Finset.univ (fun j : Fin 4096 => (w (ix4 g h i j) : EReal)) i (Finset.mem_univ _)
    (fun j _ => ne_of_eq_of_ne (key j) (by split <;> simp)) (ne_of_eq_of_ne (key i) (by rw [if_pos (sees_self _ _)]; simp))
  refine ⟨b, ?_⟩
  pointwise
  rw [ofBits_neg_inf]
  exact h1

theorem exp_at (g : Fin 3) (h : Fin 4) (i j : Fin 4096) (b : ℝ) (hb : hMax (hScore q k) (ix4 g h i 0) = (b : EReal)) :
    hExp (hScore q k) (ix4 g h i j) = ((ex A g h i j * Real.exp (-b) : ℝ) : EReal) := by
  have key := score_at A q k v o R g h i j
  unfold hExp
  generalize hMax (hScore q k) = w2 at hb ⊢
  generalize hScore q k = w1 at key ⊢
  pointwise
  rw [key, hb]
  unfold ex
  by_cases hc : sees g i j
  · rw [if_pos hc, if_pos hc]; exact exp_sub_real _ _
  · rw [if_neg hc, if_neg hc, zero_mul]; exact exp_bot_sub _

theorem den_at (g : Fin 3) (h : Fin 4) (i : Fin 4096) (b : ℝ) (hb : hMax (hScore q k) (ix4 g h i 0) = (b : EReal)) :
    hDen (hScore q k) (ix4 g h i 0) = ((zg A g h i * Real.exp (-b) : ℝ) : EReal) := by
  have key := fun j => exp_at A q k v o R g h i j b hb
  unfold hDen
  generalize hExp (hScore q k) = w at key ⊢
  pointwise
  rw [sum_eq_coe 4096 _ (fun k => ex A g h i k * Real.exp (-b)) key]
  rw [← Finset.sum_mul]; rfl

omit R in
theorem lse_form (y z : FVec Ideal S3x4x4096x1 FTy.f32) (g : Fin 3) (h : Fin 4) (i : Fin 4096) :
    shapeCast S3x4x4096 (addf y (Host.log z)) shapeCasts_S3x4x4096x1_S3x4x4096 (ix3 g h i) = y (ix4 g h i 0) + Ideal.log (z (ix4 g h i 0)) := by
  pointwise

theorem lse_at (g : Fin 3) (h : Fin 4) (i : Fin 4096) :
    hLse (hScore q k) (ix3 g h i) = ((Real.log (zg A g h i) : ℝ) : EReal) := by
  obtain ⟨b, e1⟩ := max_at A q k v o R g h i
  have e2 := den_at A q k v o R g h i b e1
  have h0 := zg_pos A g h i i.isLt
  unfold hLse
  generalize hMax (hScore q k) = w1 at e1 ⊢
  generalize hDen (hScore q k) = w2 at e2 ⊢
  refine (lse_form w1 w2 g h i).trans ?_
  rw [e1, e2, log_real _ (by positivity), ← EReal.coe_add, Real.log_mul h0.ne' (Real.exp_ne_zero _), Real.log_exp]
  exact congrArg _ (by ring)

theorem wts_at (g : Fin 3) (h : Fin 4) (i j : Fin 4096) :
    hWts (hScore q k) (ix4 g h i j) = ((ex A g h i j / zg A g h i : ℝ) : EReal) := by
  obtain ⟨b, e⟩ := max_at A q k v o R g h i
  have e1 := exp_at A q k v o R g h i j b e
  have e2 := den_at A q k v o R g h i b e
  have h0 := zg_pos A g h i i.isLt
  unfold hWts
  generalize hExp (hScore q k) = w1 at e1 ⊢
  generalize hDen (hScore q k) = w2 at e2 ⊢
  pointwise
  rw [e1, e2, div_real _ _ (by positivity), mul_div_mul_right _ _ (Real.exp_ne_zero _)]

omit R in
theorem row_at (l : FVec Ideal S3x4x4096 .f32) (h : Fin 4) (i : Fin 4096) :
    hRow0 l (ix2 h i) = l (ix3 0 h i) ∧ hRow1 l (ix2 h i) = l (ix3 1 h i) ∧ hRow2 l (ix2 h i) = l (ix3 2 h i) := by
  unfold hRow0 hRow1 hRow2
  refine ⟨?_, ?_, ?_⟩ <;> pointwise

omit R in
/-- The log-sum-exp over three real numbers `log a`, `log b` and `log c`. -/
theorem all_at (l : FVec Ideal S3x4x4096 .f32) (h : Fin 4) (i : Fin 4096) (a b c : ℝ) (ha : 0 < a) (hb : 0 < b) (hc : 0 < c)
    (e0 : l (ix3 0 h i) = ((Real.log a : ℝ) : EReal)) (e1 : l (ix3 1 h i) = ((Real.log b : ℝ) : EReal))
    (e2 : l (ix3 2 h i) = ((Real.log c : ℝ) : EReal)) : hAll l (ix2 h i) = ((Real.log (a + b + c) : ℝ) : EReal) := by
  obtain ⟨r0, r1, r2⟩ := row_at l h i
  rw [e0] at r0; rw [e1] at r1; rw [e2] at r2
  have ht : hTop l (ix2 h i) = ((max (max (Real.log a) (Real.log b)) (Real.log c) : ℝ) : EReal) := by
    unfold hTop
    generalize hRow0 l = w0 at r0 ⊢
    generalize hRow1 l = w1 at r1 ⊢
    generalize hRow2 l = w2 at r2 ⊢
    pointwise
    rw [r0, r1, r2, EReal.coe_strictMono.monotone.map_max, EReal.coe_strictMono.monotone.map_max]
  generalize max (max (Real.log a) (Real.log b)) (Real.log c) = t at ht
  unfold hAll
  generalize hTop l = w3 at ht ⊢
  generalize hRow0 l = w0 at r0 ⊢
  generalize hRow1 l = w1 at r1 ⊢
  generalize hRow2 l = w2 at r2 ⊢
  pointwise
  rw [r0, r1, r2, ht, exp_sub_real, exp_sub_real, exp_sub_real, Real.exp_log ha, Real.exp_log hb, Real.exp_log hc,
    ← EReal.coe_add, ← EReal.coe_add, log_real _ (by positivity), ← EReal.coe_add, ← add_mul, ← add_mul,
    Real.log_mul (by positivity) (Real.exp_ne_zero _), Real.log_exp]
  exact congrArg _ (by ring)

/-- The log-sum-exp over the three groups. -/
theorem lse_all (h : Fin 4) (i : Fin 4096) : hAll (hLse (hScore q k)) (ix2 h i) = ((Real.log (zz A h i) : ℝ) : EReal) := by
  rw [all_at (hLse (hScore q k)) h i _ _ _ (zg_pos A 0 h i i.isLt) (zg_pos A 1 h i i.isLt) (zg_pos A 2 h i i.isLt)
    (lse_at A q k v o R 0 h i) (lse_at A q k v o R 1 h i) (lse_at A q k v o R 2 h i)]
  unfold zz
  rw [Finset.sum_range_succ, Finset.sum_range_succ, Finset.sum_range_succ, Finset.sum_range_zero, zero_add]

omit R in
theorem att_form (l : FVec Ideal S3x4x4096 .f32) (a : FVec Ideal S4x4096 .f32) (p : FVec Ideal S3x4x4096x4096 .f32) (h : Fin 4) (i : Fin 4096) (d : Fin 128) :
    hAtt l a p v (ix3 i h d) = ∑ g : Fin 3, ∑ j : Fin 4096, v (ix4 j g h d) * (Ideal.exp (l (ix3 g h i) - a (ix2 h i)) * p (ix4 g h i j)) := by
  unfold hAtt
  pointwise

theorem att_at (h : Fin 4) (i : Fin 4096) (d : Fin 128) :
    hAtt (hLse (hScore q k)) (hAll (hLse (hScore q k))) (hWts (hScore q k)) v (ix3 i h d) = ((att A h i d : ℝ) : EReal) := by
  have e1 := fun g => lse_at A q k v o R g h i
  have e2 := lse_all A q k v o R h i
  have e3 := fun g j => wts_at A q k v o R g h i j
  refine (att_form v _ _ _ h i d).trans ?_
  have h1 := zz_pos A h i i.isLt
  have key : ∀ (g : Fin 3) (j : Fin 4096), v (ix4 j g h d) * (Ideal.exp (hLse (hScore q k) (ix3 g h i) - hAll (hLse (hScore q k)) (ix2 h i)) * hWts (hScore q k) (ix4 g h i j))
      = ((wt A g h i j * A.v j g h d : ℝ) : EReal) := by
    intro g j
    have h0 := zg_pos A g h i i.isLt
    rw [e1, e2, e3, R.v, exp_sub_real, Real.exp_neg, Real.exp_log h0, Real.exp_log h1, ← EReal.coe_mul, ← EReal.coe_mul]
    refine congrArg _ ?_
    unfold wt; field_simp
  rw [sum_eq_coe 3 _ (fun g => ∑ j ∈ Finset.range 4096, wt A g h i j * A.v j g h d) fun g => sum_eq_coe 4096 _ _ (key g)]
  rfl

omit R in
theorem qkv_form (i : Fin 4096) (c : Fin 1536) :
    hQkv q k v (ix2 i (⟨c.val, by omega⟩ : Fin 4608)) = q (ix4 i (colG c) (colH c) (colD c)) * Ideal.ofBits .f32 0x3DB504F3#32
    ∧ hQkv q k v (ix2 i (⟨1536 + c.val, by omega⟩ : Fin 4608)) = k (ix4 i (colG c) (colH c) (colD c))
    ∧ hQkv q k v (ix2 i (⟨3072 + c.val, by omega⟩ : Fin 4608)) = v (ix4 i (colG c) (colH c) (colD c)) := by
  have h := c.isLt
  unfold hQkv
  refine ⟨?_, ?_, ?_⟩
  · pointwise <;> rw [dif_pos h]
  · pointwise <;> (rw [dif_neg (by omega), dif_pos (by omega)]; simp only [show 1536 + c.val - 1536 = c.val by omega])
  · pointwise <;> (rw [dif_neg (by omega), dif_neg (by omega)]; simp only [show 3072 + c.val - 1536 - 1536 = c.val by omega])

theorem flat_o (i : Fin 4096) (c : Fin 512) :
    hFlat o (ix2 i c) = ((A.o i (c.val / 128) (c.val % 128) : ℝ) : EReal) := by
  unfold hFlat
  pointwise
  exact R.o i _ _

theorem col_at (w : FVec Ideal S4x4096 FTy.f32) (h : Fin 4) (i : Fin 4096) : hCol w (ix3 h i 0) = w (ix2 h i) := by
  unfold hCol
  pointwise

end Cert.Att

end
-- ==== Proof.Value.HostArr.lean ====
module

public import proofs.«01_k».proof.Proof.Value.HostVal

/-! The windows' arrays as the launch finds them. -/

@[expose] public section

set_option maxRecDepth 16384

noncomputable section

namespace Cert.Att

open Idealize.ShloMosaic Idealize.ShloMosaic.TcCoe Idealize.ShloMosaic.Tactic Idealize.ShloMosaic.StableHlo
open Idealize.SL.Sem
open Cert.KernelIdeal Cert.KernelIdeal.Gen

variable (W : Valuation τ sig (Elt Ideal))

theorem keep_first : after (hostOps0 ++ hostOps0_1) W (Proc.tc.devRef main_arg0) = W (Proc.tc.devRef main_arg0)
    ∧ after (hostOps0 ++ hostOps0_1) W (Proc.tc.devRef main_arg1) = W (Proc.tc.devRef main_arg1)
    ∧ after (hostOps0 ++ hostOps0_1) W (Proc.tc.devRef main_arg2) = W (Proc.tc.devRef main_arg2)
    ∧ after (hostOps0 ++ hostOps0_1) W (Proc.tc.devRef main_arg3) = W (Proc.tc.devRef main_arg3) := by
  simp only [hostOps0, hostOps0_1, List.cons_append, List.nil_append]
  refine ⟨?_, ?_, ?_, ?_⟩ <;> after_results

theorem keep_A : after opsA W (Proc.tc.devRef main_arg0) = W (Proc.tc.devRef main_arg0)
    ∧ after opsA W (Proc.tc.devRef main_arg1) = W (Proc.tc.devRef main_arg1)
    ∧ after opsA W (Proc.tc.devRef main_arg2) = W (Proc.tc.devRef main_arg2)
    ∧ after opsA W (Proc.tc.devRef main_arg3) = W (Proc.tc.devRef main_arg3) := by
  unfold opsA
  simp only [List.take_succ_cons, List.take_zero]
  refine ⟨?_, ?_, ?_, ?_⟩ <;> after_results

theorem keep_B : after opsB W (Proc.tc.devRef main_arg0) = W (Proc.tc.devRef main_arg0)
    ∧ after opsB W (Proc.tc.devRef main_arg1) = W (Proc.tc.devRef main_arg1)
    ∧ after opsB W (Proc.tc.devRef main_arg2) = W (Proc.tc.devRef main_arg2)
    ∧ after opsB W (Proc.tc.devRef main_arg3) = W (Proc.tc.devRef main_arg3)
    ∧ after opsB W (Proc.tc.devRef main_v32) = W (Proc.tc.devRef main_v32)
    ∧ after opsB W (Proc.tc.devRef main_v34) = W (Proc.tc.devRef main_v34) := by
  unfold opsB
  simp only [List.take_succ_cons, List.take_zero, List.drop_succ_cons, List.drop_zero]
  refine ⟨?_, ?_, ?_, ?_, ?_, ?_⟩ <;> after_results

theorem keep_C : after opsC W (Proc.tc.devRef main_arg0) = W (Proc.tc.devRef main_arg0)
    ∧ after opsC W (Proc.tc.devRef main_arg1) = W (Proc.tc.devRef main_arg1)
    ∧ after opsC W (Proc.tc.devRef main_arg2) = W (Proc.tc.devRef main_arg2)
    ∧ after opsC W (Proc.tc.devRef main_arg3) = W (Proc.tc.devRef main_arg3)
    ∧ after opsC W (Proc.tc.devRef main_v58) = W (Proc.tc.devRef main_v58) := by
  unfold opsC
  simp only [List.take_succ_cons, List.take_zero, List.drop_succ_cons, List.drop_zero]
  refine ⟨?_, ?_, ?_, ?_, ?_⟩ <;> after_results

variable (m : (ℓ : Loc nD τ sig) → Buf (Elt Ideal) ℓ) (c : Dev nD)

/-- The arguments as launched. -/
abbrev q0 : Vec4 := m (c, Proc.tc.devRef main_arg0)
abbrev k0 : Vec4 := m (c, Proc.tc.devRef main_arg1)
abbrev v0 : Vec4 := m (c, Proc.tc.devRef main_arg2)
abbrev o0 : FVec Ideal S4096x4x128 .f32 := m (c, Proc.tc.devRef main_arg3)

theorem V_split (b : Ref sig .tc) : V m c b = after opsD (after opsC (after opsB (after opsA (after (hostOps0 ++ hostOps0_1) fun b => m (c, b))))) (Proc.tc.devRef b) := by
  rw [← after_append, ← after_append, ← after_append, ← after_append]
  rfl

theorem V_qkv : V m c main_v74 = hQkv (q0 m c) (k0 m c) (v0 m c) := by
  rw [V_split, read_v74, (keep_C _).1, (keep_C _).2.1, (keep_C _).2.2.1, (keep_B _).1, (keep_B _).2.1, (keep_B _).2.2.1,
    (keep_A _).1, (keep_A _).2.1, (keep_A _).2.2.1, (keep_first _).1, (keep_first _).2.1, (keep_first _).2.2.1]

theorem V_att : V m c main_v76 = hFlat (hAtt (hLse (hScore (q0 m c) (k0 m c))) (hAll (hLse (hScore (q0 m c) (k0 m c)))) (hWts (hScore (q0 m c) (k0 m c))) (v0 m c)) := by
  rw [V_split, read_v76, read_v67, read_v58, (keep_B _).2.2.1, (keep_B _).2.2.2.2.1, (keep_B _).2.2.2.2.2,
    (keep_A _).2.2.1, read_v32, read_v34, read_v22, (keep_first _).2.2.1]

theorem V_ct : V m c main_v78 = hFlat (o0 m c) := by
  rw [V_split, read_v78, (keep_C _).2.2.2.1, (keep_B _).2.2.2.1, (keep_A _).2.2.2, (keep_first _).2.2.2]

theorem V_lse : V m c main_v79 = hCol (hAll (hLse (hScore (q0 m c) (k0 m c)))) := by
  rw [V_split, read_v79, (keep_C _).2.2.2.2, read_v58, read_v32, read_v22]

end Cert.Att

end
-- ==== Proof.Value.Block.lean ====
module

public import proofs.«01_k».proof.Proof.Value.HostArr
public import proofs.«01_k».proof.Proof.KernelIdeal.Held

/-! The blocks a grid point reads, as entries of the arrays, and the scratch's windows at an index. -/

@[expose] public section

set_option maxRecDepth 16384

noncomputable section

namespace Cert.Att

open Idealize.ShloMosaic Idealize.ShloMosaic.TcCoe Idealize.ShloMosaic.Tactic
open Cert.KernelIdeal Cert.KernelIdeal.Gen Cert.KernelIdeal.Hand
open VecWindow (window put)

/-- The head, the group and the query tile of a grid point. -/
abbrev pH (t : Fin cfg0.N) : ℕ := t.val / 48
abbrev pG (t : Fin cfg0.N) : ℕ := t.val / 16 % 3
abbrev pI (t : Fin cfg0.N) : ℕ := t.val % 16

theorem idx : ∀ t : Fin cfg0.N, (cfg0.win 0).index t = ![pI t, 4 * pG t + pH t] ∧ (cfg0.win 1).index t = ![0, 12 + 4 * pG t + pH t]
    ∧ (cfg0.win 2).index t = ![0, 24 + 4 * pG t + pH t] ∧ (cfg0.win 3).index t = ![pI t, pH t] ∧ (cfg0.win 4).index t = ![pI t, pH t]
    ∧ (cfg0.win 5).index t = ![pH t, pI t, 0] ∧ (cfg0.win 6).index t = ![pI t, 4 * pG t + pH t]
    ∧ (cfg0.win 7).index t = ![0, 4 * pG t + pH t] ∧ (cfg0.win 8).index t = ![0, 4 * pG t + pH t] := by
  decide +kernel

theorem pt_bounds (t : Fin cfg0.N) : pH t < 4 ∧ pG t < 3 ∧ pI t < 16 := by
  have ht : t.val < 192 := Nat.lt_of_lt_of_eq t.isLt N_0
  refine ⟨?_, ?_, ?_⟩ <;> simp only [pH, pG, pI] <;> omega

variable (m : (ℓ : Loc nD τ sig) → Buf (Elt Ideal) ℓ) (c : Dev nD) (t : Fin cfg0.N)

theorem qB_at (r : Fin 256) (d : Fin 128) : qB m c t (ix2 r d) = V m c main_v74
    (ix2 (⟨256 * pI t + r.val, by have := pt_bounds t; omega⟩ : Fin 4096) (⟨pG t * 512 + pH t * 128 + d.val, by have := pt_bounds t; omega⟩ : Fin 4608)) := by
  have hb := pt_bounds t
  unfold qB
  blk_ext [iblk, idx t]

theorem kB_at (k : Fin 4096) (d : Fin 128) : kB m c t (ix2 k d) = V m c main_v74
    (ix2 k (⟨1536 + (pG t * 512 + pH t * 128 + d.val), by have := pt_bounds t; omega⟩ : Fin 4608)) := by
  have hb := pt_bounds t
  unfold kB
  blk_ext [iblk, idx t]

theorem vB_at (k : Fin 4096) (d : Fin 128) : vB m c t (ix2 k d) = V m c main_v74
    (ix2 k (⟨3072 + (pG t * 512 + pH t * 128 + d.val), by have := pt_bounds t; omega⟩ : Fin 4608)) := by
  have hb := pt_bounds t
  unfold vB
  blk_ext [iblk, idx t]

theorem oB_at (r : Fin 256) (d : Fin 128) : oB m c t (ix2 r d) = V m c main_v76
    (ix2 (⟨256 * pI t + r.val, by have := pt_bounds t; omega⟩ : Fin 4096) (⟨pH t * 128 + d.val, by have := pt_bounds t; omega⟩ : Fin 512)) := by
  have hb := pt_bounds t
  unfold oB
  blk_ext [iblk, idx t]

theorem dB_at (r : Fin 256) (d : Fin 128) : dB m c t (ix2 r d) = V m c main_v78
    (ix2 (⟨256 * pI t + r.val, by have := pt_bounds t; omega⟩ : Fin 4096) (⟨pH t * 128 + d.val, by have := pt_bounds t; omega⟩ : Fin 512)) := by
  have hb := pt_bounds t
  unfold dB
  blk_ext [iblk, idx t]

omit m c in
theorem emb5 (r : Fin 256) : (((cfg0.win 5).blk t).view.emb (ix3 (0 : Fin 1) r (0 : Fin 1)) : S4x4096x1.Idx) =
    ix3 (⟨pH t, by have := pt_bounds t; omega⟩ : Fin 4) (⟨256 * pI t + r.val, by have := pt_bounds t; omega⟩ : Fin 4096) (0 : Fin 1) := by
  have hb := pt_bounds t
  blk_ext [idx t]

omit m in
theorem lB_gen (U : (b : Ref sig .tc) → Buf (Elt Ideal) ((c : Thread nD τ).loc b)) (r : Fin 256) :
    (((cfg0.win 5).blk t).view.read (Elt Ideal) (U (Pipeline.arrRef spec0 5)) : S1x256x1.Idx → EReal) (ix3 (0 : Fin 1) r (0 : Fin 1)) = U main_v79
    (ix3 (⟨pH t, by have := pt_bounds t; omega⟩ : Fin 4) (⟨256 * pI t + r.val, by have := pt_bounds t; omega⟩ : Fin 4096) (0 : Fin 1)) := by
  exact congrArg (U main_v79) (emb5 t r)

theorem lB_at (r : Fin 256) : lB m c t (ix3 (0 : Fin 1) r (0 : Fin 1)) = V m c main_v79
    (ix3 (⟨pH t, by have := pt_bounds t; omega⟩ : Fin 4) (⟨256 * pI t + r.val, by have := pt_bounds t; omega⟩ : Fin 4096) (0 : Fin 1)) := by
  unfold lB iblk
  generalize V m c = U
  exact lB_gen c t U r

/-! ## Windows and stores by rows -/

theorem window_row {α : Type} (X : S6144x128.Idx → α) (b W : ℕ) (inb : ∀ a, (![b, 0] : Fin 2 → ℕ) a + (![W, 128] : Fin 2 → ℕ) a ≤ S6144x128.size a)
    (j : Fin W) (d : Fin 128) (hj : b + j.val < 6144) :
    window X ![b, 0] ![W, 128] inb (ix2 j d) = X (ix2 (⟨b + j.val, hj⟩ : Fin 6144) d) := by
  unfold VecWindow.window
  refine congrArg X (funext fun a => Fin.ext ?_)
  match a with
  | ⟨0, _⟩ => show b + 1 * j.val = b + j.val; omega
  | ⟨1, _⟩ => show 0 + 1 * d.val = d.val; omega

theorem put_row {α : Type} (X : S6144x128.Idx → α) (b W : ℕ) (w : ((a : Fin S6144x128.rank) → Fin ((![W, 128] : Fin 2 → ℕ) a)) → α)
    (n : Fin 6144) (d : Fin 128) :
    put X ![b, 0] ![W, 128] w (ix2 n d) = if h : b ≤ n.val ∧ n.val < b + W then w (ix2 (⟨n.val - b, by omega⟩ : Fin W) d) else X (ix2 n d) := by
  unfold VecWindow.put
  have hd := d.isLt
  by_cases h : b ≤ n.val ∧ n.val < b + W
  · rw [dif_pos h, dif_pos (fun a => by
      match a with
      | ⟨0, _⟩ => exact h
      | ⟨1, _⟩ => exact ⟨Nat.zero_le _, (Nat.zero_add 128).symm ▸ hd⟩)]
    refine congrArg w (funext fun a => Fin.ext ?_)
    match a with
    | ⟨0, _⟩ => rfl
    | ⟨1, _⟩ => rfl
  · rw [dif_neg h, dif_neg (fun hh => h (hh 0))]

end Cert.Att

end
-- ==== Proof.Value.Words.lean ====
module

public import proofs.«01_k».proof.Proof.Value.Scalar
public import proofs.«01_k».proof.Proof.Value.Spec

/-! The kernel's tests on words, a weight and its cotangent over a padded row of keys. -/

@[expose] public section

noncomputable section

namespace Cert.Att

open Idealize.ShloMosaic

theorem sees_shift (g a n i j p : ℕ) (hp : p ≤ n) (e : (n : ℤ) - a = (j : ℤ) - i) : sees g (i + p) j ↔ sees g a (n - p) := by
  unfold sees
  have : ((j : ℤ) - (i + p : ℕ)) = ((n - p : ℕ) : ℤ) - a := by omega
  rw [this]

theorem sub_word (r j p : ℕ) : IntOp.subi (IntOp.subi (BitVec.ofNat 32 j) (BitVec.ofNat 32 r)) (BitVec.ofNat 32 p)
    = IntOp.subi (BitVec.ofNat 32 j) (BitVec.ofNat 32 (r + p)) := by
  unfold IntOp.subi
  rw [BitVec.ofNat_add, BitVec.sub_sub]

/-- The kernel's test of the step between keys. -/
theorem step_word (i k e : ℕ) (he : e ≤ 16) (hi : i < 65536) (hk : k < 65536) :
    (IntOp.andi (IntOp.subi (BitVec.ofNat 32 k) (BitVec.ofNat 32 i)) (BitVec.ofNat 32 (2 ^ e - 1)) == 0#32)
      = decide (((k : ℤ) - i).natAbs % 2 ^ e = 0) := by
  have e1 : (IntOp.subi (BitVec.ofNat 32 k) (BitVec.ofNat 32 i)).toNat = (2 ^ 32 - i + k) % 2 ^ 32 := by
    unfold IntOp.subi
    rw [BitVec.toNat_sub, BitVec.toNat_ofNat, BitVec.toNat_ofNat]; omega
  have h16 : 2 ^ e ≤ 2 ^ 16 := Nat.pow_le_pow_right (by norm_num) he
  have e2 : (IntOp.andi (IntOp.subi (BitVec.ofNat 32 k) (BitVec.ofNat 32 i)) (BitVec.ofNat 32 (2 ^ e - 1))).toNat
      = (2 ^ 32 - i + k) % 2 ^ 32 % 2 ^ e := by
    unfold IntOp.andi
    rw [BitVec.toNat_and, e1, BitVec.toNat_ofNat, Nat.mod_eq_of_lt (a := 2 ^ e - 1) (by omega), Nat.and_two_pow_sub_one_eq_mod]
  rw [beq_eq_decide]
  refine decide_eq_decide.2 ?_
  rw [← BitVec.toNat_inj, e2]
  show _ = 0 ↔ _
  interval_cases e <;> omega

/-- The kernel's mask: which places of a window a query sees. -/
theorem mask_word (g : ℕ) (hg : g < 3) (r j : ℕ) (hr : r < 256) (hj : j < 2304) (p s : BitVec 32)
    (hp : p = BitVec.ofNat 32 (rad g)) (hs : s = BitVec.ofNat 32 (2 ^ (2 * g) - 1)) :
    IntOp.andi (IntOp.cmpi .sle (IntOp.absi (IntOp.subi (IntOp.subi (BitVec.ofNat 32 j) (BitVec.ofNat 32 r)) p)) p)
      (IntOp.cmpi .eq (IntOp.andi (IntOp.subi (IntOp.subi (BitVec.ofNat 32 j) (BitVec.ofNat 32 r)) p) s) 0#32)
      = BitVec.ofBool (decide (sees g (r + rad g) j)) := by
  have hr' : rad g ≤ 1024 := by unfold rad; interval_cases g <;> norm_num
  have hd : dil g = 2 ^ (2 * g) := by unfold dil; rw [pow_mul]; norm_num
  rw [hp, hs, sub_word, abs_word (r + rad g) j (by omega) (by omega)]
  have hn : ((j : ℤ) - (r + rad g : ℕ)).natAbs < 65536 := by omega
  show BitVec.ofBool ((BitVec.ofNat 32 ((j : ℤ) - (r + rad g : ℕ)).natAbs).sle (BitVec.ofNat 32 (rad g)))
    &&& BitVec.ofBool (IntOp.andi (IntOp.subi (BitVec.ofNat 32 j) (BitVec.ofNat 32 (r + rad g))) (BitVec.ofNat 32 (2 ^ (2 * g) - 1)) == 0#32) = _
  rw [sle_word _ _ hn (by omega), step_word (r + rad g) j (2 * g) (by omega) (by omega) (by omega)]
  by_cases h1 : ((j : ℤ) - (r + rad g : ℕ)).natAbs ≤ rad g <;> by_cases h2 : ((j : ℤ) - (r + rad g : ℕ)).natAbs % 2 ^ (2 * g) = 0 <;> simp [sees, hd, h1, h2, -Nat.cast_add]

/-- The kernel's test that a place of a window is a key of the sequence. -/
theorem range_word (w : BitVec 32) (b j p : ℕ) (hw : w.toNat = b) (hb : b + j < 65536) (hp : p < 65536) (P : BitVec 32) (hP : P = BitVec.ofNat 32 p) :
    IntOp.andi (IntOp.cmpi .sge (IntOp.addi (Scalar.subi w P) (BitVec.ofNat 32 j)) 0#32)
      (IntOp.cmpi .slt (IntOp.addi (Scalar.subi w P) (BitVec.ofNat 32 j)) 4096#32)
      = BitVec.ofBool (decide (p ≤ b + j ∧ b + j < 4096 + p)) := by
  have e : (IntOp.addi (Scalar.subi w P) (BitVec.ofNat 32 j)).toNat = (2 ^ 32 - p + (b + j)) % 2 ^ 32 := by
    show ((w - P) + BitVec.ofNat 32 j).toNat = _
    rw [BitVec.toNat_add, BitVec.toNat_sub, hP, BitVec.toNat_ofNat, BitVec.toNat_ofNat, hw]; omega
  generalize IntOp.addi (Scalar.subi w P) (BitVec.ofNat 32 j) = x at e ⊢
  show BitVec.ofBool ((0#32).sle x) &&& BitVec.ofBool (x.slt 4096#32) = _
  have hx := BitVec.toInt_eq_toNat_cond x
  rw [e] at hx
  have e1 : (0#32).sle x = decide (p ≤ b + j) := by
    rw [BitVec.sle_eq_decide]
    refine decide_eq_decide.2 ?_
    rw [hx]; show (0 : ℤ) ≤ _ ↔ _
    split <;> omega
  have e2 : p ≤ b + j → x.slt 4096#32 = decide (b + j < 4096 + p) := by
    intro h
    rw [BitVec.slt_eq_decide]
    refine decide_eq_decide.2 ?_
    rw [hx]; show _ < (4096 : ℤ) ↔ _
    split <;> omega
  rw [e1]
  by_cases h1 : p ≤ b + j
  · rw [e2 h1]
    by_cases h2 : b + j < 4096 + p <;> simp [h1, h2]
  · simp [h1]

variable (A : Arrs)

/-- Keys, values, weights and cotangents over rows with `rad g` rows of zeros before and after the sequence. -/
def inSeq (g n : ℕ) : Prop := rad g ≤ n ∧ n < 4096 + rad g

instance (g n : ℕ) : Decidable (inSeq g n) := by
  unfold inSeq; infer_instance

def kp (g h n d : ℕ) : ℝ := if inSeq g n then A.k (n - rad g) g h d else 0
def vp (g h n d : ℕ) : ℝ := if inSeq g n then A.v (n - rad g) g h d else 0
def wp (g h a n : ℕ) : ℝ := if inSeq g n then wt A g h a (n - rad g) else 0
def dp (g h a n : ℕ) : ℝ := if inSeq g n then ds A g h a (n - rad g) else 0

/-- A weight as the kernel computes it. -/
theorem weight_real (g h a n : ℕ) (ha : a < 4096) (S M I L : EReal) (hS : S = ((∑ d ∈ Finset.range 128, (A.q a g h d * A.σ) * kp A g h n d : ℝ) : EReal))
    (hM : inSeq g n → M = if sees g a (n - rad g) then 0 else ⊥) (hM' : M = 0 ∨ M = ⊥) (hI : I = if inSeq g n then 0 else ⊥) (hL : L = ((Real.log (zz A h a) : ℝ) : EReal)) :
    Ideal.exp (S + M + I - L) = ((wp A g h a n : ℝ) : EReal) := by
  have hz := zz_pos A h a ha
  by_cases hn : inSeq g n
  · rw [hI, if_pos hn, hM hn, hL, add_zero]
    unfold wp
    rw [if_pos hn]
    by_cases hs : sees g a (n - rad g)
    · rw [if_pos hs, add_zero, hS, exp_sub_real, Real.exp_neg, Real.exp_log hz]
      refine congrArg _ ?_
      unfold wt ex sc kp
      rw [if_pos hs, Finset.sum_mul, div_eq_mul_inv]
      refine congrArg (fun x => Real.exp x * _) (Finset.sum_congr rfl fun d _ => ?_)
      rw [if_pos hn]; ring
    · rw [if_neg hs, EReal.add_bot, exp_bot_sub, wt_zero A g h a _ hs, EReal.coe_zero]
  · rw [hI, if_neg hn, hL, EReal.add_bot, exp_bot_sub]
    unfold wp; rw [if_neg hn, EReal.coe_zero]

/-- A score's cotangent as the kernel computes it. -/
theorem cot_real (g h a n : ℕ) : wp A g h a n * ((∑ d ∈ Finset.range 128, A.o a h d * vp A g h n d) - del A h a) = dp A g h a n := by
  unfold wp dp vp
  by_cases hn : inSeq g n
  · simp only [if_pos hn]; rfl
  · simp only [if_neg hn, zero_mul]

/-- Outside a tile's window a cotangent is 0. -/
theorem dp_out (g h a n b : ℕ) (h1 : b ≤ a) (h2 : a < b + 256) (hn : n < b ∨ b + (256 + 2 * rad g) ≤ n) : dp A g h a n = 0 ∧ wp A g h a n = 0 := by
  unfold dp wp
  by_cases hs : inSeq g n
  · rw [if_pos hs, if_pos hs]
    have : ¬ sees g a (n - rad g) := fun hh => by
      have h3 := hh.1
      have h4 := hs.1
      omega
    exact ⟨ds_zero A g h a _ this, wt_zero A g h a _ this⟩
  · rw [if_neg hs, if_neg hs]; exact ⟨rfl, rfl⟩

/-- A sum over a window of padded rows that holds every key the query sees. -/
theorem sum_window (g h a b : ℕ) (ha : a < 4096) (h1 : b ≤ a) (h2 : a < b + 256) (hb : b + 256 ≤ 4096) (f : ℕ → ℝ) :
    ∑ j ∈ Finset.range (256 + 2 * rad g), dp A g h a (b + j) * f (b + j) = ∑ k ∈ Finset.range 4096, ds A g h a k * f (rad g + k) := by
  have e0 : ∑ j ∈ Finset.range (256 + 2 * rad g), dp A g h a (b + j) * f (b + j) = ∑ n ∈ Finset.range (4096 + 2 * rad g), dp A g h a n * f n := by
    rw [← Finset.sum_subset (s₁ := Finset.Ico b (b + (256 + 2 * rad g))) (s₂ := Finset.range (4096 + 2 * rad g)) (f := fun n => dp A g h a n * f n)]
    · rw [Finset.sum_Ico_eq_sum_range, Nat.add_sub_cancel_left]
    · intro n hn; rw [Finset.mem_Ico] at hn; rw [Finset.mem_range]; omega
    · intro n _ hn
      rw [Finset.mem_Ico] at hn
      show dp A g h a n * f n = 0
      rw [(dp_out A g h a n b h1 h2 (by omega)).1, zero_mul]
  rw [e0, ← Finset.sum_subset (s₁ := Finset.Ico (rad g) (4096 + rad g)) (s₂ := Finset.range (4096 + 2 * rad g)) (f := fun n => dp A g h a n * f n)]
  · rw [Finset.sum_Ico_eq_sum_range, Nat.add_sub_cancel]
    refine Finset.sum_congr rfl fun k hk => ?_
    have hk' := Finset.mem_range.1 hk
    unfold dp
    rw [if_pos ⟨by omega, by omega⟩, Nat.add_sub_cancel_left]
  · intro n hn; rw [Finset.mem_Ico] at hn; rw [Finset.mem_range]; omega
  · intro n _ hn
    rw [Finset.mem_Ico] at hn
    show dp A g h a n * f n = 0
    unfold dp
    rw [if_neg (show ¬ inSeq g n from hn), zero_mul]

end Cert.Att

end
-- ==== Proof.Value.Reals.lean ====
module

public import proofs.«01_k».proof.Proof.Value.Block
public import proofs.«01_k».proof.Proof.Value.Words

/-! The blocks a grid point reads, as real numbers. -/

@[expose] public section

set_option maxRecDepth 16384

noncomputable section

namespace Cert.Att

open Idealize.ShloMosaic Idealize.ShloMosaic.TcCoe Idealize.ShloMosaic.Tactic
open Cert.KernelIdeal Cert.KernelIdeal.Gen Cert.KernelIdeal.Hand
open VecWindow (window put)

variable (m : (ℓ : Loc nD τ sig) → Buf (Elt Ideal) ℓ) (c : Dev nD) (A : Arrs) (R : Reads A (q0 m c) (k0 m c) (v0 m c) (o0 m c)) (t : Fin cfg0.N)
include R

/-- The column of a head, group and lane. -/
abbrev pCol (d : Fin 128) : Fin 1536 := ⟨pG t * 512 + pH t * 128 + d.val, by have := pt_bounds t; omega⟩

omit R in
theorem pCol_at (d : Fin 128) : (pCol t d).val / 512 = pG t ∧ (pCol t d).val / 128 % 4 = pH t ∧ (pCol t d).val % 128 = d.val := by
  have hb := pt_bounds t
  have hd := d.isLt
  have e : (pCol t d).val = pG t * 512 + pH t * 128 + d.val := rfl
  rw [e]
  generalize pG t = g at *
  generalize pH t = h at *
  refine ⟨?_, ?_, ?_⟩ <;> omega

theorem qB_real (r : Fin 256) (d : Fin 128) : (qB m c t : S256x128.Idx → EReal) (ix2 r d) = ((A.q (256 * pI t + r) (pG t) (pH t) d * A.σ : ℝ) : EReal) := by
  obtain ⟨e1, e2, e3⟩ := pCol_at t d
  have f := fun i => (qkv_form (q0 m c) (k0 m c) (v0 m c) i (pCol t d)).1
  rw [qB_at, V_qkv]
  refine (f _).trans ?_
  rw [R.q, R.σ, ofBits_sigma, ← EReal.coe_mul]
  show ((A.q _ ((pCol t d).val / 512) ((pCol t d).val / 128 % 4) ((pCol t d).val % 128) * _ : ℝ) : EReal) = _
  rw [e1, e2, e3]

theorem kB_real (k : Fin 4096) (d : Fin 128) : (kB m c t : S4096x128.Idx → EReal) (ix2 k d) = ((A.k k (pG t) (pH t) d : ℝ) : EReal) := by
  obtain ⟨e1, e2, e3⟩ := pCol_at t d
  have f := fun i => (qkv_form (q0 m c) (k0 m c) (v0 m c) i (pCol t d)).2.1
  rw [kB_at, V_qkv]
  refine (f _).trans ?_
  rw [R.k]
  show ((A.k _ ((pCol t d).val / 512) ((pCol t d).val / 128 % 4) ((pCol t d).val % 128) : ℝ) : EReal) = _
  rw [e1, e2, e3]

theorem vB_real (k : Fin 4096) (d : Fin 128) : (vB m c t : S4096x128.Idx → EReal) (ix2 k d) = ((A.v k (pG t) (pH t) d : ℝ) : EReal) := by
  obtain ⟨e1, e2, e3⟩ := pCol_at t d
  have f := fun i => (qkv_form (q0 m c) (k0 m c) (v0 m c) i (pCol t d)).2.2
  rw [vB_at, V_qkv]
  refine (f _).trans ?_
  rw [R.v]
  show ((A.v _ ((pCol t d).val / 512) ((pCol t d).val / 128 % 4) ((pCol t d).val % 128) : ℝ) : EReal) = _
  rw [e1, e2, e3]

omit R in
/-- An array by head and lane, flattened, at a column. -/
theorem flat_form (x : FVec Ideal S4096x4x128 .f32) (i : Fin 4096) (h : Fin 4) (d : Fin 128) :
    hFlat x (ix2 i (⟨h.val * 128 + d.val, by omega⟩ : Fin 512)) = x (ix3 i h d) := by
  unfold hFlat
  pointwise

theorem dB_real (r : Fin 256) (d : Fin 128) : (dB m c t : S256x128.Idx → EReal) (ix2 r d) = ((A.o (256 * pI t + r) (pH t) d : ℝ) : EReal) := by
  rw [dB_at, V_ct]
  exact (flat_form _ _ ⟨pH t, (pt_bounds t).1⟩ d).trans (R.o _ _ _)

theorem oB_real (r : Fin 256) (d : Fin 128) : (oB m c t : S256x128.Idx → EReal) (ix2 r d) = ((att A (pH t) (256 * pI t + r) d : ℝ) : EReal) := by
  rw [oB_at, V_att]
  exact (flat_form _ _ ⟨pH t, (pt_bounds t).1⟩ d).trans (att_at A _ _ _ _ R _ _ _)

theorem lB_real (r : Fin 256) : (lB m c t : S1x256x1.Idx → EReal) (ix3 (0 : Fin 1) r (0 : Fin 1)) = ((Real.log (zz A (pH t) (256 * pI t + r)) : ℝ) : EReal) := by
  rw [lB_at, V_lse]
  exact (col_at A _ _ _ _ R _ _ _).trans (lse_all A _ _ _ _ R _ _)

end Cert.Att

end
-- ==== Proof.Value.Rows.lean ====
module

public import proofs.«01_k».proof.Proof.Value.Reals

/-! The parts of a grid point's work that are the same in the three groups. -/

@[expose] public section

set_option maxRecDepth 16384

noncomputable section

namespace Cert.Att

open Idealize.ShloMosaic Idealize.ShloMosaic.TcCoe Idealize.ShloMosaic.Tactic
open Cert.KernelIdeal Cert.KernelIdeal.Gen Cert.KernelIdeal.Hand
open VecWindow (window put)

/-- A padded buffer at a row: zeros, the block, zeros. -/
theorem fill_row (p p' : ℕ) (hp : p' = p + 4096) (Y : S6144x128.Idx → EReal) (w1 w3 : ((a : Fin S6144x128.rank) → Fin ((![p, 128] : Fin 2 → ℕ) a)) → EReal)
    (w2 : ((a : Fin S6144x128.rank) → Fin ((![4096, 128] : Fin 2 → ℕ) a)) → EReal) (f : ℕ → ℕ → ℝ)
    (h1 : ∀ (j : Fin p) (d : Fin 128), w1 (ix2 j d) = 0) (h3 : ∀ (j : Fin p) (d : Fin 128), w3 (ix2 j d) = 0)
    (h2 : ∀ (k : Fin 4096) (d : Fin 128), w2 (ix2 k d) = ((f k d : ℝ) : EReal)) (n : Fin 6144) (d : Fin 128) (hn : n.val < 4096 + 2 * p) :
    put (put (put Y ![0, 0] ![p, 128] w1) ![p, 0] ![4096, 128] w2) ![p', 0] ![p, 128] w3 (ix2 n d)
      = ((if p ≤ n.val ∧ n.val < 4096 + p then f (n.val - p) d else 0 : ℝ) : EReal) := by
  subst hp
  rw [put_row]
  by_cases c3 : p + 4096 ≤ n.val ∧ n.val < p + 4096 + p
  · rw [dif_pos c3, h3, if_neg (by omega), EReal.coe_zero]
  · rw [dif_neg c3, put_row]
    by_cases c2 : p ≤ n.val ∧ n.val < p + 4096
    · rw [dif_pos c2, h2, if_pos (by omega)]
    · rw [dif_neg c2, put_row, dif_pos (by omega), h1, if_neg (by omega), EReal.coe_zero]

theorem pay1_at (x : FVec Ideal S256x128 .bf16) (r : Fin 256) (d : Fin 128) : k0_pay1 (F := Ideal) x (ix2 r d) = x (ix2 r d) := by
  unfold k0_pay1
  pointwise

theorem pay2_at (x : FVec Ideal S256x128 .bf16) (r : Fin 256) (d : Fin 128) : k0_pay2 (F := Ideal) x (ix2 r d) = x (ix2 r d) := by
  unfold k0_pay2
  pointwise

theorem pay3_at (x y : FVec Ideal S256x128 .bf16) (r : Fin 256) : k0_pay3 (F := Ideal) x y (ix2 r 0) = ∑ d : Fin 128, x (ix2 r d) * y (ix2 r d) := by
  unfold k0_pay3 k0_pay2
  pointwise

theorem pay4_at (x : FVec Ideal S1x256x1 .f32) (r : Fin 256) : k0_pay4 (F := Ideal) x (ix2 r 0) = x (ix3 0 r 0) := by
  unfold k0_pay4
  pointwise

/-- The masked value stands for −∞. -/
theorem mask_bot : (Named.named κ "mask" 0xF149F2CA#32 : Ideal .f32) = (⊥ : EReal) := by
  rfl

theorem select_real (p : Prop) [Decidable p] (x : EReal) (hx : x = ⊥) : Scalar.select (BitVec.ofBool (decide p)) (0 : EReal) x = if p then 0 else ⊥ := by
  subst hx
  by_cases h : p <;> simp [h, Scalar.select]

theorem kp_pad (A : Arrs) (g h n d p : ℕ) (hp : rad g = p) : kp A g h n d = if p ≤ n ∧ n < 4096 + p then A.k (n - p) g h d else 0 := by
  subst hp; rfl

theorem vp_pad (A : Arrs) (g h n d p : ℕ) (hp : rad g = p) : vp A g h n d = if p ≤ n ∧ n < 4096 + p then A.v (n - p) g h d else 0 := by
  subst hp; rfl

theorem range_real (p n g : ℕ) (hp : rad g = p) : (if p ≤ n ∧ n < 4096 + p then (0 : EReal) else ⊥) = if inSeq g n then 0 else ⊥ := by
  subst hp; rfl

theorem first_row (t : Fin cfg0.N) : (rowWord (grid0.coords t)).toNat = 256 * pI t := by
  rw [rowWord_toNat, coord2]

end Cert.Att

end
-- ==== Proof.Value.Tile1.lean ====
module

public import proofs.«01_k».proof.Proof.Value.Rows

/-! Group 1: what a grid point computes, as real numbers. -/

@[expose] public section

set_option maxRecDepth 16384

noncomputable section

namespace Cert.Att

open Idealize.ShloMosaic Idealize.ShloMosaic.TcCoe Idealize.ShloMosaic.Tactic
open Cert.KernelIdeal Cert.KernelIdeal.Gen Cert.KernelIdeal.Hand
open VecWindow (window put)

/-! ## The kernel's expressions at an index -/

theorem zeros1 (j : Fin 64) (d : Fin 128) : k0_pay17 (F := Ideal) (ix2 j d) = 0 ∧ k0_pay19 (F := Ideal) (ix2 j d) = 0
    ∧ k0_pay20 (F := Ideal) (ix2 j d) = 0 ∧ k0_pay22 (F := Ideal) (ix2 j d) = 0 := by
  unfold k0_pay17 k0_pay19 k0_pay20 k0_pay22
  refine ⟨?_, ?_, ?_, ?_⟩ <;> pointwise

theorem block1 (x : FVec Ideal S4096x128 .bf16) (k : Fin 4096) (d : Fin 128) : k0_pay18 (F := Ideal) x (ix2 k d) = x (ix2 k d) ∧ k0_pay21 (F := Ideal) x (ix2 k d) = x (ix2 k d) := by
  unfold k0_pay18 k0_pay21
  refine ⟨?_, ?_⟩ <;> pointwise

theorem mask1_form (r : Fin 256) (j : Fin 384) : k0_pay25 (F := Ideal) (ix2 r j) = Scalar.select
      (IntOp.andi (IntOp.cmpi .sle (IntOp.absi (IntOp.subi (IntOp.subi (BitVec.ofNat 32 j) (BitVec.ofNat 32 r)) 64#32)) 64#32)
        (IntOp.cmpi .eq (IntOp.andi (IntOp.subi (IntOp.subi (BitVec.ofNat 32 j) (BitVec.ofNat 32 r)) 64#32) 0#32) 0#32))
      0 (Named.named κ "mask" 0xF149F2CA#32 : Ideal .f32) := by
  unfold k0_pay25
  pointwise

theorem wts1_form (w : BitVec 32) (q : FVec Ideal S256x128 .bf16) (l : FVec Ideal S256x1 .f32) (kw : FVec Ideal S384x128 .bf16) (b : FVec Ideal S256x384 .f32) (r : Fin 256) (j : Fin 384) :
    k0_pay26 (F := Ideal) w q l kw b (ix2 r j) = Ideal.exp ((∑ d : Fin 128, q (ix2 r d) * kw (ix2 j d)) + b (ix2 r j) + Scalar.select
            (IntOp.andi (IntOp.cmpi .sge (IntOp.addi (Scalar.subi w 64#32) (BitVec.ofNat 32 j)) 0#32)
              (IntOp.cmpi .slt (IntOp.addi (Scalar.subi w 64#32) (BitVec.ofNat 32 j)) 4096#32))
            0 (Named.named κ "mask" 0xF149F2CA#32 : Ideal .f32) - l (ix2 r 0)) := by
  unfold k0_pay26
  pointwise

theorem dsc1_form (w : BitVec 32) (q o : FVec Ideal S256x128 .bf16) (e l : FVec Ideal S256x1 .f32) (kw vw : FVec Ideal S384x128 .bf16) (b : FVec Ideal S256x384 .f32) (r : Fin 256) (j : Fin 384) :
    k0_pay27 (F := Ideal) w q o e l kw vw b (ix2 r j) = k0_pay26 (F := Ideal) w q l kw b (ix2 r j) * ((∑ d : Fin 128, o (ix2 r d) * vw (ix2 j d)) - e (ix2 r 0)) := by
  unfold k0_pay27
  generalize k0_pay26 w q l kw b = z
  pointwise

theorem dqt1_form (w : BitVec 32) (q o : FVec Ideal S256x128 .bf16) (e l : FVec Ideal S256x1 .f32) (kw vw : FVec Ideal S384x128 .bf16) (b : FVec Ideal S256x384 .f32) (r : Fin 256) (d : Fin 128) :
    k0_pay28 (F := Ideal) w q o e l kw vw b (ix2 r d) = (∑ j : Fin 384, k0_pay27 (F := Ideal) w q o e l kw vw b (ix2 r j) * kw (ix2 j d)) * Ideal.ofBits .f32 0x3DB504F3#32 := by
  unfold k0_pay28
  generalize k0_pay27 w q o e l kw vw b = z
  pointwise

theorem addK1_form (q : FVec Ideal S256x128 .bf16) (z : FVec Ideal S256x384 .bf16) (x : FVec Ideal S384x128 .f32) (j : Fin 384) (d : Fin 128) :
    k0_pay5 (F := Ideal) q z x (constant S384x128 .f32 0x00000000#32) (ix2 j d) = x (ix2 j d) + ∑ r : Fin 256, z (ix2 r j) * q (ix2 r d) := by
  unfold k0_pay5 k0_pay1
  pointwise

theorem addV1_form (q : FVec Ideal S256x128 .bf16) (z : FVec Ideal S256x384 .f32) (x : FVec Ideal S384x128 .f32) (j : Fin 384) (d : Fin 128) :
    k0_pay6 (F := Ideal) q z x (ix2 j d) = x (ix2 j d) + ∑ r : Fin 256, z (ix2 r j) * q (ix2 r d) := by
  unfold k0_pay6 k0_pay2
  pointwise

theorem out1_form (x : FVec Ideal S4096x128 .f32) (k : Fin 4096) (d : Fin 128) : k0_pay7 (F := Ideal) x (ix2 k d) = x (ix2 k d) ∧ k0_pay8 (F := Ideal) x (ix2 k d) = x (ix2 k d) := by
  unfold k0_pay7 k0_pay8
  refine ⟨?_, ?_⟩ <;> pointwise

/-! ## A grid point's vectors -/

variable (m : (ℓ : Loc nD τ sig) → Buf (Elt Ideal) ℓ) (c : Dev nD) (A : Arrs) (R : Reads A (q0 m c) (k0 m c) (v0 m c) (o0 m c)) (t : Fin cfg0.N) (hg : pG t = 0)

theorem rad1 : rad 0 = 64 := by
  norm_num [rad]

theorem mask1_real (r : Fin 256) (j : Fin 384) : (mask1 (F := Ideal) : S256x384.Idx → EReal) (ix2 r j) = if sees 0 (r + 64) j then 0 else ⊥ := by
  unfold mask1
  refine (mask1_form r j).trans ?_
  have hr := rad1
  rw [mask_word 0 (by omega) r j r.isLt (by omega) 64#32 0#32 (by rw [hr]) (by rfl), hr]
  exact select_real _ _ mask_bot

include R hg

theorem kwin1_real (j : Fin 384) (d : Fin 128) : (kwin1 m c t : S384x128.Idx → EReal) (ix2 j d) = ((kp A (pG t) (pH t) (256 * pI t + j) d : ℝ) : EReal) := by
  have hb := pt_bounds t
  have hr := rad1
  have hj := j.isLt
  have e : (grid0.coords t 2).val = pI t := coord2 t
  unfold kwin1
  refine (window_row (fillK1 (kB m c t) blank) _ 384 (row_inb1 (grid0.coords t)) j d (by rw [e]; omega)).trans ?_
  unfold fillK1
  refine (fill_row 64 4160 rfl _ _ _ _ (fun k d => A.k k (pG t) (pH t) d) (fun j d => (zeros1 j d).1) (fun j d => (zeros1 j d).2.1)
    (fun k d => ((block1 _ k d).1).trans (kB_real m c A R t k d)) _ d (by show 256 * (grid0.coords t 2).val + j.val < _; rw [e]; omega)).trans ?_
  show ((if 64 ≤ 256 * (grid0.coords t 2).val + j.val ∧ 256 * (grid0.coords t 2).val + j.val < 4096 + 64 then A.k (256 * (grid0.coords t 2).val + j.val - 64) _ _ _ else 0 : ℝ) : EReal) = _
  rw [e]
  rw [kp_pad A _ _ _ _ 64 (by rw [hg, hr])]

theorem vwin1_real (j : Fin 384) (d : Fin 128) : (vwin1 m c t : S384x128.Idx → EReal) (ix2 j d) = ((vp A (pG t) (pH t) (256 * pI t + j) d : ℝ) : EReal) := by
  have hb := pt_bounds t
  have hr := rad1
  have hj := j.isLt
  have e : (grid0.coords t 2).val = pI t := coord2 t
  unfold vwin1
  refine (window_row (fillV1 (vB m c t) blank) _ 384 (row_inb1 (grid0.coords t)) j d (by rw [e]; omega)).trans ?_
  unfold fillV1
  refine (fill_row 64 4160 rfl _ _ _ _ (fun k d => A.v k (pG t) (pH t) d) (fun j d => (zeros1 j d).2.2.1) (fun j d => (zeros1 j d).2.2.2)
    (fun k d => ((block1 _ k d).2).trans (vB_real m c A R t k d)) _ d (by show 256 * (grid0.coords t 2).val + j.val < _; rw [e]; omega)).trans ?_
  show ((if 64 ≤ 256 * (grid0.coords t 2).val + j.val ∧ 256 * (grid0.coords t 2).val + j.val < 4096 + 64 then A.v (256 * (grid0.coords t 2).val + j.val - 64) _ _ _ else 0 : ℝ) : EReal) = _
  rw [e]
  rw [vp_pad A _ _ _ _ 64 (by rw [hg, hr])]

/-- The weights of a tile over its window. -/
theorem wts1_real (r : Fin 256) (j : Fin 384) :
    (wts1 (grid0.coords t) (qB m c t) (lB m c t) (kwin1 m c t) mask1 : S256x384.Idx → EReal) (ix2 r j)
      = ((wp A (pG t) (pH t) (256 * pI t + r) (256 * pI t + j) : ℝ) : EReal) := by
  have hb := pt_bounds t
  have hr := rad1
  have hj := j.isLt
  have hk := kwin1_real m c A R t hg j
  have hq := qB_real m c A R t r
  have hl := lB_real m c A R t r
  have hm := mask1_real r j
  unfold wts1
  generalize qB m c t = q at *
  generalize lB m c t = l at *
  generalize kwin1 m c t = kw at *
  generalize mask1 (F := Ideal) = b at *
  refine (wts1_form _ _ _ _ _ r j).trans (weight_real A (pG t) (pH t) (256 * pI t + r) (256 * pI t + j) (by omega) _ _ _ _ ?_ ?_ ?_ ?_ ?_)
  · refine sum_eq_coe 128 _ (fun d => (A.q (256 * pI t + r) (pG t) (pH t) d * A.σ) * kp A (pG t) (pH t) (256 * pI t + j) d) fun d => ?_
    rw [pay1_at, EReal.coe_mul]
    exact congrArg₂ (fun x y : EReal => x * y) (hq d) (hk d)
  · intro hn
    refine hm.trans ?_
    have h2 := hn.1
    rw [hg, hr] at h2
    have := sees_shift 0 (256 * pI t + r) (256 * pI t + j) r j 64 h2 (by push_cast; ring)
    rw [hg, hr]
    simp only [this]
  · rw [show (b (ix2 r j) : EReal) = _ from hm]
    split
    · exact Or.inl rfl
    · exact Or.inr rfl
  · rw [range_word _ (256 * pI t) j 64 (first_row t) (by omega) (by omega) 64#32 rfl]
    refine (select_real _ _ mask_bot).trans ?_
    exact range_real _ _ _ (by rw [hg, hr])
  · exact (pay4_at _ _).trans hl

/-- The cotangents of a tile's scores. -/
theorem dsc1_real (r : Fin 256) (j : Fin 384) :
    (dsc1 (grid0.coords t) (qB m c t) (oB m c t) (dB m c t) (lB m c t) (kwin1 m c t) (vwin1 m c t) mask1 : S256x384.Idx → EReal) (ix2 r j)
      = ((dp A (pG t) (pH t) (256 * pI t + r) (256 * pI t + j) : ℝ) : EReal) := by
  have hw := wts1_real m c A R t hg r j
  have hv := vwin1_real m c A R t hg j
  have hd := dB_real m c A R t r
  have ho := oB_real m c A R t r
  unfold wts1 at hw
  unfold dsc1
  generalize qB m c t = q at *
  generalize lB m c t = l at *
  generalize kwin1 m c t = kw at *
  generalize vwin1 m c t = vw at *
  generalize oB m c t = o at *
  generalize dB m c t = dO at *
  generalize mask1 (F := Ideal) = b at *
  refine (dsc1_form _ _ _ _ _ _ _ _ r j).trans ?_
  rw [show k0_pay26 (F := Ideal) _ _ _ _ _ (ix2 r j) = _ from hw, pay3_at,
    sum_eq_coe 128 _ (fun d => A.o (256 * pI t + r) (pH t) d * vp A (pG t) (pH t) (256 * pI t + j) d) fun d => ?e1,
    sum_eq_coe 128 _ (fun d => A.o (256 * pI t + r) (pH t) d * att A (pH t) (256 * pI t + r) d) fun d => ?e2, ← EReal.coe_sub, ← EReal.coe_mul]
  case e1 =>
    rw [pay2_at, EReal.coe_mul]
    exact congrArg₂ (fun x y : EReal => x * y) (hd d) (hv d)
  case e2 =>
    rw [EReal.coe_mul]
    exact congrArg₂ (fun x y : EReal => x * y) (hd d) (ho d)
  exact congrArg _ (cot_real A (pG t) (pH t) (256 * pI t + r) (256 * pI t + j))

/-- The gradient of a tile's queries. -/
theorem dq1_real (r : Fin 256) (d : Fin 128) :
    (dq1 m c t : S256x128.Idx → EReal) (ix2 r d) = ((gq A (256 * pI t + r) (pG t) (pH t) d : ℝ) : EReal) := by
  have hb := pt_bounds t
  have hr := rad1
  have hz := dsc1_real m c A R t hg r
  have hk := fun j => kwin1_real m c A R t hg j d
  unfold dsc1 at hz
  unfold dq1 dqt1
  generalize qB m c t = q at *
  generalize lB m c t = l at *
  generalize kwin1 m c t = kw at *
  generalize vwin1 m c t = vw at *
  generalize oB m c t = o at *
  generalize dB m c t = dO at *
  generalize mask1 (F := Ideal) = b at *
  refine (dqt1_form _ _ _ _ _ _ _ _ r d).trans ?_
  rw [sum_eq_coe 384 _ (fun j => dp A (pG t) (pH t) (256 * pI t + r) (256 * pI t + j) * kp A (pG t) (pH t) (256 * pI t + j) d) fun j => ?e1, ofBits_sigma, ← R.σ, ← EReal.coe_mul]
  case e1 =>
    rw [EReal.coe_mul]
    exact congrArg₂ (fun x y : EReal => x * y) (hz j) (hk j)
  refine congrArg _ ?_
  unfold gq
  have hs := sum_window A (pG t) (pH t) (256 * pI t + r) (256 * pI t) (by omega) (by omega) (by omega) (by omega) (fun n => kp A (pG t) (pH t) n d)
  rw [show 256 + 2 * rad (pG t) = 384 by rw [hg, hr]] at hs
  rw [hs]
  refine congrArg (· * A.σ) (Finset.sum_congr rfl fun k hk' => ?_)
  have hk'' := Finset.mem_range.1 hk'
  unfold kp
  rw [if_pos ⟨by omega, by omega⟩, Nat.add_sub_cancel_left]

/-- The keys' accumulator after a tile. -/
theorem nextK1_real (X : FVec Ideal S6144x128 .f32) (f : ℕ → ℕ → ℝ) (hX : ∀ (n : Fin 6144) (d : Fin 128), X (ix2 n d) = ((f n d : ℝ) : EReal)) (n : Fin 6144) (d : Fin 128) :
    (nextK1 m c t X : S6144x128.Idx → EReal) (ix2 n d)
      = ((f n d + ∑ r ∈ Finset.range 256, dp A (pG t) (pH t) (256 * pI t + r) n * (A.q (256 * pI t + r) (pG t) (pH t) d * A.σ) : ℝ) : EReal) := by
  have hb := pt_bounds t
  have hr := rad1
  have e : (grid0.coords t 2).val = pI t := coord2 t
  have hz := fun r j => dsc1_real m c A R t hg r j
  have hq := fun r => qB_real m c A R t r d
  unfold nextK1 stepK1
  generalize dsc1 (grid0.coords t) (qB m c t) (oB m c t) (dB m c t) (lB m c t) (kwin1 m c t) (vwin1 m c t) mask1 = z at *
  generalize qB m c t = q at *
  refine (put_row X (256 * (grid0.coords t 2).val) 384 _ n d).trans ?_
  rw [e]
  split
  · next h =>
    refine (addK1_form _ _ _ _ _).trans ?_
    have hx : (win1 (F := Ideal) (e := .f32) X (grid0.coords t) : S384x128.Idx → EReal) (ix2 (⟨n.val - 256 * pI t, by omega⟩ : Fin 384) d) = ((f n d : ℝ) : EReal) := by
      refine (window_row X _ 384 (row_inb1 (grid0.coords t)) _ d (by rw [e]; show 256 * pI t + (n.val - 256 * pI t) < _; omega)).trans ?_
      rw [hX]
      show ((f (256 * (grid0.coords t 2).val + (n.val - 256 * pI t)) d : ℝ) : EReal) = _
      rw [e, Nat.add_sub_cancel' h.1]
    rw [sum_eq_coe 256 _ (fun r => dp A (pG t) (pH t) (256 * pI t + r) n * (A.q (256 * pI t + r) (pG t) (pH t) d * A.σ)) fun r => ?e1, EReal.coe_add]
    case e1 =>
      rw [EReal.coe_mul]
      refine congrArg₂ (fun x y : EReal => x * y) ((hz r _).trans ?_) (hq r)
      show ((dp A _ _ _ (256 * pI t + (n.val - 256 * pI t)) : ℝ) : EReal) = _
      rw [Nat.add_sub_cancel' h.1]
    exact congrArg (fun x : EReal => x + _) hx
  · next h =>
    rw [hX, Finset.sum_eq_zero fun r hr' => ?e2, add_zero]
    case e2 =>
      have := Finset.mem_range.1 hr'
      rw [(dp_out A (pG t) (pH t) (256 * pI t + r) n (256 * pI t) (by omega) (by omega) (by rw [hg, hr]; omega)).1, zero_mul]

/-- The values' accumulator after a tile. -/
theorem nextV1_real (X : FVec Ideal S6144x128 .f32) (f : ℕ → ℕ → ℝ) (hX : ∀ (n : Fin 6144) (d : Fin 128), X (ix2 n d) = ((f n d : ℝ) : EReal)) (n : Fin 6144) (d : Fin 128) :
    (nextV1 m c t X : S6144x128.Idx → EReal) (ix2 n d)
      = ((f n d + ∑ r ∈ Finset.range 256, wp A (pG t) (pH t) (256 * pI t + r) n * A.o (256 * pI t + r) (pH t) d : ℝ) : EReal) := by
  have hb := pt_bounds t
  have hr := rad1
  have e : (grid0.coords t 2).val = pI t := coord2 t
  have hz := fun r j => wts1_real m c A R t hg r j
  have hq := fun r => dB_real m c A R t r d
  unfold nextV1 stepV1
  generalize wts1 (grid0.coords t) (qB m c t) (lB m c t) (kwin1 m c t) mask1 = z at *
  generalize dB m c t = q at *
  refine (put_row X (256 * (grid0.coords t 2).val) 384 _ n d).trans ?_
  rw [e]
  split
  · next h =>
    refine (addV1_form _ _ _ _ _).trans ?_
    have hx : (win1 (F := Ideal) (e := .f32) X (grid0.coords t) : S384x128.Idx → EReal) (ix2 (⟨n.val - 256 * pI t, by omega⟩ : Fin 384) d) = ((f n d : ℝ) : EReal) := by
      refine (window_row X _ 384 (row_inb1 (grid0.coords t)) _ d (by rw [e]; show 256 * pI t + (n.val - 256 * pI t) < _; omega)).trans ?_
      rw [hX]
      show ((f (256 * (grid0.coords t 2).val + (n.val - 256 * pI t)) d : ℝ) : EReal) = _
      rw [e, Nat.add_sub_cancel' h.1]
    rw [sum_eq_coe 256 _ (fun r => wp A (pG t) (pH t) (256 * pI t + r) n * A.o (256 * pI t + r) (pH t) d) fun r => ?e1, EReal.coe_add]
    case e1 =>
      rw [EReal.coe_mul]
      refine congrArg₂ (fun x y : EReal => x * y) ((hz r _).trans ?_) (hq r)
      show ((wp A _ _ _ (256 * pI t + (n.val - 256 * pI t)) : ℝ) : EReal) = _
      rw [Nat.add_sub_cancel' h.1]
    exact congrArg (fun x : EReal => x + _) hx
  · next h =>
    rw [hX, Finset.sum_eq_zero fun r hr' => ?e2, add_zero]
    case e2 =>
      have := Finset.mem_range.1 hr'
      rw [(dp_out A (pG t) (pH t) (256 * pI t + r) n (256 * pI t) (by omega) (by omega) (by rw [hg, hr]; omega)).2, zero_mul]

omit R hg in
/-- The gradients read off the accumulators. -/
theorem outs1_at (X : FVec Ideal S6144x128 .f32) (k : Fin 4096) (d : Fin 128) :
    (outK1 (F := Ideal) X : S4096x128.Idx → EReal) (ix2 k d) = X (ix2 (⟨64 + k.val, by omega⟩ : Fin 6144) d)
    ∧ (outV1 (F := Ideal) X : S4096x128.Idx → EReal) (ix2 k d) = X (ix2 (⟨64 + k.val, by omega⟩ : Fin 6144) d) := by
  unfold outK1 outV1
  exact ⟨((out1_form _ k d).1).trans (window_row X 64 4096 _ k d _), ((out1_form _ k d).2).trans (window_row X 64 4096 _ k d _)⟩

end Cert.Att

end
-- ==== Proof.Value.Tile2.lean ====
module

public import proofs.«01_k».proof.Proof.Value.Rows

/-! Group 2: what a grid point computes, as real numbers. -/

@[expose] public section

set_option maxRecDepth 16384

noncomputable section

namespace Cert.Att

open Idealize.ShloMosaic Idealize.ShloMosaic.TcCoe Idealize.ShloMosaic.Tactic
open Cert.KernelIdeal Cert.KernelIdeal.Gen Cert.KernelIdeal.Hand
open VecWindow (window put)

/-! ## The kernel's expressions at an index -/

theorem zeros2 (j : Fin 256) (d : Fin 128) : k0_pay29 (F := Ideal) (ix2 j d) = 0 ∧ k0_pay31 (F := Ideal) (ix2 j d) = 0
    ∧ k0_pay32 (F := Ideal) (ix2 j d) = 0 ∧ k0_pay34 (F := Ideal) (ix2 j d) = 0 := by
  unfold k0_pay29 k0_pay31 k0_pay32 k0_pay34
  refine ⟨?_, ?_, ?_, ?_⟩ <;> pointwise

theorem block2 (x : FVec Ideal S4096x128 .bf16) (k : Fin 4096) (d : Fin 128) : k0_pay30 (F := Ideal) x (ix2 k d) = x (ix2 k d) ∧ k0_pay33 (F := Ideal) x (ix2 k d) = x (ix2 k d) := by
  unfold k0_pay30 k0_pay33
  refine ⟨?_, ?_⟩ <;> pointwise

theorem mask2_form (r : Fin 256) (j : Fin 768) : k0_pay37 (F := Ideal) (ix2 r j) = Scalar.select
      (IntOp.andi (IntOp.cmpi .sle (IntOp.absi (IntOp.subi (IntOp.subi (BitVec.ofNat 32 j) (BitVec.ofNat 32 r)) 256#32)) 256#32)
        (IntOp.cmpi .eq (IntOp.andi (IntOp.subi (IntOp.subi (BitVec.ofNat 32 j) (BitVec.ofNat 32 r)) 256#32) 3#32) 0#32))
      0 (Named.named κ "mask" 0xF149F2CA#32 : Ideal .f32) := by
  unfold k0_pay37
  pointwise

theorem wts2_form (w : BitVec 32) (q : FVec Ideal S256x128 .bf16) (l : FVec Ideal S256x1 .f32) (kw : FVec Ideal S768x128 .bf16) (b : FVec Ideal S256x768 .f32) (r : Fin 256) (j : Fin 768) :
    k0_pay38 (F := Ideal) w q l kw b (ix2 r j) = Ideal.exp ((∑ d : Fin 128, q (ix2 r d) * kw (ix2 j d)) + b (ix2 r j) + Scalar.select
            (IntOp.andi (IntOp.cmpi .sge (IntOp.addi (Scalar.subi w 256#32) (BitVec.ofNat 32 j)) 0#32)
              (IntOp.cmpi .slt (IntOp.addi (Scalar.subi w 256#32) (BitVec.ofNat 32 j)) 4096#32))
            0 (Named.named κ "mask" 0xF149F2CA#32 : Ideal .f32) - l (ix2 r 0)) := by
  unfold k0_pay38
  pointwise

theorem dsc2_form (w : BitVec 32) (q o : FVec Ideal S256x128 .bf16) (e l : FVec Ideal S256x1 .f32) (kw vw : FVec Ideal S768x128 .bf16) (b : FVec Ideal S256x768 .f32) (r : Fin 256) (j : Fin 768) :
    k0_pay39 (F := Ideal) w q o e l kw vw b (ix2 r j) = k0_pay38 (F := Ideal) w q l kw b (ix2 r j) * ((∑ d : Fin 128, o (ix2 r d) * vw (ix2 j d)) - e (ix2 r 0)) := by
  unfold k0_pay39
  generalize k0_pay38 w q l kw b = z
  pointwise

theorem dqt2_form (w : BitVec 32) (q o : FVec Ideal S256x128 .bf16) (e l : FVec Ideal S256x1 .f32) (kw vw : FVec Ideal S768x128 .bf16) (b : FVec Ideal S256x768 .f32) (r : Fin 256) (d : Fin 128) :
    k0_pay40 (F := Ideal) w q o e l kw vw b (ix2 r d) = (∑ j : Fin 768, k0_pay39 (F := Ideal) w q o e l kw vw b (ix2 r j) * kw (ix2 j d)) * Ideal.ofBits .f32 0x3DB504F3#32 := by
  unfold k0_pay40
  generalize k0_pay39 w q o e l kw vw b = z
  pointwise

theorem addK2_form (q : FVec Ideal S256x128 .bf16) (z : FVec Ideal S256x768 .bf16) (x : FVec Ideal S768x128 .f32) (j : Fin 768) (d : Fin 128) :
    k0_pay9 (F := Ideal) q z x (constant S768x128 .f32 0x00000000#32) (ix2 j d) = x (ix2 j d) + ∑ r : Fin 256, z (ix2 r j) * q (ix2 r d) := by
  unfold k0_pay9 k0_pay1
  pointwise

theorem addV2_form (q : FVec Ideal S256x128 .bf16) (z : FVec Ideal S256x768 .f32) (x : FVec Ideal S768x128 .f32) (j : Fin 768) (d : Fin 128) :
    k0_pay10 (F := Ideal) q z x (ix2 j d) = x (ix2 j d) + ∑ r : Fin 256, z (ix2 r j) * q (ix2 r d) := by
  unfold k0_pay10 k0_pay2
  pointwise

theorem out2_form (x : FVec Ideal S4096x128 .f32) (k : Fin 4096) (d : Fin 128) : k0_pay11 (F := Ideal) x (ix2 k d) = x (ix2 k d) ∧ k0_pay12 (F := Ideal) x (ix2 k d) = x (ix2 k d) := by
  unfold k0_pay11 k0_pay12
  refine ⟨?_, ?_⟩ <;> pointwise

/-! ## A grid point's vectors -/

variable (m : (ℓ : Loc nD τ sig) → Buf (Elt Ideal) ℓ) (c : Dev nD) (A : Arrs) (R : Reads A (q0 m c) (k0 m c) (v0 m c) (o0 m c)) (t : Fin cfg0.N) (hg : pG t = 1)

theorem rad2 : rad 1 = 256 := by
  norm_num [rad]

theorem mask2_real (r : Fin 256) (j : Fin 768) : (mask2 (F := Ideal) : S256x768.Idx → EReal) (ix2 r j) = if sees 1 (r + 256) j then 0 else ⊥ := by
  unfold mask2
  refine (mask2_form r j).trans ?_
  have hr := rad2
  rw [mask_word 1 (by omega) r j r.isLt (by omega) 256#32 3#32 (by rw [hr]) (by rfl), hr]
  exact select_real _ _ mask_bot

include R hg

theorem kwin2_real (j : Fin 768) (d : Fin 128) : (kwin2 m c t : S768x128.Idx → EReal) (ix2 j d) = ((kp A (pG t) (pH t) (256 * pI t + j) d : ℝ) : EReal) := by
  have hb := pt_bounds t
  have hr := rad2
  have hj := j.isLt
  have e : (grid0.coords t 2).val = pI t := coord2 t
  unfold kwin2
  refine (window_row (fillK2 (kB m c t) blank) _ 768 (row_inb2 (grid0.coords t)) j d (by rw [e]; omega)).trans ?_
  unfold fillK2
  refine (fill_row 256 4352 rfl _ _ _ _ (fun k d => A.k k (pG t) (pH t) d) (fun j d => (zeros2 j d).1) (fun j d => (zeros2 j d).2.1)
    (fun k d => ((block2 _ k d).1).trans (kB_real m c A R t k d)) _ d (by show 256 * (grid0.coords t 2).val + j.val < _; rw [e]; omega)).trans ?_
  show ((if 256 ≤ 256 * (grid0.coords t 2).val + j.val ∧ 256 * (grid0.coords t 2).val + j.val < 4096 + 256 then A.k (256 * (grid0.coords t 2).val + j.val - 256) _ _ _ else 0 : ℝ) : EReal) = _
  rw [e]
  rw [kp_pad A _ _ _ _ 256 (by rw [hg, hr])]

theorem vwin2_real (j : Fin 768) (d : Fin 128) : (vwin2 m c t : S768x128.Idx → EReal) (ix2 j d) = ((vp A (pG t) (pH t) (256 * pI t + j) d : ℝ) : EReal) := by
  have hb := pt_bounds t
  have hr := rad2
  have hj := j.isLt
  have e : (grid0.coords t 2).val = pI t := coord2 t
  unfold vwin2
  refine (window_row (fillV2 (vB m c t) blank) _ 768 (row_inb2 (grid0.coords t)) j d (by rw [e]; omega)).trans ?_
  unfold fillV2
  refine (fill_row 256 4352 rfl _ _ _ _ (fun k d => A.v k (pG t) (pH t) d) (fun j d => (zeros2 j d).2.2.1) (fun j d => (zeros2 j d).2.2.2)
    (fun k d => ((block2 _ k d).2).trans (vB_real m c A R t k d)) _ d (by show 256 * (grid0.coords t 2).val + j.val < _; rw [e]; omega)).trans ?_
  show ((if 256 ≤ 256 * (grid0.coords t 2).val + j.val ∧ 256 * (grid0.coords t 2).val + j.val < 4096 + 256 then A.v (256 * (grid0.coords t 2).val + j.val - 256) _ _ _ else 0 : ℝ) : EReal) = _
  rw [e]
  rw [vp_pad A _ _ _ _ 256 (by rw [hg, hr])]

/-- The weights of a tile over its window. -/
theorem wts2_real (r : Fin 256) (j : Fin 768) :
    (wts2 (grid0.coords t) (qB m c t) (lB m c t) (kwin2 m c t) mask2 : S256x768.Idx → EReal) (ix2 r j)
      = ((wp A (pG t) (pH t) (256 * pI t + r) (256 * pI t + j) : ℝ) : EReal) := by
  have hb := pt_bounds t
  have hr := rad2
  have hj := j.isLt
  have hk := kwin2_real m c A R t hg j
  have hq := qB_real m c A R t r
  have hl := lB_real m c A R t r
  have hm := mask2_real r j
  unfold wts2
  generalize qB m c t = q at *
  generalize lB m c t = l at *
  generalize kwin2 m c t = kw at *
  generalize mask2 (F := Ideal) = b at *
  refine (wts2_form _ _ _ _ _ r j).trans (weight_real A (pG t) (pH t) (256 * pI t + r) (256 * pI t + j) (by omega) _ _ _ _ ?_ ?_ ?_ ?_ ?_)
  · refine sum_eq_coe 128 _ (fun d => (A.q (256 * pI t + r) (pG t) (pH t) d * A.σ) * kp A (pG t) (pH t) (256 * pI t + j) d) fun d => ?_
    rw [pay1_at, EReal.coe_mul]
    exact congrArg₂ (fun x y : EReal => x * y) (hq d) (hk d)
  · intro hn
    refine hm.trans ?_
    have h2 := hn.1
    rw [hg, hr] at h2
    have := sees_shift 1 (256 * pI t + r) (256 * pI t + j) r j 256 h2 (by push_cast; ring)
    rw [hg, hr]
    simp only [this]
  · rw [show (b (ix2 r j) : EReal) = _ from hm]
    split
    · exact Or.inl rfl
    · exact Or.inr rfl
  · rw [range_word _ (256 * pI t) j 256 (first_row t) (by omega) (by omega) 256#32 rfl]
    refine (select_real _ _ mask_bot).trans ?_
    exact range_real _ _ _ (by rw [hg, hr])
  · exact (pay4_at _ _).trans hl

/-- The cotangents of a tile's scores. -/
theorem dsc2_real (r : Fin 256) (j : Fin 768) :
    (dsc2 (grid0.coords t) (qB m c t) (oB m c t) (dB m c t) (lB m c t) (kwin2 m c t) (vwin2 m c t) mask2 : S256x768.Idx → EReal) (ix2 r j)
      = ((dp A (pG t) (pH t) (256 * pI t + r) (256 * pI t + j) : ℝ) : EReal) := by
  have hw := wts2_real m c A R t hg r j
  have hv := vwin2_real m c A R t hg j
  have hd := dB_real m c A R t r
  have ho := oB_real m c A R t r
  unfold wts2 at hw
  unfold dsc2
  generalize qB m c t = q at *
  generalize lB m c t = l at *
  generalize kwin2 m c t = kw at *
  generalize vwin2 m c t = vw at *
  generalize oB m c t = o at *
  generalize dB m c t = dO at *
  generalize mask2 (F := Ideal) = b at *
  refine (dsc2_form _ _ _ _ _ _ _ _ r j).trans ?_
  rw [show k0_pay38 (F := Ideal) _ _ _ _ _ (ix2 r j) = _ from hw, pay3_at,
    sum_eq_coe 128 _ (fun d => A.o (256 * pI t + r) (pH t) d * vp A (pG t) (pH t) (256 * pI t + j) d) fun d => ?e1,
    sum_eq_coe 128 _ (fun d => A.o (256 * pI t + r) (pH t) d * att A (pH t) (256 * pI t + r) d) fun d => ?e2, ← EReal.coe_sub, ← EReal.coe_mul]
  case e1 =>
    rw [pay2_at, EReal.coe_mul]
    exact congrArg₂ (fun x y : EReal => x * y) (hd d) (hv d)
  case e2 =>
    rw [EReal.coe_mul]
    exact congrArg₂ (fun x y : EReal => x * y) (hd d) (ho d)
  exact congrArg _ (cot_real A (pG t) (pH t) (256 * pI t + r) (256 * pI t + j))

/-- The gradient of a tile's queries. -/
theorem dq2_real (r : Fin 256) (d : Fin 128) :
    (dq2 m c t : S256x128.Idx → EReal) (ix2 r d) = ((gq A (256 * pI t + r) (pG t) (pH t) d : ℝ) : EReal) := by
  have hb := pt_bounds t
  have hr := rad2
  have hz := dsc2_real m c A R t hg r
  have hk := fun j => kwin2_real m c A R t hg j d
  unfold dsc2 at hz
  unfold dq2 dqt2
  generalize qB m c t = q at *
  generalize lB m c t = l at *
  generalize kwin2 m c t = kw at *
  generalize vwin2 m c t = vw at *
  generalize oB m c t = o at *
  generalize dB m c t = dO at *
  generalize mask2 (F := Ideal) = b at *
  refine (dqt2_form _ _ _ _ _ _ _ _ r d).trans ?_
  rw [sum_eq_coe 768 _ (fun j => dp A (pG t) (pH t) (256 * pI t + r) (256 * pI t + j) * kp A (pG t) (pH t) (256 * pI t + j) d) fun j => ?e1, ofBits_sigma, ← R.σ, ← EReal.coe_mul]
  case e1 =>
    rw [EReal.coe_mul]
    exact congrArg₂ (fun x y : EReal => x * y) (hz j) (hk j)
  refine congrArg _ ?_
  unfold gq
  have hs := sum_window A (pG t) (pH t) (256 * pI t + r) (256 * pI t) (by omega) (by omega) (by omega) (by omega) (fun n => kp A (pG t) (pH t) n d)
  rw [show 256 + 2 * rad (pG t) = 768 by rw [hg, hr]] at hs
  rw [hs]
  refine congrArg (· * A.σ) (Finset.sum_congr rfl fun k hk' => ?_)
  have hk'' := Finset.mem_range.1 hk'
  unfold kp
  rw [if_pos ⟨by omega, by omega⟩, Nat.add_sub_cancel_left]

/-- The keys' accumulator after a tile. -/
theorem nextK2_real (X : FVec Ideal S6144x128 .f32) (f : ℕ → ℕ → ℝ) (hX : ∀ (n : Fin 6144) (d : Fin 128), X (ix2 n d) = ((f n d : ℝ) : EReal)) (n : Fin 6144) (d : Fin 128) :
    (nextK2 m c t X : S6144x128.Idx → EReal) (ix2 n d)
      = ((f n d + ∑ r ∈ Finset.range 256, dp A (pG t) (pH t) (256 * pI t + r) n * (A.q (256 * pI t + r) (pG t) (pH t) d * A.σ) : ℝ) : EReal) := by
  have hb := pt_bounds t
  have hr := rad2
  have e : (grid0.coords t 2).val = pI t := coord2 t
  have hz := fun r j => dsc2_real m c A R t hg r j
  have hq := fun r => qB_real m c A R t r d
  unfold nextK2 stepK2
  generalize dsc2 (grid0.coords t) (qB m c t) (oB m c t) (dB m c t) (lB m c t) (kwin2 m c t) (vwin2 m c t) mask2 = z at *
  generalize qB m c t = q at *
  refine (put_row X (256 * (grid0.coords t 2).val) 768 _ n d).trans ?_
  rw [e]
  split
  · next h =>
    refine (addK2_form _ _ _ _ _).trans ?_
    have hx : (win2 (F := Ideal) (e := .f32) X (grid0.coords t) : S768x128.Idx → EReal) (ix2 (⟨n.val - 256 * pI t, by omega⟩ : Fin 768) d) = ((f n d : ℝ) : EReal) := by
      refine (window_row X _ 768 (row_inb2 (grid0.coords t)) _ d (by rw [e]; show 256 * pI t + (n.val - 256 * pI t) < _; omega)).trans ?_
      rw [hX]
      show ((f (256 * (grid0.coords t 2).val + (n.val - 256 * pI t)) d : ℝ) : EReal) = _
      rw [e, Nat.add_sub_cancel' h.1]
    rw [sum_eq_coe 256 _ (fun r => dp A (pG t) (pH t) (256 * pI t + r) n * (A.q (256 * pI t + r) (pG t) (pH t) d * A.σ)) fun r => ?e1, EReal.coe_add]
    case e1 =>
      rw [EReal.coe_mul]
      refine congrArg₂ (fun x y : EReal => x * y) ((hz r _).trans ?_) (hq r)
      show ((dp A _ _ _ (256 * pI t + (n.val - 256 * pI t)) : ℝ) : EReal) = _
      rw [Nat.add_sub_cancel' h.1]
    exact congrArg (fun x : EReal => x + _) hx
  · next h =>
    rw [hX, Finset.sum_eq_zero fun r hr' => ?e2, add_zero]
    case e2 =>
      have := Finset.mem_range.1 hr'
      rw [(dp_out A (pG t) (pH t) (256 * pI t + r) n (256 * pI t) (by omega) (by omega) (by rw [hg, hr]; omega)).1, zero_mul]

/-- The values' accumulator after a tile. -/
theorem nextV2_real (X : FVec Ideal S6144x128 .f32) (f : ℕ → ℕ → ℝ) (hX : ∀ (n : Fin 6144) (d : Fin 128), X (ix2 n d) = ((f n d : ℝ) : EReal)) (n : Fin 6144) (d : Fin 128) :
    (nextV2 m c t X : S6144x128.Idx → EReal) (ix2 n d)
      = ((f n d + ∑ r ∈ Finset.range 256, wp A (pG t) (pH t) (256 * pI t + r) n * A.o (256 * pI t + r) (pH t) d : ℝ) : EReal) := by
  have hb := pt_bounds t
  have hr := rad2
  have e : (grid0.coords t 2).val = pI t := coord2 t
  have hz := fun r j => wts2_real m c A R t hg r j
  have hq := fun r => dB_real m c A R t r d
  unfold nextV2 stepV2
  generalize wts2 (grid0.coords t) (qB m c t) (lB m c t) (kwin2 m c t) mask2 = z at *
  generalize dB m c t = q at *
  refine (put_row X (256 * (grid0.coords t 2).val) 768 _ n d).trans ?_
  rw [e]
  split
  · next h =>
    refine (addV2_form _ _ _ _ _).trans ?_
    have hx : (win2 (F := Ideal) (e := .f32) X (grid0.coords t) : S768x128.Idx → EReal) (ix2 (⟨n.val - 256 * pI t, by omega⟩ : Fin 768) d) = ((f n d : ℝ) : EReal) := by
      refine (window_row X _ 768 (row_inb2 (grid0.coords t)) _ d (by rw [e]; show 256 * pI t + (n.val - 256 * pI t) < _; omega)).trans ?_
      rw [hX]
      show ((f (256 * (grid0.coords t 2).val + (n.val - 256 * pI t)) d : ℝ) : EReal) = _
      rw [e, Nat.add_sub_cancel' h.1]
    rw [sum_eq_coe 256 _ (fun r => wp A (pG t) (pH t) (256 * pI t + r) n * A.o (256 * pI t + r) (pH t) d) fun r => ?e1, EReal.coe_add]
    case e1 =>
      rw [EReal.coe_mul]
      refine congrArg₂ (fun x y : EReal => x * y) ((hz r _).trans ?_) (hq r)
      show ((wp A _ _ _ (256 * pI t + (n.val - 256 * pI t)) : ℝ) : EReal) = _
      rw [Nat.add_sub_cancel' h.1]
    exact congrArg (fun x : EReal => x + _) hx
  · next h =>
    rw [hX, Finset.sum_eq_zero fun r hr' => ?e2, add_zero]
    case e2 =>
      have := Finset.mem_range.1 hr'
      rw [(dp_out A (pG t) (pH t) (256 * pI t + r) n (256 * pI t) (by omega) (by omega) (by rw [hg, hr]; omega)).2, zero_mul]

omit R hg in
/-- The gradients read off the accumulators. -/
theorem outs2_at (X : FVec Ideal S6144x128 .f32) (k : Fin 4096) (d : Fin 128) :
    (outK2 (F := Ideal) X : S4096x128.Idx → EReal) (ix2 k d) = X (ix2 (⟨256 + k.val, by omega⟩ : Fin 6144) d)
    ∧ (outV2 (F := Ideal) X : S4096x128.Idx → EReal) (ix2 k d) = X (ix2 (⟨256 + k.val, by omega⟩ : Fin 6144) d) := by
  unfold outK2 outV2
  exact ⟨((out2_form _ k d).1).trans (window_row X 256 4096 _ k d _), ((out2_form _ k d).2).trans (window_row X 256 4096 _ k d _)⟩

end Cert.Att

end
-- ==== Proof.Value.Tile3.lean ====
module

public import proofs.«01_k».proof.Proof.Value.Rows

/-! Group 3: what a grid point computes, as real numbers. -/

@[expose] public section

set_option maxRecDepth 16384

noncomputable section

namespace Cert.Att

open Idealize.ShloMosaic Idealize.ShloMosaic.TcCoe Idealize.ShloMosaic.Tactic
open Cert.KernelIdeal Cert.KernelIdeal.Gen Cert.KernelIdeal.Hand
open VecWindow (window put)

/-! ## The kernel's expressions at an index -/

theorem zeros3 (j : Fin 1024) (d : Fin 128) : k0_pay41 (F := Ideal) (ix2 j d) = 0 ∧ k0_pay43 (F := Ideal) (ix2 j d) = 0
    ∧ k0_pay44 (F := Ideal) (ix2 j d) = 0 ∧ k0_pay46 (F := Ideal) (ix2 j d) = 0 := by
  unfold k0_pay41 k0_pay43 k0_pay44 k0_pay46
  refine ⟨?_, ?_, ?_, ?_⟩ <;> pointwise

theorem block3 (x : FVec Ideal S4096x128 .bf16) (k : Fin 4096) (d : Fin 128) : k0_pay42 (F := Ideal) x (ix2 k d) = x (ix2 k d) ∧ k0_pay45 (F := Ideal) x (ix2 k d) = x (ix2 k d) := by
  unfold k0_pay42 k0_pay45
  refine ⟨?_, ?_⟩ <;> pointwise

theorem mask3_form (r : Fin 256) (j : Fin 2304) : k0_pay49 (F := Ideal) (ix2 r j) = Scalar.select
      (IntOp.andi (IntOp.cmpi .sle (IntOp.absi (IntOp.subi (IntOp.subi (BitVec.ofNat 32 j) (BitVec.ofNat 32 r)) 1024#32)) 1024#32)
        (IntOp.cmpi .eq (IntOp.andi (IntOp.subi (IntOp.subi (BitVec.ofNat 32 j) (BitVec.ofNat 32 r)) 1024#32) 15#32) 0#32))
      0 (Named.named κ "mask" 0xF149F2CA#32 : Ideal .f32) := by
  unfold k0_pay49
  pointwise

theorem wts3_form (w : BitVec 32) (q : FVec Ideal S256x128 .bf16) (l : FVec Ideal S256x1 .f32) (kw : FVec Ideal S2304x128 .bf16) (b : FVec Ideal S256x2304 .f32) (r : Fin 256) (j : Fin 2304) :
    k0_pay50 (F := Ideal) w q l kw b (ix2 r j) = Ideal.exp ((∑ d : Fin 128, q (ix2 r d) * kw (ix2 j d)) + b (ix2 r j) + Scalar.select
            (IntOp.andi (IntOp.cmpi .sge (IntOp.addi (Scalar.subi w 1024#32) (BitVec.ofNat 32 j)) 0#32)
              (IntOp.cmpi .slt (IntOp.addi (Scalar.subi w 1024#32) (BitVec.ofNat 32 j)) 4096#32))
            0 (Named.named κ "mask" 0xF149F2CA#32 : Ideal .f32) - l (ix2 r 0)) := by
  unfold k0_pay50
  pointwise

theorem dsc3_form (w : BitVec 32) (q o : FVec Ideal S256x128 .bf16) (e l : FVec Ideal S256x1 .f32) (kw vw : FVec Ideal S2304x128 .bf16) (b : FVec Ideal S256x2304 .f32) (r : Fin 256) (j : Fin 2304) :
    k0_pay51 (F := Ideal) w q o e l kw vw b (ix2 r j) = k0_pay50 (F := Ideal) w q l kw b (ix2 r j) * ((∑ d : Fin 128, o (ix2 r d) * vw (ix2 j d)) - e (ix2 r 0)) := by
  unfold k0_pay51
  generalize k0_pay50 w q l kw b = z
  pointwise

theorem dqt3_form (w : BitVec 32) (q o : FVec Ideal S256x128 .bf16) (e l : FVec Ideal S256x1 .f32) (kw vw : FVec Ideal S2304x128 .bf16) (b : FVec Ideal S256x2304 .f32) (r : Fin 256) (d : Fin 128) :
    k0_pay52 (F := Ideal) w q o e l kw vw b (ix2 r d) = (∑ j : Fin 2304, k0_pay51 (F := Ideal) w q o e l kw vw b (ix2 r j) * kw (ix2 j d)) * Ideal.ofBits .f32 0x3DB504F3#32 := by
  unfold k0_pay52
  generalize k0_pay51 w q o e l kw vw b = z
  pointwise

theorem addK3_form (q : FVec Ideal S256x128 .bf16) (z : FVec Ideal S256x2304 .bf16) (x : FVec Ideal S2304x128 .f32) (j : Fin 2304) (d : Fin 128) :
    k0_pay13 (F := Ideal) q z x (constant S2304x128 .f32 0x00000000#32) (ix2 j d) = x (ix2 j d) + ∑ r : Fin 256, z (ix2 r j) * q (ix2 r d) := by
  unfold k0_pay13 k0_pay1
  pointwise

theorem addV3_form (q : FVec Ideal S256x128 .bf16) (z : FVec Ideal S256x2304 .f32) (x : FVec Ideal S2304x128 .f32) (j : Fin 2304) (d : Fin 128) :
    k0_pay14 (F := Ideal) q z x (ix2 j d) = x (ix2 j d) + ∑ r : Fin 256, z (ix2 r j) * q (ix2 r d) := by
  unfold k0_pay14 k0_pay2
  pointwise

theorem out3_form (x : FVec Ideal S4096x128 .f32) (k : Fin 4096) (d : Fin 128) : k0_pay15 (F := Ideal) x (ix2 k d) = x (ix2 k d) ∧ k0_pay16 (F := Ideal) x (ix2 k d) = x (ix2 k d) := by
  unfold k0_pay15 k0_pay16
  refine ⟨?_, ?_⟩ <;> pointwise

/-! ## A grid point's vectors -/

variable (m : (ℓ : Loc nD τ sig) → Buf (Elt Ideal) ℓ) (c : Dev nD) (A : Arrs) (R : Reads A (q0 m c) (k0 m c) (v0 m c) (o0 m c)) (t : Fin cfg0.N) (hg : pG t = 2)

theorem rad3 : rad 2 = 1024 := by
  norm_num [rad]

theorem mask3_real (r : Fin 256) (j : Fin 2304) : (mask3 (F := Ideal) : S256x2304.Idx → EReal) (ix2 r j) = if sees 2 (r + 1024) j then 0 else ⊥ := by
  unfold mask3
  refine (mask3_form r j).trans ?_
  have hr := rad3
  rw [mask_word 2 (by omega) r j r.isLt (by omega) 1024#32 15#32 (by rw [hr]) (by rfl), hr]
  exact select_real _ _ mask_bot

include R hg

theorem kwin3_real (j : Fin 2304) (d : Fin 128) : (kwin3 m c t : S2304x128.Idx → EReal) (ix2 j d) = ((kp A (pG t) (pH t) (256 * pI t + j) d : ℝ) : EReal) := by
  have hb := pt_bounds t
  have hr := rad3
  have hj := j.isLt
  have e : (grid0.coords t 2).val = pI t := coord2 t
  unfold kwin3
  refine (window_row (fillK3 (kB m c t) blank) _ 2304 (row_inb3 (grid0.coords t)) j d (by rw [e]; omega)).trans ?_
  unfold fillK3
  refine (fill_row 1024 5120 rfl _ _ _ _ (fun k d => A.k k (pG t) (pH t) d) (fun j d => (zeros3 j d).1) (fun j d => (zeros3 j d).2.1)
    (fun k d => ((block3 _ k d).1).trans (kB_real m c A R t k d)) _ d (by show 256 * (grid0.coords t 2).val + j.val < _; rw [e]; omega)).trans ?_
  show ((if 1024 ≤ 256 * (grid0.coords t 2).val + j.val ∧ 256 * (grid0.coords t 2).val + j.val < 4096 + 1024 then A.k (256 * (grid0.coords t 2).val + j.val - 1024) _ _ _ else 0 : ℝ) : EReal) = _
  rw [e]
  rw [kp_pad A _ _ _ _ 1024 (by rw [hg, hr])]

theorem vwin3_real (j : Fin 2304) (d : Fin 128) : (vwin3 m c t : S2304x128.Idx → EReal) (ix2 j d) = ((vp A (pG t) (pH t) (256 * pI t + j) d : ℝ) : EReal) := by
  have hb := pt_bounds t
  have hr := rad3
  have hj := j.isLt
  have e : (grid0.coords t 2).val = pI t := coord2 t
  unfold vwin3
  refine (window_row (fillV3 (vB m c t) blank) _ 2304 (row_inb3 (grid0.coords t)) j d (by rw [e]; omega)).trans ?_
  unfold fillV3
  refine (fill_row 1024 5120 rfl _ _ _ _ (fun k d => A.v k (pG t) (pH t) d) (fun j d => (zeros3 j d).2.2.1) (fun j d => (zeros3 j d).2.2.2)
    (fun k d => ((block3 _ k d).2).trans (vB_real m c A R t k d)) _ d (by show 256 * (grid0.coords t 2).val + j.val < _; rw [e]; omega)).trans ?_
  show ((if 1024 ≤ 256 * (grid0.coords t 2).val + j.val ∧ 256 * (grid0.coords t 2).val + j.val < 4096 + 1024 then A.v (256 * (grid0.coords t 2).val + j.val - 1024) _ _ _ else 0 : ℝ) : EReal) = _
  rw [e]
  rw [vp_pad A _ _ _ _ 1024 (by rw [hg, hr])]

/-- The weights of a tile over its window. -/
theorem wts3_real (r : Fin 256) (j : Fin 2304) :
    (wts3 (grid0.coords t) (qB m c t) (lB m c t) (kwin3 m c t) mask3 : S256x2304.Idx → EReal) (ix2 r j)
      = ((wp A (pG t) (pH t) (256 * pI t + r) (256 * pI t + j) : ℝ) : EReal) := by
  have hb := pt_bounds t
  have hr := rad3
  have hj := j.isLt
  have hk := kwin3_real m c A R t hg j
  have hq := qB_real m c A R t r
  have hl := lB_real m c A R t r
  have hm := mask3_real r j
  unfold wts3
  generalize qB m c t = q at *
  generalize lB m c t = l at *
  generalize kwin3 m c t = kw at *
  generalize mask3 (F := Ideal) = b at *
  refine (wts3_form _ _ _ _ _ r j).trans (weight_real A (pG t) (pH t) (256 * pI t + r) (256 * pI t + j) (by omega) _ _ _ _ ?_ ?_ ?_ ?_ ?_)
  · refine sum_eq_coe 128 _ (fun d => (A.q (256 * pI t + r) (pG t) (pH t) d * A.σ) * kp A (pG t) (pH t) (256 * pI t + j) d) fun d => ?_
    rw [pay1_at, EReal.coe_mul]
    exact congrArg₂ (fun x y : EReal => x * y) (hq d) (hk d)
  · intro hn
    refine hm.trans ?_
    have h2 := hn.1
    rw [hg, hr] at h2
    have := sees_shift 2 (256 * pI t + r) (256 * pI t + j) r j 1024 h2 (by push_cast; ring)
    rw [hg, hr]
    simp only [this]
  · rw [show (b (ix2 r j) : EReal) = _ from hm]
    split
    · exact Or.inl rfl
    · exact Or.inr rfl
  · rw [range_word _ (256 * pI t) j 1024 (first_row t) (by omega) (by omega) 1024#32 rfl]
    refine (select_real _ _ mask_bot).trans ?_
    exact range_real _ _ _ (by rw [hg, hr])
  · exact (pay4_at _ _).trans hl

/-- The cotangents of a tile's scores. -/
theorem dsc3_real (r : Fin 256) (j : Fin 2304) :
    (dsc3 (grid0.coords t) (qB m c t) (oB m c t) (dB m c t) (lB m c t) (kwin3 m c t) (vwin3 m c t) mask3 : S256x2304.Idx → EReal) (ix2 r j)
      = ((dp A (pG t) (pH t) (256 * pI t + r) (256 * pI t + j) : ℝ) : EReal) := by
  have hw := wts3_real m c A R t hg r j
  have hv := vwin3_real m c A R t hg j
  have hd := dB_real m c A R t r
  have ho := oB_real m c A R t r
  unfold wts3 at hw
  unfold dsc3
  generalize qB m c t = q at *
  generalize lB m c t = l at *
  generalize kwin3 m c t = kw at *
  generalize vwin3 m c t = vw at *
  generalize oB m c t = o at *
  generalize dB m c t = dO at *
  generalize mask3 (F := Ideal) = b at *
  refine (dsc3_form _ _ _ _ _ _ _ _ r j).trans ?_
  rw [show k0_pay50 (F := Ideal) _ _ _ _ _ (ix2 r j) = _ from hw, pay3_at,
    sum_eq_coe 128 _ (fun d => A.o (256 * pI t + r) (pH t) d * vp A (pG t) (pH t) (256 * pI t + j) d) fun d => ?e1,
    sum_eq_coe 128 _ (fun d => A.o (256 * pI t + r) (pH t) d * att A (pH t) (256 * pI t + r) d) fun d => ?e2, ← EReal.coe_sub, ← EReal.coe_mul]
  case e1 =>
    rw [pay2_at, EReal.coe_mul]
    exact congrArg₂ (fun x y : EReal => x * y) (hd d) (hv d)
  case e2 =>
    rw [EReal.coe_mul]
    exact congrArg₂ (fun x y : EReal => x * y) (hd d) (ho d)
  exact congrArg _ (cot_real A (pG t) (pH t) (256 * pI t + r) (256 * pI t + j))

/-- The gradient of a tile's queries. -/
theorem dq3_real (r : Fin 256) (d : Fin 128) :
    (dq3 m c t : S256x128.Idx → EReal) (ix2 r d) = ((gq A (256 * pI t + r) (pG t) (pH t) d : ℝ) : EReal) := by
  have hb := pt_bounds t
  have hr := rad3
  have hz := dsc3_real m c A R t hg r
  have hk := fun j => kwin3_real m c A R t hg j d
  unfold dsc3 at hz
  unfold dq3 dqt3
  generalize qB m c t = q at *
  generalize lB m c t = l at *
  generalize kwin3 m c t = kw at *
  generalize vwin3 m c t = vw at *
  generalize oB m c t = o at *
  generalize dB m c t = dO at *
  generalize mask3 (F := Ideal) = b at *
  refine (dqt3_form _ _ _ _ _ _ _ _ r d).trans ?_
  rw [sum_eq_coe 2304 _ (fun j => dp A (pG t) (pH t) (256 * pI t + r) (256 * pI t + j) * kp A (pG t) (pH t) (256 * pI t + j) d) fun j => ?e1, ofBits_sigma, ← R.σ, ← EReal.coe_mul]
  case e1 =>
    rw [EReal.coe_mul]
    exact congrArg₂ (fun x y : EReal => x * y) (hz j) (hk j)
  refine congrArg _ ?_
  unfold gq
  have hs := sum_window A (pG t) (pH t) (256 * pI t + r) (256 * pI t) (by omega) (by omega) (by omega) (by omega) (fun n => kp A (pG t) (pH t) n d)
  rw [show 256 + 2 * rad (pG t) = 2304 by rw [hg, hr]] at hs
  rw [hs]
  refine congrArg (· * A.σ) (Finset.sum_congr rfl fun k hk' => ?_)
  have hk'' := Finset.mem_range.1 hk'
  unfold kp
  rw [if_pos ⟨by omega, by omega⟩, Nat.add_sub_cancel_left]

/-- The keys' accumulator after a tile. -/
theorem nextK3_real (X : FVec Ideal S6144x128 .f32) (f : ℕ → ℕ → ℝ) (hX : ∀ (n : Fin 6144) (d : Fin 128), X (ix2 n d) = ((f n d : ℝ) : EReal)) (n : Fin 6144) (d : Fin 128) :
    (nextK3 m c t X : S6144x128.Idx → EReal) (ix2 n d)
      = ((f n d + ∑ r ∈ Finset.range 256, dp A (pG t) (pH t) (256 * pI t + r) n * (A.q (256 * pI t + r) (pG t) (pH t) d * A.σ) : ℝ) : EReal) := by
  have hb := pt_bounds t
  have hr := rad3
  have e : (grid0.coords t 2).val = pI t := coord2 t
  have hz := fun r j => dsc3_real m c A R t hg r j
  have hq := fun r => qB_real m c A R t r d
  unfold nextK3 stepK3
  generalize dsc3 (grid0.coords t) (qB m c t) (oB m c t) (dB m c t) (lB m c t) (kwin3 m c t) (vwin3 m c t) mask3 = z at *
  generalize qB m c t = q at *
  refine (put_row X (256 * (grid0.coords t 2).val) 2304 _ n d).trans ?_
  rw [e]
  split
  · next h =>
    refine (addK3_form _ _ _ _ _).trans ?_
    have hx : (win3 (F := Ideal) (e := .f32) X (grid0.coords t) : S2304x128.Idx → EReal) (ix2 (⟨n.val - 256 * pI t, by omega⟩ : Fin 2304) d) = ((f n d : ℝ) : EReal) := by
      refine (window_row X _ 2304 (row_inb3 (grid0.coords t)) _ d (by rw [e]; show 256 * pI t + (n.val - 256 * pI t) < _; omega)).trans ?_
      rw [hX]
      show ((f (256 * (grid0.coords t 2).val + (n.val - 256 * pI t)) d : ℝ) : EReal) = _
      rw [e, Nat.add_sub_cancel' h.1]
    rw [sum_eq_coe 256 _ (fun r => dp A (pG t) (pH t) (256 * pI t + r) n * (A.q (256 * pI t + r) (pG t) (pH t) d * A.σ)) fun r => ?e1, EReal.coe_add]
    case e1 =>
      rw [EReal.coe_mul]
      refine congrArg₂ (fun x y : EReal => x * y) ((hz r _).trans ?_) (hq r)
      show ((dp A _ _ _ (256 * pI t + (n.val - 256 * pI t)) : ℝ) : EReal) = _
      rw [Nat.add_sub_cancel' h.1]
    exact congrArg (fun x : EReal => x + _) hx
  · next h =>
    rw [hX, Finset.sum_eq_zero fun r hr' => ?e2, add_zero]
    case e2 =>
      have := Finset.mem_range.1 hr'
      rw [(dp_out A (pG t) (pH t) (256 * pI t + r) n (256 * pI t) (by omega) (by omega) (by rw [hg, hr]; omega)).1, zero_mul]

/-- The values' accumulator after a tile. -/
theorem nextV3_real (X : FVec Ideal S6144x128 .f32) (f : ℕ → ℕ → ℝ) (hX : ∀ (n : Fin 6144) (d : Fin 128), X (ix2 n d) = ((f n d : ℝ) : EReal)) (n : Fin 6144) (d : Fin 128) :
    (nextV3 m c t X : S6144x128.Idx → EReal) (ix2 n d)
      = ((f n d + ∑ r ∈ Finset.range 256, wp A (pG t) (pH t) (256 * pI t + r) n * A.o (256 * pI t + r) (pH t) d : ℝ) : EReal) := by
  have hb := pt_bounds t
  have hr := rad3
  have e : (grid0.coords t 2).val = pI t := coord2 t
  have hz := fun r j => wts3_real m c A R t hg r j
  have hq := fun r => dB_real m c A R t r d
  unfold nextV3 stepV3
  generalize wts3 (grid0.coords t) (qB m c t) (lB m c t) (kwin3 m c t) mask3 = z at *
  generalize dB m c t = q at *
  refine (put_row X (256 * (grid0.coords t 2).val) 2304 _ n d).trans ?_
  rw [e]
  split
  · next h =>
    refine (addV3_form _ _ _ _ _).trans ?_
    have hx : (win3 (F := Ideal) (e := .f32) X (grid0.coords t) : S2304x128.Idx → EReal) (ix2 (⟨n.val - 256 * pI t, by omega⟩ : Fin 2304) d) = ((f n d : ℝ) : EReal) := by
      refine (window_row X _ 2304 (row_inb3 (grid0.coords t)) _ d (by rw [e]; show 256 * pI t + (n.val - 256 * pI t) < _; omega)).trans ?_
      rw [hX]
      show ((f (256 * (grid0.coords t 2).val + (n.val - 256 * pI t)) d : ℝ) : EReal) = _
      rw [e, Nat.add_sub_cancel' h.1]
    rw [sum_eq_coe 256 _ (fun r => wp A (pG t) (pH t) (256 * pI t + r) n * A.o (256 * pI t + r) (pH t) d) fun r => ?e1, EReal.coe_add]
    case e1 =>
      rw [EReal.coe_mul]
      refine congrArg₂ (fun x y : EReal => x * y) ((hz r _).trans ?_) (hq r)
      show ((wp A _ _ _ (256 * pI t + (n.val - 256 * pI t)) : ℝ) : EReal) = _
      rw [Nat.add_sub_cancel' h.1]
    exact congrArg (fun x : EReal => x + _) hx
  · next h =>
    rw [hX, Finset.sum_eq_zero fun r hr' => ?e2, add_zero]
    case e2 =>
      have := Finset.mem_range.1 hr'
      rw [(dp_out A (pG t) (pH t) (256 * pI t + r) n (256 * pI t) (by omega) (by omega) (by rw [hg, hr]; omega)).2, zero_mul]

omit R hg in
/-- The gradients read off the accumulators. -/
theorem outs3_at (X : FVec Ideal S6144x128 .f32) (k : Fin 4096) (d : Fin 128) :
    (outK3 (F := Ideal) X : S4096x128.Idx → EReal) (ix2 k d) = X (ix2 (⟨1024 + k.val, by omega⟩ : Fin 6144) d)
    ∧ (outV3 (F := Ideal) X : S4096x128.Idx → EReal) (ix2 k d) = X (ix2 (⟨1024 + k.val, by omega⟩ : Fin 6144) d) := by
  unfold outK3 outV3
  exact ⟨((out3_form _ k d).1).trans (window_row X 1024 4096 _ k d _), ((out3_form _ k d).2).trans (window_row X 1024 4096 _ k d _)⟩

end Cert.Att

end
-- ==== Proof.Value.Sums.lean ====
module

public import proofs.«01_k».proof.Proof.Value.Tile1
public import proofs.«01_k».proof.Proof.Value.Tile2
public import proofs.«01_k».proof.Proof.Value.Tile3

/-! The accumulators over the tiles, and what a grid point writes back. -/

@[expose] public section

set_option maxRecDepth 16384

noncomputable section

namespace Cert.Att

open Idealize.ShloMosaic Idealize.ShloMosaic.TcCoe Idealize.ShloMosaic.Tactic
open Cert.KernelIdeal Cert.KernelIdeal.Gen Cert.KernelIdeal.Hand

variable (m : (ℓ : Loc nD τ sig) → Buf (Elt Ideal) ℓ) (c : Dev nD) (A : Arrs) (R : Reads A (q0 m c) (k0 m c) (v0 m c) (o0 m c)) (t : Fin cfg0.N)

theorem zero_at (n : Fin 6144) (d : Fin 128) : (zeroAcc (F := Ideal) : S6144x128.Idx → EReal) (ix2 n d) = ((0 : ℝ) : EReal) := by
  rw [EReal.coe_zero]
  unfold zeroAcc k0_pay23
  pointwise

theorem group_cases : pG t = 0 ∨ pG t = 1 ∨ pG t = 2 := by
  have := (pt_bounds t).2.1
  omega

theorem dp_key (g h a k : ℕ) (hk : k < 4096) : dp A g h a (rad g + k) = ds A g h a k ∧ wp A g h a (rad g + k) = wt A g h a k := by
  unfold dp wp
  rw [if_pos ⟨by omega, by omega⟩, if_pos ⟨by omega, by omega⟩, Nat.add_sub_cancel_left]
  exact ⟨rfl, rfl⟩

include R

theorem nextK_real (X : FVec Ideal S6144x128 .f32) (f : ℕ → ℕ → ℝ) (hX : ∀ (n : Fin 6144) (d : Fin 128), X (ix2 n d) = ((f n d : ℝ) : EReal)) (n : Fin 6144) (d : Fin 128) :
    (nextK m c t X : S6144x128.Idx → EReal) (ix2 n d)
      = ((f n d + ∑ r ∈ Finset.range 256, dp A (pG t) (pH t) (256 * pI t + r) n * (A.q (256 * pI t + r) (pG t) (pH t) d * A.σ) : ℝ) : EReal) := by
  rcases group_cases t with h | h | h
  · rw [(next_eq1 m c t h X).1]; exact nextK1_real m c A R t h X f hX n d
  · rw [(next_eq2 m c t h X).1]; exact nextK2_real m c A R t h X f hX n d
  · rw [(next_eq3 m c t h X).1]; exact nextK3_real m c A R t h X f hX n d

theorem nextV_real (X : FVec Ideal S6144x128 .f32) (f : ℕ → ℕ → ℝ) (hX : ∀ (n : Fin 6144) (d : Fin 128), X (ix2 n d) = ((f n d : ℝ) : EReal)) (n : Fin 6144) (d : Fin 128) :
    (nextV m c t X : S6144x128.Idx → EReal) (ix2 n d)
      = ((f n d + ∑ r ∈ Finset.range 256, wp A (pG t) (pH t) (256 * pI t + r) n * A.o (256 * pI t + r) (pH t) d : ℝ) : EReal) := by
  rcases group_cases t with h | h | h
  · rw [(next_eq1 m c t h X).2]; exact nextV1_real m c A R t h X f hX n d
  · rw [(next_eq2 m c t h X).2]; exact nextV2_real m c A R t h X f hX n d
  · rw [(next_eq3 m c t h X).2]; exact nextV3_real m c A R t h X f hX n d

/-- The accumulators after tile `i`: the sums over the queries up to the tile's last. -/
theorem acc_real (i : ℕ) : ∀ t : Fin cfg0.N, pI t = i → ∀ (n : Fin 6144) (d : Fin 128),
    (accK m c t.val : S6144x128.Idx → EReal) (ix2 n d)
        = ((∑ a ∈ Finset.range (256 * (i + 1)), dp A (pG t) (pH t) a n * (A.q a (pG t) (pH t) d * A.σ) : ℝ) : EReal)
    ∧ (accV m c t.val : S6144x128.Idx → EReal) (ix2 n d)
        = ((∑ a ∈ Finset.range (256 * (i + 1)), wp A (pG t) (pH t) a n * A.o a (pH t) d : ℝ) : EReal) := by
  induction i with
  | zero =>
    intro t ht n d
    rw [accK_first m c t ht, accV_first m c t ht]
    refine ⟨(nextK_real m c A R t _ (fun _ _ => 0) zero_at n d).trans ?_, (nextV_real m c A R t _ (fun _ _ => 0) zero_at n d).trans ?_⟩
    · simp only [ht, Nat.mul_zero, Nat.zero_add, zero_add, Nat.mul_one]
    · simp only [ht, Nat.mul_zero, Nat.zero_add, zero_add, Nat.mul_one]
  | succ i ih =>
    intro t ht n d
    have ht' : t.val % 16 = i + 1 := ht
    have hN := t.isLt
    have ihs := ih ⟨t.val - 1, by omega⟩ (show (t.val - 1) % 16 = i by omega)
    have e1 : pG ⟨t.val - 1, by omega⟩ = pG t := show (t.val - 1) / 16 % 3 = t.val / 16 % 3 by omega
    have e2 : pH ⟨t.val - 1, by omega⟩ = pH t := show (t.val - 1) / 48 = t.val / 48 by omega
    rw [e1, e2] at ihs
    rw [accK_next m c t (by omega), accV_next m c t (by omega)]
    refine ⟨(nextK_real m c A R t _ (fun n d => ∑ a ∈ Finset.range (256 * (i + 1)), dp A (pG t) (pH t) a n * (A.q a (pG t) (pH t) d * A.σ)) (fun n d => (ihs n d).1) n d).trans ?_,
      (nextV_real m c A R t _ (fun n d => ∑ a ∈ Finset.range (256 * (i + 1)), wp A (pG t) (pH t) a n * A.o a (pH t) d) (fun n d => (ihs n d).2) n d).trans ?_⟩
    · rw [ht, show 256 * (i + 1 + 1) = 256 * (i + 1) + 256 by ring, Finset.sum_range_add]
    · rw [ht, show 256 * (i + 1 + 1) = 256 * (i + 1) + 256 by ring, Finset.sum_range_add]

/-- The gradients of a head's keys and values, at its last tile. -/
theorem grads_real (ht : pI t = 15) (k : Fin 4096) (d : Fin 128) :
    (gradK m c t : S4096x128.Idx → EReal) (ix2 k d) = ((gk A k (pG t) (pH t) d : ℝ) : EReal)
    ∧ (gradV m c t : S4096x128.Idx → EReal) (ix2 k d) = ((gv A k (pG t) (pH t) d : ℝ) : EReal) := by
  have key : ∀ p : ℕ, rad (pG t) = p → ∀ hp : p + k.val < 6144,
      (accK m c t.val : S6144x128.Idx → EReal) (ix2 (⟨p + k.val, hp⟩ : Fin 6144) d) = ((gk A k (pG t) (pH t) d : ℝ) : EReal)
      ∧ (accV m c t.val : S6144x128.Idx → EReal) (ix2 (⟨p + k.val, hp⟩ : Fin 6144) d) = ((gv A k (pG t) (pH t) d : ℝ) : EReal) := by
    intro p hr hp
    subst hr
    obtain ⟨e1, e2⟩ := acc_real m c A R 15 t ht (⟨rad (pG t) + k.val, hp⟩ : Fin 6144) d
    refine ⟨e1.trans (congrArg _ (Finset.sum_congr rfl fun a _ => ?_)), e2.trans (congrArg _ (Finset.sum_congr rfl fun a _ => ?_))⟩
    · show dp A _ _ a (rad (pG t) + k.val) * _ = _
      rw [(dp_key A _ _ a k k.isLt).1]
    · show wp A _ _ a (rad (pG t) + k.val) * _ = _
      rw [(dp_key A _ _ a k k.isLt).2]
  rcases group_cases t with h | h | h
  · obtain ⟨-, g1, g2⟩ := grads_eq1 m c t h
    obtain ⟨k1, k2⟩ := key 64 (by rw [h]; exact rad1) (by omega)
    rw [g1, g2]
    exact ⟨((outs1_at t _ k d).1).trans k1, ((outs1_at t _ k d).2).trans k2⟩
  · obtain ⟨-, g1, g2⟩ := grads_eq2 m c t h
    obtain ⟨k1, k2⟩ := key 256 (by rw [h]; exact rad2) (by omega)
    rw [g1, g2]
    exact ⟨((outs2_at t _ k d).1).trans k1, ((outs2_at t _ k d).2).trans k2⟩
  · obtain ⟨-, g1, g2⟩ := grads_eq3 m c t h
    obtain ⟨k1, k2⟩ := key 1024 (by rw [h]; exact rad3) (by omega)
    rw [g1, g2]
    exact ⟨((outs3_at t _ k d).1).trans k1, ((outs3_at t _ k d).2).trans k2⟩

theorem gradQ_real (r : Fin 256) (d : Fin 128) :
    (gradQ m c t : S256x128.Idx → EReal) (ix2 r d) = ((gq A (256 * pI t + r) (pG t) (pH t) d : ℝ) : EReal) := by
  rcases group_cases t with h | h | h
  · rw [(grads_eq1 m c t h).1]; exact dq1_real m c A R t h r d
  · rw [(grads_eq2 m c t h).1]; exact dq2_real m c A R t h r d
  · rw [(grads_eq3 m c t h).1]; exact dq3_real m c A R t h r d

end Cert.Att

end
-- ==== Proof.Value.Arrays.lean ====
module

public import proofs.«01_k».proof.Proof.Value.Sums

/-! The three arrays the kernel writes, whole. -/

@[expose] public section

set_option maxRecDepth 16384

noncomputable section

namespace Cert.Att

open Idealize.ShloMosaic Idealize.ShloMosaic.TcCoe Idealize.ShloMosaic.Tactic
open Cert.KernelIdeal Cert.KernelIdeal.Gen Cert.KernelIdeal.Hand

variable (m : (ℓ : Loc nD τ sig) → Buf (Elt Ideal) ℓ) (c : Dev nD) (A : Arrs) (R : Reads A (q0 m c) (k0 m c) (v0 m c) (o0 m c)) (t : Fin cfg0.N)

/-- An element of a flattened array, at a lane of the block that a grid point's head has. -/
theorem flat_block (f : ℕ → ℕ → ℕ → ℕ → ℝ) (y : (⟨2, ![4096, 1536]⟩ : Shape).Idx) (i d : ℕ) (hd : d < 128)
    (h0 : (y 0).val = i) (h1 : (y 1).val = (4 * pG t + pH t) * 128 + d) :
    flat f y = ((f i (pG t) (pH t) d : ℝ) : EReal) := by
  have := (pt_bounds t).1
  show ((f (y 0).val ((y 1).val / 512) ((y 1).val / 128 % 4) ((y 1).val % 128) : ℝ) : EReal) = _
  rw [h0, h1, show ((4 * pG t + pH t) * 128 + d) / 512 = pG t by omega, show ((4 * pG t + pH t) * 128 + d) / 128 % 4 = pH t by omega,
    show ((4 * pG t + pH t) * 128 + d) % 128 = d by omega]

omit t in
theorem ix2_eta {a b : ℕ} (y : (⟨2, ![a, b]⟩ : Shape).Idx) : ∃ (r : Fin a) (d : Fin b), y = ix2 r d :=
  ⟨y 0, y 1, by funext a; fin_cases a <;> rfl⟩

theorem emb6 (r : Fin 256) (d : Fin 128) : (((cfg0.win 6).blk t).view.emb (ix2 r d) : S4096x1536.Idx)
    = ix2 (⟨256 * pI t + r.val, by have := pt_bounds t; omega⟩ : Fin 4096) (⟨(4 * pG t + pH t) * 128 + d.val, by have := pt_bounds t; omega⟩ : Fin 1536) := by
  have hb := pt_bounds t
  blk_ext [idx t]

theorem emb7 (r : Fin 4096) (d : Fin 128) : (((cfg0.win 7).blk t).view.emb (ix2 r d) : S4096x1536.Idx)
    = ix2 (⟨r.val, by have := pt_bounds t; omega⟩ : Fin 4096) (⟨(4 * pG t + pH t) * 128 + d.val, by have := pt_bounds t; omega⟩ : Fin 1536) := by
  have hb := pt_bounds t
  blk_ext [idx t]

theorem emb8 (r : Fin 4096) (d : Fin 128) : (((cfg0.win 8).blk t).view.emb (ix2 r d) : S4096x1536.Idx)
    = ix2 (⟨r.val, by have := pt_bounds t; omega⟩ : Fin 4096) (⟨(4 * pG t + pH t) * 128 + d.val, by have := pt_bounds t; omega⟩ : Fin 1536) := by
  have hb := pt_bounds t
  blk_ext [idx t]

include R

theorem arr_q : (dats m 0 c).arrAt 6 cfg0.N = flat (gq A) := by
  refine (dats m 0 c).arrAt_eq_of_covers 6 _ (by decide +kernel) fun t hf y => ?_
  blk_simp
  rw [after0_6]
  obtain ⟨r, d, rfl⟩ := ix2_eta (a := 256) (b := 128) y
  exact (gradQ_real m c A R t r d).trans (flat_block t (gq A) _ _ _ d.isLt (congrArg (fun z : S4096x1536.Idx => (z 0).val) (emb6 t r d)) (congrArg (fun z : S4096x1536.Idx => (z 1).val) (emb6 t r d))).symm

theorem arr_k : (dats m 0 c).arrAt 7 cfg0.N = flat (gk A) := by
  refine (dats m 0 c).arrAt_eq_of_covers 7 _ (by decide +kernel) fun t hf y => ?_
  have ht : pI t = 15 := by
    by_contra h
    exact absurd (hf.symm.trans (kept7 t h)) (by decide)
  blk_simp
  rw [after0_7]
  obtain ⟨r, d, rfl⟩ := ix2_eta (a := 4096) (b := 128) y
  exact (grads_real m c A R t ht r d).1.trans (flat_block t (gk A) _ _ _ d.isLt (congrArg (fun z : S4096x1536.Idx => (z 0).val) (emb7 t r d)) (congrArg (fun z : S4096x1536.Idx => (z 1).val) (emb7 t r d))).symm

theorem arr_v : (dats m 0 c).arrAt 8 cfg0.N = flat (gv A) := by
  refine (dats m 0 c).arrAt_eq_of_covers 8 _ (by decide +kernel) fun t hf y => ?_
  have ht : pI t = 15 := by
    by_contra h
    exact absurd (hf.symm.trans (kept8 t h)) (by decide)
  blk_simp
  rw [after0_8]
  obtain ⟨r, d, rfl⟩ := ix2_eta (a := 4096) (b := 128) y
  exact (grads_real m c A R t ht r d).2.trans (flat_block t (gv A) _ _ _ d.isLt (congrArg (fun z : S4096x1536.Idx => (z 0).val) (emb8 t r d)) (congrArg (fun z : S4096x1536.Idx => (z 1).val) (emb8 t r d))).symm

end Cert.Att

end
-- ==== Proof.Value.Ref.lean ====
module

public import proofs.«01_k».proof.Proof.Gen.ReferenceIdeal.Run
public import proofs.«01_k».proof.Proof.Value.Scalar

/-! The reference's gradients at real arguments. -/

@[expose] public section

set_option maxRecDepth 16384

noncomputable section

namespace Cert.Att

open Idealize.ShloMosaic Idealize.ShloMosaic.TcCoe Idealize.ShloMosaic.Tactic
open Idealize.SL.Sem
open Cert.ReferenceIdeal Cert.ReferenceIdeal.Value

/-- The reference's arguments are the real arrays of `A`. -/
structure RefReads (A : Arrs) (V : Valuation τ sig (Elt Ideal)) : Prop where
  q : ∀ (i : Fin 4096) (g : Fin 3) (h : Fin 4) (d : Fin 128), V (Proc.tc.devRef main_arg0) (ix4 i g h d) = ((A.q i g h d : ℝ) : EReal)
  k : ∀ (i : Fin 4096) (g : Fin 3) (h : Fin 4) (d : Fin 128), V (Proc.tc.devRef main_arg1) (ix4 i g h d) = ((A.k i g h d : ℝ) : EReal)
  v : ∀ (i : Fin 4096) (g : Fin 3) (h : Fin 4) (d : Fin 128), V (Proc.tc.devRef main_arg2) (ix4 i g h d) = ((A.v i g h d : ℝ) : EReal)
  o : ∀ (i : Fin 4096) (h : Fin 4) (d : Fin 128), V (Proc.tc.devRef main_arg3) (ix3 i h d) = ((A.o i h d : ℝ) : EReal)
  σ : A.σ = sigma

variable (A : Arrs) (V : Valuation τ sig (Elt Ideal)) (hV : RefReads A V)

theorem ref_sees (g : Fin 3) (h : Fin 4) (i k : Fin 4096) :
    res_main_v22_1 V (ix4 g h i k) = BitVec.ofBool (decide (sees g i k)) := by
  unfold res_main_v22_1 res_main_v8 res_main_v2
  pointwise
  exact sees_word _ g g.isLt i k i.isLt k.isLt _ _ (by fin_cases g <;> rfl) (by fin_cases g <;> rfl)

include hV

theorem ref_score (g : Fin 3) (h : Fin 4) (i k : Fin 4096) :
    res_main_v22_0 V (ix4 g h i k) = if sees g i k then ((sc A g h i k : ℝ) : EReal) else ⊥ := by
  have hs := ref_sees V g h i k
  unfold res_main_v22_0
  pointwise
  rw [hs, sum_eq_coe 128 _ (fun d => A.q i g h d * A.k k g h d) fun d => ?e, ofBits_sigma, ← hV.σ, ← EReal.coe_mul]
  case e => rw [hV.q, hV.k, EReal.coe_mul]
  by_cases hc : sees g i k
  · rw [if_pos hc, decide_eq_true hc]; rfl
  · rw [if_neg hc, decide_eq_false hc]; exact ofBits_neg_inf

/-- The greatest score of a query in a group, a real number and one of the scores. -/
theorem ref_max (g : Fin 3) (h : Fin 4) (i : Fin 4096) :
    ∃ b : ℝ, res_main_v23 V (ix3 g h i) = (b : EReal) ∧ ∃ k : Fin 4096, res_main_v22_0 V (ix4 g h i k) = (b : EReal) := by
  have hr : S3x4x4096x4096.Reduces [3] S3x4x4096 := by decide
  have e : res_main_v23 V (ix3 g h i) = Finset.univ.fold (β := EReal) max ⊥ ((res_main_v22_0 V : _ → EReal) ∘ hr.lift (ix3 g h i)) := by
    unfold res_main_v23
    generalize res_main_v22_0 V = w
    pointwise
    rw [← ofBits_neg_inf]
    exact Shape.Reduces.fold_filter_drop_single (α := EReal) hr max _ w _
  have el : ∀ k : Fin 4096, hr.lift (ix3 g h i) k = ix4 g h i k := fun k => by
    funext a; fin_cases a <;> rfl
  have key : ∀ k : Fin 4096, ((res_main_v22_0 V : _ → EReal) ∘ hr.lift (ix3 g h i)) k = if sees g i k then ((sc A g h i k : ℝ) : EReal) else ⊥ :=
    fun k => (congrArg (res_main_v22_0 V) (el k)).trans (ref_score A V hV g h i k)
  obtain ⟨j, -, b, h1, h2⟩ := fold_max_real Finset.univ ((res_main_v22_0 V : _ → EReal) ∘ hr.lift (ix3 g h i)) i (Finset.mem_univ _)
    (fun j _ => ne_of_eq_of_ne (key j) (by split <;> simp)) (ne_of_eq_of_ne (key i) (by rw [if_pos (sees_self _ _)]; simp))
  exact ⟨b, e.trans h1, j, (congrArg (res_main_v22_0 V) (el j)).symm.trans h2⟩

/-- The greatest score of a query in a group. -/
def low (V : Valuation τ sig (Elt Ideal)) (g : Fin 3) (h : Fin 4) (i : Fin 4096) : ℝ := EReal.toReal (res_main_v23 V (ix3 g h i))

theorem ref_v23 (g : Fin 3) (h : Fin 4) (i : Fin 4096) : res_main_v23 V (ix3 g h i) = ((low V g h i : ℝ) : EReal) := by
  obtain ⟨b, e, -⟩ := ref_max A V hV g h i
  unfold low; rw [e, EReal.toReal_coe]

theorem ref_v29 (g : Fin 3) (h : Fin 4) (i : Fin 4096) : res_main_v29 V (ix4 g h i 0) = ((low V g h i : ℝ) : EReal) := by
  have e := ref_v23 A V hV g h i
  unfold res_main_v29
  generalize res_main_v23 V = w at e ⊢
  pointwise
  exact e

theorem ref_v32 (g : Fin 3) (h : Fin 4) (i k : Fin 4096) :
    res_main_v32 V (ix4 g h i k) = ((ex A g h i k * Real.exp (-low V g h i) : ℝ) : EReal) := by
  have e1 := ref_score A V hV g h i k
  have e2 := ref_v29 A V hV g h i
  unfold res_main_v32
  generalize res_main_v22_0 V = w1 at e1 ⊢
  generalize res_main_v29 V = w2 at e2 ⊢
  pointwise
  rw [e1, e2]
  unfold ex
  by_cases hc : sees g i k
  · rw [if_pos hc, if_pos hc]; exact exp_sub_real _ _
  · rw [if_neg hc, if_neg hc, zero_mul]; exact exp_bot_sub _

theorem ref_v34 (g : Fin 3) (h : Fin 4) (i : Fin 4096) :
    res_main_v34 V (ix4 g h i 0) = ((zg A g h i * Real.exp (-low V g h i) : ℝ) : EReal) := by
  have e := ref_v32 A V hV g h i
  unfold res_main_v34
  generalize res_main_v32 V = w at e ⊢
  pointwise
  rw [sum_eq_coe 4096 _ (fun k => ex A g h i k * Real.exp (-low V g h i)) e]
  rw [← Finset.sum_mul]; rfl

omit hV in
theorem v37_at (y z : FVec Ideal S3x4x4096x1 .f32) (g : Fin 3) (h : Fin 4) (i : Fin 4096) :
    shapeCast S3x4x4096 (addf y (Host.log z)) Gen.shapeCasts_S3x4x4096x1_S3x4x4096 (ix3 g h i) = y (ix4 g h i 0) + Ideal.log (z (ix4 g h i 0)) := by
  pointwise

theorem ref_v37 (g : Fin 3) (h : Fin 4) (i : Fin 4096) :
    res_main_v37 V (ix3 g h i) = ((Real.log (zg A g h i) : ℝ) : EReal) := by
  have e1 := ref_v29 A V hV g h i
  have e2 := ref_v34 A V hV g h i
  have h0 := zg_pos A g h i i.isLt
  unfold res_main_v37
  generalize res_main_v29 V = w1 at e1 ⊢
  generalize res_main_v34 V = w2 at e2 ⊢
  refine (v37_at w1 w2 g h i).trans ?_
  rw [e1, e2, log_real _ (by positivity), ← EReal.coe_add, Real.log_mul h0.ne' (Real.exp_ne_zero _), Real.log_exp]
  exact congrArg _ (by ring)

theorem ref_v39 (g : Fin 3) (h : Fin 4) (i k : Fin 4096) :
    res_main_v39 V (ix4 g h i k) = ((ex A g h i k / zg A g h i : ℝ) : EReal) := by
  have e1 := ref_v32 A V hV g h i k
  have e2 := ref_v34 A V hV g h i
  have h0 := zg_pos A g h i i.isLt
  unfold res_main_v39
  generalize res_main_v32 V = w1 at e1 ⊢
  generalize res_main_v34 V = w2 at e2 ⊢
  pointwise
  rw [e1, e2, div_real _ _ (by positivity), mul_div_mul_right _ _ (Real.exp_ne_zero _)]

theorem ref_v43 (g : Fin 3) (h : Fin 4) (i : Fin 4096) (d : Fin 128) :
    res_main_v43 V (ix4 g h i d) = ((og A g h i d : ℝ) : EReal) := by
  have e := ref_v39 A V hV g h i
  unfold res_main_v43
  generalize res_main_v39 V = w at e ⊢
  pointwise
  exact sum_eq_coe 4096 _ (fun k => ex A g h i k / zg A g h i * A.v k g h d) fun k => by
    rw [e, hV.v, ← EReal.coe_mul]

omit hV in
theorem v44_at (w : FVec Ideal S3x4x4096 .f32) (h : Fin 4) (i : Fin 4096) :
    Host.reduce FloatOps.maximumf w (constant S_ .f32 0xFF800000#32) Gen.reducesTo_S3x4x4096_S4x4096_d0 Gen.h_S_ (ix2 h i)
      = Finset.univ.fold (β := EReal) max (Ideal.ofBits .f32 0xFF800000#32) (fun g : Fin 3 => w (ix3 g h i)) := by
  pointwise

/-- The greatest of the groups' log-sum-exps is a real number. -/
theorem ref_v44 (h : Fin 4) (i : Fin 4096) : ∃ b : ℝ, res_main_v44 V (ix2 h i) = (b : EReal) := by
  have key := fun g => ref_v37 A V hV g h i
  unfold res_main_v44
  generalize res_main_v37 V = w at key ⊢
  obtain ⟨j, -, b, h1, -⟩ := fold_max_real Finset.univ (fun g : Fin 3 => (w (ix3 g h i) : EReal)) 0 (Finset.mem_univ _)
    (fun j _ => ne_of_eq_of_ne (key j) (by simp)) (ne_of_eq_of_ne (key 0) (by simp))
  exact ⟨b, (v44_at w h i).trans (by rw [ofBits_neg_inf]; exact h1)⟩

/-- The greatest of a query's log-sum-exps. -/
def top (V : Valuation τ sig (Elt Ideal)) (h : Fin 4) (i : Fin 4096) : ℝ := EReal.toReal (res_main_v44 V (ix2 h i))

omit hV in
theorem v64_at (w1 : FVec Ideal S3x4x4096 .f32) (w2 : FVec Ideal S4x4096 .f32) (g : Fin 3) (h : Fin 4) (i : Fin 4096) :
    Host.exp (subf w1 (broadcastInDim S3x4x4096 ![0, 1, 2] Gen.bcast_S1x4x4096_S3x4x4096_0_1_2 (broadcastInDim S1x4x4096 ![1, 2] Gen.bcast_S4x4096_S1x4x4096_1_2 (maximumf (broadcastInDim S4x4096 ![] Gen.bcast_S_S4x4096 (constant S_ .f32 0xFF800000#32)) w2)))) (ix3 g h i)
      = Ideal.exp (w1 (ix3 g h i) - max (Ideal.ofBits .f32 0xFF800000#32) (w2 (ix2 h i))) := by
  pointwise

theorem ref_v64 (g : Fin 3) (h : Fin 4) (i : Fin 4096) :
    res_main_v64 V (ix3 g h i) = ((zg A g h i * Real.exp (-top V h i) : ℝ) : EReal) := by
  have e1 := ref_v37 A V hV g h i
  have e2 : res_main_v44 V (ix2 h i) = ((top V h i : ℝ) : EReal) := by
    obtain ⟨b, e⟩ := ref_v44 A V hV h i
    unfold top; rw [e, EReal.toReal_coe]
  have h0 := zg_pos A g h i i.isLt
  unfold res_main_v64
  generalize res_main_v37 V = w1 at e1 ⊢
  generalize res_main_v44 V = w2 at e2 ⊢
  refine (v64_at w1 w2 g h i).trans ?_
  rw [e1, e2, ofBits_neg_inf, max_eq_right bot_le]
  refine (exp_sub_real _ _).trans ?_
  rw [Real.exp_log h0]

theorem ref_v66 (h : Fin 4) (i : Fin 4096) :
    res_main_v66 V (ix3 0 h i) = ((zz A h i * Real.exp (-top V h i) : ℝ) : EReal) := by
  have e := fun g => ref_v64 A V hV g h i
  unfold res_main_v66
  generalize res_main_v64 V = w at e ⊢
  pointwise
  rw [sum_eq_coe 3 _ (fun g => zg A g h i * Real.exp (-top V h i)) e]
  rw [← Finset.sum_mul]; rfl

theorem ref_v72 (g : Fin 3) (h : Fin 4) (i : Fin 4096) :
    res_main_v72 V (ix4 g h i 0) = ((wg A g h i : ℝ) : EReal) := by
  have e1 := ref_v64 A V hV g h i
  have e2 := ref_v66 A V hV h i
  have h0 := zz_pos A h i i.isLt
  unfold res_main_v72
  generalize res_main_v64 V = w1 at e1 ⊢
  generalize res_main_v66 V = w2 at e2 ⊢
  pointwise
  rw [e1, e2, div_real _ _ (by positivity), mul_div_mul_right _ _ (Real.exp_ne_zero _)]; rfl

theorem ref_v78 (g : Fin 3) (h : Fin 4) (i : Fin 4096) (d : Fin 128) :
    res_main_v78 V (ix4 g h i d) = ((A.o i h d : ℝ) : EReal) := by
  unfold res_main_v78
  pointwise
  exact hV.o i h d

theorem ref_v80 (g : Fin 3) (h : Fin 4) (i : Fin 4096) (d : Fin 128) :
    res_main_v80 V (ix4 g h i d) = ((wg A g h i * A.o i h d : ℝ) : EReal) := by
  have e1 := ref_v72 A V hV g h i
  have e2 := ref_v78 A V hV g h i d
  unfold res_main_v80
  generalize res_main_v72 V = w1 at e1 ⊢
  generalize res_main_v78 V = w2 at e2 ⊢
  pointwise
  rw [e1, e2, ← EReal.coe_mul]

theorem ref_v84 (g : Fin 3) (h : Fin 4) (i : Fin 4096) :
    res_main_v84 V (ix3 g h i) = ((oo A g h i : ℝ) : EReal) := by
  have e1 := ref_v43 A V hV g h i
  have e2 := ref_v78 A V hV g h i
  unfold res_main_v84
  generalize res_main_v43 V = w1 at e1 ⊢
  generalize res_main_v78 V = w2 at e2 ⊢
  pointwise
  rw [sum_one]
  exact sum_eq_coe 128 _ (fun d => A.o i h d * og A g h i d) fun d => by rw [e1, e2, ← EReal.coe_mul]

theorem ref_v99 (g : Fin 3) (h : Fin 4) (i k : Fin 4096) :
    res_main_v99 V (ix4 g h i k) = ((wg A g h i * ov A g h i k : ℝ) : EReal) := by
  have e := ref_v80 A V hV g h i
  unfold res_main_v99
  generalize res_main_v80 V = w at e ⊢
  pointwise
  rw [sum_eq_coe 128 _ (fun d => wg A g h i * A.o i h d * A.v k g h d) fun d => ?e]
  case e => rw [e, hV.v, ← EReal.coe_mul]
  unfold ov; rw [Finset.mul_sum]; simp only [mul_assoc]

omit hV in
theorem v108_at (w1 : FVec Ideal S3x4x4096 .f32) (w2 : FVec Ideal S1x4x4096 .f32) (w3 : FVec Ideal S3x4x4096 .f32) (g : Fin 3) (h : Fin 4) (i : Fin 4096) :
    broadcastInDim S3x4x4096x1 ![0, 1, 2] Gen.bcast_S3x4x4096_S3x4x4096x1_0_1_2 (mulf (addf (Host.divf w1 (broadcastInDim S3x4x4096 ![0, 1, 2] Gen.bcast_S1x4x4096_S3x4x4096_0_1_2 w2)) (broadcastInDim S3x4x4096 ![1, 2] Gen.bcast_S4x4096_S3x4x4096_1_2 (Host.reduceAdd (Host.negf (shapeCast S1x4x4096 (Host.reduceAdd (mulf (mulf w1 (broadcastInDim S3x4x4096 ![0, 1, 2] Gen.bcast_S1x4x4096_S3x4x4096_0_1_2 (Host.divf (broadcastInDim S1x4x4096 ![] Gen.bcast_S_S1x4x4096 (constant S_ .f32 0x3F800000#32)) (mulf w2 w2)))) w3) (constant S_ .f32 0x00000000#32) Gen.reducesTo_S3x4x4096_S4x4096_d0 Gen.h_S_) Gen.shapeCasts_S4x4096_S1x4x4096)) (constant S_ .f32 0x00000000#32) Gen.reducesTo_S1x4x4096_S4x4096_d0 Gen.h_S_))) w3) (ix4 g h i 0)
      = (Ideal.div (w1 (ix3 g h i)) (w2 (ix3 0 h i)) + -∑ g' : Fin 3, w1 (ix3 g' h i) * Ideal.div 1 (w2 (ix3 0 h i) * w2 (ix3 0 h i)) * w3 (ix3 g' h i)) * w3 (ix3 g h i) := by
  pointwise
  rw [sum_one]

theorem ref_v108 (g : Fin 3) (h : Fin 4) (i : Fin 4096) :
    res_main_v108 V (ix4 g h i 0) = ((wg A g h i * (oo A g h i - del A h i) : ℝ) : EReal) := by
  have e1 := fun g => ref_v84 A V hV g h i
  have e2 := ref_v66 A V hV h i
  have e3 := fun g => ref_v64 A V hV g h i
  have h0 := zz_pos A h i i.isLt
  unfold res_main_v108
  generalize res_main_v84 V = w1 at e1 ⊢
  generalize res_main_v66 V = w2 at e2 ⊢
  generalize res_main_v64 V = w3 at e3 ⊢
  refine (v108_at w1 w2 w3 g h i).trans ?_
  rw [sum_eq_coe 3 _ (fun g' => oo A g' h i * (1 / ((zz A h i * Real.exp (-top V h i)) * (zz A h i * Real.exp (-top V h i))))
    * (zg A g' h i * Real.exp (-top V h i))) fun g' => ?e, e1, e2, e3, div_real _ _ (by positivity)]
  case e => rw [e1, e2, e3, ← EReal.coe_mul, one_div_real _ (by positivity), ← EReal.coe_mul, ← EReal.coe_mul]
  rw [← EReal.coe_neg, ← EReal.coe_add, ← EReal.coe_mul]
  exact congrArg _ (share_grad A g h i i.isLt _ (Real.exp_pos _))

theorem ref_v114 (g : Fin 3) (h : Fin 4) (i k : Fin 4096) :
    res_main_v114 V (ix4 g h i k) = ((ds A g h i k : ℝ) : EReal) := by
  have e1 := ref_v99 A V hV g h i
  have e2 := ref_v34 A V hV g h i
  have e3 := ref_v32 A V hV g h i
  have e4 := ref_v108 A V hV g h i
  have h0 := zg_pos A g h i i.isLt
  unfold res_main_v114
  generalize res_main_v99 V = w1 at e1 ⊢
  generalize res_main_v34 V = w2 at e2 ⊢
  generalize res_main_v32 V = w3 at e3 ⊢
  generalize res_main_v108 V = w4 at e4 ⊢
  pointwise
  rw [sum_one, sum_eq_coe 4096 _ (fun k' => wg A g h i * ov A g h i k' * (1 / ((zg A g h i * Real.exp (-low V g h i)) * (zg A g h i * Real.exp (-low V g h i))))
    * (ex A g h i k' * Real.exp (-low V g h i))) fun k' => ?e, e1, e2, e3, e4, div_real _ _ (by positivity), div_real _ _ (by positivity)]
  case e => rw [e1, e2, e3, ← EReal.coe_mul, one_div_real _ (by positivity), ← EReal.coe_mul, ← EReal.coe_mul]
  rw [← EReal.coe_neg, ← EReal.coe_add, ← EReal.coe_add, ← EReal.coe_mul]
  exact congrArg _ (score_grad A g h i k i.isLt _ (Real.exp_pos _))

/-- The number of keys at which a query's greatest score is attained is not zero. -/
theorem ref_count (g : Fin 3) (h : Fin 4) (i : Fin 4096) :
    ∃ f : ℕ → ℝ, (∀ k : Fin 4096, res_main_v27 V (ix4 g h i k) = ((f k : ℝ) : EReal)) ∧ ∑ k ∈ Finset.range 4096, f k ≠ 0 := by
  obtain ⟨b, e, k0, e0⟩ := ref_max A V hV g h i
  have hk : ∀ k : Fin 4096, res_main_v27 V (ix4 g h i k) = ((((BitVec.ofBool (decide ((res_main_v22_0 V (ix4 g h i k) : EReal) = (b : EReal)))).toNat : ℝ) : ℝ) : EReal) := by
    intro k
    unfold res_main_v27
    generalize res_main_v22_0 V = w1 at e0 ⊢
    generalize res_main_v23 V = w2 at e ⊢
    pointwise
    rw [e]; rfl
  refine ⟨fun k => if hk : k < 4096 then ((BitVec.ofBool (decide ((res_main_v22_0 V (ix4 g h i ⟨k, hk⟩) : EReal) = (b : EReal)))).toNat : ℝ) else 0,
    fun k => (hk k).trans (by simp only [dif_pos k.isLt]), ?_⟩
  apply ne_of_gt
  refine Finset.sum_pos' (fun k _ => by split <;> positivity) ⟨k0, Finset.mem_range.2 k0.isLt, ?_⟩
  rw [dif_pos k0.isLt, e0]; simp

theorem ref_v126 (g : Fin 3) (h : Fin 4) (i k : Fin 4096) :
    res_main_v126 V (ix4 g h i k) = ((ds A g h i k * A.σ : ℝ) : EReal) := by
  have e1 := ref_sees V g h i k
  have e2 := ref_v114 A V hV g h i
  have e3 := ref_v108 A V hV g h i
  obtain ⟨f, e4, hf⟩ := ref_count A V hV g h i
  unfold res_main_v126
  generalize res_main_v22_1 V = w1 at e1 ⊢
  generalize res_main_v114 V = w2 at e2 ⊢
  generalize res_main_v108 V = w3 at e3 ⊢
  generalize res_main_v27 V = w4 at e4 ⊢
  pointwise
  rw [sum_one, sum_eq_coe 4096 _ f e4, sum_eq_coe 4096 _ (fun k' => -ds A g h i k') fun k' => ?e, e1, e2, e3, e4, ← EReal.coe_add,
    div_real _ _ hf, ← EReal.coe_mul, ← EReal.coe_add, ofBits_sigma, ← hV.σ, ← EReal.coe_mul]
  case e => rw [e2, ← EReal.coe_neg]
  rw [Finset.sum_neg_distrib, sum_ds A g h i i.isLt, add_neg_cancel, zero_div, zero_mul, add_zero]
  by_cases hc : sees g i k
  · rw [decide_eq_true hc]; rfl
  · rw [decide_eq_false hc, ds_zero A g h i k hc, zero_mul]; rfl

omit hV in
theorem dq_at (w : FVec Ideal S3x4x4096x4096 .f32) (x : FVec Ideal S4096x3x4x128 .f32) (i : Fin 4096) (c : Fin 1536) :
    truncf .bf16 (shapeCast S4096x1536 (transpose S4096x3x4x128 [2, 0, 1, 3] (Host.dotGeneral dot_S3x4x4096x4096_S4096x3x4x128_S3x4x4096x128_3_0_2_3_01_12 none w x) Gen.transposes_S3x4x4096x128_S4096x3x4x128_2_0_1_3) Gen.shapeCasts_S4096x3x4x128_S4096x1536) Gen.bitsLt_bf16_f32 (ix2 i c)
      = ∑ k : Fin 4096, w (ix4 (colG c) (colH c) i k) * x (ix4 k (colG c) (colH c) (colD c)) := by
  pointwise

omit hV in
theorem dk_at (w : FVec Ideal S3x4x4096x4096 .f32) (x : FVec Ideal S4096x3x4x128 .f32) (i : Fin 4096) (c : Fin 1536) :
    truncf .bf16 (shapeCast S4096x1536 (transpose S4096x3x4x128 [2, 0, 1, 3] (Host.dotGeneral dot_S3x4x4096x4096_S4096x3x4x128_S3x4x4096x128_2_0_3_3_01_12 none w x) Gen.transposes_S3x4x4096x128_S4096x3x4x128_2_0_1_3) Gen.shapeCasts_S4096x3x4x128_S4096x1536) Gen.bitsLt_bf16_f32 (ix2 i c)
      = ∑ k : Fin 4096, w (ix4 (colG c) (colH c) k i) * x (ix4 k (colG c) (colH c) (colD c)) := by
  pointwise

omit hV in
theorem dv_at (x : FVec Ideal S3x4x4096x128 .f32) (w : FVec Ideal S3x4x4096x4096 .f32) (i : Fin 4096) (c : Fin 1536) :
    truncf .bf16 (shapeCast S4096x1536 (transpose S4096x3x4x128 [3, 0, 1, 2] (Host.dotGeneral dot_S3x4x4096x128_S3x4x4096x4096_S3x4x128x4096_2_2_3_3_01_01 none x w) Gen.transposes_S3x4x128x4096_S4096x3x4x128_3_0_1_2) Gen.shapeCasts_S4096x3x4x128_S4096x1536) Gen.bitsLt_bf16_f32 (ix2 i c)
      = ∑ k : Fin 4096, x (ix4 (colG c) (colH c) k (colD c)) * w (ix4 (colG c) (colH c) k i) := by
  pointwise

theorem ref_dq : truncf .bf16 (shapeCast S4096x1536 (transpose S4096x3x4x128 [2, 0, 1, 3] (Host.dotGeneral (φ₂ := .f32) dot_S3x4x4096x4096_S4096x3x4x128_S3x4x4096x128_3_0_2_3_01_12 none (res_main_v126 V) (V (Proc.devRef .tc main_arg1))) Gen.transposes_S3x4x4096x128_S4096x3x4x128_2_0_1_3) Gen.shapeCasts_S4096x3x4x128_S4096x1536) Gen.bitsLt_bf16_f32
      = flat (gq A) := by
  have e := ref_v126 A V hV
  funext y
  obtain ⟨i, c, rfl⟩ : ∃ (i : Fin 4096) (c : Fin 1536), y = ix2 i c := ⟨y 0, y 1, by funext a; fin_cases a <;> rfl⟩
  refine (dq_at _ _ i c).trans ?_
  rw [sum_eq_coe 4096 _ (fun k => ds A (colG c) (colH c) i k * A.σ * A.k k (colG c) (colH c) (colD c)) fun k => ?e]
  case e => rw [e, hV.k, ← EReal.coe_mul]
  rw [flat_at]; refine congrArg _ ?_
  unfold gq
  rw [Finset.sum_mul]
  exact Finset.sum_congr rfl fun k _ => by ring

theorem ref_dk : truncf .bf16 (shapeCast S4096x1536 (transpose S4096x3x4x128 [2, 0, 1, 3] (Host.dotGeneral (φ₂ := .f32) dot_S3x4x4096x4096_S4096x3x4x128_S3x4x4096x128_2_0_3_3_01_12 none (res_main_v126 V) (V (Proc.devRef .tc main_arg0))) Gen.transposes_S3x4x4096x128_S4096x3x4x128_2_0_1_3) Gen.shapeCasts_S4096x3x4x128_S4096x1536) Gen.bitsLt_bf16_f32
      = flat (gk A) := by
  have e := ref_v126 A V hV
  funext y
  obtain ⟨i, c, rfl⟩ : ∃ (i : Fin 4096) (c : Fin 1536), y = ix2 i c := ⟨y 0, y 1, by funext a; fin_cases a <;> rfl⟩
  refine (dk_at _ _ i c).trans ?_
  rw [sum_eq_coe 4096 _ (fun k => ds A (colG c) (colH c) k i * A.σ * A.q k (colG c) (colH c) (colD c)) fun k => ?e]
  case e => rw [e, hV.q, ← EReal.coe_mul]
  rw [flat_at]; refine congrArg _ ?_
  unfold gk
  exact Finset.sum_congr rfl fun k _ => by ring

theorem ref_dv : truncf .bf16 (shapeCast S4096x1536 (transpose S4096x3x4x128 [3, 0, 1, 2] (Host.dotGeneral (φ₂ := .f32) dot_S3x4x4096x128_S3x4x4096x4096_S3x4x128x4096_2_2_3_3_01_01 none (res_main_v80 V) (res_main_v39 V)) Gen.transposes_S3x4x128x4096_S4096x3x4x128_3_0_1_2) Gen.shapeCasts_S4096x3x4x128_S4096x1536) Gen.bitsLt_bf16_f32
      = flat (gv A) := by
  have e1 := ref_v80 A V hV
  have e2 := ref_v39 A V hV
  funext y
  obtain ⟨i, c, rfl⟩ : ∃ (i : Fin 4096) (c : Fin 1536), y = ix2 i c := ⟨y 0, y 1, by funext a; fin_cases a <;> rfl⟩
  refine (dv_at _ _ i c).trans ?_
  rw [sum_eq_coe 4096 _ (fun k => wg A (colG c) (colH c) k * A.o k (colH c) (colD c) * (ex A (colG c) (colH c) k i / zg A (colG c) (colH c) k)) fun k => ?e]
  case e => rw [e1, e2, ← EReal.coe_mul]
  rw [flat_at]; refine congrArg _ ?_
  unfold gv
  exact Finset.sum_congr rfl fun k hk => by
    have := wt_eq A (colG c) (colH c) k i (Finset.mem_range.1 hk)
    rw [← this]; ring

end Cert.Att

end
-- ==== Proof.Value.Finite.lean ====
module

public import proofs.«01_k».proof.Defs
public import proofs.«01_k».proof.Proof.Value.Arrays
public import proofs.«01_k».proof.Proof.Value.Ref

/-! Finite argument arrays are arrays of real numbers. -/

@[expose] public section

set_option maxRecDepth 16384

noncomputable section

namespace Cert.Att

open Idealize.ShloMosaic Idealize.ShloMosaic.TcCoe Idealize.ShloMosaic.Tactic

theorem finite_facts : Cert.Pre_finite.Facts where
  bcast_S_S4096x3x4x128 := by decide
  bcast_S_S4096x4x128 := by decide

theorem real_of_abs (x : EReal) (h : FloatOps.cmpf (F := Ideal) (φ := .f32) .olt (FloatOps.hostAbsf (F := Ideal) (φ := .f32) x) (FloatOps.ofBits .f32 0x7F800000#32) = 1#1) :
    ((x.toReal : ℝ) : EReal) = x := by
  have h' : BitVec.ofBool (decide (max x (-x) < Ideal.ofBits .f32 0x7F800000#32)) = 1#1 := h
  rw [ofBits_pos_inf] at h'
  have hlt : max x (-x) < ⊤ := by
    by_contra hn
    rw [decide_eq_false hn] at h'
    exact absurd h' (by decide)
  refine EReal.coe_toReal (ne_of_lt (lt_of_le_of_lt (le_max_left _ _) hlt)) fun hx => ?_
  subst hx
  exact absurd hlt (by simp)

theorem real4 (X : FVec Ideal Cert.Pre_finite.S4096x3x4x128 .f32) (hb)
    (h : cmpf .olt (Host.absf X) (broadcastInDim Cert.Pre_finite.S4096x3x4x128 ![] hb (constant Cert.Pre_finite.S_ .f32 0x7F800000#32)) = fun _ => 1#1) (y : Cert.Pre_finite.S4096x3x4x128.Idx) :
    (((X y : EReal).toReal : ℝ) : EReal) = X y :=
  real_of_abs (X y) (congrFun h y)

theorem real3 (X : FVec Ideal Cert.Pre_finite.S4096x4x128 .f32) (hb)
    (h : cmpf .olt (Host.absf X) (broadcastInDim Cert.Pre_finite.S4096x4x128 ![] hb (constant Cert.Pre_finite.S_ .f32 0x7F800000#32)) = fun _ => 1#1) (y : Cert.Pre_finite.S4096x4x128.Idx) :
    (((X y : EReal).toReal : ℝ) : EReal) = X y :=
  real_of_abs (X y) (congrFun h y)

/-- Two programs' argument arrays as arrays of real numbers. -/
def arrs (q k v : FVec Ideal Cert.KernelIdeal.S4096x3x4x128 .f32) (o : FVec Ideal Cert.KernelIdeal.S4096x4x128 .f32) : Arrs where
  q i g h d := if hb : i < 4096 ∧ g < 3 ∧ h < 4 ∧ d < 128 then (q (ix4 ⟨i, hb.1⟩ ⟨g, hb.2.1⟩ ⟨h, hb.2.2.1⟩ ⟨d, hb.2.2.2⟩) : EReal).toReal else 0
  k i g h d := if hb : i < 4096 ∧ g < 3 ∧ h < 4 ∧ d < 128 then (k (ix4 ⟨i, hb.1⟩ ⟨g, hb.2.1⟩ ⟨h, hb.2.2.1⟩ ⟨d, hb.2.2.2⟩) : EReal).toReal else 0
  v i g h d := if hb : i < 4096 ∧ g < 3 ∧ h < 4 ∧ d < 128 then (v (ix4 ⟨i, hb.1⟩ ⟨g, hb.2.1⟩ ⟨h, hb.2.2.1⟩ ⟨d, hb.2.2.2⟩) : EReal).toReal else 0
  o i h d := if hb : i < 4096 ∧ h < 4 ∧ d < 128 then (o (ix3 ⟨i, hb.1⟩ ⟨h, hb.2.1⟩ ⟨d, hb.2.2⟩) : EReal).toReal else 0
  σ := sigma

theorem reads_arrs (q k v : FVec Ideal Cert.KernelIdeal.S4096x3x4x128 .f32) (o : FVec Ideal Cert.KernelIdeal.S4096x4x128 .f32)
    (hq : ∀ y, (((q y : EReal).toReal : ℝ) : EReal) = q y) (hk : ∀ y, (((k y : EReal).toReal : ℝ) : EReal) = k y)
    (hv : ∀ y, (((v y : EReal).toReal : ℝ) : EReal) = v y) (ho : ∀ y, (((o y : EReal).toReal : ℝ) : EReal) = o y) :
    Reads (arrs q k v o) q k v o where
  q i g h d := by
    have hb : i.val < 4096 ∧ g.val < 3 ∧ h.val < 4 ∧ d.val < 128 := ⟨i.isLt, g.isLt, h.isLt, d.isLt⟩
    simp only [arrs, dif_pos hb]; exact (hq _).symm
  k i g h d := by
    have hb : i.val < 4096 ∧ g.val < 3 ∧ h.val < 4 ∧ d.val < 128 := ⟨i.isLt, g.isLt, h.isLt, d.isLt⟩
    simp only [arrs, dif_pos hb]; exact (hk _).symm
  v i g h d := by
    have hb : i.val < 4096 ∧ g.val < 3 ∧ h.val < 4 ∧ d.val < 128 := ⟨i.isLt, g.isLt, h.isLt, d.isLt⟩
    simp only [arrs, dif_pos hb]; exact (hv _).symm
  o i h d := by
    have hb : i.val < 4096 ∧ h.val < 4 ∧ d.val < 128 := ⟨i.isLt, h.isLt, d.isLt⟩
    simp only [arrs, dif_pos hb]; exact (ho _).symm
  σ := rfl

/-- Finite argument arrays of the kernel are arrays of real numbers. -/
theorem reads_finite (m : (ℓ : Loc Cert.KernelIdeal.nD Cert.KernelIdeal.τ Cert.KernelIdeal.sig) → Buf (Elt Ideal) ℓ)
    (h : Cert.Pre_KernelIdeal_finite (hPre_finite := finite_facts) m) (c : Dev Cert.KernelIdeal.nD) :
    Reads (arrs (q0 m c) (k0 m c) (v0 m c) (o0 m c)) (q0 m c) (k0 m c) (v0 m c) (o0 m c) :=
  reads_arrs _ _ _ _ (real4 _ _ (h c).1) (real4 _ _ (h c).2.1) (real4 _ _ (h c).2.2.1) (real3 _ _ (h c).2.2.2)

/-- Arrays the kernel reads as real numbers, the reference reads as the same. -/
theorem reads_ref (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (A : Arrs) (R : Reads A (q0 m c) (k0 m c) (v0 m c) (o0 m c))
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    RefReads A (StableHlo.launchContents m' c) where
  q i g h d := (congrFun e.1 (ix4 i g h d)).trans (R.q i g h d)
  k i g h d := (congrFun e.2.1 (ix4 i g h d)).trans (R.k i g h d)
  v i g h d := (congrFun e.2.2.1 (ix4 i g h d)).trans (R.v i g h d)
  o i h d := (congrFun e.2.2.2 (ix3 i h d)).trans (R.o i h d)
  σ := R.σ

end Cert.Att

end
-- ==== Proof.Products.Split.lean ====
module

public import proofs.«01_k».proof.Defs
public import Idealize.ShloMosaic.Lib.Pipeline.ValueKit

/-! An argument's contents, and a sum cut into consecutive stretches of one length. -/

@[expose] public section

namespace Cert.Products

open Idealize.ShloMosaic TcCoe

/-- What the buffer `b` of core `c` holds in `m`. -/
abbrev arr {nD : ℕ} {τ : Topo} {sig : RefSig} (m : (ℓ : Loc nD τ sig) → Buf (Elt Ideal) ℓ) (c : Dev nD) (b : Ref sig .tc) :
    Buf (Elt Ideal) ((c.tc : Thread nD τ).loc b) := m ((c.tc : Thread nD τ).loc b)

variable {M : Type*} [AddCommMonoid M] {N n : ℕ} {g : Fin N → M} {a b c d : Fin n → M}

/-- A sum over `2·n` is the sum of its 2 consecutive stretches of `n`. -/
theorem sum2 (h : N = 2 * n) (ha : ∀ k hk, a k = g ⟨0 * n + k.val, hk⟩) (hb : ∀ k hk, b k = g ⟨1 * n + k.val, hk⟩) :
    ∑ k, a k + ∑ k, b k = ∑ l, g l := by
  rw [← Fin.sum_mul_add_fin 2 n g h, Fin.sum_univ_two]
  exact congrArg₂ _ (Finset.sum_congr rfl fun k _ => ha k _) (Finset.sum_congr rfl fun k _ => hb k _)

/-- A sum over `3·n` is the sum of its 3 consecutive stretches of `n`. -/
theorem sum3 (h : N = 3 * n) (ha : ∀ k hk, a k = g ⟨0 * n + k.val, hk⟩) (hb : ∀ k hk, b k = g ⟨1 * n + k.val, hk⟩)
    (hc : ∀ k hk, c k = g ⟨2 * n + k.val, hk⟩) : ∑ k, a k + ∑ k, b k + ∑ k, c k = ∑ l, g l := by
  rw [← Fin.sum_mul_add_fin 3 n g h, Fin.sum_univ_three]
  exact congrArg₂ _ (congrArg₂ _ (Finset.sum_congr rfl fun k _ => ha k _) (Finset.sum_congr rfl fun k _ => hb k _))
    (Finset.sum_congr rfl fun k _ => hc k _)

/-- A sum over `4·n` is the sum of its 4 consecutive stretches of `n`. -/
theorem sum4 (h : N = 4 * n) (ha : ∀ k hk, a k = g ⟨0 * n + k.val, hk⟩) (hb : ∀ k hk, b k = g ⟨1 * n + k.val, hk⟩)
    (hc : ∀ k hk, c k = g ⟨2 * n + k.val, hk⟩) (hd : ∀ k hk, d k = g ⟨3 * n + k.val, hk⟩) :
    ∑ k, a k + ∑ k, b k + ∑ k, c k + ∑ k, d k = ∑ l, g l := by
  rw [← Fin.sum_mul_add_fin 4 n g h, Fin.sum_univ_four]
  exact congrArg₂ _ (congrArg₂ _ (congrArg₂ _ (Finset.sum_congr rfl fun k _ => ha k _) (Finset.sum_congr rfl fun k _ => hb k _))
    (Finset.sum_congr rfl fun k _ => hc k _)) (Finset.sum_congr rfl fun k _ => hd k _)

/-- A sum of reals, read as an extended real, is the sum of the readings. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

end Cert.Products
end
-- ==== Proof.Products.Logistic.lean ====
module

public import Idealize.ShloMosaic.PureOps.Ideal

/-! The logistic function of an extended real. -/

@[expose] public section

noncomputable section

namespace Cert.Products

open Idealize.ShloMosaic

/-- The logistic of `x`. -/
def logi (x : EReal) : EReal := Ideal.div 1 (1 + Ideal.exp (-x))

end Cert.Products
end
-- ==== Proof.Products.Act.lean ====
module

public import proofs.«01_k».proof.Proof.Gen.KernelActIdeal.Value
public import proofs.«01_k».proof.Proof.Gen.ReferenceActIdeal.Run
public import proofs.«01_k».proof.Proof.Products.Split
public import proofs.«01_k».proof.Proof.Products.Logistic
public import proofs.«01_k».proof.Proof.Value.Finite

/-! The gradient through the feed-forward's last product and its gate. -/

@[expose] public section

set_option maxRecDepth 16384

noncomputable section

namespace Cert.Products.Act

open Idealize.ShloMosaic TcCoe Tactic
open KernelActIdeal KernelActIdeal.Gen

variable (m : (ℓ : Loc nD τ sig) → Buf (Elt Ideal) ℓ) (c : Dev nD)

/-- The generated facts about the precondition's program. -/
theorem facts : Cert.Pre_finite_act.Facts where
  bitsLt_bf16_f32 := by decide
  bcast_S_S4096x2048 := by decide
  bcast_S_S4096x5632 := by decide
  bcast_S_S5632x2048 := by decide

/-- The blocks that each window takes at the grid's points. -/
theorem idx : ∀ t : Fin cfg0.N, (cfg0.win 0).index t = ![t.val / 11, 0] ∧ (cfg0.win 1).index t = ![t.val % 11, 0] ∧ (cfg0.win 2).index t = ![t.val / 11, t.val % 11] ∧ (cfg0.win 3).index t = ![t.val / 11, t.val % 11] ∧ (cfg0.win 4).index t = ![t.val / 11, t.val % 11] ∧ (cfg0.win 5).index t = ![t.val / 11, t.val % 11] := by
  decide +kernel

/-- The product, an element as a sum over the whole contraction. -/
def prod (d : S4096x2048.Idx → EReal) (w : S5632x2048.Idx → EReal) (y : S4096x5632.Idx) : EReal :=
  ∑ k : Fin 2048, d (ix2 (y 0 : Fin 4096) k) * w (ix2 (y 1 : Fin 5632) k)

/-- The gradient at a gate product `x`, from the gradient `p` of the gated product and the up product `u`. -/
def slope (p x u : EReal) : EReal := p * u * (logi x * (1 + x * (1 - logi x)))

/-- The gradient of the gate product. -/
def Gg (d : S4096x2048.Idx → EReal) (g u : S4096x5632.Idx → EReal) (w : S5632x2048.Idx → EReal) (y : S4096x5632.Idx) : EReal :=
  slope (prod d w y) (g y) (u y)

/-- The gradient of the up product. -/
def Gu (d : S4096x2048.Idx → EReal) (g : S4096x5632.Idx → EReal) (w : S5632x2048.Idx → EReal) (y : S4096x5632.Idx) : EReal :=
  prod d w y * (g y * logi (g y))

/-- The logistic of a real is the real logistic. -/
theorem logi_real (x : ℝ) : logi x = ((1 / (1 + Real.exp (-x)) : ℝ) : EReal) := by
  unfold logi
  rw [← EReal.coe_neg, Ideal.exp_coe, ← EReal.coe_one, ← EReal.coe_add]
  exact Cert.Att.div_real 1 _ (by positivity)

/-- The derivative of the gate, in the two arrangements. -/
theorem slope_real (p x u : ℝ) :
    (p : EReal) * u * logi x + (x : EReal) * ((p : EReal) * u) * (logi x * (1 - logi x)) = slope p x u := by
  unfold slope
  rw [logi_real]
  generalize 1 / (1 + Real.exp (-x)) = l
  rw [← EReal.coe_one]
  simp only [← EReal.coe_mul, ← EReal.coe_sub, ← EReal.coe_add]
  congr 1
  ring

/-- A product of arrays with real elements has real elements. -/
theorem prod_real (d : S4096x2048.Idx → EReal) (w : S5632x2048.Idx → EReal) (hd : ∀ y, (((d y).toReal : ℝ) : EReal) = d y)
    (hw : ∀ y, (((w y).toReal : ℝ) : EReal) = w y) (y : S4096x5632.Idx) : ∃ p : ℝ, prod d w y = (p : EReal) := by
  unfold prod
  refine ⟨∑ k : Fin 2048, (d (ix2 (y 0 : Fin 4096) k)).toReal * (w (ix2 (y 1 : Fin 5632) k)).toReal, ?_⟩
  rw [Cert.Products.coe_sum]
  exact Finset.sum_congr rfl fun k _ => by rw [EReal.coe_mul, hd, hw]

/-- An element of the tile of the gate's gradient. -/
theorem pay4 (a : FVec Ideal S1024x2048 .bf16) (w : FVec Ideal S512x2048 .bf16) (g u : FVec Ideal S1024x512 .bf16) (y : S1024x512.Idx) :
    (k0_pay4 (F := Ideal) a w g u y : EReal) = slope (∑ k : Fin 2048, a (ix2 (y 0 : Fin 1024) k) * w (ix2 (y 1 : Fin 512) k)) (g y) (u y) := by
  unfold k0_pay4 slope logi k0_pay3 k0_pay2 k0_pay1
  pointwise
  simp only [zero_sub]

/-- An element of the tile of the up product's gradient. -/
theorem pay5 (a : FVec Ideal S1024x2048 .bf16) (w : FVec Ideal S512x2048 .bf16) (g : FVec Ideal S1024x512 .bf16) (y : S1024x512.Idx) :
    (k0_pay5 (F := Ideal) a w g y : EReal) = (∑ k : Fin 2048, a (ix2 (y 0 : Fin 1024) k) * w (ix2 (y 1 : Fin 512) k)) * (g y * logi (g y)) := by
  unfold k0_pay5 logi k0_pay3 k0_pay2 k0_pay1
  pointwise
  simp only [zero_sub]

/-- After the run the kernel's first result is the gradient of the gate product. -/
theorem final4 : (dats m 0 c).arrAt 4 cfg0.N = Gg (arr m c main_arg0) (arr m c main_arg1) (arr m c main_arg2) (arr m c main_arg3) := by
  refine (dats m 0 c).arrAt_eq_of_covers 4 _ (by decide +kernel) fun t hf y => ?_
  blk_simp
  rw [after0_4]
  frame_out
  refine (pay4 _ _ _ _ y).trans ?_
  unfold Gg prod
  refine congr (congrArg₂ slope (Finset.sum_congr rfl fun k _ => congrArg₂ (· * ·) ?_ ?_) ?_) ?_ <;> blk_point [iblk, V, idx t]

/-- After the run the kernel's second result is the gradient of the up product. -/
theorem final5 : (dats m 0 c).arrAt 5 cfg0.N = Gu (arr m c main_arg0) (arr m c main_arg1) (arr m c main_arg3) := by
  refine (dats m 0 c).arrAt_eq_of_covers 5 _ (by decide +kernel) fun t hf y => ?_
  blk_simp
  rw [after0_5]
  frame_out
  refine (pay5 _ _ _ y).trans ?_
  unfold Gu prod
  refine congrArg₂ (· * ·) (Finset.sum_congr rfl fun k _ => congrArg₂ (· * ·) ?_ ?_) (congrArg (fun x => x * logi x) ?_) <;> blk_point [iblk, V, idx t]

/-- The reference's logistic, an array. -/
def refLogi (g : FVec Ideal S4096x5632 .bf16) : FVec Ideal S4096x5632 .f32 :=
  (Host.divf (broadcastInDim S4096x5632 ![] ReferenceActIdeal.Facts₀.bcast_S_S4096x5632 (constant ReferenceActIdeal.S_ .f32 0x3F800000#32)) (addf (broadcastInDim S4096x5632 ![] ReferenceActIdeal.Facts₀.bcast_S_S4096x5632 (constant ReferenceActIdeal.S_ .f32 0x3F800000#32)) (Host.exp (Host.negf (extf .f32 g bitsLt_bf16_f32)))))

/-- An element of the reference's logistic. -/
theorem refLogi_apply (g : FVec Ideal S4096x5632 .bf16) (y : S4096x5632.Idx) : (refLogi g y : EReal) = logi (g y) := by
  unfold refLogi logi
  pointwise

/-- The reference's product, an array. -/
def refProd (d : FVec Ideal S4096x2048 .bf16) (w : FVec Ideal S5632x2048 .bf16) : FVec Ideal S4096x5632 .f32 :=
  (Host.dotGeneral ReferenceActIdeal.dot_S4096x2048_S5632x2048_S4096x5632_1_1_0_0_n_n none (extf .f32 d bitsLt_bf16_f32) (extf .f32 w bitsLt_bf16_f32))

/-- An element of the reference's product. -/
theorem refProd_apply (d : FVec Ideal S4096x2048 .bf16) (w : FVec Ideal S5632x2048 .bf16) (y : S4096x5632.Idx) : (refProd d w y : EReal) = prod d w y := by
  unfold refProd prod
  pointwise

/-- The reference's first result is the gradient of the gate product, where the elements are real. -/
theorem value (d : FVec Ideal S4096x2048 .bf16) (g u : FVec Ideal S4096x5632 .bf16) (w : FVec Ideal S5632x2048 .bf16)
    (hd : ∀ y, (((d y : EReal).toReal : ℝ) : EReal) = d y) (hg : ∀ y, (((g y : EReal).toReal : ℝ) : EReal) = g y)
    (hu : ∀ y, (((u y : EReal).toReal : ℝ) : EReal) = u y) (hw : ∀ y, (((w y : EReal).toReal : ℝ) : EReal) = w y) :
    (truncf .bf16 (addf (mulf (mulf (refProd d w) (extf .f32 u bitsLt_bf16_f32)) (refLogi g)) (mulf (mulf (extf .f32 g bitsLt_bf16_f32) (mulf (refProd d w) (extf .f32 u bitsLt_bf16_f32))) (mulf (refLogi g)
      (subf (broadcastInDim S4096x5632 ![] ReferenceActIdeal.Facts₀.bcast_S_S4096x5632 (constant ReferenceActIdeal.S_ .f32 0x3F800000#32)) (refLogi g))))) bitsLt_bf16_f32 : FVec Ideal S4096x5632 .bf16) = Gg d g u w := by
  funext y
  have e := refLogi_apply g y
  have e' := refProd_apply d w y
  generalize refLogi g = l at e ⊢
  generalize refProd d w = q at e' ⊢
  unfold Gg
  pointwise
  obtain ⟨p, hp⟩ := prod_real d w hd hw y
  rw [e, e', hp, ← hg y, ← hu y]
  exact slope_real p _ _

/-- The reference's second result is the gradient of the up product. -/
theorem value' (d : FVec Ideal S4096x2048 .bf16) (g : FVec Ideal S4096x5632 .bf16) (w : FVec Ideal S5632x2048 .bf16) :
    (truncf .bf16 (mulf (mulf (extf .f32 g bitsLt_bf16_f32) (refLogi g)) (refProd d w)) bitsLt_bf16_f32 : FVec Ideal S4096x5632 .bf16) = Gu d g w := by
  funext y
  have e := refLogi_apply g y
  have e' := refProd_apply d w y
  generalize refLogi g = l at e ⊢
  generalize refProd d w = q at e' ⊢
  unfold Gu
  pointwise
  rw [e, e', mul_comm]

/-- From equal arguments without infinite elements, the kernel and the reference end with equal results. -/
theorem algebraic : algebraic_KernelActIdeal_ReferenceActIdeal_pre_finite_act (hPre_finite_act := facts) := by
  intro m g m' g' hf he
  refine ⟨fun c => Gg (arr m c main_arg0) (arr m c main_arg1) (arr m c main_arg2) (arr m c main_arg3), fun c => Gu (arr m c main_arg0) (arr m c main_arg1) (arr m c main_arg3), ?_, ?_⟩
  · exact (θ_run defs _ _).mono (fun r h c => ⟨(h c).1.trans (final4 m c), (h c).2.1.trans (final5 m c), (h c).2.2⟩)
      (KernelActIdeal.Value.run_blocks m g)
  · refine (θ_run _ _ _).mono (fun r h c => ⟨(h c).1.trans ?_, (h c).2.1.trans ?_, (h c).2.2⟩)
      (ReferenceActIdeal.Value.run m' g')
    · rw [(he c).1, (he c).2.1, (he c).2.2.1, (he c).2.2.2]
      exact value _ _ _ _ (fun y => Cert.Att.real_of_abs _ (congrFun (hf c).1 y)) (fun y => Cert.Att.real_of_abs _ (congrFun (hf c).2.1 y))
        (fun y => Cert.Att.real_of_abs _ (congrFun (hf c).2.2.1 y)) (fun y => Cert.Att.real_of_abs _ (congrFun (hf c).2.2.2 y))
    · rw [(he c).1, (he c).2.1, (he c).2.2.2]
      exact value' _ _ _

end Cert.Products.Act
end
-- ==== Proof.Products.Win.lean ====
module

public import proofs.«01_k».proof.Proof.Products.Split
public import proofs.«01_k».proof.Proof.Gen.KernelWinIdeal.Value
public import proofs.«01_k».proof.Proof.Gen.ReferenceWinIdeal.Run
public import Idealize.ShloMosaic.Lib.Pipeline.ValueKit

/-! The gradient of the first projection's weights. -/

@[expose] public section

set_option maxRecDepth 16384

noncomputable section

namespace Cert.Products.Win

open Idealize.ShloMosaic TcCoe Tactic
open KernelWinIdeal KernelWinIdeal.Gen

variable (m : (ℓ : Loc nD τ sig) → Buf (Elt Ideal) ℓ) (c : Dev nD)

/-- The blocks that each window takes at the grid's points. -/
theorem idx : ∀ t : Fin cfg0.N, (cfg0.win 0).index t = ![0, t.val / 14] ∧ (cfg0.win 1).index t = ![0, t.val % 14]
    ∧ (cfg0.win 2).index t = ![t.val / 14, t.val % 14] := by
  decide +kernel

/-- The result, an element as a sum over the whole contraction. -/
def G (h : S4096x2048.Idx → EReal) (z : S4096x10752.Idx → EReal) (y : S2048x10752.Idx) : EReal :=
  ∑ k : Fin 4096, h (ix2 k (y 0 : Fin 2048)) * z (ix2 k (y 1 : Fin 10752))

/-- After the run the kernel's result is that array. -/
theorem final : (dats m 0 c).arrAt 2 cfg0.N = G (arr m c main_arg0) (arr m c main_arg1) := by
  refine (dats m 0 c).arrAt_eq_of_covers 2 _ (by decide +kernel) fun t hf y => ?_
  blk_simp
  rw [after0_2]
  frame_out
  unfold G
  pointwise
  blk_point [iblk, V, idx t]

/-- The reference's result is that array. -/
theorem value (h : FVec Ideal S4096x2048 .bf16) (z : FVec Ideal S4096x10752 .bf16) :
    (truncf .bf16 (transpose S2048x10752 [1, 0] (Host.dotGeneral ReferenceWinIdeal.dot_S4096x10752_S4096x2048_S10752x2048_0_0_1_1_n_n none
      (extf .f32 z bitsLt_bf16_f32) (extf .f32 h bitsLt_bf16_f32))
      ReferenceWinIdeal.Facts₀.transposes_S10752x2048_S2048x10752_1_0) bitsLt_bf16_f32 : FVec Ideal S2048x10752 .bf16) = G h z := by
  funext y
  unfold G
  pointwise
  exact Finset.sum_congr rfl fun k _ => mul_comm _ _

/-- From equal arguments, the kernel and the reference end with equal results. -/
theorem algebraic : algebraic_KernelWinIdeal_ReferenceWinIdeal := by
  intro m g m' g' _ he
  refine ⟨fun c => G (arr m c main_arg0) (arr m c main_arg1), ?_, ?_⟩
  · exact (θ_run defs _ _).mono (fun r h c => ⟨(h c).1.trans (final m c), (h c).2⟩)
      (KernelWinIdeal.Value.run_blocks m g)
  · refine (θ_run _ _ _).mono (fun r h c => ⟨(h c).1.trans ?_, (h c).2⟩)
      (ReferenceWinIdeal.Value.run m' g')
    rw [(he c).1, (he c).2]
    exact value _ _

end Cert.Products.Win
end
-- ==== Proof.Products.Down.lean ====
module

public import proofs.«01_k».proof.Proof.Gen.KernelDownIdeal.Value
public import proofs.«01_k».proof.Proof.Gen.ReferenceDownIdeal.Run
public import Idealize.ShloMosaic.Lib.Pipeline.ValueKit
public import proofs.«01_k».proof.Proof.Products.Split

/-! The gradient of the feed-forward's last weights: a product summed in two halves of the tokens. -/

@[expose] public section

set_option maxRecDepth 16384

noncomputable section

namespace Cert.Products.Down

open Idealize.ShloMosaic TcCoe Tactic
open KernelDownIdeal KernelDownIdeal.Gen

variable (m : (ℓ : Loc nD τ sig) → Buf (Elt Ideal) ℓ) (c : Dev nD)

/-- The blocks that each window takes at the grid's points. -/
theorem idx : ∀ t : Fin cfg0.N, (cfg0.win 0).index t = ![t.val % 2, t.val / 2] ∧ (cfg0.win 1).index t = ![t.val % 2, 0]
    ∧ (cfg0.win 2).index t = ![t.val / 2, 0] := by
  decide +kernel

/-- The result, an element as a sum over the whole contraction. -/
def G (h : S4096x5632.Idx → EReal) (z : S4096x2048.Idx → EReal) (y : S5632x2048.Idx) : EReal :=
  ∑ k : Fin 4096, h (ix2 k (y 0 : Fin 5632)) * z (ix2 k (y 1 : Fin 2048))

/-- An element of the tile that the last step writes is the sum of the steps' products there. -/
theorem pay (v w : FVec Ideal S2048x512 .bf16) (u z : FVec Ideal S2048x2048 .bf16) (y : S512x2048.Idx) :
    k0_pay3 (k0_pay2 (k0_pay1 v u) w z) y
      = ∑ k : Fin 2048, v (ix2 k (y 0 : Fin 512)) * u (ix2 k (y 1 : Fin 2048)) + ∑ k : Fin 2048, w (ix2 k (y 0 : Fin 512)) * z (ix2 k (y 1 : Fin 2048)) := by
  unfold k0_pay3 k0_pay2 k0_pay1
  pointwise

/-- After the run the kernel's result is that array. -/
theorem final : (dats m 0 c).arrAt 2 cfg0.N = G (arr m c main_arg0) (arr m c main_arg1) := by
  refine (dats m 0 c).arrAt_eq_of_covers 2 _ (by decide +kernel) fun t hf y => ?_
  have hm : t.val % 2 = 1 := (flush0_2 t).mp hf
  have h' : t.val - 1 < cfg0.N := Nat.lt_of_le_of_lt (Nat.sub_le _ _) t.isLt
  blk_simp
  rw [after0_2, outsAt0_B m c t (by omega) hm hm]
  frame_out
  rw [outsAt0_A m c ⟨t.val - 1, h'⟩ (by show (t.val - 1) % 2 = 0; omega) (by show ¬(t.val - 1) % 2 = 1; omega) (by show ¬(t.val - 1) % 2 = 1; omega)]
  frame_out
  rw [(Memref.isWhole_whole _).read_unread]
  refine (pay _ _ _ _ _).trans ?_
  unfold G
  exact sum2 rfl (fun k hk => by blk_point [iblk, V, idx t, idx ⟨t.val - 1, h'⟩]) (fun k hk => by blk_point [iblk, V, idx t, idx ⟨t.val - 1, h'⟩])

/-- The reference's result is that array. -/
theorem value (h : FVec Ideal S4096x5632 .bf16) (z : FVec Ideal S4096x2048 .bf16) :
    (truncf .bf16 (transpose S5632x2048 [1, 0] (Host.dotGeneral ReferenceDownIdeal.dot_S4096x2048_S4096x5632_S2048x5632_0_0_1_1_n_n none
      (extf .f32 z bitsLt_bf16_f32) (extf .f32 h bitsLt_bf16_f32))
      ReferenceDownIdeal.Facts₀.transposes_S2048x5632_S5632x2048_1_0) bitsLt_bf16_f32 : FVec Ideal S5632x2048 .bf16) = G h z := by
  funext y
  unfold G
  pointwise
  exact Finset.sum_congr rfl fun k _ => mul_comm _ _

/-- From equal arguments, the kernel and the reference end with equal results. -/
theorem algebraic : algebraic_KernelDownIdeal_ReferenceDownIdeal := by
  intro m g m' g' _ he
  refine ⟨fun c => G (arr m c main_arg0) (arr m c main_arg1), ?_, ?_⟩
  · exact (θ_run defs _ _).mono (fun r h c => ⟨(h c).1.trans (final m c), (h c).2⟩)
      (KernelDownIdeal.Value.run_blocks m g)
  · refine (θ_run _ _ _).mono (fun r h c => ⟨(h c).1.trans ?_, (h c).2⟩)
      (ReferenceDownIdeal.Value.run m' g')
    rw [(he c).1, (he c).2]
    exact value _ _

end Cert.Products.Down
end
-- ==== Proof.Products.Gate.lean ====
module

public import proofs.«01_k».proof.Proof.Gen.KernelGateIdeal.Value
public import proofs.«01_k».proof.Proof.Gen.ReferenceGateIdeal.Run
public import proofs.«01_k».proof.Proof.Products.Split

/-! The gradient of the feed-forward's first weights: a product summed in two halves of the tokens. -/

@[expose] public section

set_option maxRecDepth 16384

noncomputable section

namespace Cert.Products.Gate

open Idealize.ShloMosaic TcCoe Tactic
open KernelGateIdeal KernelGateIdeal.Gen

variable (m : (ℓ : Loc nD τ sig) → Buf (Elt Ideal) ℓ) (c : Dev nD)

/-- The blocks that each window takes at the grid's points. -/
theorem idx : ∀ t : Fin cfg0.N, (cfg0.win 0).index t = ![t.val % 2, 0] ∧ (cfg0.win 1).index t = ![t.val % 2, t.val / 2] ∧ (cfg0.win 2).index t = ![0, t.val / 2] := by
  decide +kernel

/-- The result, an element as a sum over the whole contraction. -/
def G (a : S4096x2048.Idx → EReal) (b : S4096x5632.Idx → EReal) (y : S2048x5632.Idx) : EReal :=
  ∑ k : Fin 4096, a (ix2 k (y 0 : Fin 2048)) * b (ix2 k (y 1 : Fin 5632))

/-- An element of the tile that the last step writes is the sum of the steps' products there. -/
theorem pay (a0 : FVec Ideal S2048x2048 .bf16) (b0 : FVec Ideal S2048x512 .bf16) (a1 : FVec Ideal S2048x2048 .bf16) (b1 : FVec Ideal S2048x512 .bf16) (y : S2048x512.Idx) :
    k0_pay3 (k0_pay2 (k0_pay1 a0 b0) a1 b1) y
      = (∑ k : Fin 2048, a0 (ix2 k (y 0 : Fin 2048)) * b0 (ix2 k (y 1 : Fin 512))) + (∑ k : Fin 2048, a1 (ix2 k (y 0 : Fin 2048)) * b1 (ix2 k (y 1 : Fin 512))) := by
  unfold k0_pay3 k0_pay2 k0_pay1
  pointwise

/-- At the first step over the contraction the accumulator holds the step's product alone. -/
theorem start (t : Fin cfg0.N) (h : t.val % 2 = 0) :
    (outsAt0 m c t.val t.isLt).2 = k0_pay1 (iblk m c 0 t) (iblk m c 1 t) := by
  rw [outsAt0_A m c t h (by omega) (by omega)]
  frame_out

/-- After the run the kernel's result is that array. -/
theorem final : (dats m 0 c).arrAt 2 cfg0.N = G (arr m c main_arg0) (arr m c main_arg1) := by
  refine (dats m 0 c).arrAt_eq_of_covers 2 _ (by decide +kernel) fun t hf y => ?_
  have hm : t.val % 2 = 1 := (flush0_2 t).mp hf
  have h1 : t.val - 1 < cfg0.N := Nat.lt_of_le_of_lt (Nat.sub_le _ _) t.isLt
  blk_simp
  rw [after0_2, outsAt0_B m c t (by omega) (by omega) hm]
  frame_out
  rw [(Memref.isWhole_whole _).read_unread]
  rw [show (outsAt0 m c (t.val - 1) _).2 = _ from start m c ⟨t.val - 1, h1⟩ (by show (t.val - 1) % 2 = 0; omega)]
  refine (pay _ _ _ _ y).trans ?_
  unfold G
  exact sum2 rfl (fun k hk => by blk_point [iblk, V, idx ⟨t.val - 1, h1⟩, idx t]) (fun k hk => by blk_point [iblk, V, idx t])

/-- The reference's result is that array. -/
theorem value (a : FVec Ideal S4096x2048 .bf16) (b : FVec Ideal S4096x5632 .bf16) :
    (truncf .bf16 (transpose S2048x5632 [1, 0] (Host.dotGeneral ReferenceGateIdeal.dot_S4096x5632_S4096x2048_S5632x2048_0_0_1_1_n_n none (extf .f32 b bitsLt_bf16_f32) (extf .f32 a bitsLt_bf16_f32)) ReferenceGateIdeal.Facts₀.transposes_S5632x2048_S2048x5632_1_0) bitsLt_bf16_f32 : FVec Ideal S2048x5632 .bf16) = G a b := by
  funext y
  unfold G
  pointwise
  exact Finset.sum_congr rfl fun k _ => mul_comm _ _

/-- From equal arguments, the kernel and the reference end with equal results. -/
theorem algebraic : algebraic_KernelGateIdeal_ReferenceGateIdeal := by
  intro m g m' g' _ he
  refine ⟨fun c => G (arr m c main_arg0) (arr m c main_arg1), ?_, ?_⟩
  · exact (θ_run defs _ _).mono (fun r h c => ⟨(h c).1.trans (final m c), (h c).2⟩)
      (KernelGateIdeal.Value.run_blocks m g)
  · refine (θ_run _ _ _).mono (fun r h c => ⟨(h c).1.trans ?_, (h c).2⟩)
      (ReferenceGateIdeal.Value.run m' g')
    rw [(he c).1, (he c).2]
    exact value _ _

end Cert.Products.Gate
end
-- ==== Proof.Products.In.lean ====
module

public import proofs.«01_k».proof.Proof.Gen.KernelInIdeal.Value
public import proofs.«01_k».proof.Proof.Gen.ReferenceInIdeal.Run
public import proofs.«01_k».proof.Proof.Products.Split

/-! The first projection. -/

@[expose] public section

set_option maxRecDepth 16384

noncomputable section

namespace Cert.Products.In

open Idealize.ShloMosaic TcCoe Tactic
open KernelInIdeal KernelInIdeal.Gen

variable (m : (ℓ : Loc nD τ sig) → Buf (Elt Ideal) ℓ) (c : Dev nD)

/-- The blocks that each window takes at the grid's points. -/
theorem idx : ∀ t : Fin cfg0.N, (cfg0.win 0).index t = ![t.val / 14, 0] ∧ (cfg0.win 1).index t = ![0, t.val % 14] ∧ (cfg0.win 2).index t = ![t.val / 14, t.val % 14] := by
  decide +kernel

/-- The result, an element as a sum over the whole contraction. -/
def G (a : S4096x2048.Idx → EReal) (b : S2048x10752.Idx → EReal) (y : S4096x10752.Idx) : EReal :=
  ∑ k : Fin 2048, a (ix2 (y 0 : Fin 4096) k) * b (ix2 k (y 1 : Fin 10752))

/-- After the run the kernel's result is that array. -/
theorem final : (dats m 0 c).arrAt 2 cfg0.N = G (arr m c main_arg0) (arr m c main_arg1) := by
  refine (dats m 0 c).arrAt_eq_of_covers 2 _ (by decide +kernel) fun t hf y => ?_
  blk_simp
  rw [after0_2]
  frame_out
  unfold G
  pointwise
  blk_point [iblk, V, idx t]

/-- The reference's result is that array. -/
theorem value (a : FVec Ideal S4096x2048 .bf16) (b : FVec Ideal S2048x10752 .bf16) :
    (Host.dotGeneral ReferenceInIdeal.dot_S4096x2048_S2048x10752_S4096x10752_1_0_0_1_n_n none (extf .f32 a ReferenceInIdeal.Facts₀.bitsLt_bf16_f32) (extf .f32 b ReferenceInIdeal.Facts₀.bitsLt_bf16_f32) : FVec Ideal S4096x10752 .f32) = G a b := by
  funext y
  unfold G
  pointwise

/-- From equal arguments, the kernel and the reference end with equal results. -/
theorem algebraic : algebraic_KernelInIdeal_ReferenceInIdeal := by
  intro m g m' g' _ he
  refine ⟨fun c => G (arr m c main_arg0) (arr m c main_arg1), ?_, ?_⟩
  · exact (θ_run defs _ _).mono (fun r h c => ⟨(h c).1.trans (final m c), (h c).2⟩)
      (KernelInIdeal.Value.run_blocks m g)
  · refine (θ_run _ _ _).mono (fun r h c => ⟨(h c).1.trans ?_, (h c).2⟩)
      (ReferenceInIdeal.Value.run m' g')
    rw [(he c).1, (he c).2]
    exact value _ _

end Cert.Products.In
end
-- ==== Proof.Products.Swiglu.lean ====
module

public import proofs.«01_k».proof.Proof.Gen.KernelSwigluIdeal.Value
public import proofs.«01_k».proof.Proof.Gen.ReferenceSwigluIdeal.Run
public import proofs.«01_k».proof.Proof.Products.Split
public import proofs.«01_k».proof.Proof.Value.Scalar

/-! The feed-forward's two first products and the gated product of them. -/

@[expose] public section

set_option maxRecDepth 16384

noncomputable section

namespace Cert.Products.Swiglu

open Idealize.ShloMosaic TcCoe Tactic
open KernelSwigluIdeal KernelSwigluIdeal.Gen

variable (m : (ℓ : Loc nD τ sig) → Buf (Elt Ideal) ℓ) (c : Dev nD)

/-- The blocks that each window takes at the grid's points. -/
theorem idx : ∀ t : Fin cfg0.N, (cfg0.win 0).index t = ![t.val / 11, 0] ∧ (cfg0.win 1).index t = ![0, t.val % 11] ∧ (cfg0.win 2).index t = ![t.val / 11, 0] ∧ (cfg0.win 3).index t = ![0, t.val % 11] ∧ (cfg0.win 4).index t = ![t.val / 11, t.val % 11] ∧ (cfg0.win 5).index t = ![t.val / 11, t.val % 11] ∧ (cfg0.win 6).index t = ![t.val / 11, t.val % 11] := by
  decide +kernel

/-- The product, an element as a sum over the whole contraction. -/
def prod (h : S4096x2048.Idx → EReal) (b : S2048x5632.Idx → EReal) (y : S4096x5632.Idx) : EReal :=
  ∑ k : Fin 2048, h (ix2 (y 0 : Fin 4096) k) * b (ix2 k (y 1 : Fin 5632))

/-- The product of `a` by its logistic and by `b`. -/
def gated (a b : EReal) : EReal := a * Ideal.div 1 (1 + Ideal.exp (-a)) * b

/-- The gated product: the logistic-weighted first product by the second. -/
def act (h : S4096x2048.Idx → EReal) (a b : S2048x5632.Idx → EReal) (y : S4096x5632.Idx) : EReal :=
  gated (prod h a y) (prod h b y)

/-- After the run the first result is the gate product. -/
theorem final4 : (dats m 0 c).arrAt 4 cfg0.N = prod (arr m c main_arg0) (arr m c main_arg1) := by
  refine (dats m 0 c).arrAt_eq_of_covers 4 _ (by decide +kernel) fun t hf y => ?_
  blk_simp
  rw [after0_4]
  frame_out
  unfold prod
  pointwise
  blk_point [iblk, V, idx t]

/-- After the run the second result is the up product. -/
theorem final5 : (dats m 0 c).arrAt 5 cfg0.N = prod (arr m c main_arg0) (arr m c main_arg2) := by
  refine (dats m 0 c).arrAt_eq_of_covers 5 _ (by decide +kernel) fun t hf y => ?_
  blk_simp
  rw [after0_5]
  frame_out
  unfold prod
  pointwise
  blk_point [iblk, V, idx t]

/-- An element of the tile of the gated product, from those of the two products. -/
theorem pay (a b : FVec Ideal S1024x2048 .bf16) (u v : FVec Ideal S2048x512 .bf16) (y : S1024x512.Idx) :
    (k0_pay5 (F := Ideal) a u b v y : EReal) = gated (k0_pay3 (F := Ideal) a u y) (k0_pay4 (F := Ideal) b v y) := by
  unfold k0_pay5 gated k0_pay3 k0_pay4 k0_pay1 k0_pay2
  pointwise
  rw [zero_sub]

/-- The reference's products are those arrays. -/
theorem value (h : FVec Ideal S4096x2048 .bf16) (a : FVec Ideal S2048x5632 .bf16) :
    (truncf .bf16 (Host.dotGeneral ReferenceSwigluIdeal.dot_S4096x2048_S2048x5632_S4096x5632_1_0_0_1_n_n none (extf .f32 h bitsLt_bf16_f32) (extf .f32 a bitsLt_bf16_f32)) bitsLt_bf16_f32 : FVec Ideal S4096x5632 .bf16) = prod h a := by
  funext y
  unfold prod
  pointwise

/-- The reference's third result is the gated product. -/
theorem value' (h : FVec Ideal S4096x2048 .bf16) (a b : FVec Ideal S2048x5632 .bf16) :
    (truncf .bf16 (mulf (mulf (Host.dotGeneral ReferenceSwigluIdeal.dot_S4096x2048_S2048x5632_S4096x5632_1_0_0_1_n_n none (extf .f32 h bitsLt_bf16_f32) (extf .f32 a bitsLt_bf16_f32)) (Host.divf (broadcastInDim S4096x5632 ![] ReferenceSwigluIdeal.Facts₀.bcast_S_S4096x5632 (constant ReferenceSwigluIdeal.S_ .f32 0x3F800000#32)) (addf (broadcastInDim S4096x5632 ![] ReferenceSwigluIdeal.Facts₀.bcast_S_S4096x5632 (constant ReferenceSwigluIdeal.S_ .f32 0x3F800000#32)) (Host.exp (Host.negf (Host.dotGeneral ReferenceSwigluIdeal.dot_S4096x2048_S2048x5632_S4096x5632_1_0_0_1_n_n none (extf .f32 h bitsLt_bf16_f32) (extf .f32 a bitsLt_bf16_f32))))))) (Host.dotGeneral ReferenceSwigluIdeal.dot_S4096x2048_S2048x5632_S4096x5632_1_0_0_1_n_n none (extf .f32 h bitsLt_bf16_f32) (extf .f32 b bitsLt_bf16_f32))) bitsLt_bf16_f32 : FVec Ideal S4096x5632 .bf16) = act h a b := by
  funext y
  unfold act gated prod
  pointwise

/-- After the run the third result is the gated product. -/
theorem final6 : (dats m 0 c).arrAt 6 cfg0.N = act (arr m c main_arg0) (arr m c main_arg1) (arr m c main_arg2) := by
  refine (dats m 0 c).arrAt_eq_of_covers 6 _ (by decide +kernel) fun t hf y => ?_
  blk_simp
  rw [after0_6]
  frame_out
  refine (pay _ _ _ _ y).trans ?_
  unfold act
  refine congrArg₂ gated ?_ ?_ <;> (unfold prod; pointwise; blk_point [iblk, V, idx t])

/-- From equal arguments, the kernel and the reference end with equal results. -/
theorem algebraic : algebraic_KernelSwigluIdeal_ReferenceSwigluIdeal := by
  intro m g m' g' _ he
  refine ⟨fun c => prod (arr m c main_arg0) (arr m c main_arg1), fun c => prod (arr m c main_arg0) (arr m c main_arg2), fun c => act (arr m c main_arg0) (arr m c main_arg1) (arr m c main_arg2), ?_, ?_⟩
  · exact (θ_run defs _ _).mono (fun r h c => ⟨(h c).1.trans (final4 m c), (h c).2.1.trans (final5 m c), (h c).2.2.1.trans (final6 m c), (h c).2.2.2⟩)
      (KernelSwigluIdeal.Value.run_blocks m g)
  · refine (θ_run _ _ _).mono (fun r h c => ⟨(h c).1.trans ?_, (h c).2.1.trans ?_, (h c).2.2.1.trans ?_, (h c).2.2.2⟩)
      (ReferenceSwigluIdeal.Value.run m' g')
    · rw [(he c).1, (he c).2.1]
      exact value _ _
    · rw [(he c).1, (he c).2.2]
      exact value _ _
    · rw [(he c).1, (he c).2.1, (he c).2.2]
      exact value' _ _ _

end Cert.Products.Swiglu
end
-- ==== Proof.Products.Out.lean ====
module

public import proofs.«01_k».proof.Proof.Gen.KernelOutIdeal.Value
public import proofs.«01_k».proof.Proof.Gen.ReferenceOutIdeal.Run
public import proofs.«01_k».proof.Proof.Products.Split

/-! The feed-forward's last product, in four stretches of its width, added to the residual stream. -/

@[expose] public section

set_option maxRecDepth 16384

noncomputable section

namespace Cert.Products.Out

open Idealize.ShloMosaic TcCoe Tactic
open KernelOutIdeal KernelOutIdeal.Gen

variable (m : (ℓ : Loc nD τ sig) → Buf (Elt Ideal) ℓ) (c : Dev nD)

/-- The blocks that each window takes at the grid's points. -/
theorem idx : ∀ t : Fin cfg0.N, (cfg0.win 0).index t = ![t.val / 8, t.val % 4] ∧ (cfg0.win 1).index t = ![t.val % 4, t.val / 4 % 2] ∧ (cfg0.win 2).index t = ![t.val / 8, t.val / 4 % 2] ∧ (cfg0.win 3).index t = ![t.val / 8, t.val / 4 % 2] := by
  decide +kernel

/-- The result, an element as a sum over the whole contraction. -/
def G (a : S4096x5632.Idx → EReal) (b : S5632x2048.Idx → EReal) (x : S4096x2048.Idx → EReal) (y : S4096x2048.Idx) : EReal :=
  x (ix2 (y 0 : Fin 4096) (y 1 : Fin 2048)) + ∑ k : Fin 5632, a (ix2 (y 0 : Fin 4096) k) * b (ix2 k (y 1 : Fin 2048))

/-- An element of the tile that the last step writes is the sum of the steps' products there. -/
theorem pay (a0 : FVec Ideal S1024x1408 .bf16) (b0 : FVec Ideal S1408x1024 .bf16) (a1 : FVec Ideal S1024x1408 .bf16) (b1 : FVec Ideal S1408x1024 .bf16) (a2 : FVec Ideal S1024x1408 .bf16) (b2 : FVec Ideal S1408x1024 .bf16) (a3 : FVec Ideal S1024x1408 .bf16) (b3 : FVec Ideal S1408x1024 .bf16) (z : FVec Ideal S1024x1024 .f32) (y : S1024x1024.Idx) :
    k0_pay3 (k0_pay2 (k0_pay2 (k0_pay2 (k0_pay1 a0 b0) a1 b1) a2 b2) a3 b3) z y
      = z (ix2 (y 0 : Fin 1024) (y 1 : Fin 1024)) + ((∑ k : Fin 1408, a0 (ix2 (y 0 : Fin 1024) k) * b0 (ix2 k (y 1 : Fin 1024))) + (∑ k : Fin 1408, a1 (ix2 (y 0 : Fin 1024) k) * b1 (ix2 k (y 1 : Fin 1024))) + (∑ k : Fin 1408, a2 (ix2 (y 0 : Fin 1024) k) * b2 (ix2 k (y 1 : Fin 1024))) + (∑ k : Fin 1408, a3 (ix2 (y 0 : Fin 1024) k) * b3 (ix2 k (y 1 : Fin 1024)))) := by
  unfold k0_pay3 k0_pay2 k0_pay1
  pointwise

/-- At the first step over the contraction the accumulator holds the step's product alone. -/
theorem start (t : Fin cfg0.N) (h : t.val % 4 = 0) :
    (outsAt0 m c t.val t.isLt).2 = k0_pay1 (iblk m c 0 t) (iblk m c 1 t) := by
  rw [outsAt0_A m c t h (by omega) (by omega)]
  frame_out

/-- At a further step the accumulator holds what it held and the step's product. -/
theorem step (t : Fin cfg0.N) (h : ¬t.val % 4 = 0) (h' : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h (by omega) h']
  frame_out
  rw [(Memref.isWhole_whole _).read_unread]

/-- After the run the kernel's result is that array. -/
theorem final : (dats m 0 c).arrAt 3 cfg0.N = G (arr m c main_arg0) (arr m c main_arg1) (arr m c main_arg2) := by
  refine (dats m 0 c).arrAt_eq_of_covers 3 _ (by decide +kernel) fun t hf y => ?_
  have hm : t.val % 4 = 3 := (flush0_3 t).mp hf
  have h1 : t.val - 1 < cfg0.N := Nat.lt_of_le_of_lt (Nat.sub_le _ _) t.isLt
  have h2 : t.val - 2 < cfg0.N := Nat.lt_of_le_of_lt (Nat.sub_le _ _) t.isLt
  have h3 : t.val - 3 < cfg0.N := Nat.lt_of_le_of_lt (Nat.sub_le _ _) t.isLt
  blk_simp
  rw [after0_3, outsAt0_C m c t (by omega) (by omega) hm]
  frame_out
  rw [(Memref.isWhole_whole _).read_unread]
  rw [show (outsAt0 m c (t.val - 1) h1).2 = _ from step m c ⟨t.val - 1, h1⟩ (by show ¬(t.val - 1) % 4 = 0; omega) (by show ¬(t.val - 1) % 4 = 3; omega)]
  simp only [Nat.sub_sub]
  rw [show (outsAt0 m c (t.val - 2) h2).2 = _ from step m c ⟨t.val - 2, h2⟩ (by show ¬(t.val - 2) % 4 = 0; omega) (by show ¬(t.val - 2) % 4 = 3; omega)]
  simp only [Nat.sub_sub]
  rw [show (outsAt0 m c (t.val - 3) _).2 = _ from start m c ⟨t.val - 3, h3⟩ (by show (t.val - 3) % 4 = 0; omega)]
  refine (pay _ _ _ _ _ _ _ _ _ y).trans ?_
  unfold G
  refine congrArg₂ (· + ·) (by blk_point [iblk, V, idx t]) ?_
  exact sum4 rfl (fun k hk => by blk_point [iblk, V, idx ⟨t.val - 3, h3⟩, idx t]) (fun k hk => by blk_point [iblk, V, idx ⟨t.val - 2, h2⟩, idx t]) (fun k hk => by blk_point [iblk, V, idx ⟨t.val - 1, h1⟩, idx t]) (fun k hk => by blk_point [iblk, V, idx t])

/-- The reference's result is that array. -/
theorem value (a : FVec Ideal S4096x5632 .bf16) (b : FVec Ideal S5632x2048 .bf16) (x : FVec Ideal S4096x2048 .f32) :
    (addf x (Host.dotGeneral ReferenceOutIdeal.dot_S4096x5632_S5632x2048_S4096x2048_1_0_0_1_n_n none (extf .f32 a ReferenceOutIdeal.Facts₀.bitsLt_bf16_f32) (extf .f32 b ReferenceOutIdeal.Facts₀.bitsLt_bf16_f32)) : FVec Ideal S4096x2048 .f32) = G a b x := by
  funext y
  unfold G
  pointwise

/-- From equal arguments, the kernel and the reference end with equal results. -/
theorem algebraic : algebraic_KernelOutIdeal_ReferenceOutIdeal := by
  intro m g m' g' _ he
  refine ⟨fun c => G (arr m c main_arg0) (arr m c main_arg1) (arr m c main_arg2), ?_, ?_⟩
  · exact (θ_run defs _ _).mono (fun r h c => ⟨(h c).1.trans (final m c), (h c).2⟩)
      (KernelOutIdeal.Value.run_blocks m g)
  · refine (θ_run _ _ _).mono (fun r h c => ⟨(h c).1.trans ?_, (h c).2⟩)
      (ReferenceOutIdeal.Value.run m' g')
    rw [(he c).1, (he c).2.1, (he c).2.2]
    exact value _ _ _

end Cert.Products.Out
end
-- ==== Proof.Products.Dh.lean ====
module

public import proofs.«01_k».proof.Proof.Gen.KernelDhIdeal.Value
public import proofs.«01_k».proof.Proof.Gen.ReferenceDhIdeal.Run
public import proofs.«01_k».proof.Proof.Products.Split

/-! The gradient through the first projection, in three stretches of its width. -/

@[expose] public section

set_option maxRecDepth 16384

noncomputable section

namespace Cert.Products.Dh

open Idealize.ShloMosaic TcCoe Tactic
open KernelDhIdeal KernelDhIdeal.Gen

variable (m : (ℓ : Loc nD τ sig) → Buf (Elt Ideal) ℓ) (c : Dev nD)

/-- The blocks that each window takes at the grid's points. -/
theorem idx : ∀ t : Fin cfg0.N, (cfg0.win 0).index t = ![t.val / 6, t.val % 3] ∧ (cfg0.win 1).index t = ![t.val / 3 % 2, t.val % 3] ∧ (cfg0.win 2).index t = ![t.val / 6, t.val / 3 % 2] := by
  decide +kernel

/-- The result, an element as a sum over the whole contraction. -/
def G (a : S4096x10752.Idx → EReal) (b : S2048x10752.Idx → EReal) (y : S4096x2048.Idx) : EReal :=
  ∑ k : Fin 10752, a (ix2 (y 0 : Fin 4096) k) * b (ix2 (y 1 : Fin 2048) k)

/-- An element of the tile that the last step writes is the sum of the steps' products there. -/
theorem pay (a0 : FVec Ideal S1024x3584 .bf16) (b0 : FVec Ideal S1024x3584 .bf16) (a1 : FVec Ideal S1024x3584 .bf16) (b1 : FVec Ideal S1024x3584 .bf16) (a2 : FVec Ideal S1024x3584 .bf16) (b2 : FVec Ideal S1024x3584 .bf16) (y : S1024x1024.Idx) :
    k0_pay3 (k0_pay2 (k0_pay2 (k0_pay1 a0 b0) a1 b1) a2 b2) y
      = (∑ k : Fin 3584, a0 (ix2 (y 0 : Fin 1024) k) * b0 (ix2 (y 1 : Fin 1024) k)) + (∑ k : Fin 3584, a1 (ix2 (y 0 : Fin 1024) k) * b1 (ix2 (y 1 : Fin 1024) k)) + (∑ k : Fin 3584, a2 (ix2 (y 0 : Fin 1024) k) * b2 (ix2 (y 1 : Fin 1024) k)) := by
  unfold k0_pay3 k0_pay2 k0_pay1
  pointwise

/-- At the first step over the contraction the accumulator holds the step's product alone. -/
theorem start (t : Fin cfg0.N) (h : t.val % 3 = 0) :
    (outsAt0 m c t.val t.isLt).2 = k0_pay1 (iblk m c 0 t) (iblk m c 1 t) := by
  rw [outsAt0_A m c t h (by omega) (by omega)]
  frame_out

/-- At a further step the accumulator holds what it held and the step's product. -/
theorem step (t : Fin cfg0.N) (h : ¬t.val % 3 = 0) (h' : ¬t.val % 3 = 2) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h (by omega) h']
  frame_out
  rw [(Memref.isWhole_whole _).read_unread]

/-- After the run the kernel's result is that array. -/
theorem final : (dats m 0 c).arrAt 2 cfg0.N = G (arr m c main_arg0) (arr m c main_arg1) := by
  refine (dats m 0 c).arrAt_eq_of_covers 2 _ (by decide +kernel) fun t hf y => ?_
  have hm : t.val % 3 = 2 := (flush0_2 t).mp hf
  have h1 : t.val - 1 < cfg0.N := Nat.lt_of_le_of_lt (Nat.sub_le _ _) t.isLt
  have h2 : t.val - 2 < cfg0.N := Nat.lt_of_le_of_lt (Nat.sub_le _ _) t.isLt
  blk_simp
  rw [after0_2, outsAt0_C m c t (by omega) (by omega) hm]
  frame_out
  rw [(Memref.isWhole_whole _).read_unread]
  rw [show (outsAt0 m c (t.val - 1) h1).2 = _ from step m c ⟨t.val - 1, h1⟩ (by show ¬(t.val - 1) % 3 = 0; omega) (by show ¬(t.val - 1) % 3 = 2; omega)]
  simp only [Nat.sub_sub]
  rw [show (outsAt0 m c (t.val - 2) _).2 = _ from start m c ⟨t.val - 2, h2⟩ (by show (t.val - 2) % 3 = 0; omega)]
  refine (pay _ _ _ _ _ _ y).trans ?_
  unfold G
  exact sum3 rfl (fun k hk => by blk_point [iblk, V, idx ⟨t.val - 2, h2⟩, idx t]) (fun k hk => by blk_point [iblk, V, idx ⟨t.val - 1, h1⟩, idx t]) (fun k hk => by blk_point [iblk, V, idx t])

/-- The reference's result is that array. -/
theorem value (a : FVec Ideal S4096x10752 .bf16) (b : FVec Ideal S2048x10752 .bf16) :
    (truncf .bf16 (Host.dotGeneral ReferenceDhIdeal.dot_S4096x10752_S2048x10752_S4096x2048_1_1_0_0_n_n none (extf .f32 a bitsLt_bf16_f32) (extf .f32 b bitsLt_bf16_f32)) bitsLt_bf16_f32 : FVec Ideal S4096x2048 .bf16) = G a b := by
  funext y
  unfold G
  pointwise

/-- From equal arguments, the kernel and the reference end with equal results. -/
theorem algebraic : algebraic_KernelDhIdeal_ReferenceDhIdeal := by
  intro m g m' g' _ he
  refine ⟨fun c => G (arr m c main_arg0) (arr m c main_arg1), ?_, ?_⟩
  · exact (θ_run defs _ _).mono (fun r h c => ⟨(h c).1.trans (final m c), (h c).2⟩)
      (KernelDhIdeal.Value.run_blocks m g)
  · refine (θ_run _ _ _).mono (fun r h c => ⟨(h c).1.trans ?_, (h c).2⟩)
      (ReferenceDhIdeal.Value.run m' g')
    rw [(he c).1, (he c).2]
    exact value _ _

end Cert.Products.Dh
end
-- ==== Proof.Products.Dff.lean ====
module

public import proofs.«01_k».proof.Proof.Gen.KernelDffIdeal.Value
public import proofs.«01_k».proof.Proof.Gen.ReferenceDffIdeal.Run
public import proofs.«01_k».proof.Proof.Products.Split

/-! The gradient through the feed-forward's two first matrices: two products, each in four stretches of the width, and their sum. -/

@[expose] public section

set_option maxRecDepth 16384

noncomputable section

namespace Cert.Products.Dff

open Idealize.ShloMosaic TcCoe Tactic
open KernelDffIdeal KernelDffIdeal.Gen

variable (m : (ℓ : Loc nD τ sig) → Buf (Elt Ideal) ℓ) (c : Dev nD)

/-- The blocks that each window takes at the grid's points. -/
theorem idx : ∀ t : Fin cfg0.N, (cfg0.win 0).index t = ![t.val / 8, t.val % 4] ∧ (cfg0.win 1).index t = ![t.val / 4 % 2, t.val % 4] ∧ (cfg0.win 2).index t = ![t.val / 8, t.val % 4] ∧ (cfg0.win 3).index t = ![t.val / 4 % 2, t.val % 4] ∧ (cfg0.win 4).index t = ![t.val / 8, t.val / 4 % 2] := by
  decide +kernel

/-- The result, an element as a sum over the whole contraction. -/
def G (a a' : S4096x5632.Idx → EReal) (b b' : S2048x5632.Idx → EReal) (y : S4096x2048.Idx) : EReal :=
  (∑ k : Fin 5632, a (ix2 (y 0 : Fin 4096) k) * b (ix2 (y 1 : Fin 2048) k)) +
    ∑ k : Fin 5632, a' (ix2 (y 0 : Fin 4096) k) * b' (ix2 (y 1 : Fin 2048) k)

/-- An element of the tile that is written is the sum of the two accumulators there. -/
theorem pay (z w : FVec Ideal S1024x1024 .f32) (y : S1024x1024.Idx) : (k0_pay5 (F := Ideal) z w y : EReal) = z y + w y := by
  unfold k0_pay5
  pointwise

/-- An element of the first accumulator after its four steps is the sum of the steps' products. -/
theorem sum (a0 b0 : FVec Ideal S1024x1408 .bf16) (a1 b1 : FVec Ideal S1024x1408 .bf16) (a2 b2 : FVec Ideal S1024x1408 .bf16) (a3 b3 : FVec Ideal S1024x1408 .bf16) (y : S1024x1024.Idx) :
    (k0_pay3 (F := Ideal) (k0_pay3 (F := Ideal) (k0_pay3 (F := Ideal) (k0_pay1 (F := Ideal) a0 b0) a1 b1) a2 b2) a3 b3 y : EReal)
      = (∑ k : Fin 1408, a0 (ix2 (y 0 : Fin 1024) k) * b0 (ix2 (y 1 : Fin 1024) k))
        + (∑ k : Fin 1408, a1 (ix2 (y 0 : Fin 1024) k) * b1 (ix2 (y 1 : Fin 1024) k))
        + (∑ k : Fin 1408, a2 (ix2 (y 0 : Fin 1024) k) * b2 (ix2 (y 1 : Fin 1024) k))
        + (∑ k : Fin 1408, a3 (ix2 (y 0 : Fin 1024) k) * b3 (ix2 (y 1 : Fin 1024) k)) := by
  unfold k0_pay3 k0_pay1
  pointwise

/-- An element of the second accumulator after its four steps is the sum of the steps' products. -/
theorem sum' (a0 b0 : FVec Ideal S1024x1408 .bf16) (a1 b1 : FVec Ideal S1024x1408 .bf16) (a2 b2 : FVec Ideal S1024x1408 .bf16) (a3 b3 : FVec Ideal S1024x1408 .bf16) (y : S1024x1024.Idx) :
    (k0_pay4 (F := Ideal) (k0_pay4 (F := Ideal) (k0_pay4 (F := Ideal) (k0_pay2 (F := Ideal) a0 b0) a1 b1) a2 b2) a3 b3 y : EReal)
      = (∑ k : Fin 1408, a0 (ix2 (y 0 : Fin 1024) k) * b0 (ix2 (y 1 : Fin 1024) k))
        + (∑ k : Fin 1408, a1 (ix2 (y 0 : Fin 1024) k) * b1 (ix2 (y 1 : Fin 1024) k))
        + (∑ k : Fin 1408, a2 (ix2 (y 0 : Fin 1024) k) * b2 (ix2 (y 1 : Fin 1024) k))
        + (∑ k : Fin 1408, a3 (ix2 (y 0 : Fin 1024) k) * b3 (ix2 (y 1 : Fin 1024) k)) := by
  unfold k0_pay4 k0_pay2
  pointwise

/-- At the first step over the contraction each accumulator holds the step's product alone. -/
theorem start (t : Fin cfg0.N) (h : t.val % 4 = 0) :
    (outsAt0 m c t.val t.isLt).2 = (k0_pay1 (iblk m c 0 t) (iblk m c 1 t), k0_pay2 (iblk m c 2 t) (iblk m c 3 t)) := by
  rw [outsAt0_A m c t h (by omega) (by omega)]
  frame_out

/-- At a further step each accumulator holds what it held and the step's product. -/
theorem step (t : Fin cfg0.N) (h : ¬t.val % 4 = 0) (h' : ¬t.val % 4 = 3) :
    (outsAt0 m c t.val t.isLt).2 =
      (k0_pay3 (outsAt0 m c (t.val - 1) (Nat.lt_of_le_of_lt (Nat.sub_le _ _) t.isLt)).2.1 (iblk m c 0 t) (iblk m c 1 t),
        k0_pay4 (outsAt0 m c (t.val - 1) (Nat.lt_of_le_of_lt (Nat.sub_le _ _) t.isLt)).2.2 (iblk m c 2 t) (iblk m c 3 t)) := by
  rw [outsAt0_B m c t h (by omega) h']
  frame_out
  rw [(Memref.isWhole_whole _).read_unread, (Memref.isWhole_whole _).read_unread]

/-- After the run the kernel's result is that array. -/
theorem final : (dats m 0 c).arrAt 4 cfg0.N = G (arr m c main_arg0) (arr m c main_arg1) (arr m c main_arg2) (arr m c main_arg3) := by
  refine (dats m 0 c).arrAt_eq_of_covers 4 _ (by decide +kernel) fun t hf y => ?_
  have hm : t.val % 4 = 3 := (flush0_4 t).mp hf
  have h1 : t.val - 1 < cfg0.N := Nat.lt_of_le_of_lt (Nat.sub_le _ _) t.isLt
  have h2 : t.val - 2 < cfg0.N := Nat.lt_of_le_of_lt (Nat.sub_le _ _) t.isLt
  have h3 : t.val - 3 < cfg0.N := Nat.lt_of_le_of_lt (Nat.sub_le _ _) t.isLt
  blk_simp
  rw [after0_4, outsAt0_C m c t (by omega) (by omega) hm]
  frame_out
  rw [(Memref.isWhole_whole _).read_unread, (Memref.isWhole_whole _).read_unread]
  rw [show (outsAt0 m c (t.val - 1) h1).2 = _ from step m c ⟨t.val - 1, h1⟩ (by show ¬(t.val - 1) % 4 = 0; omega) (by show ¬(t.val - 1) % 4 = 3; omega)]
  simp only [Nat.sub_sub]
  rw [show (outsAt0 m c (t.val - 2) h2).2 = _ from step m c ⟨t.val - 2, h2⟩ (by show ¬(t.val - 2) % 4 = 0; omega) (by show ¬(t.val - 2) % 4 = 3; omega)]
  simp only [Nat.sub_sub]
  rw [show (outsAt0 m c (t.val - 3) _).2 = _ from start m c ⟨t.val - 3, h3⟩ (by show (t.val - 3) % 4 = 0; omega)]
  refine (pay _ _ y).trans ?_
  unfold G
  refine congrArg₂ (· + ·) ((sum _ _ _ _ _ _ _ _ y).trans ?_) ((sum' _ _ _ _ _ _ _ _ y).trans ?_)
  · exact sum4 rfl (fun k hk => by blk_point [iblk, V, idx ⟨t.val - 3, h3⟩, idx t]) (fun k hk => by blk_point [iblk, V, idx ⟨t.val - 2, h2⟩, idx t]) (fun k hk => by blk_point [iblk, V, idx ⟨t.val - 1, h1⟩, idx t]) (fun k hk => by blk_point [iblk, V, idx t])
  · exact sum4 rfl (fun k hk => by blk_point [iblk, V, idx ⟨t.val - 3, h3⟩, idx t]) (fun k hk => by blk_point [iblk, V, idx ⟨t.val - 2, h2⟩, idx t]) (fun k hk => by blk_point [iblk, V, idx ⟨t.val - 1, h1⟩, idx t]) (fun k hk => by blk_point [iblk, V, idx t])

/-- The reference's result is that array. -/
theorem value (a a' : FVec Ideal S4096x5632 .bf16) (b b' : FVec Ideal S2048x5632 .bf16) :
    (truncf .bf16 (addf (Host.dotGeneral ReferenceDffIdeal.dot_S4096x5632_S2048x5632_S4096x2048_1_1_0_0_n_n none (extf .f32 a' bitsLt_bf16_f32) (extf .f32 b' bitsLt_bf16_f32))
      (Host.dotGeneral ReferenceDffIdeal.dot_S4096x5632_S2048x5632_S4096x2048_1_1_0_0_n_n none (extf .f32 a bitsLt_bf16_f32) (extf .f32 b bitsLt_bf16_f32))) bitsLt_bf16_f32 : FVec Ideal S4096x2048 .bf16) = G a a' b b' := by
  funext y
  unfold G
  pointwise
  exact add_comm _ _

/-- From equal arguments, the kernel and the reference end with equal results. -/
theorem algebraic : algebraic_KernelDffIdeal_ReferenceDffIdeal := by
  intro m g m' g' _ he
  refine ⟨fun c => G (arr m c main_arg0) (arr m c main_arg1) (arr m c main_arg2) (arr m c main_arg3), ?_, ?_⟩
  · exact (θ_run defs _ _).mono (fun r h c => ⟨(h c).1.trans (final m c), (h c).2⟩)
      (KernelDffIdeal.Value.run_blocks m g)
  · refine (θ_run _ _ _).mono (fun r h c => ⟨(h c).1.trans ?_, (h c).2⟩)
      (ReferenceDffIdeal.Value.run m' g')
    rw [(he c).1, (he c).2.1, (he c).2.2.1, (he c).2.2.2]
    exact value _ _ _ _

end Cert.Products.Dff
end
-- ==== Proof.Products.Square.lean ====
module

public import proofs.«01_k».proof.Proof.Gen.KernelSquareIdeal.Value
public import proofs.«01_k».proof.Proof.Gen.ReferenceSquareIdeal.Run
public import proofs.«01_k».proof.Proof.Products.Split

/-! The gradient through a square matrix of weights. -/

@[expose] public section

set_option maxRecDepth 16384

noncomputable section

namespace Cert.Products.Square

open Idealize.ShloMosaic TcCoe Tactic
open KernelSquareIdeal KernelSquareIdeal.Gen

variable (m : (ℓ : Loc nD τ sig) → Buf (Elt Ideal) ℓ) (c : Dev nD)

/-- The blocks that each window takes at the grid's points. -/
theorem idx : ∀ t : Fin cfg0.N, (cfg0.win 0).index t = ![t.val / 2, 0] ∧ (cfg0.win 1).index t = ![t.val % 2, 0] ∧ (cfg0.win 2).index t = ![t.val / 2, t.val % 2] := by
  decide +kernel

/-- The result, an element as a sum over the whole contraction. -/
def G (a : S4096x2048.Idx → EReal) (b : S2048x2048.Idx → EReal) (y : S4096x2048.Idx) : EReal :=
  ∑ k : Fin 2048, a (ix2 (y 0 : Fin 4096) k) * b (ix2 (y 1 : Fin 2048) k)

/-- After the run the kernel's result is that array. -/
theorem final : (dats m 0 c).arrAt 2 cfg0.N = G (arr m c main_arg0) (arr m c main_arg1) := by
  refine (dats m 0 c).arrAt_eq_of_covers 2 _ (by decide +kernel) fun t hf y => ?_
  blk_simp
  rw [after0_2]
  frame_out
  unfold G
  pointwise
  blk_point [iblk, V, idx t]

/-- The reference's result is that array. -/
theorem value (a : FVec Ideal S4096x2048 .bf16) (b : FVec Ideal S2048x2048 .bf16) :
    (truncf .bf16 (Host.dotGeneral ReferenceSquareIdeal.dot_S4096x2048_S2048x2048_S4096x2048_1_1_0_0_n_n none (extf .f32 a bitsLt_bf16_f32) (extf .f32 b bitsLt_bf16_f32)) bitsLt_bf16_f32 : FVec Ideal S4096x2048 .bf16) = G a b := by
  funext y
  unfold G
  pointwise

/-- From equal arguments, the kernel and the reference end with equal results. -/
theorem algebraic : algebraic_KernelSquareIdeal_ReferenceSquareIdeal := by
  intro m g m' g' _ he
  refine ⟨fun c => G (arr m c main_arg0) (arr m c main_arg1), ?_, ?_⟩
  · exact (θ_run defs _ _).mono (fun r h c => ⟨(h c).1.trans (final m c), (h c).2⟩)
      (KernelSquareIdeal.Value.run_blocks m g)
  · refine (θ_run _ _ _).mono (fun r h c => ⟨(h c).1.trans ?_, (h c).2⟩)
      (ReferenceSquareIdeal.Value.run m' g')
    rw [(he c).1, (he c).2]
    exact value _ _

end Cert.Products.Square
end
-- ==== Proof.Products.Weight.lean ====
module

public import proofs.«01_k».proof.Proof.Gen.KernelWeightIdeal.Value
public import proofs.«01_k».proof.Proof.Gen.ReferenceWeightIdeal.Run
public import proofs.«01_k».proof.Proof.Products.Split

/-! The gradient of a square matrix of weights: a product summed in two halves of the tokens. -/

@[expose] public section

set_option maxRecDepth 16384

noncomputable section

namespace Cert.Products.Weight

open Idealize.ShloMosaic TcCoe Tactic
open KernelWeightIdeal KernelWeightIdeal.Gen

variable (m : (ℓ : Loc nD τ sig) → Buf (Elt Ideal) ℓ) (c : Dev nD)

/-- The blocks that each window takes at the grid's points. -/
theorem idx : ∀ t : Fin cfg0.N, (cfg0.win 0).index t = ![t.val % 2, t.val / 4] ∧ (cfg0.win 1).index t = ![t.val % 2, t.val / 2 % 2] ∧ (cfg0.win 2).index t = ![t.val / 4, t.val / 2 % 2] := by
  decide +kernel

/-- The result, an element as a sum over the whole contraction. -/
def G (a : S4096x2048.Idx → EReal) (b : S4096x2048.Idx → EReal) (y : S2048x2048.Idx) : EReal :=
  ∑ k : Fin 4096, a (ix2 k (y 0 : Fin 2048)) * b (ix2 k (y 1 : Fin 2048))

/-- An element of the tile that the last step writes is the sum of the steps' products there. -/
theorem pay (a0 : FVec Ideal S2048x1024 .bf16) (b0 : FVec Ideal S2048x1024 .bf16) (a1 : FVec Ideal S2048x1024 .bf16) (b1 : FVec Ideal S2048x1024 .bf16) (y : S1024x1024.Idx) :
    k0_pay3 (k0_pay2 (k0_pay1 a0 b0) a1 b1) y
      = (∑ k : Fin 2048, a0 (ix2 k (y 0 : Fin 1024)) * b0 (ix2 k (y 1 : Fin 1024))) + (∑ k : Fin 2048, a1 (ix2 k (y 0 : Fin 1024)) * b1 (ix2 k (y 1 : Fin 1024))) := by
  unfold k0_pay3 k0_pay2 k0_pay1
  pointwise

/-- At the first step over the contraction the accumulator holds the step's product alone. -/
theorem start (t : Fin cfg0.N) (h : t.val % 2 = 0) :
    (outsAt0 m c t.val t.isLt).2 = k0_pay1 (iblk m c 0 t) (iblk m c 1 t) := by
  rw [outsAt0_A m c t h (by omega) (by omega)]
  frame_out

/-- After the run the kernel's result is that array. -/
theorem final : (dats m 0 c).arrAt 2 cfg0.N = G (arr m c main_arg0) (arr m c main_arg1) := by
  refine (dats m 0 c).arrAt_eq_of_covers 2 _ (by decide +kernel) fun t hf y => ?_
  have hm : t.val % 2 = 1 := (flush0_2 t).mp hf
  have h1 : t.val - 1 < cfg0.N := Nat.lt_of_le_of_lt (Nat.sub_le _ _) t.isLt
  blk_simp
  rw [after0_2, outsAt0_B m c t (by omega) (by omega) hm]
  frame_out
  rw [(Memref.isWhole_whole _).read_unread]
  rw [show (outsAt0 m c (t.val - 1) _).2 = _ from start m c ⟨t.val - 1, h1⟩ (by show (t.val - 1) % 2 = 0; omega)]
  refine (pay _ _ _ _ y).trans ?_
  unfold G
  exact sum2 rfl (fun k hk => by blk_point [iblk, V, idx ⟨t.val - 1, h1⟩, idx t]) (fun k hk => by blk_point [iblk, V, idx t])

/-- The reference's result is that array. -/
theorem value (a : FVec Ideal S4096x2048 .bf16) (b : FVec Ideal S4096x2048 .bf16) :
    (truncf .bf16 (transpose S2048x2048 [1, 0] (Host.dotGeneral ReferenceWeightIdeal.dot_S4096x2048_S4096x2048_S2048x2048_0_0_1_1_n_n none (extf .f32 b bitsLt_bf16_f32) (extf .f32 a bitsLt_bf16_f32)) ReferenceWeightIdeal.Facts₀.transposes_S2048x2048_S2048x2048_1_0) bitsLt_bf16_f32 : FVec Ideal S2048x2048 .bf16) = G a b := by
  funext y
  unfold G
  pointwise
  exact Finset.sum_congr rfl fun k _ => mul_comm _ _

/-- From equal arguments, the kernel and the reference end with equal results. -/
theorem algebraic : algebraic_KernelWeightIdeal_ReferenceWeightIdeal := by
  intro m g m' g' _ he
  refine ⟨fun c => G (arr m c main_arg0) (arr m c main_arg1), ?_, ?_⟩
  · exact (θ_run defs _ _).mono (fun r h c => ⟨(h c).1.trans (final m c), (h c).2⟩)
      (KernelWeightIdeal.Value.run_blocks m g)
  · refine (θ_run _ _ _).mono (fun r h c => ⟨(h c).1.trans ?_, (h c).2⟩)
      (ReferenceWeightIdeal.Value.run m' g')
    rw [(he c).1, (he c).2]
    exact value _ _

end Cert.Products.Weight
end
-- ==== Proof.Products.Residual.lean ====
module

public import proofs.«01_k».proof.Proof.Gen.KernelResidualIdeal.Value
public import proofs.«01_k».proof.Proof.Gen.ReferenceResidualIdeal.Run
public import proofs.«01_k».proof.Proof.Products.Split

/-! The output projection, added to the residual stream. -/

@[expose] public section

set_option maxRecDepth 16384

noncomputable section

namespace Cert.Products.Residual

open Idealize.ShloMosaic TcCoe Tactic
open KernelResidualIdeal KernelResidualIdeal.Gen

variable (m : (ℓ : Loc nD τ sig) → Buf (Elt Ideal) ℓ) (c : Dev nD)

/-- The blocks that each window takes at the grid's points. -/
theorem idx : ∀ t : Fin cfg0.N, (cfg0.win 0).index t = ![t.val / 2, 0] ∧ (cfg0.win 1).index t = ![0, t.val % 2] ∧ (cfg0.win 2).index t = ![t.val / 2, t.val % 2] ∧ (cfg0.win 3).index t = ![t.val / 2, t.val % 2] := by
  decide +kernel

/-- The result, an element as a sum over the whole contraction. -/
def G (a : S4096x2048.Idx → EReal) (b : S2048x2048.Idx → EReal) (x : S4096x2048.Idx → EReal) (y : S4096x2048.Idx) : EReal :=
  x (ix2 (y 0 : Fin 4096) (y 1 : Fin 2048)) + ∑ k : Fin 2048, a (ix2 (y 0 : Fin 4096) k) * b (ix2 k (y 1 : Fin 2048))

/-- After the run the kernel's result is that array. -/
theorem final : (dats m 0 c).arrAt 3 cfg0.N = G (arr m c main_arg0) (arr m c main_arg1) (arr m c main_arg2) := by
  refine (dats m 0 c).arrAt_eq_of_covers 3 _ (by decide +kernel) fun t hf y => ?_
  blk_simp
  rw [after0_3]
  frame_out
  unfold G
  pointwise
  blk_point [iblk, V, idx t]

/-- The reference's result is that array. -/
theorem value (a : FVec Ideal S4096x2048 .bf16) (b : FVec Ideal S2048x2048 .bf16) (x : FVec Ideal S4096x2048 .f32) :
    (addf x (Host.dotGeneral ReferenceResidualIdeal.dot_S4096x2048_S2048x2048_S4096x2048_1_0_0_1_n_n none (extf .f32 a ReferenceResidualIdeal.Facts₀.bitsLt_bf16_f32) (extf .f32 b ReferenceResidualIdeal.Facts₀.bitsLt_bf16_f32)) : FVec Ideal S4096x2048 .f32) = G a b x := by
  funext y
  unfold G
  pointwise

/-- From equal arguments, the kernel and the reference end with equal results. -/
theorem algebraic : algebraic_KernelResidualIdeal_ReferenceResidualIdeal := by
  intro m g m' g' _ he
  refine ⟨fun c => G (arr m c main_arg0) (arr m c main_arg1) (arr m c main_arg2), ?_, ?_⟩
  · exact (θ_run defs _ _).mono (fun r h c => ⟨(h c).1.trans (final m c), (h c).2⟩)
      (KernelResidualIdeal.Value.run_blocks m g)
  · refine (θ_run _ _ _).mono (fun r h c => ⟨(h c).1.trans ?_, (h c).2⟩)
      (ReferenceResidualIdeal.Value.run m' g')
    rw [(he c).1, (he c).2.1, (he c).2.2]
    exact value _ _ _

end Cert.Products.Residual
end
-- ==== Proof.Products.Branches.lean ====
module

public import proofs.«01_k».proof.Proof.Gen.KernelBranchesIdeal.Value
public import proofs.«01_k».proof.Proof.Gen.ReferenceBranchesIdeal.Run
public import proofs.«01_k».proof.Proof.Products.Split
public import proofs.«01_k».proof.Proof.Products.Logistic

/-! The branches' products, and their sum weighted by the logistic gates. -/

@[expose] public section

set_option maxRecDepth 16384

noncomputable section

namespace Cert.Products.Branches

open Idealize.ShloMosaic TcCoe Tactic
open KernelBranchesIdeal KernelBranchesIdeal.Gen

variable (m : (ℓ : Loc nD τ sig) → Buf (Elt Ideal) ℓ) (c : Dev nD)

/-- The blocks that each window takes at the grid's points. -/
theorem idx : ∀ t : Fin cfg0.N, (cfg0.win 0).index t = ![t.val / 4, 0] ∧ (cfg0.win 1).index t = ![0, t.val % 4] ∧ (cfg0.win 2).index t = ![t.val / 4, 0] ∧ (cfg0.win 3).index t = ![0, t.val % 4] ∧ (cfg0.win 4).index t = ![t.val / 4, 13 + t.val % 4] ∧ (cfg0.win 5).index t = ![t.val / 4, 17 + t.val % 4] ∧ (cfg0.win 6).index t = ![t.val / 4, t.val % 4] ∧ (cfg0.win 7).index t = ![t.val / 4, t.val % 4] ∧ (cfg0.win 8).index t = ![t.val / 4, t.val % 4] := by
  decide +kernel

/-- The attention branch's product. -/
def ya (a : S4096x512.Idx → EReal) (b : S512x2048.Idx → EReal) (y : S4096x2048.Idx) : EReal :=
  ∑ k : Fin 512, a (ix2 (y 0 : Fin 4096) k) * b (ix2 k (y 1 : Fin 2048))

/-- The gating branch's product. -/
def ys (a : S4096x1024.Idx → EReal) (b : S1024x2048.Idx → EReal) (y : S4096x2048.Idx) : EReal :=
  ∑ k : Fin 1024, a (ix2 (y 0 : Fin 4096) k) * b (ix2 k (y 1 : Fin 2048))

/-- A column moved right by `o` is within `z`. -/
theorem col (o : Nat) (h : o + 2048 ≤ 10752) (j : Fin 2048) : o + j.val < 10752 := by
  have := j.isLt
  omega

/-- The logistic of the column of `z` that lies `o` to the right. -/
def gate (o : Nat) (h : o + 2048 ≤ 10752) (z : S4096x10752.Idx → EReal) (y : S4096x2048.Idx) : EReal :=
  logi (z (ix2 (y 0 : Fin 4096) (⟨o + (y 1 : Fin 2048).val, col o h (y 1)⟩ : Fin 10752)))

/-- The weighted sum of the branches. -/
def merged (a : S4096x512.Idx → EReal) (s : S4096x1024.Idx → EReal) (b : S512x2048.Idx → EReal) (d : S1024x2048.Idx → EReal)
    (z : S4096x10752.Idx → EReal) (y : S4096x2048.Idx) : EReal :=
  gate 6656 (by omega) z y * ya a b y + gate 8704 (by omega) z y * ys s d y

/-- An element of a tile of the attention branch's product. -/
theorem pay2 (a : FVec Ideal S1024x512 .bf16) (u : FVec Ideal S512x512 .bf16) (y : S1024x512.Idx) :
    (k0_pay2 (F := Ideal) a u y : EReal) = ∑ k : Fin 512, a (ix2 (y 0 : Fin 1024) k) * u (ix2 k (y 1 : Fin 512)) := by
  unfold k0_pay2
  pointwise

/-- An element of a tile of the gating branch's product. -/
theorem pay3 (a : FVec Ideal S1024x1024 .bf16) (u : FVec Ideal S1024x512 .bf16) (y : S1024x512.Idx) :
    (k0_pay3 (F := Ideal) a u y : EReal) = ∑ k : Fin 1024, a (ix2 (y 0 : Fin 1024) k) * u (ix2 k (y 1 : Fin 512)) := by
  unfold k0_pay3
  pointwise

/-- An element of a tile of the weighted sum. -/
theorem pay4 (a : FVec Ideal S1024x512 .bf16) (u : FVec Ideal S512x512 .bf16) (b : FVec Ideal S1024x1024 .bf16) (v : FVec Ideal S1024x512 .bf16)
    (x x' : FVec Ideal S1024x512 .f32) (y : S1024x512.Idx) :
    (k0_pay1 (F := Ideal) (k0_pay4 (F := Ideal) a u b v x x') y : EReal)
      = logi (x y) * k0_pay2 (F := Ideal) a u y + logi (x' y) * k0_pay3 (F := Ideal) b v y := by
  unfold k0_pay1 k0_pay4 logi
  generalize k0_pay2 (F := Ideal) a u = p
  generalize k0_pay3 (F := Ideal) b v = q
  pointwise
  simp only [zero_sub]

/-- After the run the first result is the attention branch's product. -/
theorem final6 : (dats m 0 c).arrAt 6 cfg0.N = ya (arr m c main_arg0) (arr m c main_arg2) := by
  refine (dats m 0 c).arrAt_eq_of_covers 6 _ (by decide +kernel) fun t hf y => ?_
  blk_simp
  rw [after0_6]
  frame_out
  unfold ya
  refine (pay2 _ _ y).trans (Finset.sum_congr rfl fun k _ => congrArg₂ (· * ·) ?_ ?_) <;> blk_point [iblk, V, idx t]

/-- After the run the second result is the gating branch's product. -/
theorem final7 : (dats m 0 c).arrAt 7 cfg0.N = ys (arr m c main_arg1) (arr m c main_arg3) := by
  refine (dats m 0 c).arrAt_eq_of_covers 7 _ (by decide +kernel) fun t hf y => ?_
  blk_simp
  rw [after0_7]
  frame_out
  unfold ys
  refine (pay3 _ _ y).trans (Finset.sum_congr rfl fun k _ => congrArg₂ (· * ·) ?_ ?_) <;> blk_point [iblk, V, idx t]

/-- After the run the third result is the weighted sum. -/
theorem final8 : (dats m 0 c).arrAt 8 cfg0.N = merged (arr m c main_arg0) (arr m c main_arg1) (arr m c main_arg2) (arr m c main_arg3) (arr m c main_arg4) := by
  refine (dats m 0 c).arrAt_eq_of_covers 8 _ (by decide +kernel) fun t hf y => ?_
  blk_simp
  rw [after0_8]
  frame_out
  refine (pay4 _ _ _ _ _ _ y).trans ?_
  unfold merged gate ya ys
  refine congrArg₂ (· + ·) (congrArg₂ (· * ·) (congrArg logi ?_) ((pay2 _ _ y).trans (Finset.sum_congr rfl fun k _ => congrArg₂ (· * ·) ?_ ?_))) (congrArg₂ (· * ·) (congrArg logi ?_) ((pay3 _ _ y).trans (Finset.sum_congr rfl fun k _ => congrArg₂ (· * ·) ?_ ?_)))
    <;> blk_point [iblk, V, idx t]

/-- The reference's gates of both branches, an array. -/
def gates (z : FVec Ideal S4096x10752 .f32) : FVec Ideal S4096x10752 .f32 :=
  Host.divf (broadcastInDim ReferenceBranchesIdeal.S4096x10752 ![] ReferenceBranchesIdeal.Facts₀.bcast_S_S4096x10752 (constant ReferenceBranchesIdeal.S_ .f32 0x3F800000#32)) (addf (broadcastInDim ReferenceBranchesIdeal.S4096x10752 ![] ReferenceBranchesIdeal.Facts₀.bcast_S_S4096x10752 (constant ReferenceBranchesIdeal.S_ .f32 0x3F800000#32)) (Host.exp (Host.negf z)))

/-- An element of the reference's first gate. -/
theorem refGate_apply (z : FVec Ideal S4096x10752 .f32) (y : S4096x2048.Idx) :
    (((extractStridedSlice ReferenceBranchesIdeal.S4096x2048 ![0, 6656] (gates z) ReferenceBranchesIdeal.Facts₀.slices_S4096x10752_S4096x2048_0_6656) : FVec Ideal S4096x2048 .f32) y : EReal) = gate 6656 (by omega) z y := by
  unfold gates gate logi
  pointwise

/-- An element of the reference's second gate. -/
theorem refGate_apply' (z : FVec Ideal S4096x10752 .f32) (y : S4096x2048.Idx) :
    (((extractStridedSlice ReferenceBranchesIdeal.S4096x2048 ![0, 8704] (gates z) ReferenceBranchesIdeal.Facts₀.slices_S4096x10752_S4096x2048_0_8704) : FVec Ideal S4096x2048 .f32) y : EReal) = gate 8704 (by omega) z y := by
  unfold gates gate logi
  pointwise

/-- The reference's first result is the attention branch's product. -/
theorem value6 (a : FVec Ideal S4096x512 .bf16) (b : FVec Ideal S512x2048 .bf16) :
    (truncf .bf16 (Host.dotGeneral ReferenceBranchesIdeal.dot_S4096x512_S512x2048_S4096x2048_1_0_0_1_n_n none (extf .f32 a bitsLt_bf16_f32) (extf .f32 b bitsLt_bf16_f32)) bitsLt_bf16_f32 : FVec Ideal S4096x2048 .bf16) = ya a b := by
  funext y
  unfold ya
  pointwise

/-- The reference's second result is the gating branch's product. -/
theorem value7 (s : FVec Ideal S4096x1024 .bf16) (d : FVec Ideal S1024x2048 .bf16) :
    (truncf .bf16 (Host.dotGeneral ReferenceBranchesIdeal.dot_S4096x1024_S1024x2048_S4096x2048_1_0_0_1_n_n none (extf .f32 s bitsLt_bf16_f32) (extf .f32 d bitsLt_bf16_f32)) bitsLt_bf16_f32 : FVec Ideal S4096x2048 .bf16) = ys s d := by
  funext y
  unfold ys
  pointwise

/-- The reference's third result is the weighted sum. -/
theorem value8 (a : FVec Ideal S4096x512 .bf16) (s : FVec Ideal S4096x1024 .bf16) (b : FVec Ideal S512x2048 .bf16) (d : FVec Ideal S1024x2048 .bf16)
    (z : FVec Ideal S4096x10752 .f32) :
    (truncf .bf16 (addf (mulf (extractStridedSlice ReferenceBranchesIdeal.S4096x2048 ![0, 6656] (gates z) ReferenceBranchesIdeal.Facts₀.slices_S4096x10752_S4096x2048_0_6656) (Host.dotGeneral ReferenceBranchesIdeal.dot_S4096x512_S512x2048_S4096x2048_1_0_0_1_n_n none (extf .f32 a bitsLt_bf16_f32) (extf .f32 b bitsLt_bf16_f32))) (mulf (extractStridedSlice ReferenceBranchesIdeal.S4096x2048 ![0, 8704] (gates z) ReferenceBranchesIdeal.Facts₀.slices_S4096x10752_S4096x2048_0_8704) (Host.dotGeneral ReferenceBranchesIdeal.dot_S4096x1024_S1024x2048_S4096x2048_1_0_0_1_n_n none (extf .f32 s bitsLt_bf16_f32) (extf .f32 d bitsLt_bf16_f32)))) bitsLt_bf16_f32 : FVec Ideal S4096x2048 .bf16) = merged a s b d z := by
  funext y
  unfold merged
  rw [← refGate_apply, ← refGate_apply']
  unfold ya ys
  pointwise

/-- From equal arguments, the kernel and the reference end with equal results. -/
theorem algebraic : algebraic_KernelBranchesIdeal_ReferenceBranchesIdeal := by
  intro m g m' g' _ he
  refine ⟨fun c => ya (arr m c main_arg0) (arr m c main_arg2),
    fun c => ys (arr m c main_arg1) (arr m c main_arg3),
    fun c => merged (arr m c main_arg0) (arr m c main_arg1) (arr m c main_arg2) (arr m c main_arg3) (arr m c main_arg4), ?_, ?_⟩
  · exact (θ_run defs _ _).mono (fun r h c => ⟨(h c).1.trans (final6 m c), (h c).2.1.trans (final7 m c), (h c).2.2.1.trans (final8 m c), (h c).2.2.2⟩)
      (KernelBranchesIdeal.Value.run_blocks m g)
  · refine (θ_run _ _ _).mono (fun r h c => ⟨(h c).1.trans ?_, (h c).2.1.trans ?_, (h c).2.2.1.trans ?_, (h c).2.2.2⟩)
      (ReferenceBranchesIdeal.Value.run m' g')
    · rw [(he c).1, (he c).2.2.1]
      exact value6 _ _
    · rw [(he c).2.1, (he c).2.2.2.1]
      exact value7 _ _
    · rw [(he c).1, (he c).2.1, (he c).2.2.1, (he c).2.2.2.1, (he c).2.2.2.2]
      exact value8 _ _ _ _ _

end Cert.Products.Branches
end
-- ==== Proof.Products.Ple.lean ====
module

public import proofs.«01_k».proof.Proof.Gen.KernelPleIdeal.Value
public import proofs.«01_k».proof.Proof.Gen.ReferencePleIdeal.Run
public import proofs.«01_k».proof.Proof.Products.Split
public import proofs.«01_k».proof.Proof.Products.Logistic

/-! The input embedding: the logistic of one product, another product, and their product added to the residual stream. -/

@[expose] public section

set_option maxRecDepth 16384

noncomputable section

namespace Cert.Products.Ple

open Idealize.ShloMosaic TcCoe Tactic
open KernelPleIdeal KernelPleIdeal.Gen

variable (m : (ℓ : Loc nD τ sig) → Buf (Elt Ideal) ℓ) (c : Dev nD)

/-- The blocks that each window takes at the grid's points. -/
theorem idx : ∀ t : Fin cfg0.N, (cfg0.win 0).index t = ![t.val / 4, 0] ∧ (cfg0.win 1).index t = ![0, t.val % 4] ∧ (cfg0.win 2).index t = ![t.val / 4, 0] ∧ (cfg0.win 3).index t = ![0, t.val % 4] ∧ (cfg0.win 4).index t = ![t.val / 4, t.val % 4] ∧ (cfg0.win 5).index t = ![t.val / 4, t.val % 4] ∧ (cfg0.win 6).index t = ![t.val / 4, t.val % 4] ∧ (cfg0.win 7).index t = ![t.val / 4, t.val % 4] := by
  decide +kernel

/-- The product of the normalised stream with the gate's matrix. -/
def pre (h : S4096x2048.Idx → EReal) (b : S2048x2048.Idx → EReal) (y : S4096x2048.Idx) : EReal :=
  ∑ k : Fin 2048, h (ix2 (y 0 : Fin 4096) k) * b (ix2 k (y 1 : Fin 2048))

/-- The gate. -/
def gate (h : S4096x2048.Idx → EReal) (b : S2048x2048.Idx → EReal) (y : S4096x2048.Idx) : EReal := logi (pre h b y)

/-- The embedding's product. -/
def emb (p : S4096x256.Idx → EReal) (b : S256x2048.Idx → EReal) (y : S4096x2048.Idx) : EReal :=
  ∑ k : Fin 256, p (ix2 (y 0 : Fin 4096) k) * b (ix2 k (y 1 : Fin 2048))

/-- The stream with the gated embedding added. -/
def out (h : S4096x2048.Idx → EReal) (b : S2048x2048.Idx → EReal) (p : S4096x256.Idx → EReal) (d : S256x2048.Idx → EReal)
    (x : S4096x2048.Idx → EReal) (y : S4096x2048.Idx) : EReal := x y + gate h b y * emb p d y

/-- A tile of the gate is the logistic of the tile's product. -/
theorem pay1 (a : FVec Ideal S1024x2048 .bf16) (u : FVec Ideal S2048x512 .bf16) (y : S1024x512.Idx) :
    (k0_pay1 (F := Ideal) a u y : EReal) = logi (∑ k : Fin 2048, a (ix2 (y 0 : Fin 1024) k) * u (ix2 k (y 1 : Fin 512))) := by
  unfold k0_pay1 logi
  pointwise
  rw [zero_sub]

/-- A tile of the embedding's product. -/
theorem pay2 (a : FVec Ideal S1024x256 .bf16) (u : FVec Ideal S256x512 .bf16) (y : S1024x512.Idx) :
    (k0_pay2 (F := Ideal) a u y : EReal) = ∑ k : Fin 256, a (ix2 (y 0 : Fin 1024) k) * u (ix2 k (y 1 : Fin 512)) := by
  unfold k0_pay2
  pointwise

/-- A tile of the stream with the gated embedding added. -/
theorem pay3 (a : FVec Ideal S1024x2048 .bf16) (u : FVec Ideal S2048x512 .bf16) (b : FVec Ideal S1024x256 .bf16) (v : FVec Ideal S256x512 .bf16)
    (x : FVec Ideal S1024x512 .f32) (y : S1024x512.Idx) :
    (k0_pay3 (F := Ideal) a u b v x y : EReal) = x y + k0_pay1 (F := Ideal) a u y * k0_pay2 (F := Ideal) b v y := by
  unfold k0_pay3
  generalize k0_pay1 (F := Ideal) a u = p
  generalize k0_pay2 (F := Ideal) b v = q
  pointwise

/-- After the run the first result is the stream with the gated embedding added. -/
theorem final5 : (dats m 0 c).arrAt 5 cfg0.N = out (arr m c main_arg0) (arr m c main_arg1) (arr m c main_arg2) (arr m c main_arg3) (arr m c main_arg4) := by
  refine (dats m 0 c).arrAt_eq_of_covers 5 _ (by decide +kernel) fun t hf y => ?_
  blk_simp
  rw [after0_5]
  frame_out
  refine (pay3 _ _ _ _ _ y).trans ?_
  unfold out gate pre emb
  refine congrArg₂ (· + ·) ?_ (congrArg₂ (· * ·) ((pay1 _ _ y).trans (congrArg logi (Finset.sum_congr rfl fun k _ => congrArg₂ (· * ·) ?_ ?_))) ((pay2 _ _ y).trans (Finset.sum_congr rfl fun k _ => congrArg₂ (· * ·) ?_ ?_))) <;> blk_point [iblk, V, idx t]

/-- After the run the second result is the gate. -/
theorem final6 : (dats m 0 c).arrAt 6 cfg0.N = gate (arr m c main_arg0) (arr m c main_arg1) := by
  refine (dats m 0 c).arrAt_eq_of_covers 6 _ (by decide +kernel) fun t hf y => ?_
  blk_simp
  rw [after0_6]
  frame_out
  unfold gate pre
  refine (pay1 _ _ y).trans (congrArg logi (Finset.sum_congr rfl fun k _ => congrArg₂ (· * ·) ?_ ?_)) <;> blk_point [iblk, V, idx t]

/-- After the run the third result is the embedding. -/
theorem final7 : (dats m 0 c).arrAt 7 cfg0.N = emb (arr m c main_arg2) (arr m c main_arg3) := by
  refine (dats m 0 c).arrAt_eq_of_covers 7 _ (by decide +kernel) fun t hf y => ?_
  blk_simp
  rw [after0_7]
  frame_out
  unfold emb
  refine (pay2 _ _ y).trans (Finset.sum_congr rfl fun k _ => congrArg₂ (· * ·) ?_ ?_) <;> blk_point [iblk, V, idx t]

/-- The reference's gate, an array. -/
def refGate (h : FVec Ideal S4096x2048 .bf16) (b : FVec Ideal S2048x2048 .bf16) : FVec Ideal S4096x2048 .f32 :=
  Host.divf (broadcastInDim ReferencePleIdeal.S4096x2048 ![] ReferencePleIdeal.Facts₀.bcast_S_S4096x2048 (constant ReferencePleIdeal.S_ .f32 0x3F800000#32)) (addf (broadcastInDim ReferencePleIdeal.S4096x2048 ![] ReferencePleIdeal.Facts₀.bcast_S_S4096x2048 (constant ReferencePleIdeal.S_ .f32 0x3F800000#32)) (Host.exp (Host.negf (Host.dotGeneral ReferencePleIdeal.dot_S4096x2048_S2048x2048_S4096x2048_1_0_0_1_n_n none (extf .f32 h bitsLt_bf16_f32) (extf .f32 b bitsLt_bf16_f32)))))

/-- An element of the reference's gate. -/
theorem refGate_apply (h : FVec Ideal S4096x2048 .bf16) (b : FVec Ideal S2048x2048 .bf16) (y : S4096x2048.Idx) :
    (refGate h b y : EReal) = gate h b y := by
  unfold refGate gate logi pre
  pointwise

/-- The reference's embedding, an array. -/
def refEmb (p : FVec Ideal S4096x256 .bf16) (d : FVec Ideal S256x2048 .bf16) : FVec Ideal S4096x2048 .f32 :=
  Host.dotGeneral ReferencePleIdeal.dot_S4096x256_S256x2048_S4096x2048_1_0_0_1_n_n none (extf .f32 p bitsLt_bf16_f32) (extf .f32 d bitsLt_bf16_f32)

/-- An element of the reference's embedding. -/
theorem refEmb_apply (p : FVec Ideal S4096x256 .bf16) (d : FVec Ideal S256x2048 .bf16) (y : S4096x2048.Idx) :
    (refEmb p d y : EReal) = emb p d y := by
  unfold refEmb emb
  pointwise

/-- The reference's first result is the stream with the gated embedding added. -/
theorem value5 (h : FVec Ideal S4096x2048 .bf16) (b : FVec Ideal S2048x2048 .bf16) (p : FVec Ideal S4096x256 .bf16) (d : FVec Ideal S256x2048 .bf16)
    (x : FVec Ideal S4096x2048 .f32) : (addf x (mulf (refGate h b) (refEmb p d)) : FVec Ideal S4096x2048 .f32) = out h b p d x := by
  funext y
  unfold out
  rw [← refGate_apply, ← refEmb_apply]
  generalize refGate h b = u
  generalize refEmb p d = v
  pointwise

/-- The reference's second result is the gate. -/
theorem value6 (h : FVec Ideal S4096x2048 .bf16) (b : FVec Ideal S2048x2048 .bf16) :
    (truncf .bf16 (refGate h b) bitsLt_bf16_f32 : FVec Ideal S4096x2048 .bf16) = gate h b := by
  funext y
  rw [← refGate_apply]
  generalize refGate h b = u
  pointwise

/-- The reference's third result is the embedding. -/
theorem value7 (p : FVec Ideal S4096x256 .bf16) (d : FVec Ideal S256x2048 .bf16) :
    (truncf .bf16 (refEmb p d) bitsLt_bf16_f32 : FVec Ideal S4096x2048 .bf16) = emb p d := by
  funext y
  rw [← refEmb_apply]
  generalize refEmb p d = u
  pointwise

/-- From equal arguments, the kernel and the reference end with equal results. -/
theorem algebraic : algebraic_KernelPleIdeal_ReferencePleIdeal := by
  intro m g m' g' _ he
  refine ⟨fun c => out (arr m c main_arg0) (arr m c main_arg1) (arr m c main_arg2) (arr m c main_arg3) (arr m c main_arg4),
    fun c => gate (arr m c main_arg0) (arr m c main_arg1),
    fun c => emb (arr m c main_arg2) (arr m c main_arg3), ?_, ?_⟩
  · exact (θ_run defs _ _).mono (fun r h c => ⟨(h c).1.trans (final5 m c), (h c).2.1.trans (final6 m c), (h c).2.2.1.trans (final7 m c), (h c).2.2.2⟩)
      (KernelPleIdeal.Value.run_blocks m g)
  · refine (θ_run _ _ _).mono (fun r h c => ⟨(h c).1.trans ?_, (h c).2.1.trans ?_, (h c).2.2.1.trans ?_, (h c).2.2.2⟩)
      (ReferencePleIdeal.Value.run m' g')
    · rw [(he c).1, (he c).2.1, (he c).2.2.1, (he c).2.2.2.1, (he c).2.2.2.2]
      exact value5 _ _ _ _ _
    · rw [(he c).1, (he c).2.1]
      exact value6 _ _
    · rw [(he c).2.2.1, (he c).2.2.2.1]
      exact value7 _ _

end Cert.Products.Ple
end
-- ==== Proof.Products.Dattn.lean ====
module

public import proofs.«01_k».proof.Proof.Gen.KernelDattnIdeal.Value
public import proofs.«01_k».proof.Proof.Gen.ReferenceDattnIdeal.Run
public import proofs.«01_k».proof.Proof.Products.Split

/-! The gradient through the attention branch's matrix: the left half of the branches' gradients times it. -/

@[expose] public section

set_option maxRecDepth 16384

noncomputable section

namespace Cert.Products.Dattn

open Idealize.ShloMosaic TcCoe Tactic
open KernelDattnIdeal KernelDattnIdeal.Gen

variable (m : (ℓ : Loc nD τ sig) → Buf (Elt Ideal) ℓ) (c : Dev nD)

/-- The blocks that each window takes at the grid's points. -/
theorem idx : ∀ t : Fin cfg0.N, (cfg0.win 0).index t = ![t.val, 0] ∧ (cfg0.win 1).index t = ![0, 0] ∧ (cfg0.win 2).index t = ![t.val, 0] := by
  decide +kernel

/-- The result, an element as a sum over the whole contraction. -/
def G (a : S4096x4096.Idx → EReal) (b : S512x2048.Idx → EReal) (y : S4096x512.Idx) : EReal :=
  ∑ k : Fin 2048, a (ix2 (y 0 : Fin 4096) (⟨0 + k.val, by omega⟩ : Fin 4096)) * b (ix2 (y 1 : Fin 512) k)

/-- After the run the kernel's result is that array. -/
theorem final : (dats m 0 c).arrAt 2 cfg0.N = G (arr m c main_arg0) (arr m c main_arg1) := by
  refine (dats m 0 c).arrAt_eq_of_covers 2 _ (by decide +kernel) fun t hf y => ?_
  blk_simp
  rw [after0_2]
  frame_out
  unfold G
  pointwise
  blk_point [iblk, V, idx t]

/-- The reference's result is that array. -/
theorem value (a : FVec Ideal S4096x4096 .bf16) (b : FVec Ideal S512x2048 .bf16) :
    (truncf .bf16 (Host.dotGeneral ReferenceDattnIdeal.dot_S4096x2048_S512x2048_S4096x512_1_1_0_0_n_n none (extf .f32 (extractStridedSlice ReferenceDattnIdeal.S4096x2048 ![0, 0] a ReferenceDattnIdeal.Facts₀.slices_S4096x4096_S4096x2048_0_0) bitsLt_bf16_f32) (extf .f32 b bitsLt_bf16_f32)) bitsLt_bf16_f32 : FVec Ideal S4096x512 .bf16) = G a b := by
  funext y
  unfold G
  pointwise

/-- From equal arguments, the kernel and the reference end with equal results. -/
theorem algebraic : algebraic_KernelDattnIdeal_ReferenceDattnIdeal := by
  intro m g m' g' _ he
  refine ⟨fun c => G (arr m c main_arg0) (arr m c main_arg1), ?_, ?_⟩
  · exact (θ_run defs _ _).mono (fun r h c => ⟨(h c).1.trans (final m c), (h c).2⟩)
      (KernelDattnIdeal.Value.run_blocks m g)
  · refine (θ_run _ _ _).mono (fun r h c => ⟨(h c).1.trans ?_, (h c).2⟩)
      (ReferenceDattnIdeal.Value.run m' g')
    rw [(he c).1, (he c).2]
    exact value _ _

end Cert.Products.Dattn
end
-- ==== Proof.Products.Dsg.lean ====
module

public import proofs.«01_k».proof.Proof.Gen.KernelDsgIdeal.Value
public import proofs.«01_k».proof.Proof.Gen.ReferenceDsgIdeal.Run
public import proofs.«01_k».proof.Proof.Products.Split

/-! The gradient through the gating branch's matrix: the right half of the branches' gradients times it. -/

@[expose] public section

set_option maxRecDepth 16384

noncomputable section

namespace Cert.Products.Dsg

open Idealize.ShloMosaic TcCoe Tactic
open KernelDsgIdeal KernelDsgIdeal.Gen

variable (m : (ℓ : Loc nD τ sig) → Buf (Elt Ideal) ℓ) (c : Dev nD)

/-- The blocks that each window takes at the grid's points. -/
theorem idx : ∀ t : Fin cfg0.N, (cfg0.win 0).index t = ![t.val, 1] ∧ (cfg0.win 1).index t = ![0, 0] ∧ (cfg0.win 2).index t = ![t.val, 0] := by
  decide +kernel

/-- The result, an element as a sum over the whole contraction. -/
def G (a : S4096x4096.Idx → EReal) (b : S1024x2048.Idx → EReal) (y : S4096x1024.Idx) : EReal :=
  ∑ k : Fin 2048, a (ix2 (y 0 : Fin 4096) (⟨2048 + k.val, by omega⟩ : Fin 4096)) * b (ix2 (y 1 : Fin 1024) k)

/-- After the run the kernel's result is that array. -/
theorem final : (dats m 0 c).arrAt 2 cfg0.N = G (arr m c main_arg0) (arr m c main_arg1) := by
  refine (dats m 0 c).arrAt_eq_of_covers 2 _ (by decide +kernel) fun t hf y => ?_
  blk_simp
  rw [after0_2]
  frame_out
  unfold G
  pointwise
  blk_point [iblk, V, idx t]

/-- The reference's result is that array. -/
theorem value (a : FVec Ideal S4096x4096 .bf16) (b : FVec Ideal S1024x2048 .bf16) :
    (truncf .bf16 (Host.dotGeneral ReferenceDsgIdeal.dot_S4096x2048_S1024x2048_S4096x1024_1_1_0_0_n_n none (extf .f32 (extractStridedSlice ReferenceDsgIdeal.S4096x2048 ![0, 2048] a ReferenceDsgIdeal.Facts₀.slices_S4096x4096_S4096x2048_0_2048) bitsLt_bf16_f32) (extf .f32 b bitsLt_bf16_f32)) bitsLt_bf16_f32 : FVec Ideal S4096x1024 .bf16) = G a b := by
  funext y
  unfold G
  pointwise

/-- From equal arguments, the kernel and the reference end with equal results. -/
theorem algebraic : algebraic_KernelDsgIdeal_ReferenceDsgIdeal := by
  intro m g m' g' _ he
  refine ⟨fun c => G (arr m c main_arg0) (arr m c main_arg1), ?_, ?_⟩
  · exact (θ_run defs _ _).mono (fun r h c => ⟨(h c).1.trans (final m c), (h c).2⟩)
      (KernelDsgIdeal.Value.run_blocks m g)
  · refine (θ_run _ _ _).mono (fun r h c => ⟨(h c).1.trans ?_, (h c).2⟩)
      (ReferenceDsgIdeal.Value.run m' g')
    rw [(he c).1, (he c).2]
    exact value _ _

end Cert.Products.Dsg
end
-- ==== Proof.Products.Wattn.lean ====
module

public import proofs.«01_k».proof.Proof.Gen.KernelWattnIdeal.Value
public import proofs.«01_k».proof.Proof.Gen.ReferenceWattnIdeal.Run
public import proofs.«01_k».proof.Proof.Products.Split

/-! The gradient of the attention branch's matrix: a product summed in two halves of the tokens. -/

@[expose] public section

set_option maxRecDepth 16384

noncomputable section

namespace Cert.Products.Wattn

open Idealize.ShloMosaic TcCoe Tactic
open KernelWattnIdeal KernelWattnIdeal.Gen

variable (m : (ℓ : Loc nD τ sig) → Buf (Elt Ideal) ℓ) (c : Dev nD)

/-- The blocks that each window takes at the grid's points. -/
theorem idx : ∀ t : Fin cfg0.N, (cfg0.win 0).index t = ![t.val % 2, 0] ∧ (cfg0.win 1).index t = ![t.val % 2, 0] ∧ (cfg0.win 2).index t = ![0, 0] := by
  decide +kernel

/-- The column, moved to its half, is within the array. -/
theorem col (j : Fin 2048) : 0 + j.val < 4096 := by
  have := j.isLt
  omega

/-- The result, an element as a sum over the whole contraction. -/
def G (a : S4096x512.Idx → EReal) (b : S4096x4096.Idx → EReal) (y : S512x2048.Idx) : EReal :=
  ∑ k : Fin 4096, a (ix2 k (y 0 : Fin 512)) * b (ix2 k (⟨0 + (y 1 : Fin 2048).val, col (y 1)⟩ : Fin 4096))

/-- An element of the tile that the last step writes is the sum of the steps' products there. -/
theorem pay (a0 : FVec Ideal S2048x512 .bf16) (b0 : FVec Ideal S2048x2048 .bf16) (a1 : FVec Ideal S2048x512 .bf16) (b1 : FVec Ideal S2048x2048 .bf16) (y : S512x2048.Idx) :
    k0_pay3 (k0_pay2 (k0_pay1 a0 b0) a1 b1) y
      = (∑ k : Fin 2048, a0 (ix2 k (y 0 : Fin 512)) * b0 (ix2 k (y 1 : Fin 2048))) + (∑ k : Fin 2048, a1 (ix2 k (y 0 : Fin 512)) * b1 (ix2 k (y 1 : Fin 2048))) := by
  unfold k0_pay3 k0_pay2 k0_pay1
  pointwise

/-- At the first step over the contraction the accumulator holds the step's product alone. -/
theorem start (t : Fin cfg0.N) (h : t.val % 2 = 0) :
    (outsAt0 m c t.val t.isLt).2 = k0_pay1 (iblk m c 0 t) (iblk m c 1 t) := by
  rw [outsAt0_A m c t h (by omega) (by omega)]
  frame_out

/-- After the run the kernel's result is that array. -/
theorem final : (dats m 0 c).arrAt 2 cfg0.N = G (arr m c main_arg0) (arr m c main_arg1) := by
  refine (dats m 0 c).arrAt_eq_of_covers 2 _ (by decide +kernel) fun t hf y => ?_
  have hm : t.val % 2 = 1 := (flush0_2 t).mp hf
  have h1 : t.val - 1 < cfg0.N := Nat.lt_of_le_of_lt (Nat.sub_le _ _) t.isLt
  blk_simp
  rw [after0_2, outsAt0_B m c t (by omega) (by omega) hm]
  frame_out
  rw [(Memref.isWhole_whole _).read_unread]
  rw [show (outsAt0 m c (t.val - 1) _).2 = _ from start m c ⟨t.val - 1, h1⟩ (by show (t.val - 1) % 2 = 0; omega)]
  refine (pay _ _ _ _ y).trans ?_
  unfold G
  exact sum2 rfl (fun k hk => by blk_point [iblk, V, idx ⟨t.val - 1, h1⟩, idx t]) (fun k hk => by blk_point [iblk, V, idx t])

/-- The reference's result is that array. -/
theorem value (a : FVec Ideal S4096x512 .bf16) (b : FVec Ideal S4096x4096 .bf16) :
    (truncf .bf16 (transpose S512x2048 [1, 0] (Host.dotGeneral ReferenceWattnIdeal.dot_S4096x2048_S4096x512_S2048x512_0_0_1_1_n_n none (extf .f32 (extractStridedSlice ReferenceWattnIdeal.S4096x2048 ![0, 0] b ReferenceWattnIdeal.Facts₀.slices_S4096x4096_S4096x2048_0_0) bitsLt_bf16_f32) (extf .f32 a bitsLt_bf16_f32)) ReferenceWattnIdeal.Facts₀.transposes_S2048x512_S512x2048_1_0) bitsLt_bf16_f32 : FVec Ideal S512x2048 .bf16) = G a b := by
  funext y
  unfold G
  pointwise
  exact Finset.sum_congr rfl fun k _ => mul_comm _ _

/-- From equal arguments, the kernel and the reference end with equal results. -/
theorem algebraic : algebraic_KernelWattnIdeal_ReferenceWattnIdeal := by
  intro m g m' g' _ he
  refine ⟨fun c => G (arr m c main_arg0) (arr m c main_arg1), ?_, ?_⟩
  · exact (θ_run defs _ _).mono (fun r h c => ⟨(h c).1.trans (final m c), (h c).2⟩)
      (KernelWattnIdeal.Value.run_blocks m g)
  · refine (θ_run _ _ _).mono (fun r h c => ⟨(h c).1.trans ?_, (h c).2⟩)
      (ReferenceWattnIdeal.Value.run m' g')
    rw [(he c).1, (he c).2]
    exact value _ _

end Cert.Products.Wattn
end
-- ==== Proof.Products.Wsg.lean ====
module

public import proofs.«01_k».proof.Proof.Gen.KernelWsgIdeal.Value
public import proofs.«01_k».proof.Proof.Gen.ReferenceWsgIdeal.Run
public import proofs.«01_k».proof.Proof.Products.Split

/-! The gradient of the gating branch's matrix: a product summed in two halves of the tokens. -/

@[expose] public section

set_option maxRecDepth 16384

noncomputable section

namespace Cert.Products.Wsg

open Idealize.ShloMosaic TcCoe Tactic
open KernelWsgIdeal KernelWsgIdeal.Gen

variable (m : (ℓ : Loc nD τ sig) → Buf (Elt Ideal) ℓ) (c : Dev nD)

/-- The blocks that each window takes at the grid's points. -/
theorem idx : ∀ t : Fin cfg0.N, (cfg0.win 0).index t = ![t.val % 2, 0] ∧ (cfg0.win 1).index t = ![t.val % 2, 2 + t.val / 2] ∧ (cfg0.win 2).index t = ![0, t.val / 2] := by
  decide +kernel

/-- The column, moved to its half, is within the array. -/
theorem col (j : Fin 2048) : 2048 + j.val < 4096 := by
  have := j.isLt
  omega

/-- The result, an element as a sum over the whole contraction. -/
def G (a : S4096x1024.Idx → EReal) (b : S4096x4096.Idx → EReal) (y : S1024x2048.Idx) : EReal :=
  ∑ k : Fin 4096, a (ix2 k (y 0 : Fin 1024)) * b (ix2 k (⟨2048 + (y 1 : Fin 2048).val, col (y 1)⟩ : Fin 4096))

/-- An element of the tile that the last step writes is the sum of the steps' products there. -/
theorem pay (a0 : FVec Ideal S2048x1024 .bf16) (b0 : FVec Ideal S2048x1024 .bf16) (a1 : FVec Ideal S2048x1024 .bf16) (b1 : FVec Ideal S2048x1024 .bf16) (y : S1024x1024.Idx) :
    k0_pay3 (k0_pay2 (k0_pay1 a0 b0) a1 b1) y
      = (∑ k : Fin 2048, a0 (ix2 k (y 0 : Fin 1024)) * b0 (ix2 k (y 1 : Fin 1024))) + (∑ k : Fin 2048, a1 (ix2 k (y 0 : Fin 1024)) * b1 (ix2 k (y 1 : Fin 1024))) := by
  unfold k0_pay3 k0_pay2 k0_pay1
  pointwise

/-- At the first step over the contraction the accumulator holds the step's product alone. -/
theorem start (t : Fin cfg0.N) (h : t.val % 2 = 0) :
    (outsAt0 m c t.val t.isLt).2 = k0_pay1 (iblk m c 0 t) (iblk m c 1 t) := by
  rw [outsAt0_A m c t h (by omega) (by omega)]
  frame_out

/-- After the run the kernel's result is that array. -/
theorem final : (dats m 0 c).arrAt 2 cfg0.N = G (arr m c main_arg0) (arr m c main_arg1) := by
  refine (dats m 0 c).arrAt_eq_of_covers 2 _ (by decide +kernel) fun t hf y => ?_
  have hm : t.val % 2 = 1 := (flush0_2 t).mp hf
  have h1 : t.val - 1 < cfg0.N := Nat.lt_of_le_of_lt (Nat.sub_le _ _) t.isLt
  blk_simp
  rw [after0_2, outsAt0_B m c t (by omega) (by omega) hm]
  frame_out
  rw [(Memref.isWhole_whole _).read_unread]
  rw [show (outsAt0 m c (t.val - 1) _).2 = _ from start m c ⟨t.val - 1, h1⟩ (by show (t.val - 1) % 2 = 0; omega)]
  refine (pay _ _ _ _ y).trans ?_
  unfold G
  exact sum2 rfl (fun k hk => by blk_point [iblk, V, idx ⟨t.val - 1, h1⟩, idx t]) (fun k hk => by blk_point [iblk, V, idx t])

/-- The reference's result is that array. -/
theorem value (a : FVec Ideal S4096x1024 .bf16) (b : FVec Ideal S4096x4096 .bf16) :
    (truncf .bf16 (transpose S1024x2048 [1, 0] (Host.dotGeneral ReferenceWsgIdeal.dot_S4096x2048_S4096x1024_S2048x1024_0_0_1_1_n_n none (extf .f32 (extractStridedSlice ReferenceWsgIdeal.S4096x2048 ![0, 2048] b ReferenceWsgIdeal.Facts₀.slices_S4096x4096_S4096x2048_0_2048) bitsLt_bf16_f32) (extf .f32 a bitsLt_bf16_f32)) ReferenceWsgIdeal.Facts₀.transposes_S2048x1024_S1024x2048_1_0) bitsLt_bf16_f32 : FVec Ideal S1024x2048 .bf16) = G a b := by
  funext y
  unfold G
  pointwise
  exact Finset.sum_congr rfl fun k _ => mul_comm _ _

/-- From equal arguments, the kernel and the reference end with equal results. -/
theorem algebraic : algebraic_KernelWsgIdeal_ReferenceWsgIdeal := by
  intro m g m' g' _ he
  refine ⟨fun c => G (arr m c main_arg0) (arr m c main_arg1), ?_, ?_⟩
  · exact (θ_run defs _ _).mono (fun r h c => ⟨(h c).1.trans (final m c), (h c).2⟩)
      (KernelWsgIdeal.Value.run_blocks m g)
  · refine (θ_run _ _ _).mono (fun r h c => ⟨(h c).1.trans ?_, (h c).2⟩)
      (ReferenceWsgIdeal.Value.run m' g')
    rw [(he c).1, (he c).2]
    exact value _ _

end Cert.Products.Wsg
end
-- ==== Proof.Products.Wple.lean ====
module

public import proofs.«01_k».proof.Proof.Gen.KernelWpleIdeal.Value
public import proofs.«01_k».proof.Proof.Gen.ReferenceWpleIdeal.Run
public import proofs.«01_k».proof.Proof.Products.Split

/-! The gradient of the input embedding's matrix. -/

@[expose] public section

set_option maxRecDepth 16384

noncomputable section

namespace Cert.Products.Wple

open Idealize.ShloMosaic TcCoe Tactic
open KernelWpleIdeal KernelWpleIdeal.Gen

variable (m : (ℓ : Loc nD τ sig) → Buf (Elt Ideal) ℓ) (c : Dev nD)

/-- The blocks that each window takes at the grid's points. -/
theorem idx : ∀ t : Fin cfg0.N, (cfg0.win 0).index t = ![0, 0] ∧ (cfg0.win 1).index t = ![0, 0] ∧ (cfg0.win 2).index t = ![0, 0] := by
  decide +kernel

/-- The result, an element as a sum over the whole contraction. -/
def G (a : S4096x256.Idx → EReal) (b : S4096x2048.Idx → EReal) (y : S256x2048.Idx) : EReal :=
  ∑ k : Fin 4096, a (ix2 k (y 0 : Fin 256)) * b (ix2 k (y 1 : Fin 2048))

/-- After the run the kernel's result is that array. -/
theorem final : (dats m 0 c).arrAt 2 cfg0.N = G (arr m c main_arg0) (arr m c main_arg1) := by
  refine (dats m 0 c).arrAt_eq_of_covers 2 _ (by decide +kernel) fun t hf y => ?_
  blk_simp
  rw [after0_2]
  frame_out
  unfold G
  pointwise
  blk_point [iblk, V, idx t]

/-- The reference's result is that array. -/
theorem value (a : FVec Ideal S4096x256 .bf16) (b : FVec Ideal S4096x2048 .bf16) :
    (truncf .bf16 (transpose S256x2048 [1, 0] (Host.dotGeneral ReferenceWpleIdeal.dot_S4096x2048_S4096x256_S2048x256_0_0_1_1_n_n none (extf .f32 b bitsLt_bf16_f32) (extf .f32 a bitsLt_bf16_f32)) ReferenceWpleIdeal.Facts₀.transposes_S2048x256_S256x2048_1_0) bitsLt_bf16_f32 : FVec Ideal S256x2048 .bf16) = G a b := by
  funext y
  unfold G
  pointwise
  exact Finset.sum_congr rfl fun k _ => mul_comm _ _

/-- From equal arguments, the kernel and the reference end with equal results. -/
theorem algebraic : algebraic_KernelWpleIdeal_ReferenceWpleIdeal := by
  intro m g m' g' _ he
  refine ⟨fun c => G (arr m c main_arg0) (arr m c main_arg1), ?_, ?_⟩
  · exact (θ_run defs _ _).mono (fun r h c => ⟨(h c).1.trans (final m c), (h c).2⟩)
      (KernelWpleIdeal.Value.run_blocks m g)
  · refine (θ_run _ _ _).mono (fun r h c => ⟨(h c).1.trans ?_, (h c).2⟩)
      (ReferenceWpleIdeal.Value.run m' g')
    rw [(he c).1, (he c).2]
    exact value _ _

end Cert.Products.Wple
end
-- ==== Proof.Products.Plegate.lean ====
module

public import proofs.«01_k».proof.Proof.Gen.KernelPlegateIdeal.Value
public import proofs.«01_k».proof.Proof.Gen.ReferencePlegateIdeal.Run
public import proofs.«01_k».proof.Proof.Products.Split
public import proofs.«01_k».proof.Proof.Products.Logistic

/-! The gradient through the input embedding's gate. -/

@[expose] public section

set_option maxRecDepth 16384

noncomputable section

namespace Cert.Products.Plegate

open Idealize.ShloMosaic TcCoe Tactic
open KernelPlegateIdeal KernelPlegateIdeal.Gen

variable (m : (ℓ : Loc nD τ sig) → Buf (Elt Ideal) ℓ) (c : Dev nD)

/-- The blocks that each window takes at the grid's points. -/
theorem idx : ∀ t : Fin cfg0.N, (cfg0.win 0).index t = ![t.val, 0] ∧ (cfg0.win 1).index t = ![t.val, 0] ∧ (cfg0.win 2).index t = ![t.val, 0] ∧ (cfg0.win 3).index t = ![t.val, 0] ∧ (cfg0.win 4).index t = ![t.val, 0] := by
  decide +kernel

/-- The gradient of the gate's product: the gradient by the embedding by the logistic's derivative, `g` the logistic. -/
def ds (d g e : S4096x2048.Idx → EReal) (y : S4096x2048.Idx) : EReal := d y * e y * g y * (1 - g y)

/-- The gradient of the embedding. -/
def de (d g : S4096x2048.Idx → EReal) (y : S4096x2048.Idx) : EReal := d y * g y

/-- The gate: the logistic of the product, element by element. -/
def gate (s : S4096x2048.Idx → EReal) (y : S4096x2048.Idx) : EReal := logi (s y)

/-- An element of a tile of the gradient of the gate's product. -/
theorem pay2 (d : FVec Ideal S256x2048 .f32) (g e : FVec Ideal S256x2048 .bf16) (y : S256x2048.Idx) :
    (k0_pay2 (F := Ideal) d g e y : EReal) = d y * e y * g y * (1 - g y) := by
  unfold k0_pay2 k0_pay1
  pointwise

/-- An element of a tile of the embedding's gradient. -/
theorem pay3 (d : FVec Ideal S256x2048 .f32) (g : FVec Ideal S256x2048 .bf16) (y : S256x2048.Idx) :
    (k0_pay3 (F := Ideal) d g y : EReal) = d y * g y := by
  unfold k0_pay3 k0_pay1
  pointwise

/-- The gate as the host and the reference compute it, an array. -/
def refGate (s : FVec Ideal S4096x2048 .f32) : FVec Ideal S4096x2048 .f32 :=
  Host.divf (broadcastInDim ReferencePlegateIdeal.S4096x2048 ![] ReferencePlegateIdeal.Facts₀.bcast_S_S4096x2048 (constant ReferencePlegateIdeal.S_ .f32 0x3F800000#32)) (addf (broadcastInDim ReferencePlegateIdeal.S4096x2048 ![] ReferencePlegateIdeal.Facts₀.bcast_S_S4096x2048 (constant ReferencePlegateIdeal.S_ .f32 0x3F800000#32)) (Host.exp (Host.negf s)))

/-- The gate as the host hands it to the kernel. -/
theorem host : V m c main_v6 = gate (arr m c main_arg1) := by
  have h : V m c main_v6 = truncf .bf16 (refGate (arr m c main_arg1)) bitsLt_bf16_f32 := by
    unfold V
    simp only [hostOps0]
    after_results
    rfl
  rw [h]
  funext y
  unfold refGate gate logi
  pointwise

/-- After the run the first result is the gradient of the gate's product, by the gate handed over. -/
theorem final3 : (dats m 0 c).arrAt 3 cfg0.N = ds (arr m c main_arg0) (V m c main_v6) (arr m c main_arg2) := by
  refine (dats m 0 c).arrAt_eq_of_covers 3 _ (by decide +kernel) fun t hf y => ?_
  blk_simp
  rw [after0_3]
  frame_out
  refine (pay2 _ _ _ y).trans ?_
  unfold ds
  have h0 := V_main_arg0 m c
  have h2 := V_main_arg2 m c
  unfold iblk
  generalize V m c = v at *
  blk_point [h0, h2, idx t]

/-- After the run the second result is the embedding's gradient, by the gate handed over. -/
theorem final4 : (dats m 0 c).arrAt 4 cfg0.N = de (arr m c main_arg0) (V m c main_v6) := by
  refine (dats m 0 c).arrAt_eq_of_covers 4 _ (by decide +kernel) fun t hf y => ?_
  blk_simp
  rw [after0_4]
  frame_out
  refine (pay3 _ _ y).trans ?_
  unfold de
  have h0 := V_main_arg0 m c
  unfold iblk
  generalize V m c = v at *
  blk_point [h0, idx t]

/-- The reference's first result is the gradient of the gate's product. -/
theorem value3 (d s : FVec Ideal S4096x2048 .f32) (e : FVec Ideal S4096x2048 .bf16) :
    (truncf .bf16 (mulf (mulf d (extf .f32 e bitsLt_bf16_f32)) (mulf (refGate s) (subf (broadcastInDim ReferencePlegateIdeal.S4096x2048 ![] ReferencePlegateIdeal.Facts₀.bcast_S_S4096x2048 (constant ReferencePlegateIdeal.S_ .f32 0x3F800000#32)) (refGate s)))) bitsLt_bf16_f32 : FVec Ideal S4096x2048 .bf16) = ds d (gate s) e := by
  funext y
  unfold refGate ds gate logi
  rw [mul_assoc (d y * e y)]
  pointwise

/-- The reference's second result is the embedding's gradient. -/
theorem value4 (d s : FVec Ideal S4096x2048 .f32) :
    (truncf .bf16 (mulf (refGate s) d) bitsLt_bf16_f32 : FVec Ideal S4096x2048 .bf16) = de d (gate s) := by
  funext y
  unfold refGate de gate logi
  rw [mul_comm (d y)]
  pointwise

/-- The same, by the logistic of the argument. -/
theorem final3' : (dats m 0 c).arrAt 3 cfg0.N = ds (arr m c main_arg0) (gate (arr m c main_arg1)) (arr m c main_arg2) := by
  rw [final3, host]

/-- The same, by the logistic of the argument. -/
theorem final4' : (dats m 0 c).arrAt 4 cfg0.N = de (arr m c main_arg0) (gate (arr m c main_arg1)) := by
  rw [final4, host]

/-- From equal arguments, the kernel and the reference end with equal results. -/
theorem algebraic : algebraic_KernelPlegateIdeal_ReferencePlegateIdeal := by
  intro m g m' g' _ he
  refine ⟨fun c => ds (arr m c main_arg0) (gate (arr m c main_arg1)) (arr m c main_arg2), fun c => de (arr m c main_arg0) (gate (arr m c main_arg1)), ?_, ?_⟩
  · exact (θ_run defs _ _).mono (fun r h c => ⟨(h c).1.trans (final3' m c), (h c).2.1.trans (final4' m c), (h c).2.2⟩)
      (KernelPlegateIdeal.Value.run_blocks m g)
  · refine (θ_run _ _ _).mono (fun r h c => ⟨(h c).1.trans ?_, (h c).2.1.trans ?_, (h c).2.2⟩)
      (ReferencePlegateIdeal.Value.run m' g')
    · rw [(he c).1, (he c).2.1, (he c).2.2]
      exact value3 _ _ _
    · rw [(he c).1, (he c).2.1]
      exact value4 _ _

end Cert.Products.Plegate
end
-- ==== Proof.lean ====
module

public import proofs.«01_k».proof.Proof.Gen.KernelAct.Frame
public import proofs.«01_k».proof.Proof.Gen.KernelWin.Frame
public import proofs.«01_k».proof.Proof.Gen.KernelDown.Frame
public import proofs.«01_k».proof.Proof.Gen.KernelGate.Frame
public import proofs.«01_k».proof.Proof.Gen.KernelIn.Frame
public import proofs.«01_k».proof.Proof.Gen.KernelSwiglu.Frame
public import proofs.«01_k».proof.Proof.Gen.KernelOut.Frame
public import proofs.«01_k».proof.Proof.Gen.KernelDh.Frame
public import proofs.«01_k».proof.Proof.Gen.KernelDff.Frame
public import proofs.«01_k».proof.Proof.Gen.KernelSquare.Frame
public import proofs.«01_k».proof.Proof.Gen.KernelWeight.Frame
public import proofs.«01_k».proof.Proof.Gen.KernelResidual.Frame
public import proofs.«01_k».proof.Proof.Kernel.Frame
public import proofs.«01_k».proof.Proof.KernelIdeal.Frame
public import proofs.«01_k».proof.Proof.Value.Finite
public import Idealize.ShloMosaic.Adequacy
public import Idealize.ShloMosaic.Init
public import proofs.«01_k».proof.Proof.Gen.KernelBranches.Frame
public import proofs.«01_k».proof.Proof.Gen.KernelPle.Frame
public import proofs.«01_k».proof.Proof.Gen.KernelDattn.Frame
public import proofs.«01_k».proof.Proof.Gen.KernelDsg.Frame
public import proofs.«01_k».proof.Proof.Gen.KernelWattn.Frame
public import proofs.«01_k».proof.Proof.Gen.KernelWsg.Frame
public import proofs.«01_k».proof.Proof.Gen.KernelWple.Frame
public import proofs.«01_k».proof.Proof.Gen.KernelPlegate.Frame
public import proofs.«01_k».proof.Proof.Products.Act
public import proofs.«01_k».proof.Proof.Products.Win
public import proofs.«01_k».proof.Proof.Products.Down
public import proofs.«01_k».proof.Proof.Products.Gate
public import proofs.«01_k».proof.Proof.Products.In
public import proofs.«01_k».proof.Proof.Products.Swiglu
public import proofs.«01_k».proof.Proof.Products.Out
public import proofs.«01_k».proof.Proof.Products.Dh
public import proofs.«01_k».proof.Proof.Products.Dff
public import proofs.«01_k».proof.Proof.Products.Square
public import proofs.«01_k».proof.Proof.Products.Weight
public import proofs.«01_k».proof.Proof.Products.Residual
public import proofs.«01_k».proof.Proof.Products.Branches
public import proofs.«01_k».proof.Proof.Products.Ple
public import proofs.«01_k».proof.Proof.Products.Dattn
public import proofs.«01_k».proof.Proof.Products.Dsg
public import proofs.«01_k».proof.Proof.Products.Wattn
public import proofs.«01_k».proof.Proof.Products.Wsg
public import proofs.«01_k».proof.Proof.Products.Wple
public import proofs.«01_k».proof.Proof.Products.Plegate

@[expose] public section

noncomputable section

namespace Cert.Proof

open Idealize.ShloMosaic Idealize.SL.Sem Cert.Kernel

/-- Every run of the reference ends with its arguments as they were and every counter at zero. -/
theorem frame_reference : Cert.quiescent_ReferenceIdeal := fun m ρ _ =>
  (θ_run Cert.ReferenceIdeal.defs _ _).mono (fun _ h => ⟨fun c => (h c).2.2.2,
    sem_eq_zero_of_no_sems (by decide) _⟩) (Cert.ReferenceIdeal.Value.run m ρ)

/-- On finite arguments the kernel and the reference leave the same three arrays. -/
theorem algebraic : Cert.algebraic_KernelIdeal_ReferenceIdeal_pre_finite (hPre_finite := Cert.Att.finite_facts) := by
  intro m g m' g' hf he
  have R := fun c => Cert.Att.reads_finite m hf c
  have V := fun c => Cert.Att.reads_ref m m' c _ (R c) (he c)
  refine ⟨fun c => Cert.Att.flat (Cert.Att.gq (Cert.Att.arrs (Cert.Att.q0 m c) (Cert.Att.k0 m c) (Cert.Att.v0 m c) (Cert.Att.o0 m c))),
    fun c => Cert.Att.flat (Cert.Att.gk (Cert.Att.arrs (Cert.Att.q0 m c) (Cert.Att.k0 m c) (Cert.Att.v0 m c) (Cert.Att.o0 m c))),
    fun c => Cert.Att.flat (Cert.Att.gv (Cert.Att.arrs (Cert.Att.q0 m c) (Cert.Att.k0 m c) (Cert.Att.v0 m c) (Cert.Att.o0 m c))), ?_, ?_⟩
  · refine (θ_run Cert.KernelIdeal.defs _ _).mono (fun r h c => ?_)
      (θ_run_and (Cert.KernelIdeal.Hand.run_main m g) (Cert.KernelIdeal.Hand.frame m g))
    exact ⟨(h.1.out_eq c 6).trans (Cert.Att.arr_q m c _ (R c)), (h.1.out_eq c 7).trans (Cert.Att.arr_k m c _ (R c)),
      (h.1.out_eq c 8).trans (Cert.Att.arr_v m c _ (R c)), h.2.1 c⟩
  · refine (θ_run Cert.ReferenceIdeal.defs _ _).mono (fun r h c => ?_) (Cert.ReferenceIdeal.Value.run m' g')
    obtain ⟨h1, h2, h3, h4⟩ := h c
    exact ⟨h1.trans (Cert.Att.ref_dq _ _ (V c)), h2.trans (Cert.Att.ref_dk _ _ (V c)), h3.trans (Cert.Att.ref_dv _ _ (V c)), h4⟩

/-! Every run of a reference ends with its arguments as they were and every counter at zero. -/

theorem frame_act : quiescent_ReferenceActIdeal := fun m ρ _ => (θ_run _ _ _).mono (fun _ h => ⟨fun c => (h c).2.2, sem_eq_zero_of_no_sems (by decide) _⟩)
  (ReferenceActIdeal.Value.run m ρ)

theorem frame_win : quiescent_ReferenceWinIdeal := fun m ρ _ => (θ_run _ _ _).mono (fun _ h => ⟨fun c => (h c).2, sem_eq_zero_of_no_sems (by decide) _⟩)
  (ReferenceWinIdeal.Value.run m ρ)

theorem frame_down : quiescent_ReferenceDownIdeal := fun m ρ _ => (θ_run _ _ _).mono (fun _ h => ⟨fun c => (h c).2, sem_eq_zero_of_no_sems (by decide) _⟩)
  (ReferenceDownIdeal.Value.run m ρ)

theorem frame_gate : quiescent_ReferenceGateIdeal := fun m ρ _ => (θ_run _ _ _).mono (fun _ h => ⟨fun c => (h c).2, sem_eq_zero_of_no_sems (by decide) _⟩)
  (ReferenceGateIdeal.Value.run m ρ)

theorem frame_in : quiescent_ReferenceInIdeal := fun m ρ _ => (θ_run _ _ _).mono (fun _ h => ⟨fun c => (h c).2, sem_eq_zero_of_no_sems (by decide) _⟩)
  (ReferenceInIdeal.Value.run m ρ)

theorem frame_swiglu : quiescent_ReferenceSwigluIdeal := fun m ρ _ => (θ_run _ _ _).mono (fun _ h => ⟨fun c => (h c).2.2.2, sem_eq_zero_of_no_sems (by decide) _⟩)
  (ReferenceSwigluIdeal.Value.run m ρ)

theorem frame_out : quiescent_ReferenceOutIdeal := fun m ρ _ => (θ_run _ _ _).mono (fun _ h => ⟨fun c => (h c).2, sem_eq_zero_of_no_sems (by decide) _⟩)
  (ReferenceOutIdeal.Value.run m ρ)

theorem frame_dh : quiescent_ReferenceDhIdeal := fun m ρ _ => (θ_run _ _ _).mono (fun _ h => ⟨fun c => (h c).2, sem_eq_zero_of_no_sems (by decide) _⟩)
  (ReferenceDhIdeal.Value.run m ρ)

theorem frame_dff : quiescent_ReferenceDffIdeal := fun m ρ _ => (θ_run _ _ _).mono (fun _ h => ⟨fun c => (h c).2, sem_eq_zero_of_no_sems (by decide) _⟩)
  (ReferenceDffIdeal.Value.run m ρ)

theorem frame_square : quiescent_ReferenceSquareIdeal := fun m ρ _ => (θ_run _ _ _).mono (fun _ h => ⟨fun c => (h c).2, sem_eq_zero_of_no_sems (by decide) _⟩)
  (ReferenceSquareIdeal.Value.run m ρ)

theorem frame_weight : quiescent_ReferenceWeightIdeal := fun m ρ _ => (θ_run _ _ _).mono (fun _ h => ⟨fun c => (h c).2, sem_eq_zero_of_no_sems (by decide) _⟩)
  (ReferenceWeightIdeal.Value.run m ρ)

theorem frame_residual : quiescent_ReferenceResidualIdeal := fun m ρ _ => (θ_run _ _ _).mono (fun _ h => ⟨fun c => (h c).2, sem_eq_zero_of_no_sems (by decide) _⟩)
  (ReferenceResidualIdeal.Value.run m ρ)

theorem frame_branches : quiescent_ReferenceBranchesIdeal := fun m ρ _ => (θ_run _ _ _).mono (fun _ h => ⟨fun c => (h c).2.2.2, sem_eq_zero_of_no_sems (by decide) _⟩)
  (ReferenceBranchesIdeal.Value.run m ρ)

theorem frame_ple : quiescent_ReferencePleIdeal := fun m ρ _ => (θ_run _ _ _).mono (fun _ h => ⟨fun c => (h c).2.2.2, sem_eq_zero_of_no_sems (by decide) _⟩)
  (ReferencePleIdeal.Value.run m ρ)

theorem frame_dattn : quiescent_ReferenceDattnIdeal := fun m ρ _ => (θ_run _ _ _).mono (fun _ h => ⟨fun c => (h c).2, sem_eq_zero_of_no_sems (by decide) _⟩)
  (ReferenceDattnIdeal.Value.run m ρ)

theorem frame_dsg : quiescent_ReferenceDsgIdeal := fun m ρ _ => (θ_run _ _ _).mono (fun _ h => ⟨fun c => (h c).2, sem_eq_zero_of_no_sems (by decide) _⟩)
  (ReferenceDsgIdeal.Value.run m ρ)

theorem frame_wattn : quiescent_ReferenceWattnIdeal := fun m ρ _ => (θ_run _ _ _).mono (fun _ h => ⟨fun c => (h c).2, sem_eq_zero_of_no_sems (by decide) _⟩)
  (ReferenceWattnIdeal.Value.run m ρ)

theorem frame_wsg : quiescent_ReferenceWsgIdeal := fun m ρ _ => (θ_run _ _ _).mono (fun _ h => ⟨fun c => (h c).2, sem_eq_zero_of_no_sems (by decide) _⟩)
  (ReferenceWsgIdeal.Value.run m ρ)

theorem frame_wple : quiescent_ReferenceWpleIdeal := fun m ρ _ => (θ_run _ _ _).mono (fun _ h => ⟨fun c => (h c).2, sem_eq_zero_of_no_sems (by decide) _⟩)
  (ReferenceWpleIdeal.Value.run m ρ)

theorem frame_plegate : quiescent_ReferencePlegateIdeal := fun m ρ _ => (θ_run _ _ _).mono (fun _ h => ⟨fun c => (h c).2.2, sem_eq_zero_of_no_sems (by decide) _⟩)
  (ReferencePlegateIdeal.Value.run m ρ)

/-- All that is claimed of the programs. -/
theorem claim : Cert.Claim := ⟨Kernel.Gen.facts,
  KernelIdeal.Gen.facts,
  ReferenceIdeal.Gen.facts,
  KernelAct.Gen.facts,
  KernelActIdeal.Gen.facts,
  ReferenceActIdeal.Gen.facts,
  KernelWin.Gen.facts,
  KernelWinIdeal.Gen.facts,
  ReferenceWinIdeal.Gen.facts,
  KernelDown.Gen.facts,
  KernelDownIdeal.Gen.facts,
  ReferenceDownIdeal.Gen.facts,
  KernelGate.Gen.facts,
  KernelGateIdeal.Gen.facts,
  ReferenceGateIdeal.Gen.facts,
  KernelIn.Gen.facts,
  KernelInIdeal.Gen.facts,
  ReferenceInIdeal.Gen.facts,
  KernelSwiglu.Gen.facts,
  KernelSwigluIdeal.Gen.facts,
  ReferenceSwigluIdeal.Gen.facts,
  KernelOut.Gen.facts,
  KernelOutIdeal.Gen.facts,
  ReferenceOutIdeal.Gen.facts,
  KernelDh.Gen.facts,
  KernelDhIdeal.Gen.facts,
  ReferenceDhIdeal.Gen.facts,
  KernelDff.Gen.facts,
  KernelDffIdeal.Gen.facts,
  ReferenceDffIdeal.Gen.facts,
  KernelSquare.Gen.facts,
  KernelSquareIdeal.Gen.facts,
  ReferenceSquareIdeal.Gen.facts,
  KernelWeight.Gen.facts,
  KernelWeightIdeal.Gen.facts,
  ReferenceWeightIdeal.Gen.facts,
  KernelResidual.Gen.facts,
  KernelResidualIdeal.Gen.facts,
  ReferenceResidualIdeal.Gen.facts,
  KernelBranches.Gen.facts,
  KernelBranchesIdeal.Gen.facts,
  ReferenceBranchesIdeal.Gen.facts,
  KernelPle.Gen.facts,
  KernelPleIdeal.Gen.facts,
  ReferencePleIdeal.Gen.facts,
  KernelDattn.Gen.facts,
  KernelDattnIdeal.Gen.facts,
  ReferenceDattnIdeal.Gen.facts,
  KernelDsg.Gen.facts,
  KernelDsgIdeal.Gen.facts,
  ReferenceDsgIdeal.Gen.facts,
  KernelWattn.Gen.facts,
  KernelWattnIdeal.Gen.facts,
  ReferenceWattnIdeal.Gen.facts,
  KernelWsg.Gen.facts,
  KernelWsgIdeal.Gen.facts,
  ReferenceWsgIdeal.Gen.facts,
  KernelWple.Gen.facts,
  KernelWpleIdeal.Gen.facts,
  ReferenceWpleIdeal.Gen.facts,
  KernelPlegate.Gen.facts,
  KernelPlegateIdeal.Gen.facts,
  ReferencePlegateIdeal.Gen.facts,
  Cert.Att.finite_facts,
  Products.Act.facts,
  fun m ρ _ => Kernel.Hand.frame m ρ,
  fun m ρ _ => KernelIdeal.Hand.frame m ρ,
  fun m ρ _ => KernelIdeal.Hand.frame m ρ,
  frame_reference,
  fun m ρ _ => frame_reference m ρ trivial,
  fun m ρ _ => KernelAct.Gen.frame m ρ,
  fun m ρ _ => KernelActIdeal.Gen.frame m ρ,
  fun m ρ _ => KernelActIdeal.Gen.frame m ρ,
  frame_act,
  fun m ρ _ => frame_act m ρ trivial,
  fun m ρ _ => KernelWin.Gen.frame m ρ,
  fun m ρ _ => KernelWinIdeal.Gen.frame m ρ,
  frame_win,
  fun m ρ _ => KernelDown.Gen.frame m ρ,
  fun m ρ _ => KernelDownIdeal.Gen.frame m ρ,
  frame_down,
  fun m ρ _ => KernelGate.Gen.frame m ρ,
  fun m ρ _ => KernelGateIdeal.Gen.frame m ρ,
  frame_gate,
  fun m ρ _ => KernelIn.Gen.frame m ρ,
  fun m ρ _ => KernelInIdeal.Gen.frame m ρ,
  frame_in,
  fun m ρ _ => KernelSwiglu.Gen.frame m ρ,
  fun m ρ _ => KernelSwigluIdeal.Gen.frame m ρ,
  frame_swiglu,
  fun m ρ _ => KernelOut.Gen.frame m ρ,
  fun m ρ _ => KernelOutIdeal.Gen.frame m ρ,
  frame_out,
  fun m ρ _ => KernelDh.Gen.frame m ρ,
  fun m ρ _ => KernelDhIdeal.Gen.frame m ρ,
  frame_dh,
  fun m ρ _ => KernelDff.Gen.frame m ρ,
  fun m ρ _ => KernelDffIdeal.Gen.frame m ρ,
  frame_dff,
  fun m ρ _ => KernelSquare.Gen.frame m ρ,
  fun m ρ _ => KernelSquareIdeal.Gen.frame m ρ,
  frame_square,
  fun m ρ _ => KernelWeight.Gen.frame m ρ,
  fun m ρ _ => KernelWeightIdeal.Gen.frame m ρ,
  frame_weight,
  fun m ρ _ => KernelResidual.Gen.frame m ρ,
  fun m ρ _ => KernelResidualIdeal.Gen.frame m ρ,
  frame_residual,
  fun m ρ _ => KernelBranches.Gen.frame m ρ,
  fun m ρ _ => KernelBranchesIdeal.Gen.frame m ρ,
  frame_branches,
  fun m ρ _ => KernelPle.Gen.frame m ρ,
  fun m ρ _ => KernelPleIdeal.Gen.frame m ρ,
  frame_ple,
  fun m ρ _ => KernelDattn.Gen.frame m ρ,
  fun m ρ _ => KernelDattnIdeal.Gen.frame m ρ,
  frame_dattn,
  fun m ρ _ => KernelDsg.Gen.frame m ρ,
  fun m ρ _ => KernelDsgIdeal.Gen.frame m ρ,
  frame_dsg,
  fun m ρ _ => KernelWattn.Gen.frame m ρ,
  fun m ρ _ => KernelWattnIdeal.Gen.frame m ρ,
  frame_wattn,
  fun m ρ _ => KernelWsg.Gen.frame m ρ,
  fun m ρ _ => KernelWsgIdeal.Gen.frame m ρ,
  frame_wsg,
  fun m ρ _ => KernelWple.Gen.frame m ρ,
  fun m ρ _ => KernelWpleIdeal.Gen.frame m ρ,
  frame_wple,
  fun m ρ _ => KernelPlegate.Gen.frame m ρ,
  fun m ρ _ => KernelPlegateIdeal.Gen.frame m ρ,
  frame_plegate,
  IdealRules.named_const.statement _ _ _ _ _ rfl,
  algebraic,
  trivial,
  Products.Act.algebraic,
  trivial,
  Products.Win.algebraic,
  trivial,
  Products.Down.algebraic,
  trivial,
  Products.Gate.algebraic,
  trivial,
  Products.In.algebraic,
  trivial,
  Products.Swiglu.algebraic,
  trivial,
  Products.Out.algebraic,
  trivial,
  Products.Dh.algebraic,
  trivial,
  Products.Dff.algebraic,
  trivial,
  Products.Square.algebraic,
  trivial,
  Products.Weight.algebraic,
  trivial,
  Products.Residual.algebraic,
  trivial,
  Products.Branches.algebraic,
  trivial,
  Products.Ple.algebraic,
  trivial,
  Products.Dattn.algebraic,
  trivial,
  Products.Dsg.algebraic,
  trivial,
  Products.Wattn.algebraic,
  trivial,
  Products.Wsg.algebraic,
  trivial,
  Products.Wple.algebraic,
  trivial,
  Products.Plegate.algebraic⟩

end Cert.Proof

end
